-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_RefProjectionIdeal (m : (ℓ : Loc Cert.RefProjectionIdeal.nD Cert.RefProjectionIdeal.τ Cert.RefProjectionIdeal.sig) → Buf (Elt Ideal) ℓ) : Prop :=
  True

def Pre_AttentionB (m : (ℓ : Loc Cert.AttentionB.nD Cert.AttentionB.τ Cert.AttentionB.sig) → Buf (Elt Bits) ℓ) : Prop :=
  True

def Pre_AttentionBIdeal (m : (ℓ : Loc Cert.AttentionBIdeal.nD Cert.AttentionBIdeal.τ Cert.AttentionBIdeal.sig) → Buf (Elt Ideal) ℓ) : Prop :=
  True

def Pre_AttentionBIdeal_finite_scores_b [hPre_finite_scores_b : Cert.Pre_finite_scores_b.Facts] (m : (ℓ : Loc Cert.AttentionBIdeal.nD Cert.AttentionBIdeal.τ Cert.AttentionBIdeal.sig) → Buf (Elt Ideal) ℓ) : Prop :=
  ∀ c : Dev Cert.AttentionBIdeal.nD,
    (Cert.Pre_finite_scores_b.fn (F := Ideal) (m ((c.tc : Thread Cert.AttentionBIdeal.nD Cert.AttentionBIdeal.τ).loc Cert.AttentionBIdeal.main_arg0)) (m ((c.tc : Thread Cert.AttentionBIdeal.nD Cert.AttentionBIdeal.τ).loc Cert.AttentionBIdeal.main_arg1)) (m ((c.tc : Thread Cert.AttentionBIdeal.nD Cert.AttentionBIdeal.τ).loc Cert.AttentionBIdeal.main_arg2))) = (fun _ => 1#1)

def Pre_RefAttentionBIdeal (m : (ℓ : Loc Cert.RefAttentionBIdeal.nD Cert.RefAttentionBIdeal.τ Cert.RefAttentionBIdeal.sig) → Buf (Elt Ideal) ℓ) : Prop :=
  True

def Pre_RefAttentionBIdeal_finite_scores_b [hPre_finite_scores_b : Cert.Pre_finite_scores_b.Facts] (m : (ℓ : Loc Cert.RefAttentionBIdeal.nD Cert.RefAttentionBIdeal.τ Cert.RefAttentionBIdeal.sig) → Buf (Elt Ideal) ℓ) : Prop :=
  ∀ c : Dev Cert.RefAttentionBIdeal.nD,
    (Cert.Pre_finite_scores_b.fn (F := Ideal) (m ((c.tc : Thread Cert.RefAttentionBIdeal.nD Cert.RefAttentionBIdeal.τ).loc Cert.RefAttentionBIdeal.main_arg0)) (m ((c.tc : Thread Cert.RefAttentionBIdeal.nD Cert.RefAttentionBIdeal.τ).loc Cert.RefAttentionBIdeal.main_arg1)) (m ((c.tc : Thread Cert.RefAttentionBIdeal.nD Cert.RefAttentionBIdeal.τ).loc Cert.RefAttentionBIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_RefOutputIdeal (m : (ℓ : Loc Cert.RefOutputIdeal.nD Cert.RefOutputIdeal.τ Cert.RefOutputIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_RefCombineIdeal (m : (ℓ : Loc Cert.RefCombineIdeal.nD Cert.RefCombineIdeal.τ Cert.RefCombineIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RefPrepIdeal (m : (ℓ : Loc Cert.RefPrepIdeal.nD Cert.RefPrepIdeal.τ Cert.RefPrepIdeal.sig) → Buf (Elt Ideal) ℓ) : Prop :=
  True

def Pre_ContextA (m : (ℓ : Loc Cert.ContextA.nD Cert.ContextA.τ Cert.ContextA.sig) → Buf (Elt Bits) ℓ) : Prop :=
  True

def Pre_ContextAIdeal (m : (ℓ : Loc Cert.ContextAIdeal.nD Cert.ContextAIdeal.τ Cert.ContextAIdeal.sig) → Buf (Elt Ideal) ℓ) : Prop :=
  True

def Pre_ContextAIdeal_finite_context_a [hPre_finite_context_a : Cert.Pre_finite_context_a.Facts] (m : (ℓ : Loc Cert.ContextAIdeal.nD Cert.ContextAIdeal.τ Cert.ContextAIdeal.sig) → Buf (Elt Ideal) ℓ) : Prop :=
  ∀ c : Dev Cert.ContextAIdeal.nD,
    (Cert.Pre_finite_context_a.fn (F := Ideal) (m ((c.tc : Thread Cert.ContextAIdeal.nD Cert.ContextAIdeal.τ).loc Cert.ContextAIdeal.main_arg0)) (m ((c.tc : Thread Cert.ContextAIdeal.nD Cert.ContextAIdeal.τ).loc Cert.ContextAIdeal.main_arg1)) (m ((c.tc : Thread Cert.ContextAIdeal.nD Cert.ContextAIdeal.τ).loc Cert.ContextAIdeal.main_arg2))) = (fun _ => 1#1)

def Pre_RefContextAIdeal (m : (ℓ : Loc Cert.RefContextAIdeal.nD Cert.RefContextAIdeal.τ Cert.RefContextAIdeal.sig) → Buf (Elt Ideal) ℓ) : Prop :=
  True

def Pre_RefContextAIdeal_finite_context_a [hPre_finite_context_a : Cert.Pre_finite_context_a.Facts] (m : (ℓ : Loc Cert.RefContextAIdeal.nD Cert.RefContextAIdeal.τ Cert.RefContextAIdeal.sig) → Buf (Elt Ideal) ℓ) : Prop :=
  ∀ c : Dev Cert.RefContextAIdeal.nD,
    (Cert.Pre_finite_context_a.fn (F := Ideal) (m ((c.tc : Thread Cert.RefContextAIdeal.nD Cert.RefContextAIdeal.τ).loc Cert.RefContextAIdeal.main_arg0)) (m ((c.tc : Thread Cert.RefContextAIdeal.nD Cert.RefContextAIdeal.τ).loc Cert.RefContextAIdeal.main_arg1)) (m ((c.tc : Thread Cert.RefContextAIdeal.nD Cert.RefContextAIdeal.τ).loc Cert.RefContextAIdeal.main_arg2))) = (fun _ => 1#1)

def Pre_ContextB (m : (ℓ : Loc Cert.ContextB.nD Cert.ContextB.τ Cert.ContextB.sig) → Buf (Elt Bits) ℓ) : Prop :=
  True

def Pre_ContextBIdeal (m : (ℓ : Loc Cert.ContextBIdeal.nD Cert.ContextBIdeal.τ Cert.ContextBIdeal.sig) → Buf (Elt Ideal) ℓ) : Prop :=
  True

def Pre_ContextBIdeal_finite_context_b [hPre_finite_context_b : Cert.Pre_finite_context_b.Facts] (m : (ℓ : Loc Cert.ContextBIdeal.nD Cert.ContextBIdeal.τ Cert.ContextBIdeal.sig) → Buf (Elt Ideal) ℓ) : Prop :=
  ∀ c : Dev Cert.ContextBIdeal.nD,
    (Cert.Pre_finite_context_b.fn (F := Ideal) (m ((c.tc : Thread Cert.ContextBIdeal.nD Cert.ContextBIdeal.τ).loc Cert.ContextBIdeal.main_arg0)) (m ((c.tc : Thread Cert.ContextBIdeal.nD Cert.ContextBIdeal.τ).loc Cert.ContextBIdeal.main_arg1)) (m ((c.tc : Thread Cert.ContextBIdeal.nD Cert.ContextBIdeal.τ).loc Cert.ContextBIdeal.main_arg2))) = (fun _ => 1#1)

def Pre_RefContextBIdeal (m : (ℓ : Loc Cert.RefContextBIdeal.nD Cert.RefContextBIdeal.τ Cert.RefContextBIdeal.sig) → Buf (Elt Ideal) ℓ) : Prop :=
  True

def Pre_RefContextBIdeal_finite_context_b [hPre_finite_context_b : Cert.Pre_finite_context_b.Facts] (m : (ℓ : Loc Cert.RefContextBIdeal.nD Cert.RefContextBIdeal.τ Cert.RefContextBIdeal.sig) → Buf (Elt Ideal) ℓ) : Prop :=
  ∀ c : Dev Cert.RefContextBIdeal.nD,
    (Cert.Pre_finite_context_b.fn (F := Ideal) (m ((c.tc : Thread Cert.RefContextBIdeal.nD Cert.RefContextBIdeal.τ).loc Cert.RefContextBIdeal.main_arg0)) (m ((c.tc : Thread Cert.RefContextBIdeal.nD Cert.RefContextBIdeal.τ).loc Cert.RefContextBIdeal.main_arg1)) (m ((c.tc : Thread Cert.RefContextBIdeal.nD Cert.RefContextBIdeal.τ).loc Cert.RefContextBIdeal.main_arg2))) = (fun _ => 1#1)

def Pre_ContextC (m : (ℓ : Loc Cert.ContextC.nD Cert.ContextC.τ Cert.ContextC.sig) → Buf (Elt Bits) ℓ) : Prop :=
  True

def Pre_ContextCIdeal (m : (ℓ : Loc Cert.ContextCIdeal.nD Cert.ContextCIdeal.τ Cert.ContextCIdeal.sig) → Buf (Elt Ideal) ℓ) : Prop :=
  True

def Pre_ContextCIdeal_finite_context_c [hPre_finite_context_c : Cert.Pre_finite_context_c.Facts] (m : (ℓ : Loc Cert.ContextCIdeal.nD Cert.ContextCIdeal.τ Cert.ContextCIdeal.sig) → Buf (Elt Ideal) ℓ) : Prop :=
  ∀ c : Dev Cert.ContextCIdeal.nD,
    (Cert.Pre_finite_context_c.fn (F := Ideal) (m ((c.tc : Thread Cert.ContextCIdeal.nD Cert.ContextCIdeal.τ).loc Cert.ContextCIdeal.main_arg0))) = (fun _ => 1#1)

def Pre_RefContextCIdeal (m : (ℓ : Loc Cert.RefContextCIdeal.nD Cert.RefContextCIdeal.τ Cert.RefContextCIdeal.sig) → Buf (Elt Ideal) ℓ) : Prop :=
  True

def Pre_RefContextCIdeal_finite_context_c [hPre_finite_context_c : Cert.Pre_finite_context_c.Facts] (m : (ℓ : Loc Cert.RefContextCIdeal.nD Cert.RefContextCIdeal.τ Cert.RefContextCIdeal.sig) → Buf (Elt Ideal) ℓ) : Prop :=
  ∀ c : Dev Cert.RefContextCIdeal.nD,
    (Cert.Pre_finite_context_c.fn (F := Ideal) (m ((c.tc : Thread Cert.RefContextCIdeal.nD Cert.RefContextCIdeal.τ).loc Cert.RefContextCIdeal.main_arg0))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite_modulation [hPre_finite_modulation : Cert.Pre_finite_modulation.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite_modulation.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))) = (fun _ => 1#1)

def Pre_RefModulationIdeal (m : (ℓ : Loc Cert.RefModulationIdeal.nD Cert.RefModulationIdeal.τ Cert.RefModulationIdeal.sig) → Buf (Elt Ideal) ℓ) : Prop :=
  True

def Pre_RefModulationIdeal_finite_modulation [hPre_finite_modulation : Cert.Pre_finite_modulation.Facts] (m : (ℓ : Loc Cert.RefModulationIdeal.nD Cert.RefModulationIdeal.τ Cert.RefModulationIdeal.sig) → Buf (Elt Ideal) ℓ) : Prop :=
  ∀ c : Dev Cert.RefModulationIdeal.nD,
    (Cert.Pre_finite_modulation.fn (F := Ideal) (m ((c.tc : Thread Cert.RefModulationIdeal.nD Cert.RefModulationIdeal.τ).loc Cert.RefModulationIdeal.main_arg0)) (m ((c.tc : Thread Cert.RefModulationIdeal.nD Cert.RefModulationIdeal.τ).loc Cert.RefModulationIdeal.main_arg1)) (m ((c.tc : Thread Cert.RefModulationIdeal.nD Cert.RefModulationIdeal.τ).loc Cert.RefModulationIdeal.main_arg2)) (m ((c.tc : Thread Cert.RefModulationIdeal.nD Cert.RefModulationIdeal.τ).loc Cert.RefModulationIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_RefProjectionIdeal [hRefProjectionIdeal : Cert.RefProjectionIdeal.Facts] : Prop :=
  ∀ (m : (ℓ : Loc Cert.RefProjectionIdeal.nD Cert.RefProjectionIdeal.τ Cert.RefProjectionIdeal.sig) → Buf (Elt Ideal) ℓ) (g : Dev Cert.RefProjectionIdeal.nD → PrngReg), Pre_RefProjectionIdeal m →
    θ_run (Cert.RefProjectionIdeal.defs (F := Ideal)) (onTc (τ := Cert.RefProjectionIdeal.τ) (Cert.RefProjectionIdeal.main (F := Ideal))) ⟨m, fun _ => 0, g⟩ (fun r => (∀ c : Dev Cert.RefProjectionIdeal.nD,
      r.2.mem ((c.tc : Thread Cert.RefProjectionIdeal.nD Cert.RefProjectionIdeal.τ).loc Cert.RefProjectionIdeal.main_arg0) = m ((c.tc : Thread Cert.RefProjectionIdeal.nD Cert.RefProjectionIdeal.τ).loc Cert.RefProjectionIdeal.main_arg0)
      ∧ r.2.mem ((c.tc : Thread Cert.RefProjectionIdeal.nD Cert.RefProjectionIdeal.τ).loc Cert.RefProjectionIdeal.main_arg1) = m ((c.tc : Thread Cert.RefProjectionIdeal.nD Cert.RefProjectionIdeal.τ).loc Cert.RefProjectionIdeal.main_arg1)
      ∧ r.2.mem ((c.tc : Thread Cert.RefProjectionIdeal.nD Cert.RefProjectionIdeal.τ).loc Cert.RefProjectionIdeal.main_arg2) = m ((c.tc : Thread Cert.RefProjectionIdeal.nD Cert.RefProjectionIdeal.τ).loc Cert.RefProjectionIdeal.main_arg2)
      ∧ r.2.mem ((c.tc : Thread Cert.RefProjectionIdeal.nD Cert.RefProjectionIdeal.τ).loc Cert.RefProjectionIdeal.main_arg3) = m ((c.tc : Thread Cert.RefProjectionIdeal.nD Cert.RefProjectionIdeal.τ).loc Cert.RefProjectionIdeal.main_arg3))
      ∧ r.2.sem = fun _ => 0)

def quiescent_AttentionB [hAttentionB : Cert.AttentionB.Facts] : Prop :=
  ∀ (m : (ℓ : Loc Cert.AttentionB.nD Cert.AttentionB.τ Cert.AttentionB.sig) → Buf (Elt Bits) ℓ) (g : Dev Cert.AttentionB.nD → PrngReg), Pre_AttentionB m →
    θ_run (Cert.AttentionB.defs (F := Bits)) (onTc (τ := Cert.AttentionB.τ) (Cert.AttentionB.main (F := Bits))) ⟨m, fun _ => 0, g⟩ (fun r => (∀ c : Dev Cert.AttentionB.nD,
      r.2.mem ((c.tc : Thread Cert.AttentionB.nD Cert.AttentionB.τ).loc Cert.AttentionB.main_arg0) = m ((c.tc : Thread Cert.AttentionB.nD Cert.AttentionB.τ).loc Cert.AttentionB.main_arg0)
      ∧ r.2.mem ((c.tc : Thread Cert.AttentionB.nD Cert.AttentionB.τ).loc Cert.AttentionB.main_arg1) = m ((c.tc : Thread Cert.AttentionB.nD Cert.AttentionB.τ).loc Cert.AttentionB.main_arg1)
      ∧ r.2.mem ((c.tc : Thread Cert.AttentionB.nD Cert.AttentionB.τ).loc Cert.AttentionB.main_arg2) = m ((c.tc : Thread Cert.AttentionB.nD Cert.AttentionB.τ).loc Cert.AttentionB.main_arg2))
      ∧ r.2.sem = fun _ => 0)

def quiescent_AttentionBIdeal [hAttentionBIdeal : Cert.AttentionBIdeal.Facts] : Prop :=
  ∀ (m : (ℓ : Loc Cert.AttentionBIdeal.nD Cert.AttentionBIdeal.τ Cert.AttentionBIdeal.sig) → Buf (Elt Ideal) ℓ) (g : Dev Cert.AttentionBIdeal.nD → PrngReg), Pre_AttentionBIdeal m →
    θ_run (Cert.AttentionBIdeal.defs (F := Ideal)) (onTc (τ := Cert.AttentionBIdeal.τ) (Cert.AttentionBIdeal.main (F := Ideal))) ⟨m, fun _ => 0, g⟩ (fun r => (∀ c : Dev Cert.AttentionBIdeal.nD,
      r.2.mem ((c.tc : Thread Cert.AttentionBIdeal.nD Cert.AttentionBIdeal.τ).loc Cert.AttentionBIdeal.main_arg0) = m ((c.tc : Thread Cert.AttentionBIdeal.nD Cert.AttentionBIdeal.τ).loc Cert.AttentionBIdeal.main_arg0)
      ∧ r.2.mem ((c.tc : Thread Cert.AttentionBIdeal.nD Cert.AttentionBIdeal.τ).loc Cert.AttentionBIdeal.main_arg1) = m ((c.tc : Thread Cert.AttentionBIdeal.nD Cert.AttentionBIdeal.τ).loc Cert.AttentionBIdeal.main_arg1)
      ∧ r.2.mem ((c.tc : Thread Cert.AttentionBIdeal.nD Cert.AttentionBIdeal.τ).loc Cert.AttentionBIdeal.main_arg2) = m ((c.tc : Thread Cert.AttentionBIdeal.nD Cert.AttentionBIdeal.τ).loc Cert.AttentionBIdeal.main_arg2))
      ∧ r.2.sem = fun _ => 0)

def quiescent_AttentionBIdeal_pre_finite_scores_b [hAttentionBIdeal : Cert.AttentionBIdeal.Facts] [hPre_finite_scores_b : Cert.Pre_finite_scores_b.Facts] : Prop :=
  ∀ (m : (ℓ : Loc Cert.AttentionBIdeal.nD Cert.AttentionBIdeal.τ Cert.AttentionBIdeal.sig) → Buf (Elt Ideal) ℓ) (g : Dev Cert.AttentionBIdeal.nD → PrngReg), Pre_AttentionBIdeal_finite_scores_b m →
    θ_run (Cert.AttentionBIdeal.defs (F := Ideal)) (onTc (τ := Cert.AttentionBIdeal.τ) (Cert.AttentionBIdeal.main (F := Ideal))) ⟨m, fun _ => 0, g⟩ (fun r => (∀ c : Dev Cert.AttentionBIdeal.nD,
      r.2.mem ((c.tc : Thread Cert.AttentionBIdeal.nD Cert.AttentionBIdeal.τ).loc Cert.AttentionBIdeal.main_arg0) = m ((c.tc : Thread Cert.AttentionBIdeal.nD Cert.AttentionBIdeal.τ).loc Cert.AttentionBIdeal.main_arg0)
      ∧ r.2.mem ((c.tc : Thread Cert.AttentionBIdeal.nD Cert.AttentionBIdeal.τ).loc Cert.AttentionBIdeal.main_arg1) = m ((c.tc : Thread Cert.AttentionBIdeal.nD Cert.AttentionBIdeal.τ).loc Cert.AttentionBIdeal.main_arg1)
      ∧ r.2.mem ((c.tc : Thread Cert.AttentionBIdeal.nD Cert.AttentionBIdeal.τ).loc Cert.AttentionBIdeal.main_arg2) = m ((c.tc : Thread Cert.AttentionBIdeal.nD Cert.AttentionBIdeal.τ).loc Cert.AttentionBIdeal.main_arg2))
      ∧ r.2.sem = fun _ => 0)

def quiescent_RefAttentionBIdeal [hRefAttentionBIdeal : Cert.RefAttentionBIdeal.Facts] : Prop :=
  ∀ (m : (ℓ : Loc Cert.RefAttentionBIdeal.nD Cert.RefAttentionBIdeal.τ Cert.RefAttentionBIdeal.sig) → Buf (Elt Ideal) ℓ) (g : Dev Cert.RefAttentionBIdeal.nD → PrngReg), Pre_RefAttentionBIdeal m →
    θ_run (Cert.RefAttentionBIdeal.defs (F := Ideal)) (onTc (τ := Cert.RefAttentionBIdeal.τ) (Cert.RefAttentionBIdeal.main (F := Ideal))) ⟨m, fun _ => 0, g⟩ (fun r => (∀ c : Dev Cert.RefAttentionBIdeal.nD,
      r.2.mem ((c.tc : Thread Cert.RefAttentionBIdeal.nD Cert.RefAttentionBIdeal.τ).loc Cert.RefAttentionBIdeal.main_arg0) = m ((c.tc : Thread Cert.RefAttentionBIdeal.nD Cert.RefAttentionBIdeal.τ).loc Cert.RefAttentionBIdeal.main_arg0)
      ∧ r.2.mem ((c.tc : Thread Cert.RefAttentionBIdeal.nD Cert.RefAttentionBIdeal.τ).loc Cert.RefAttentionBIdeal.main_arg1) = m ((c.tc : Thread Cert.RefAttentionBIdeal.nD Cert.RefAttentionBIdeal.τ).loc Cert.RefAttentionBIdeal.main_arg1)
      ∧ r.2.mem ((c.tc : Thread Cert.RefAttentionBIdeal.nD Cert.RefAttentionBIdeal.τ).loc Cert.RefAttentionBIdeal.main_arg2) = m ((c.tc : Thread Cert.RefAttentionBIdeal.nD Cert.RefAttentionBIdeal.τ).loc Cert.RefAttentionBIdeal.main_arg2))
      ∧ r.2.sem = fun _ => 0)

def quiescent_RefAttentionBIdeal_pre_finite_scores_b [hRefAttentionBIdeal : Cert.RefAttentionBIdeal.Facts] [hPre_finite_scores_b : Cert.Pre_finite_scores_b.Facts] : Prop :=
  ∀ (m : (ℓ : Loc Cert.RefAttentionBIdeal.nD Cert.RefAttentionBIdeal.τ Cert.RefAttentionBIdeal.sig) → Buf (Elt Ideal) ℓ) (g : Dev Cert.RefAttentionBIdeal.nD → PrngReg), Pre_RefAttentionBIdeal_finite_scores_b m →
    θ_run (Cert.RefAttentionBIdeal.defs (F := Ideal)) (onTc (τ := Cert.RefAttentionBIdeal.τ) (Cert.RefAttentionBIdeal.main (F := Ideal))) ⟨m, fun _ => 0, g⟩ (fun r => (∀ c : Dev Cert.RefAttentionBIdeal.nD,
      r.2.mem ((c.tc : Thread Cert.RefAttentionBIdeal.nD Cert.RefAttentionBIdeal.τ).loc Cert.RefAttentionBIdeal.main_arg0) = m ((c.tc : Thread Cert.RefAttentionBIdeal.nD Cert.RefAttentionBIdeal.τ).loc Cert.RefAttentionBIdeal.main_arg0)
      ∧ r.2.mem ((c.tc : Thread Cert.RefAttentionBIdeal.nD Cert.RefAttentionBIdeal.τ).loc Cert.RefAttentionBIdeal.main_arg1) = m ((c.tc : Thread Cert.RefAttentionBIdeal.nD Cert.RefAttentionBIdeal.τ).loc Cert.RefAttentionBIdeal.main_arg1)
      ∧ r.2.mem ((c.tc : Thread Cert.RefAttentionBIdeal.nD Cert.RefAttentionBIdeal.τ).loc Cert.RefAttentionBIdeal.main_arg2) = m ((c.tc : Thread Cert.RefAttentionBIdeal.nD Cert.RefAttentionBIdeal.τ).loc Cert.RefAttentionBIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_RefOutputIdeal [hRefOutputIdeal : Cert.RefOutputIdeal.Facts] : Prop :=
  ∀ (m : (ℓ : Loc Cert.RefOutputIdeal.nD Cert.RefOutputIdeal.τ Cert.RefOutputIdeal.sig) → Buf (Elt Ideal) ℓ) (g : Dev Cert.RefOutputIdeal.nD → PrngReg), Pre_RefOutputIdeal m →
    θ_run (Cert.RefOutputIdeal.defs (F := Ideal)) (onTc (τ := Cert.RefOutputIdeal.τ) (Cert.RefOutputIdeal.main (F := Ideal))) ⟨m, fun _ => 0, g⟩ (fun r => (∀ c : Dev Cert.RefOutputIdeal.nD,
      r.2.mem ((c.tc : Thread Cert.RefOutputIdeal.nD Cert.RefOutputIdeal.τ).loc Cert.RefOutputIdeal.main_arg0) = m ((c.tc : Thread Cert.RefOutputIdeal.nD Cert.RefOutputIdeal.τ).loc Cert.RefOutputIdeal.main_arg0)
      ∧ r.2.mem ((c.tc : Thread Cert.RefOutputIdeal.nD Cert.RefOutputIdeal.τ).loc Cert.RefOutputIdeal.main_arg1) = m ((c.tc : Thread Cert.RefOutputIdeal.nD Cert.RefOutputIdeal.τ).loc Cert.RefOutputIdeal.main_arg1)
      ∧ r.2.mem ((c.tc : Thread Cert.RefOutputIdeal.nD Cert.RefOutputIdeal.τ).loc Cert.RefOutputIdeal.main_arg2) = m ((c.tc : Thread Cert.RefOutputIdeal.nD Cert.RefOutputIdeal.τ).loc Cert.RefOutputIdeal.main_arg2)
      ∧ r.2.mem ((c.tc : Thread Cert.RefOutputIdeal.nD Cert.RefOutputIdeal.τ).loc Cert.RefOutputIdeal.main_arg3) = m ((c.tc : Thread Cert.RefOutputIdeal.nD Cert.RefOutputIdeal.τ).loc Cert.RefOutputIdeal.main_arg3)
      ∧ r.2.mem ((c.tc : Thread Cert.RefOutputIdeal.nD Cert.RefOutputIdeal.τ).loc Cert.RefOutputIdeal.main_arg4) = m ((c.tc : Thread Cert.RefOutputIdeal.nD Cert.RefOutputIdeal.τ).loc Cert.RefOutputIdeal.main_arg4)
      ∧ r.2.mem ((c.tc : Thread Cert.RefOutputIdeal.nD Cert.RefOutputIdeal.τ).loc Cert.RefOutputIdeal.main_arg5) = m ((c.tc : Thread Cert.RefOutputIdeal.nD Cert.RefOutputIdeal.τ).loc Cert.RefOutputIdeal.main_arg5)
      ∧ r.2.mem ((c.tc : Thread Cert.RefOutputIdeal.nD Cert.RefOutputIdeal.τ).loc Cert.RefOutputIdeal.main_arg6) = m ((c.tc : Thread Cert.RefOutputIdeal.nD Cert.RefOutputIdeal.τ).loc Cert.RefOutputIdeal.main_arg6)
      ∧ r.2.mem ((c.tc : Thread Cert.RefOutputIdeal.nD Cert.RefOutputIdeal.τ).loc Cert.RefOutputIdeal.main_arg7) = m ((c.tc : Thread Cert.RefOutputIdeal.nD Cert.RefOutputIdeal.τ).loc Cert.RefOutputIdeal.main_arg7)
      ∧ r.2.mem ((c.tc : Thread Cert.RefOutputIdeal.nD Cert.RefOutputIdeal.τ).loc Cert.RefOutputIdeal.main_arg8) = m ((c.tc : Thread Cert.RefOutputIdeal.nD Cert.RefOutputIdeal.τ).loc Cert.RefOutputIdeal.main_arg8))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_RefCombineIdeal [hRefCombineIdeal : Cert.RefCombineIdeal.Facts] : Prop :=
  ∀ (m : (ℓ : Loc Cert.RefCombineIdeal.nD Cert.RefCombineIdeal.τ Cert.RefCombineIdeal.sig) → Buf (Elt Ideal) ℓ) (g : Dev Cert.RefCombineIdeal.nD → PrngReg), Pre_RefCombineIdeal m →
    θ_run (Cert.RefCombineIdeal.defs (F := Ideal)) (onTc (τ := Cert.RefCombineIdeal.τ) (Cert.RefCombineIdeal.main (F := Ideal))) ⟨m, fun _ => 0, g⟩ (fun r => (∀ c : Dev Cert.RefCombineIdeal.nD,
      r.2.mem ((c.tc : Thread Cert.RefCombineIdeal.nD Cert.RefCombineIdeal.τ).loc Cert.RefCombineIdeal.main_arg0) = m ((c.tc : Thread Cert.RefCombineIdeal.nD Cert.RefCombineIdeal.τ).loc Cert.RefCombineIdeal.main_arg0)
      ∧ r.2.mem ((c.tc : Thread Cert.RefCombineIdeal.nD Cert.RefCombineIdeal.τ).loc Cert.RefCombineIdeal.main_arg1) = m ((c.tc : Thread Cert.RefCombineIdeal.nD Cert.RefCombineIdeal.τ).loc Cert.RefCombineIdeal.main_arg1)
      ∧ r.2.mem ((c.tc : Thread Cert.RefCombineIdeal.nD Cert.RefCombineIdeal.τ).loc Cert.RefCombineIdeal.main_arg2) = m ((c.tc : Thread Cert.RefCombineIdeal.nD Cert.RefCombineIdeal.τ).loc Cert.RefCombineIdeal.main_arg2)
      ∧ r.2.mem ((c.tc : Thread Cert.RefCombineIdeal.nD Cert.RefCombineIdeal.τ).loc Cert.RefCombineIdeal.main_arg3) = m ((c.tc : Thread Cert.RefCombineIdeal.nD Cert.RefCombineIdeal.τ).loc Cert.RefCombineIdeal.main_arg3)
      ∧ r.2.mem ((c.tc : Thread Cert.RefCombineIdeal.nD Cert.RefCombineIdeal.τ).loc Cert.RefCombineIdeal.main_arg4) = m ((c.tc : Thread Cert.RefCombineIdeal.nD Cert.RefCombineIdeal.τ).loc Cert.RefCombineIdeal.main_arg4)
      ∧ r.2.mem ((c.tc : Thread Cert.RefCombineIdeal.nD Cert.RefCombineIdeal.τ).loc Cert.RefCombineIdeal.main_arg5) = m ((c.tc : Thread Cert.RefCombineIdeal.nD Cert.RefCombineIdeal.τ).loc Cert.RefCombineIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_RefPrepIdeal [hRefPrepIdeal : Cert.RefPrepIdeal.Facts] : Prop :=
  ∀ (m : (ℓ : Loc Cert.RefPrepIdeal.nD Cert.RefPrepIdeal.τ Cert.RefPrepIdeal.sig) → Buf (Elt Ideal) ℓ) (g : Dev Cert.RefPrepIdeal.nD → PrngReg), Pre_RefPrepIdeal m →
    θ_run (Cert.RefPrepIdeal.defs (F := Ideal)) (onTc (τ := Cert.RefPrepIdeal.τ) (Cert.RefPrepIdeal.main (F := Ideal))) ⟨m, fun _ => 0, g⟩ (fun r => (∀ c : Dev Cert.RefPrepIdeal.nD,
      r.2.mem ((c.tc : Thread Cert.RefPrepIdeal.nD Cert.RefPrepIdeal.τ).loc Cert.RefPrepIdeal.main_arg0) = m ((c.tc : Thread Cert.RefPrepIdeal.nD Cert.RefPrepIdeal.τ).loc Cert.RefPrepIdeal.main_arg0)
      ∧ r.2.mem ((c.tc : Thread Cert.RefPrepIdeal.nD Cert.RefPrepIdeal.τ).loc Cert.RefPrepIdeal.main_arg1) = m ((c.tc : Thread Cert.RefPrepIdeal.nD Cert.RefPrepIdeal.τ).loc Cert.RefPrepIdeal.main_arg1)
      ∧ r.2.mem ((c.tc : Thread Cert.RefPrepIdeal.nD Cert.RefPrepIdeal.τ).loc Cert.RefPrepIdeal.main_arg2) = m ((c.tc : Thread Cert.RefPrepIdeal.nD Cert.RefPrepIdeal.τ).loc Cert.RefPrepIdeal.main_arg2)
      ∧ r.2.mem ((c.tc : Thread Cert.RefPrepIdeal.nD Cert.RefPrepIdeal.τ).loc Cert.RefPrepIdeal.main_arg3) = m ((c.tc : Thread Cert.RefPrepIdeal.nD Cert.RefPrepIdeal.τ).loc Cert.RefPrepIdeal.main_arg3)
      ∧ r.2.mem ((c.tc : Thread Cert.RefPrepIdeal.nD Cert.RefPrepIdeal.τ).loc Cert.RefPrepIdeal.main_arg4) = m ((c.tc : Thread Cert.RefPrepIdeal.nD Cert.RefPrepIdeal.τ).loc Cert.RefPrepIdeal.main_arg4)
      ∧ r.2.mem ((c.tc : Thread Cert.RefPrepIdeal.nD Cert.RefPrepIdeal.τ).loc Cert.RefPrepIdeal.main_arg5) = m ((c.tc : Thread Cert.RefPrepIdeal.nD Cert.RefPrepIdeal.τ).loc Cert.RefPrepIdeal.main_arg5)
      ∧ r.2.mem ((c.tc : Thread Cert.RefPrepIdeal.nD Cert.RefPrepIdeal.τ).loc Cert.RefPrepIdeal.main_arg6) = m ((c.tc : Thread Cert.RefPrepIdeal.nD Cert.RefPrepIdeal.τ).loc Cert.RefPrepIdeal.main_arg6)
      ∧ r.2.mem ((c.tc : Thread Cert.RefPrepIdeal.nD Cert.RefPrepIdeal.τ).loc Cert.RefPrepIdeal.main_arg7) = m ((c.tc : Thread Cert.RefPrepIdeal.nD Cert.RefPrepIdeal.τ).loc Cert.RefPrepIdeal.main_arg7)
      ∧ r.2.mem ((c.tc : Thread Cert.RefPrepIdeal.nD Cert.RefPrepIdeal.τ).loc Cert.RefPrepIdeal.main_arg8) = m ((c.tc : Thread Cert.RefPrepIdeal.nD Cert.RefPrepIdeal.τ).loc Cert.RefPrepIdeal.main_arg8)
      ∧ r.2.mem ((c.tc : Thread Cert.RefPrepIdeal.nD Cert.RefPrepIdeal.τ).loc Cert.RefPrepIdeal.main_arg9) = m ((c.tc : Thread Cert.RefPrepIdeal.nD Cert.RefPrepIdeal.τ).loc Cert.RefPrepIdeal.main_arg9)
      ∧ r.2.mem ((c.tc : Thread Cert.RefPrepIdeal.nD Cert.RefPrepIdeal.τ).loc Cert.RefPrepIdeal.main_arg10) = m ((c.tc : Thread Cert.RefPrepIdeal.nD Cert.RefPrepIdeal.τ).loc Cert.RefPrepIdeal.main_arg10))
      ∧ r.2.sem = fun _ => 0)

def quiescent_ContextA [hContextA : Cert.ContextA.Facts] : Prop :=
  ∀ (m : (ℓ : Loc Cert.ContextA.nD Cert.ContextA.τ Cert.ContextA.sig) → Buf (Elt Bits) ℓ) (g : Dev Cert.ContextA.nD → PrngReg), Pre_ContextA m →
    θ_run (Cert.ContextA.defs (F := Bits)) (onTc (τ := Cert.ContextA.τ) (Cert.ContextA.main (F := Bits))) ⟨m, fun _ => 0, g⟩ (fun r => (∀ c : Dev Cert.ContextA.nD,
      r.2.mem ((c.tc : Thread Cert.ContextA.nD Cert.ContextA.τ).loc Cert.ContextA.main_arg0) = m ((c.tc : Thread Cert.ContextA.nD Cert.ContextA.τ).loc Cert.ContextA.main_arg0)
      ∧ r.2.mem ((c.tc : Thread Cert.ContextA.nD Cert.ContextA.τ).loc Cert.ContextA.main_arg1) = m ((c.tc : Thread Cert.ContextA.nD Cert.ContextA.τ).loc Cert.ContextA.main_arg1)
      ∧ r.2.mem ((c.tc : Thread Cert.ContextA.nD Cert.ContextA.τ).loc Cert.ContextA.main_arg2) = m ((c.tc : Thread Cert.ContextA.nD Cert.ContextA.τ).loc Cert.ContextA.main_arg2))
      ∧ r.2.sem = fun _ => 0)

def quiescent_ContextAIdeal [hContextAIdeal : Cert.ContextAIdeal.Facts] : Prop :=
  ∀ (m : (ℓ : Loc Cert.ContextAIdeal.nD Cert.ContextAIdeal.τ Cert.ContextAIdeal.sig) → Buf (Elt Ideal) ℓ) (g : Dev Cert.ContextAIdeal.nD → PrngReg), Pre_ContextAIdeal m →
    θ_run (Cert.ContextAIdeal.defs (F := Ideal)) (onTc (τ := Cert.ContextAIdeal.τ) (Cert.ContextAIdeal.main (F := Ideal))) ⟨m, fun _ => 0, g⟩ (fun r => (∀ c : Dev Cert.ContextAIdeal.nD,
      r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
      ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1)
      ∧ r.2.mem ((c.tc : Thread Cert.ContextAIdeal.nD Cert.ContextAIdeal.τ).loc Cert.ContextAIdeal.main_arg2) = m ((c.tc : Thread Cert.ContextAIdeal.nD Cert.ContextAIdeal.τ).loc Cert.ContextAIdeal.main_arg2))
      ∧ r.2.sem = fun _ => 0)

def quiescent_ContextAIdeal_pre_finite_context_a [hContextAIdeal : Cert.ContextAIdeal.Facts] [hPre_finite_context_a : Cert.Pre_finite_context_a.Facts] : Prop :=
  ∀ (m : (ℓ : Loc Cert.ContextAIdeal.nD Cert.ContextAIdeal.τ Cert.ContextAIdeal.sig) → Buf (Elt Ideal) ℓ) (g : Dev Cert.ContextAIdeal.nD → PrngReg), Pre_ContextAIdeal_finite_context_a m →
    θ_run (Cert.ContextAIdeal.defs (F := Ideal)) (onTc (τ := Cert.ContextAIdeal.τ) (Cert.ContextAIdeal.main (F := Ideal))) ⟨m, fun _ => 0, g⟩ (fun r => (∀ c : Dev Cert.ContextAIdeal.nD,
      r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
      ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1)
      ∧ r.2.mem ((c.tc : Thread Cert.ContextAIdeal.nD Cert.ContextAIdeal.τ).loc Cert.ContextAIdeal.main_arg2) = m ((c.tc : Thread Cert.ContextAIdeal.nD Cert.ContextAIdeal.τ).loc Cert.ContextAIdeal.main_arg2))
      ∧ r.2.sem = fun _ => 0)

def quiescent_RefContextAIdeal [hRefContextAIdeal : Cert.RefContextAIdeal.Facts] : Prop :=
  ∀ (m : (ℓ : Loc Cert.RefContextAIdeal.nD Cert.RefContextAIdeal.τ Cert.RefContextAIdeal.sig) → Buf (Elt Ideal) ℓ) (g : Dev Cert.RefContextAIdeal.nD → PrngReg), Pre_RefContextAIdeal m →
    θ_run (Cert.RefContextAIdeal.defs (F := Ideal)) (onTc (τ := Cert.RefContextAIdeal.τ) (Cert.RefContextAIdeal.main (F := Ideal))) ⟨m, fun _ => 0, g⟩ (fun r => (∀ c : Dev Cert.RefContextAIdeal.nD,
      r.2.mem ((c.tc : Thread Cert.RefContextAIdeal.nD Cert.RefContextAIdeal.τ).loc Cert.RefContextAIdeal.main_arg0) = m ((c.tc : Thread Cert.RefContextAIdeal.nD Cert.RefContextAIdeal.τ).loc Cert.RefContextAIdeal.main_arg0)
      ∧ r.2.mem ((c.tc : Thread Cert.RefContextAIdeal.nD Cert.RefContextAIdeal.τ).loc Cert.RefContextAIdeal.main_arg1) = m ((c.tc : Thread Cert.RefContextAIdeal.nD Cert.RefContextAIdeal.τ).loc Cert.RefContextAIdeal.main_arg1)
      ∧ r.2.mem ((c.tc : Thread Cert.RefContextAIdeal.nD Cert.RefContextAIdeal.τ).loc Cert.RefContextAIdeal.main_arg2) = m ((c.tc : Thread Cert.RefContextAIdeal.nD Cert.RefContextAIdeal.τ).loc Cert.RefContextAIdeal.main_arg2))
      ∧ r.2.sem = fun _ => 0)

def quiescent_RefContextAIdeal_pre_finite_context_a [hRefContextAIdeal : Cert.RefContextAIdeal.Facts] [hPre_finite_context_a : Cert.Pre_finite_context_a.Facts] : Prop :=
  ∀ (m : (ℓ : Loc Cert.RefContextAIdeal.nD Cert.RefContextAIdeal.τ Cert.RefContextAIdeal.sig) → Buf (Elt Ideal) ℓ) (g : Dev Cert.RefContextAIdeal.nD → PrngReg), Pre_RefContextAIdeal_finite_context_a m →
    θ_run (Cert.RefContextAIdeal.defs (F := Ideal)) (onTc (τ := Cert.RefContextAIdeal.τ) (Cert.RefContextAIdeal.main (F := Ideal))) ⟨m, fun _ => 0, g⟩ (fun r => (∀ c : Dev Cert.RefContextAIdeal.nD,
      r.2.mem ((c.tc : Thread Cert.RefContextAIdeal.nD Cert.RefContextAIdeal.τ).loc Cert.RefContextAIdeal.main_arg0) = m ((c.tc : Thread Cert.RefContextAIdeal.nD Cert.RefContextAIdeal.τ).loc Cert.RefContextAIdeal.main_arg0)
      ∧ r.2.mem ((c.tc : Thread Cert.RefContextAIdeal.nD Cert.RefContextAIdeal.τ).loc Cert.RefContextAIdeal.main_arg1) = m ((c.tc : Thread Cert.RefContextAIdeal.nD Cert.RefContextAIdeal.τ).loc Cert.RefContextAIdeal.main_arg1)
      ∧ r.2.mem ((c.tc : Thread Cert.RefContextAIdeal.nD Cert.RefContextAIdeal.τ).loc Cert.RefContextAIdeal.main_arg2) = m ((c.tc : Thread Cert.RefContextAIdeal.nD Cert.RefContextAIdeal.τ).loc Cert.RefContextAIdeal.main_arg2))
      ∧ r.2.sem = fun _ => 0)

def quiescent_ContextB [hContextB : Cert.ContextB.Facts] : Prop :=
  ∀ (m : (ℓ : Loc Cert.ContextB.nD Cert.ContextB.τ Cert.ContextB.sig) → Buf (Elt Bits) ℓ) (g : Dev Cert.ContextB.nD → PrngReg), Pre_ContextB m →
    θ_run (Cert.ContextB.defs (F := Bits)) (onTc (τ := Cert.ContextB.τ) (Cert.ContextB.main (F := Bits))) ⟨m, fun _ => 0, g⟩ (fun r => (∀ c : Dev Cert.ContextB.nD,
      r.2.mem ((c.tc : Thread Cert.ContextB.nD Cert.ContextB.τ).loc Cert.ContextB.main_arg0) = m ((c.tc : Thread Cert.ContextB.nD Cert.ContextB.τ).loc Cert.ContextB.main_arg0)
      ∧ r.2.mem ((c.tc : Thread Cert.ContextB.nD Cert.ContextB.τ).loc Cert.ContextB.main_arg1) = m ((c.tc : Thread Cert.ContextB.nD Cert.ContextB.τ).loc Cert.ContextB.main_arg1)
      ∧ r.2.mem ((c.tc : Thread Cert.ContextB.nD Cert.ContextB.τ).loc Cert.ContextB.main_arg2) = m ((c.tc : Thread Cert.ContextB.nD Cert.ContextB.τ).loc Cert.ContextB.main_arg2))
      ∧ r.2.sem = fun _ => 0)

def quiescent_ContextBIdeal [hContextBIdeal : Cert.ContextBIdeal.Facts] : Prop :=
  ∀ (m : (ℓ : Loc Cert.ContextBIdeal.nD Cert.ContextBIdeal.τ Cert.ContextBIdeal.sig) → Buf (Elt Ideal) ℓ) (g : Dev Cert.ContextBIdeal.nD → PrngReg), Pre_ContextBIdeal m →
    θ_run (Cert.ContextBIdeal.defs (F := Ideal)) (onTc (τ := Cert.ContextBIdeal.τ) (Cert.ContextBIdeal.main (F := Ideal))) ⟨m, fun _ => 0, g⟩ (fun r => (∀ c : Dev Cert.ContextBIdeal.nD,
      r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0)
      ∧ r.2.mem ((c.tc : Thread Cert.ContextBIdeal.nD Cert.ContextBIdeal.τ).loc Cert.ContextBIdeal.main_arg1) = m ((c.tc : Thread Cert.ContextBIdeal.nD Cert.ContextBIdeal.τ).loc Cert.ContextBIdeal.main_arg1)
      ∧ r.2.mem ((c.tc : Thread Cert.ContextBIdeal.nD Cert.ContextBIdeal.τ).loc Cert.ContextBIdeal.main_arg2) = m ((c.tc : Thread Cert.ContextBIdeal.nD Cert.ContextBIdeal.τ).loc Cert.ContextBIdeal.main_arg2))
      ∧ r.2.sem = fun _ => 0)

def quiescent_ContextBIdeal_pre_finite_context_b [hContextBIdeal : Cert.ContextBIdeal.Facts] [hPre_finite_context_b : Cert.Pre_finite_context_b.Facts] : Prop :=
  ∀ (m : (ℓ : Loc Cert.ContextBIdeal.nD Cert.ContextBIdeal.τ Cert.ContextBIdeal.sig) → Buf (Elt Ideal) ℓ) (g : Dev Cert.ContextBIdeal.nD → PrngReg), Pre_ContextBIdeal_finite_context_b m →
    θ_run (Cert.ContextBIdeal.defs (F := Ideal)) (onTc (τ := Cert.ContextBIdeal.τ) (Cert.ContextBIdeal.main (F := Ideal))) ⟨m, fun _ => 0, g⟩ (fun r => (∀ c : Dev Cert.ContextBIdeal.nD,
      r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0)
      ∧ r.2.mem ((c.tc : Thread Cert.ContextBIdeal.nD Cert.ContextBIdeal.τ).loc Cert.ContextBIdeal.main_arg1) = m ((c.tc : Thread Cert.ContextBIdeal.nD Cert.ContextBIdeal.τ).loc Cert.ContextBIdeal.main_arg1)
      ∧ r.2.mem ((c.tc : Thread Cert.ContextBIdeal.nD Cert.ContextBIdeal.τ).loc Cert.ContextBIdeal.main_arg2) = m ((c.tc : Thread Cert.ContextBIdeal.nD Cert.ContextBIdeal.τ).loc Cert.ContextBIdeal.main_arg2))
      ∧ r.2.sem = fun _ => 0)

def quiescent_RefContextBIdeal [hRefContextBIdeal : Cert.RefContextBIdeal.Facts] : Prop :=
  ∀ (m : (ℓ : Loc Cert.RefContextBIdeal.nD Cert.RefContextBIdeal.τ Cert.RefContextBIdeal.sig) → Buf (Elt Ideal) ℓ) (g : Dev Cert.RefContextBIdeal.nD → PrngReg), Pre_RefContextBIdeal m →
    θ_run (Cert.RefContextBIdeal.defs (F := Ideal)) (onTc (τ := Cert.RefContextBIdeal.τ) (Cert.RefContextBIdeal.main (F := Ideal))) ⟨m, fun _ => 0, g⟩ (fun r => (∀ c : Dev Cert.RefContextBIdeal.nD,
      r.2.mem ((c.tc : Thread Cert.RefContextBIdeal.nD Cert.RefContextBIdeal.τ).loc Cert.RefContextBIdeal.main_arg0) = m ((c.tc : Thread Cert.RefContextBIdeal.nD Cert.RefContextBIdeal.τ).loc Cert.RefContextBIdeal.main_arg0)
      ∧ r.2.mem ((c.tc : Thread Cert.RefContextBIdeal.nD Cert.RefContextBIdeal.τ).loc Cert.RefContextBIdeal.main_arg1) = m ((c.tc : Thread Cert.RefContextBIdeal.nD Cert.RefContextBIdeal.τ).loc Cert.RefContextBIdeal.main_arg1)
      ∧ r.2.mem ((c.tc : Thread Cert.RefContextBIdeal.nD Cert.RefContextBIdeal.τ).loc Cert.RefContextBIdeal.main_arg2) = m ((c.tc : Thread Cert.RefContextBIdeal.nD Cert.RefContextBIdeal.τ).loc Cert.RefContextBIdeal.main_arg2))
      ∧ r.2.sem = fun _ => 0)

def quiescent_RefContextBIdeal_pre_finite_context_b [hRefContextBIdeal : Cert.RefContextBIdeal.Facts] [hPre_finite_context_b : Cert.Pre_finite_context_b.Facts] : Prop :=
  ∀ (m : (ℓ : Loc Cert.RefContextBIdeal.nD Cert.RefContextBIdeal.τ Cert.RefContextBIdeal.sig) → Buf (Elt Ideal) ℓ) (g : Dev Cert.RefContextBIdeal.nD → PrngReg), Pre_RefContextBIdeal_finite_context_b m →
    θ_run (Cert.RefContextBIdeal.defs (F := Ideal)) (onTc (τ := Cert.RefContextBIdeal.τ) (Cert.RefContextBIdeal.main (F := Ideal))) ⟨m, fun _ => 0, g⟩ (fun r => (∀ c : Dev Cert.RefContextBIdeal.nD,
      r.2.mem ((c.tc : Thread Cert.RefContextBIdeal.nD Cert.RefContextBIdeal.τ).loc Cert.RefContextBIdeal.main_arg0) = m ((c.tc : Thread Cert.RefContextBIdeal.nD Cert.RefContextBIdeal.τ).loc Cert.RefContextBIdeal.main_arg0)
      ∧ r.2.mem ((c.tc : Thread Cert.RefContextBIdeal.nD Cert.RefContextBIdeal.τ).loc Cert.RefContextBIdeal.main_arg1) = m ((c.tc : Thread Cert.RefContextBIdeal.nD Cert.RefContextBIdeal.τ).loc Cert.RefContextBIdeal.main_arg1)
      ∧ r.2.mem ((c.tc : Thread Cert.RefContextBIdeal.nD Cert.RefContextBIdeal.τ).loc Cert.RefContextBIdeal.main_arg2) = m ((c.tc : Thread Cert.RefContextBIdeal.nD Cert.RefContextBIdeal.τ).loc Cert.RefContextBIdeal.main_arg2))
      ∧ r.2.sem = fun _ => 0)

def quiescent_ContextC [hContextC : Cert.ContextC.Facts] : Prop :=
  ∀ (m : (ℓ : Loc Cert.ContextC.nD Cert.ContextC.τ Cert.ContextC.sig) → Buf (Elt Bits) ℓ) (g : Dev Cert.ContextC.nD → PrngReg), Pre_ContextC m →
    θ_run (Cert.ContextC.defs (F := Bits)) (onTc (τ := Cert.ContextC.τ) (Cert.ContextC.main (F := Bits))) ⟨m, fun _ => 0, g⟩ (fun r => (∀ c : Dev Cert.ContextC.nD,
      r.2.mem ((c.tc : Thread Cert.ContextC.nD Cert.ContextC.τ).loc Cert.ContextC.main_arg0) = m ((c.tc : Thread Cert.ContextC.nD Cert.ContextC.τ).loc Cert.ContextC.main_arg0))
      ∧ r.2.sem = fun _ => 0)

def quiescent_ContextCIdeal [hContextCIdeal : Cert.ContextCIdeal.Facts] : Prop :=
  ∀ (m : (ℓ : Loc Cert.ContextCIdeal.nD Cert.ContextCIdeal.τ Cert.ContextCIdeal.sig) → Buf (Elt Ideal) ℓ) (g : Dev Cert.ContextCIdeal.nD → PrngReg), Pre_ContextCIdeal m →
    θ_run (Cert.ContextCIdeal.defs (F := Ideal)) (onTc (τ := Cert.ContextCIdeal.τ) (Cert.ContextCIdeal.main (F := Ideal))) ⟨m, fun _ => 0, g⟩ (fun r => (∀ c : Dev Cert.ContextCIdeal.nD,
      r.2.mem ((c.tc : Thread Cert.ContextCIdeal.nD Cert.ContextCIdeal.τ).loc Cert.ContextCIdeal.main_arg0) = m ((c.tc : Thread Cert.ContextCIdeal.nD Cert.ContextCIdeal.τ).loc Cert.ContextCIdeal.main_arg0))
      ∧ r.2.sem = fun _ => 0)

def quiescent_ContextCIdeal_pre_finite_context_c [hContextCIdeal : Cert.ContextCIdeal.Facts] [hPre_finite_context_c : Cert.Pre_finite_context_c.Facts] : Prop :=
  ∀ (m : (ℓ : Loc Cert.ContextCIdeal.nD Cert.ContextCIdeal.τ Cert.ContextCIdeal.sig) → Buf (Elt Ideal) ℓ) (g : Dev Cert.ContextCIdeal.nD → PrngReg), Pre_ContextCIdeal_finite_context_c m →
    θ_run (Cert.ContextCIdeal.defs (F := Ideal)) (onTc (τ := Cert.ContextCIdeal.τ) (Cert.ContextCIdeal.main (F := Ideal))) ⟨m, fun _ => 0, g⟩ (fun r => (∀ c : Dev Cert.ContextCIdeal.nD,
      r.2.mem ((c.tc : Thread Cert.ContextCIdeal.nD Cert.ContextCIdeal.τ).loc Cert.ContextCIdeal.main_arg0) = m ((c.tc : Thread Cert.ContextCIdeal.nD Cert.ContextCIdeal.τ).loc Cert.ContextCIdeal.main_arg0))
      ∧ r.2.sem = fun _ => 0)

def quiescent_RefContextCIdeal [hRefContextCIdeal : Cert.RefContextCIdeal.Facts] : Prop :=
  ∀ (m : (ℓ : Loc Cert.RefContextCIdeal.nD Cert.RefContextCIdeal.τ Cert.RefContextCIdeal.sig) → Buf (Elt Ideal) ℓ) (g : Dev Cert.RefContextCIdeal.nD → PrngReg), Pre_RefContextCIdeal m →
    θ_run (Cert.RefContextCIdeal.defs (F := Ideal)) (onTc (τ := Cert.RefContextCIdeal.τ) (Cert.RefContextCIdeal.main (F := Ideal))) ⟨m, fun _ => 0, g⟩ (fun r => (∀ c : Dev Cert.RefContextCIdeal.nD,
      r.2.mem ((c.tc : Thread Cert.RefContextCIdeal.nD Cert.RefContextCIdeal.τ).loc Cert.RefContextCIdeal.main_arg0) = m ((c.tc : Thread Cert.RefContextCIdeal.nD Cert.RefContextCIdeal.τ).loc Cert.RefContextCIdeal.main_arg0))
      ∧ r.2.sem = fun _ => 0)

def quiescent_RefContextCIdeal_pre_finite_context_c [hRefContextCIdeal : Cert.RefContextCIdeal.Facts] [hPre_finite_context_c : Cert.Pre_finite_context_c.Facts] : Prop :=
  ∀ (m : (ℓ : Loc Cert.RefContextCIdeal.nD Cert.RefContextCIdeal.τ Cert.RefContextCIdeal.sig) → Buf (Elt Ideal) ℓ) (g : Dev Cert.RefContextCIdeal.nD → PrngReg), Pre_RefContextCIdeal_finite_context_c m →
    θ_run (Cert.RefContextCIdeal.defs (F := Ideal)) (onTc (τ := Cert.RefContextCIdeal.τ) (Cert.RefContextCIdeal.main (F := Ideal))) ⟨m, fun _ => 0, g⟩ (fun r => (∀ c : Dev Cert.RefContextCIdeal.nD,
      r.2.mem ((c.tc : Thread Cert.RefContextCIdeal.nD Cert.RefContextCIdeal.τ).loc Cert.RefContextCIdeal.main_arg0) = m ((c.tc : Thread Cert.RefContextCIdeal.nD Cert.RefContextCIdeal.τ).loc Cert.RefContextCIdeal.main_arg0))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationIdeal_pre_finite_modulation [hModulationIdeal : Cert.ModulationIdeal.Facts] [hPre_finite_modulation : Cert.Pre_finite_modulation.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite_modulation m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_RefModulationIdeal [hRefModulationIdeal : Cert.RefModulationIdeal.Facts] : Prop :=
  ∀ (m : (ℓ : Loc Cert.RefModulationIdeal.nD Cert.RefModulationIdeal.τ Cert.RefModulationIdeal.sig) → Buf (Elt Ideal) ℓ) (g : Dev Cert.RefModulationIdeal.nD → PrngReg), Pre_RefModulationIdeal m →
    θ_run (Cert.RefModulationIdeal.defs (F := Ideal)) (onTc (τ := Cert.RefModulationIdeal.τ) (Cert.RefModulationIdeal.main (F := Ideal))) ⟨m, fun _ => 0, g⟩ (fun r => (∀ c : Dev Cert.RefModulationIdeal.nD,
      r.2.mem ((c.tc : Thread Cert.RefModulationIdeal.nD Cert.RefModulationIdeal.τ).loc Cert.RefModulationIdeal.main_arg0) = m ((c.tc : Thread Cert.RefModulationIdeal.nD Cert.RefModulationIdeal.τ).loc Cert.RefModulationIdeal.main_arg0)
      ∧ r.2.mem ((c.tc : Thread Cert.RefModulationIdeal.nD Cert.RefModulationIdeal.τ).loc Cert.RefModulationIdeal.main_arg1) = m ((c.tc : Thread Cert.RefModulationIdeal.nD Cert.RefModulationIdeal.τ).loc Cert.RefModulationIdeal.main_arg1)
      ∧ r.2.mem ((c.tc : Thread Cert.RefModulationIdeal.nD Cert.RefModulationIdeal.τ).loc Cert.RefModulationIdeal.main_arg2) = m ((c.tc : Thread Cert.RefModulationIdeal.nD Cert.RefModulationIdeal.τ).loc Cert.RefModulationIdeal.main_arg2)
      ∧ r.2.mem ((c.tc : Thread Cert.RefModulationIdeal.nD Cert.RefModulationIdeal.τ).loc Cert.RefModulationIdeal.main_arg3) = m ((c.tc : Thread Cert.RefModulationIdeal.nD Cert.RefModulationIdeal.τ).loc Cert.RefModulationIdeal.main_arg3))
      ∧ r.2.sem = fun _ => 0)

def quiescent_RefModulationIdeal_pre_finite_modulation [hRefModulationIdeal : Cert.RefModulationIdeal.Facts] [hPre_finite_modulation : Cert.Pre_finite_modulation.Facts] : Prop :=
  ∀ (m : (ℓ : Loc Cert.RefModulationIdeal.nD Cert.RefModulationIdeal.τ Cert.RefModulationIdeal.sig) → Buf (Elt Ideal) ℓ) (g : Dev Cert.RefModulationIdeal.nD → PrngReg), Pre_RefModulationIdeal_finite_modulation m →
    θ_run (Cert.RefModulationIdeal.defs (F := Ideal)) (onTc (τ := Cert.RefModulationIdeal.τ) (Cert.RefModulationIdeal.main (F := Ideal))) ⟨m, fun _ => 0, g⟩ (fun r => (∀ c : Dev Cert.RefModulationIdeal.nD,
      r.2.mem ((c.tc : Thread Cert.RefModulationIdeal.nD Cert.RefModulationIdeal.τ).loc Cert.RefModulationIdeal.main_arg0) = m ((c.tc : Thread Cert.RefModulationIdeal.nD Cert.RefModulationIdeal.τ).loc Cert.RefModulationIdeal.main_arg0)
      ∧ r.2.mem ((c.tc : Thread Cert.RefModulationIdeal.nD Cert.RefModulationIdeal.τ).loc Cert.RefModulationIdeal.main_arg1) = m ((c.tc : Thread Cert.RefModulationIdeal.nD Cert.RefModulationIdeal.τ).loc Cert.RefModulationIdeal.main_arg1)
      ∧ r.2.mem ((c.tc : Thread Cert.RefModulationIdeal.nD Cert.RefModulationIdeal.τ).loc Cert.RefModulationIdeal.main_arg2) = m ((c.tc : Thread Cert.RefModulationIdeal.nD Cert.RefModulationIdeal.τ).loc Cert.RefModulationIdeal.main_arg2)
      ∧ r.2.mem ((c.tc : Thread Cert.RefModulationIdeal.nD Cert.RefModulationIdeal.τ).loc Cert.RefModulationIdeal.main_arg3) = m ((c.tc : Thread Cert.RefModulationIdeal.nD Cert.RefModulationIdeal.τ).loc Cert.RefModulationIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projection_ProjectionIdeal : Prop :=
  True

def algebraic_ProjectionIdeal_RefProjectionIdeal [hProjectionIdeal : Cert.ProjectionIdeal.Facts] [hRefProjectionIdeal : Cert.RefProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.RefProjectionIdeal.nD Cert.RefProjectionIdeal.τ Cert.RefProjectionIdeal.sig) → Buf (Elt Ideal) ℓ) (g' : Dev Cert.RefProjectionIdeal.nD → PrngReg), Pre_ProjectionIdeal m →
    (∀ c : Dev Cert.ProjectionIdeal.nD,
      m' ((c.tc : Thread Cert.RefProjectionIdeal.nD Cert.RefProjectionIdeal.τ).loc Cert.RefProjectionIdeal.main_arg0) = m ((c.tc : Thread Cert.ProjectionIdeal.nD Cert.ProjectionIdeal.τ).loc Cert.ProjectionIdeal.main_arg0)
      ∧ m' ((c.tc : Thread Cert.RefProjectionIdeal.nD Cert.RefProjectionIdeal.τ).loc Cert.RefProjectionIdeal.main_arg1) = m ((c.tc : Thread Cert.ProjectionIdeal.nD Cert.ProjectionIdeal.τ).loc Cert.ProjectionIdeal.main_arg1)
      ∧ m' ((c.tc : Thread Cert.RefProjectionIdeal.nD Cert.RefProjectionIdeal.τ).loc Cert.RefProjectionIdeal.main_arg2) = m ((c.tc : Thread Cert.ProjectionIdeal.nD Cert.ProjectionIdeal.τ).loc Cert.ProjectionIdeal.main_arg2)
      ∧ m' ((c.tc : Thread Cert.RefProjectionIdeal.nD Cert.RefProjectionIdeal.τ).loc Cert.RefProjectionIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.RefProjectionIdeal.defs (F := Ideal)) (onTc (τ := Cert.RefProjectionIdeal.τ) (Cert.RefProjectionIdeal.main (F := Ideal))) ⟨m', fun _ => 0, g'⟩ (fun r => ∀ c : Dev Cert.RefProjectionIdeal.nD,
          r.2.mem ((c.tc : Thread Cert.RefProjectionIdeal.nD Cert.RefProjectionIdeal.τ).loc Cert.RefProjectionIdeal.main_v35) = v0 c
          ∧ r.2.mem ((c.tc : Thread Cert.RefProjectionIdeal.nD Cert.RefProjectionIdeal.τ).loc Cert.RefProjectionIdeal.main_arg0) = m' ((c.tc : Thread Cert.RefProjectionIdeal.nD Cert.RefProjectionIdeal.τ).loc Cert.RefProjectionIdeal.main_arg0)
          ∧ r.2.mem ((c.tc : Thread Cert.RefProjectionIdeal.nD Cert.RefProjectionIdeal.τ).loc Cert.RefProjectionIdeal.main_arg1) = m' ((c.tc : Thread Cert.RefProjectionIdeal.nD Cert.RefProjectionIdeal.τ).loc Cert.RefProjectionIdeal.main_arg1)
          ∧ r.2.mem ((c.tc : Thread Cert.RefProjectionIdeal.nD Cert.RefProjectionIdeal.τ).loc Cert.RefProjectionIdeal.main_arg2) = m' ((c.tc : Thread Cert.RefProjectionIdeal.nD Cert.RefProjectionIdeal.τ).loc Cert.RefProjectionIdeal.main_arg2)
          ∧ r.2.mem ((c.tc : Thread Cert.RefProjectionIdeal.nD Cert.RefProjectionIdeal.τ).loc Cert.RefProjectionIdeal.main_arg3) = m' ((c.tc : Thread Cert.RefProjectionIdeal.nD Cert.RefProjectionIdeal.τ).loc Cert.RefProjectionIdeal.main_arg3))

def preserves_AttentionB_AttentionBIdeal : Prop :=
  True

def algebraic_AttentionBIdeal_RefAttentionBIdeal_pre_finite_scores_b [hAttentionBIdeal : Cert.AttentionBIdeal.Facts] [hRefAttentionBIdeal : Cert.RefAttentionBIdeal.Facts] [hPre_finite_scores_b : Cert.Pre_finite_scores_b.Facts] : Prop :=
  ∀ (m : (ℓ : Loc Cert.AttentionBIdeal.nD Cert.AttentionBIdeal.τ Cert.AttentionBIdeal.sig) → Buf (Elt Ideal) ℓ) (g : Dev Cert.AttentionBIdeal.nD → PrngReg)
    (m' : (ℓ : Loc Cert.RefAttentionBIdeal.nD Cert.RefAttentionBIdeal.τ Cert.RefAttentionBIdeal.sig) → Buf (Elt Ideal) ℓ) (g' : Dev Cert.RefAttentionBIdeal.nD → PrngReg), Pre_AttentionBIdeal_finite_scores_b m →
    (∀ c : Dev Cert.AttentionBIdeal.nD,
      m' ((c.tc : Thread Cert.RefAttentionBIdeal.nD Cert.RefAttentionBIdeal.τ).loc Cert.RefAttentionBIdeal.main_arg0) = m ((c.tc : Thread Cert.AttentionBIdeal.nD Cert.AttentionBIdeal.τ).loc Cert.AttentionBIdeal.main_arg0)
      ∧ m' ((c.tc : Thread Cert.RefAttentionBIdeal.nD Cert.RefAttentionBIdeal.τ).loc Cert.RefAttentionBIdeal.main_arg1) = m ((c.tc : Thread Cert.AttentionBIdeal.nD Cert.AttentionBIdeal.τ).loc Cert.AttentionBIdeal.main_arg1)
      ∧ m' ((c.tc : Thread Cert.RefAttentionBIdeal.nD Cert.RefAttentionBIdeal.τ).loc Cert.RefAttentionBIdeal.main_arg2) = m ((c.tc : Thread Cert.AttentionBIdeal.nD Cert.AttentionBIdeal.τ).loc Cert.AttentionBIdeal.main_arg2)) →
    ∃ (v0 : (c : Dev Cert.AttentionBIdeal.nD) → Buf (Elt Ideal) ((c.tc : Thread Cert.AttentionBIdeal.nD Cert.AttentionBIdeal.τ).loc Cert.AttentionBIdeal.main_v0)),
      θ_run (Cert.AttentionBIdeal.defs (F := Ideal)) (onTc (τ := Cert.AttentionBIdeal.τ) (Cert.AttentionBIdeal.main (F := Ideal))) ⟨m, fun _ => 0, g⟩ (fun r => ∀ c : Dev Cert.AttentionBIdeal.nD,
          r.2.mem ((c.tc : Thread Cert.AttentionBIdeal.nD Cert.AttentionBIdeal.τ).loc Cert.AttentionBIdeal.main_v0) = v0 c
          ∧ r.2.mem ((c.tc : Thread Cert.AttentionBIdeal.nD Cert.AttentionBIdeal.τ).loc Cert.AttentionBIdeal.main_arg0) = m ((c.tc : Thread Cert.AttentionBIdeal.nD Cert.AttentionBIdeal.τ).loc Cert.AttentionBIdeal.main_arg0)
          ∧ r.2.mem ((c.tc : Thread Cert.AttentionBIdeal.nD Cert.AttentionBIdeal.τ).loc Cert.AttentionBIdeal.main_arg1) = m ((c.tc : Thread Cert.AttentionBIdeal.nD Cert.AttentionBIdeal.τ).loc Cert.AttentionBIdeal.main_arg1)
          ∧ r.2.mem ((c.tc : Thread Cert.AttentionBIdeal.nD Cert.AttentionBIdeal.τ).loc Cert.AttentionBIdeal.main_arg2) = m ((c.tc : Thread Cert.AttentionBIdeal.nD Cert.AttentionBIdeal.τ).loc Cert.AttentionBIdeal.main_arg2))
      ∧ θ_run (Cert.RefAttentionBIdeal.defs (F := Ideal)) (onTc (τ := Cert.RefAttentionBIdeal.τ) (Cert.RefAttentionBIdeal.main (F := Ideal))) ⟨m', fun _ => 0, g'⟩ (fun r => ∀ c : Dev Cert.RefAttentionBIdeal.nD,
          r.2.mem ((c.tc : Thread Cert.RefAttentionBIdeal.nD Cert.RefAttentionBIdeal.τ).loc Cert.RefAttentionBIdeal.main_v36) = v0 c
          ∧ r.2.mem ((c.tc : Thread Cert.RefAttentionBIdeal.nD Cert.RefAttentionBIdeal.τ).loc Cert.RefAttentionBIdeal.main_arg0) = m' ((c.tc : Thread Cert.RefAttentionBIdeal.nD Cert.RefAttentionBIdeal.τ).loc Cert.RefAttentionBIdeal.main_arg0)
          ∧ r.2.mem ((c.tc : Thread Cert.RefAttentionBIdeal.nD Cert.RefAttentionBIdeal.τ).loc Cert.RefAttentionBIdeal.main_arg1) = m' ((c.tc : Thread Cert.RefAttentionBIdeal.nD Cert.RefAttentionBIdeal.τ).loc Cert.RefAttentionBIdeal.main_arg1)
          ∧ r.2.mem ((c.tc : Thread Cert.RefAttentionBIdeal.nD Cert.RefAttentionBIdeal.τ).loc Cert.RefAttentionBIdeal.main_arg2) = m' ((c.tc : Thread Cert.RefAttentionBIdeal.nD Cert.RefAttentionBIdeal.τ).loc Cert.RefAttentionBIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v28) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9))

def preserves_Output_OutputIdeal : Prop :=
  True

def algebraic_OutputIdeal_RefOutputIdeal [hOutputIdeal : Cert.OutputIdeal.Facts] [hRefOutputIdeal : Cert.RefOutputIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.RefOutputIdeal.nD Cert.RefOutputIdeal.τ Cert.RefOutputIdeal.sig) → Buf (Elt Ideal) ℓ) (g' : Dev Cert.RefOutputIdeal.nD → PrngReg), Pre_OutputIdeal m →
    (∀ c : Dev Cert.OutputIdeal.nD,
      m' ((c.tc : Thread Cert.RefOutputIdeal.nD Cert.RefOutputIdeal.τ).loc Cert.RefOutputIdeal.main_arg0) = m ((c.tc : Thread Cert.OutputIdeal.nD Cert.OutputIdeal.τ).loc Cert.OutputIdeal.main_arg0)
      ∧ m' ((c.tc : Thread Cert.RefOutputIdeal.nD Cert.RefOutputIdeal.τ).loc Cert.RefOutputIdeal.main_arg1) = m ((c.tc : Thread Cert.OutputIdeal.nD Cert.OutputIdeal.τ).loc Cert.OutputIdeal.main_arg1)
      ∧ m' ((c.tc : Thread Cert.RefOutputIdeal.nD Cert.RefOutputIdeal.τ).loc Cert.RefOutputIdeal.main_arg2) = m ((c.tc : Thread Cert.OutputIdeal.nD Cert.OutputIdeal.τ).loc Cert.OutputIdeal.main_arg2)
      ∧ m' ((c.tc : Thread Cert.RefOutputIdeal.nD Cert.RefOutputIdeal.τ).loc Cert.RefOutputIdeal.main_arg3) = m ((c.tc : Thread Cert.OutputIdeal.nD Cert.OutputIdeal.τ).loc Cert.OutputIdeal.main_arg3)
      ∧ m' ((c.tc : Thread Cert.RefOutputIdeal.nD Cert.RefOutputIdeal.τ).loc Cert.RefOutputIdeal.main_arg4) = m ((c.tc : Thread Cert.OutputIdeal.nD Cert.OutputIdeal.τ).loc Cert.OutputIdeal.main_arg4)
      ∧ m' ((c.tc : Thread Cert.RefOutputIdeal.nD Cert.RefOutputIdeal.τ).loc Cert.RefOutputIdeal.main_arg5) = m ((c.tc : Thread Cert.OutputIdeal.nD Cert.OutputIdeal.τ).loc Cert.OutputIdeal.main_arg5)
      ∧ m' ((c.tc : Thread Cert.RefOutputIdeal.nD Cert.RefOutputIdeal.τ).loc Cert.RefOutputIdeal.main_arg6) = m ((c.tc : Thread Cert.OutputIdeal.nD Cert.OutputIdeal.τ).loc Cert.OutputIdeal.main_arg6)
      ∧ m' ((c.tc : Thread Cert.RefOutputIdeal.nD Cert.RefOutputIdeal.τ).loc Cert.RefOutputIdeal.main_arg7) = m ((c.tc : Thread Cert.OutputIdeal.nD Cert.OutputIdeal.τ).loc Cert.OutputIdeal.main_arg7)
      ∧ m' ((c.tc : Thread Cert.RefOutputIdeal.nD Cert.RefOutputIdeal.τ).loc Cert.RefOutputIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v0_0)) (v1 : (c : Dev Cert.OutputIdeal.nD) → Buf (Elt Ideal) ((c.tc : Thread Cert.OutputIdeal.nD Cert.OutputIdeal.τ).loc Cert.OutputIdeal.main_v0_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0_0) = v0 c
          ∧ r.2.mem ((c.tc : Thread Cert.OutputIdeal.nD Cert.OutputIdeal.τ).loc Cert.OutputIdeal.main_v0_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.RefOutputIdeal.defs (F := Ideal)) (onTc (τ := Cert.RefOutputIdeal.τ) (Cert.RefOutputIdeal.main (F := Ideal))) ⟨m', fun _ => 0, g'⟩ (fun r => ∀ c : Dev Cert.RefOutputIdeal.nD,
          r.2.mem ((c.tc : Thread Cert.RefOutputIdeal.nD Cert.RefOutputIdeal.τ).loc Cert.RefOutputIdeal.main_v100) = v0 c
          ∧ r.2.mem ((c.tc : Thread Cert.RefOutputIdeal.nD Cert.RefOutputIdeal.τ).loc Cert.RefOutputIdeal.main_v103) = v1 c
          ∧ r.2.mem ((c.tc : Thread Cert.RefOutputIdeal.nD Cert.RefOutputIdeal.τ).loc Cert.RefOutputIdeal.main_arg0) = m' ((c.tc : Thread Cert.RefOutputIdeal.nD Cert.RefOutputIdeal.τ).loc Cert.RefOutputIdeal.main_arg0)
          ∧ r.2.mem ((c.tc : Thread Cert.RefOutputIdeal.nD Cert.RefOutputIdeal.τ).loc Cert.RefOutputIdeal.main_arg1) = m' ((c.tc : Thread Cert.RefOutputIdeal.nD Cert.RefOutputIdeal.τ).loc Cert.RefOutputIdeal.main_arg1)
          ∧ r.2.mem ((c.tc : Thread Cert.RefOutputIdeal.nD Cert.RefOutputIdeal.τ).loc Cert.RefOutputIdeal.main_arg2) = m' ((c.tc : Thread Cert.RefOutputIdeal.nD Cert.RefOutputIdeal.τ).loc Cert.RefOutputIdeal.main_arg2)
          ∧ r.2.mem ((c.tc : Thread Cert.RefOutputIdeal.nD Cert.RefOutputIdeal.τ).loc Cert.RefOutputIdeal.main_arg3) = m' ((c.tc : Thread Cert.RefOutputIdeal.nD Cert.RefOutputIdeal.τ).loc Cert.RefOutputIdeal.main_arg3)
          ∧ r.2.mem ((c.tc : Thread Cert.RefOutputIdeal.nD Cert.RefOutputIdeal.τ).loc Cert.RefOutputIdeal.main_arg4) = m' ((c.tc : Thread Cert.RefOutputIdeal.nD Cert.RefOutputIdeal.τ).loc Cert.RefOutputIdeal.main_arg4)
          ∧ r.2.mem ((c.tc : Thread Cert.RefOutputIdeal.nD Cert.RefOutputIdeal.τ).loc Cert.RefOutputIdeal.main_arg5) = m' ((c.tc : Thread Cert.RefOutputIdeal.nD Cert.RefOutputIdeal.τ).loc Cert.RefOutputIdeal.main_arg5)
          ∧ r.2.mem ((c.tc : Thread Cert.RefOutputIdeal.nD Cert.RefOutputIdeal.τ).loc Cert.RefOutputIdeal.main_arg6) = m' ((c.tc : Thread Cert.RefOutputIdeal.nD Cert.RefOutputIdeal.τ).loc Cert.RefOutputIdeal.main_arg6)
          ∧ r.2.mem ((c.tc : Thread Cert.RefOutputIdeal.nD Cert.RefOutputIdeal.τ).loc Cert.RefOutputIdeal.main_arg7) = m' ((c.tc : Thread Cert.RefOutputIdeal.nD Cert.RefOutputIdeal.τ).loc Cert.RefOutputIdeal.main_arg7)
          ∧ r.2.mem ((c.tc : Thread Cert.RefOutputIdeal.nD Cert.RefOutputIdeal.τ).loc Cert.RefOutputIdeal.main_arg8) = m' ((c.tc : Thread Cert.RefOutputIdeal.nD Cert.RefOutputIdeal.τ).loc Cert.RefOutputIdeal.main_arg8))

def preserves_Combine_CombineIdeal : Prop :=
  True

def algebraic_CombineIdeal_RefCombineIdeal [hCombineIdeal : Cert.CombineIdeal.Facts] [hRefCombineIdeal : Cert.RefCombineIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.RefCombineIdeal.nD Cert.RefCombineIdeal.τ Cert.RefCombineIdeal.sig) → Buf (Elt Ideal) ℓ) (g' : Dev Cert.RefCombineIdeal.nD → PrngReg), Pre_CombineIdeal m →
    (∀ c : Dev Cert.CombineIdeal.nD,
      m' ((c.tc : Thread Cert.RefCombineIdeal.nD Cert.RefCombineIdeal.τ).loc Cert.RefCombineIdeal.main_arg0) = m ((c.tc : Thread Cert.CombineIdeal.nD Cert.CombineIdeal.τ).loc Cert.CombineIdeal.main_arg0)
      ∧ m' ((c.tc : Thread Cert.RefCombineIdeal.nD Cert.RefCombineIdeal.τ).loc Cert.RefCombineIdeal.main_arg1) = m ((c.tc : Thread Cert.CombineIdeal.nD Cert.CombineIdeal.τ).loc Cert.CombineIdeal.main_arg1)
      ∧ m' ((c.tc : Thread Cert.RefCombineIdeal.nD Cert.RefCombineIdeal.τ).loc Cert.RefCombineIdeal.main_arg2) = m ((c.tc : Thread Cert.CombineIdeal.nD Cert.CombineIdeal.τ).loc Cert.CombineIdeal.main_arg2)
      ∧ m' ((c.tc : Thread Cert.RefCombineIdeal.nD Cert.RefCombineIdeal.τ).loc Cert.RefCombineIdeal.main_arg3) = m ((c.tc : Thread Cert.CombineIdeal.nD Cert.CombineIdeal.τ).loc Cert.CombineIdeal.main_arg3)
      ∧ m' ((c.tc : Thread Cert.RefCombineIdeal.nD Cert.RefCombineIdeal.τ).loc Cert.RefCombineIdeal.main_arg4) = m ((c.tc : Thread Cert.CombineIdeal.nD Cert.CombineIdeal.τ).loc Cert.CombineIdeal.main_arg4)
      ∧ m' ((c.tc : Thread Cert.RefCombineIdeal.nD Cert.RefCombineIdeal.τ).loc Cert.RefCombineIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.RefCombineIdeal.defs (F := Ideal)) (onTc (τ := Cert.RefCombineIdeal.τ) (Cert.RefCombineIdeal.main (F := Ideal))) ⟨m', fun _ => 0, g'⟩ (fun r => ∀ c : Dev Cert.RefCombineIdeal.nD,
          r.2.mem ((c.tc : Thread Cert.RefCombineIdeal.nD Cert.RefCombineIdeal.τ).loc Cert.RefCombineIdeal.main_v46) = v0 c
          ∧ r.2.mem ((c.tc : Thread Cert.RefCombineIdeal.nD Cert.RefCombineIdeal.τ).loc Cert.RefCombineIdeal.main_arg0) = m' ((c.tc : Thread Cert.RefCombineIdeal.nD Cert.RefCombineIdeal.τ).loc Cert.RefCombineIdeal.main_arg0)
          ∧ r.2.mem ((c.tc : Thread Cert.RefCombineIdeal.nD Cert.RefCombineIdeal.τ).loc Cert.RefCombineIdeal.main_arg1) = m' ((c.tc : Thread Cert.RefCombineIdeal.nD Cert.RefCombineIdeal.τ).loc Cert.RefCombineIdeal.main_arg1)
          ∧ r.2.mem ((c.tc : Thread Cert.RefCombineIdeal.nD Cert.RefCombineIdeal.τ).loc Cert.RefCombineIdeal.main_arg2) = m' ((c.tc : Thread Cert.RefCombineIdeal.nD Cert.RefCombineIdeal.τ).loc Cert.RefCombineIdeal.main_arg2)
          ∧ r.2.mem ((c.tc : Thread Cert.RefCombineIdeal.nD Cert.RefCombineIdeal.τ).loc Cert.RefCombineIdeal.main_arg3) = m' ((c.tc : Thread Cert.RefCombineIdeal.nD Cert.RefCombineIdeal.τ).loc Cert.RefCombineIdeal.main_arg3)
          ∧ r.2.mem ((c.tc : Thread Cert.RefCombineIdeal.nD Cert.RefCombineIdeal.τ).loc Cert.RefCombineIdeal.main_arg4) = m' ((c.tc : Thread Cert.RefCombineIdeal.nD Cert.RefCombineIdeal.τ).loc Cert.RefCombineIdeal.main_arg4)
          ∧ r.2.mem ((c.tc : Thread Cert.RefCombineIdeal.nD Cert.RefCombineIdeal.τ).loc Cert.RefCombineIdeal.main_arg5) = m' ((c.tc : Thread Cert.RefCombineIdeal.nD Cert.RefCombineIdeal.τ).loc Cert.RefCombineIdeal.main_arg5))

def preserves_Prep_PrepIdeal : Prop :=
  True

def algebraic_PrepIdeal_RefPrepIdeal [hPrepIdeal : Cert.PrepIdeal.Facts] [hRefPrepIdeal : Cert.RefPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RefPrepIdeal.nD Cert.RefPrepIdeal.τ Cert.RefPrepIdeal.sig) → Buf (Elt Ideal) ℓ) (g' : Dev Cert.RefPrepIdeal.nD → PrngReg), Pre_PrepIdeal m →
    (∀ c : Dev Cert.PrepIdeal.nD,
      m' ((c.tc : Thread Cert.RefPrepIdeal.nD Cert.RefPrepIdeal.τ).loc Cert.RefPrepIdeal.main_arg0) = m ((c.tc : Thread Cert.PrepIdeal.nD Cert.PrepIdeal.τ).loc Cert.PrepIdeal.main_arg0)
      ∧ m' ((c.tc : Thread Cert.RefPrepIdeal.nD Cert.RefPrepIdeal.τ).loc Cert.RefPrepIdeal.main_arg1) = m ((c.tc : Thread Cert.PrepIdeal.nD Cert.PrepIdeal.τ).loc Cert.PrepIdeal.main_arg1)
      ∧ m' ((c.tc : Thread Cert.RefPrepIdeal.nD Cert.RefPrepIdeal.τ).loc Cert.RefPrepIdeal.main_arg2) = m ((c.tc : Thread Cert.PrepIdeal.nD Cert.PrepIdeal.τ).loc Cert.PrepIdeal.main_arg2)
      ∧ m' ((c.tc : Thread Cert.RefPrepIdeal.nD Cert.RefPrepIdeal.τ).loc Cert.RefPrepIdeal.main_arg3) = m ((c.tc : Thread Cert.PrepIdeal.nD Cert.PrepIdeal.τ).loc Cert.PrepIdeal.main_arg3)
      ∧ m' ((c.tc : Thread Cert.RefPrepIdeal.nD Cert.RefPrepIdeal.τ).loc Cert.RefPrepIdeal.main_arg4) = m ((c.tc : Thread Cert.PrepIdeal.nD Cert.PrepIdeal.τ).loc Cert.PrepIdeal.main_arg4)
      ∧ m' ((c.tc : Thread Cert.RefPrepIdeal.nD Cert.RefPrepIdeal.τ).loc Cert.RefPrepIdeal.main_arg5) = m ((c.tc : Thread Cert.PrepIdeal.nD Cert.PrepIdeal.τ).loc Cert.PrepIdeal.main_arg5)
      ∧ m' ((c.tc : Thread Cert.RefPrepIdeal.nD Cert.RefPrepIdeal.τ).loc Cert.RefPrepIdeal.main_arg6) = m ((c.tc : Thread Cert.PrepIdeal.nD Cert.PrepIdeal.τ).loc Cert.PrepIdeal.main_arg6)
      ∧ m' ((c.tc : Thread Cert.RefPrepIdeal.nD Cert.RefPrepIdeal.τ).loc Cert.RefPrepIdeal.main_arg7) = m ((c.tc : Thread Cert.PrepIdeal.nD Cert.PrepIdeal.τ).loc Cert.PrepIdeal.main_arg7)
      ∧ m' ((c.tc : Thread Cert.RefPrepIdeal.nD Cert.RefPrepIdeal.τ).loc Cert.RefPrepIdeal.main_arg8) = m ((c.tc : Thread Cert.PrepIdeal.nD Cert.PrepIdeal.τ).loc Cert.PrepIdeal.main_arg8)
      ∧ m' ((c.tc : Thread Cert.RefPrepIdeal.nD Cert.RefPrepIdeal.τ).loc Cert.RefPrepIdeal.main_arg9) = m ((c.tc : Thread Cert.PrepIdeal.nD Cert.PrepIdeal.τ).loc Cert.PrepIdeal.main_arg9)
      ∧ m' ((c.tc : Thread Cert.RefPrepIdeal.nD Cert.RefPrepIdeal.τ).loc Cert.RefPrepIdeal.main_arg10) = m ((c.tc : Thread Cert.PrepIdeal.nD Cert.PrepIdeal.τ).loc Cert.PrepIdeal.main_arg10)) →
    ∃ (v0 : (c : Dev Cert.PrepIdeal.nD) → Buf (Elt Ideal) ((c.tc : Thread Cert.PrepIdeal.nD Cert.PrepIdeal.τ).loc Cert.PrepIdeal.main_v17_0)) (v1 : (c : Dev Cert.PrepIdeal.nD) → Buf (Elt Ideal) ((c.tc : Thread Cert.PrepIdeal.nD Cert.PrepIdeal.τ).loc Cert.PrepIdeal.main_v17_1)) (v2 : (c : Dev Cert.PrepIdeal.nD) → Buf (Elt Ideal) ((c.tc : Thread Cert.PrepIdeal.nD Cert.PrepIdeal.τ).loc Cert.PrepIdeal.main_v17_2)) (v3 : (c : Dev Cert.PrepIdeal.nD) → Buf (Elt Ideal) ((c.tc : Thread Cert.PrepIdeal.nD Cert.PrepIdeal.τ).loc Cert.PrepIdeal.main_v17_3)) (v4 : (c : Dev Cert.PrepIdeal.nD) → Buf (Elt Ideal) ((c.tc : Thread Cert.PrepIdeal.nD Cert.PrepIdeal.τ).loc Cert.PrepIdeal.main_v17_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v17_0) = v0 c
          ∧ r.2.mem ((c.tc : Thread Cert.PrepIdeal.nD Cert.PrepIdeal.τ).loc Cert.PrepIdeal.main_v17_1) = v1 c
          ∧ r.2.mem ((c.tc : Thread Cert.PrepIdeal.nD Cert.PrepIdeal.τ).loc Cert.PrepIdeal.main_v17_2) = v2 c
          ∧ r.2.mem ((c.tc : Thread Cert.PrepIdeal.nD Cert.PrepIdeal.τ).loc Cert.PrepIdeal.main_v17_3) = v3 c
          ∧ r.2.mem ((c.tc : Thread Cert.PrepIdeal.nD Cert.PrepIdeal.τ).loc Cert.PrepIdeal.main_v17_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ θ_run (Cert.RefPrepIdeal.defs (F := Ideal)) (onTc (τ := Cert.RefPrepIdeal.τ) (Cert.RefPrepIdeal.main (F := Ideal))) ⟨m', fun _ => 0, g'⟩ (fun r => ∀ c : Dev Cert.RefPrepIdeal.nD,
          r.2.mem ((c.tc : Thread Cert.RefPrepIdeal.nD Cert.RefPrepIdeal.τ).loc Cert.RefPrepIdeal.main_v181) = v0 c
          ∧ r.2.mem ((c.tc : Thread Cert.RefPrepIdeal.nD Cert.RefPrepIdeal.τ).loc Cert.RefPrepIdeal.main_v183) = v1 c
          ∧ r.2.mem ((c.tc : Thread Cert.RefPrepIdeal.nD Cert.RefPrepIdeal.τ).loc Cert.RefPrepIdeal.main_v185) = v2 c
          ∧ r.2.mem ((c.tc : Thread Cert.RefPrepIdeal.nD Cert.RefPrepIdeal.τ).loc Cert.RefPrepIdeal.main_v187) = v3 c
          ∧ r.2.mem ((c.tc : Thread Cert.RefPrepIdeal.nD Cert.RefPrepIdeal.τ).loc Cert.RefPrepIdeal.main_v189) = v4 c
          ∧ r.2.mem ((c.tc : Thread Cert.RefPrepIdeal.nD Cert.RefPrepIdeal.τ).loc Cert.RefPrepIdeal.main_arg0) = m' ((c.tc : Thread Cert.RefPrepIdeal.nD Cert.RefPrepIdeal.τ).loc Cert.RefPrepIdeal.main_arg0)
          ∧ r.2.mem ((c.tc : Thread Cert.RefPrepIdeal.nD Cert.RefPrepIdeal.τ).loc Cert.RefPrepIdeal.main_arg1) = m' ((c.tc : Thread Cert.RefPrepIdeal.nD Cert.RefPrepIdeal.τ).loc Cert.RefPrepIdeal.main_arg1)
          ∧ r.2.mem ((c.tc : Thread Cert.RefPrepIdeal.nD Cert.RefPrepIdeal.τ).loc Cert.RefPrepIdeal.main_arg2) = m' ((c.tc : Thread Cert.RefPrepIdeal.nD Cert.RefPrepIdeal.τ).loc Cert.RefPrepIdeal.main_arg2)
          ∧ r.2.mem ((c.tc : Thread Cert.RefPrepIdeal.nD Cert.RefPrepIdeal.τ).loc Cert.RefPrepIdeal.main_arg3) = m' ((c.tc : Thread Cert.RefPrepIdeal.nD Cert.RefPrepIdeal.τ).loc Cert.RefPrepIdeal.main_arg3)
          ∧ r.2.mem ((c.tc : Thread Cert.RefPrepIdeal.nD Cert.RefPrepIdeal.τ).loc Cert.RefPrepIdeal.main_arg4) = m' ((c.tc : Thread Cert.RefPrepIdeal.nD Cert.RefPrepIdeal.τ).loc Cert.RefPrepIdeal.main_arg4)
          ∧ r.2.mem ((c.tc : Thread Cert.RefPrepIdeal.nD Cert.RefPrepIdeal.τ).loc Cert.RefPrepIdeal.main_arg5) = m' ((c.tc : Thread Cert.RefPrepIdeal.nD Cert.RefPrepIdeal.τ).loc Cert.RefPrepIdeal.main_arg5)
          ∧ r.2.mem ((c.tc : Thread Cert.RefPrepIdeal.nD Cert.RefPrepIdeal.τ).loc Cert.RefPrepIdeal.main_arg6) = m' ((c.tc : Thread Cert.RefPrepIdeal.nD Cert.RefPrepIdeal.τ).loc Cert.RefPrepIdeal.main_arg6)
          ∧ r.2.mem ((c.tc : Thread Cert.RefPrepIdeal.nD Cert.RefPrepIdeal.τ).loc Cert.RefPrepIdeal.main_arg7) = m' ((c.tc : Thread Cert.RefPrepIdeal.nD Cert.RefPrepIdeal.τ).loc Cert.RefPrepIdeal.main_arg7)
          ∧ r.2.mem ((c.tc : Thread Cert.RefPrepIdeal.nD Cert.RefPrepIdeal.τ).loc Cert.RefPrepIdeal.main_arg8) = m' ((c.tc : Thread Cert.RefPrepIdeal.nD Cert.RefPrepIdeal.τ).loc Cert.RefPrepIdeal.main_arg8)
          ∧ r.2.mem ((c.tc : Thread Cert.RefPrepIdeal.nD Cert.RefPrepIdeal.τ).loc Cert.RefPrepIdeal.main_arg9) = m' ((c.tc : Thread Cert.RefPrepIdeal.nD Cert.RefPrepIdeal.τ).loc Cert.RefPrepIdeal.main_arg9)
          ∧ r.2.mem ((c.tc : Thread Cert.RefPrepIdeal.nD Cert.RefPrepIdeal.τ).loc Cert.RefPrepIdeal.main_arg10) = m' ((c.tc : Thread Cert.RefPrepIdeal.nD Cert.RefPrepIdeal.τ).loc Cert.RefPrepIdeal.main_arg10))

def preserves_ContextA_ContextAIdeal : Prop :=
  True

def algebraic_ContextAIdeal_RefContextAIdeal_pre_finite_context_a [hContextAIdeal : Cert.ContextAIdeal.Facts] [hRefContextAIdeal : Cert.RefContextAIdeal.Facts] [hPre_finite_context_a : Cert.Pre_finite_context_a.Facts] : Prop :=
  ∀ (m : (ℓ : Loc Cert.ContextAIdeal.nD Cert.ContextAIdeal.τ Cert.ContextAIdeal.sig) → Buf (Elt Ideal) ℓ) (g : Dev Cert.ContextAIdeal.nD → PrngReg)
    (m' : (ℓ : Loc Cert.RefContextAIdeal.nD Cert.RefContextAIdeal.τ Cert.RefContextAIdeal.sig) → Buf (Elt Ideal) ℓ) (g' : Dev Cert.RefContextAIdeal.nD → PrngReg), Pre_ContextAIdeal_finite_context_a m →
    (∀ c : Dev Cert.ContextAIdeal.nD,
      m' ((c.tc : Thread Cert.RefContextAIdeal.nD Cert.RefContextAIdeal.τ).loc Cert.RefContextAIdeal.main_arg0) = m ((c.tc : Thread Cert.ContextAIdeal.nD Cert.ContextAIdeal.τ).loc Cert.ContextAIdeal.main_arg0)
      ∧ m' ((c.tc : Thread Cert.RefContextAIdeal.nD Cert.RefContextAIdeal.τ).loc Cert.RefContextAIdeal.main_arg1) = m ((c.tc : Thread Cert.ContextAIdeal.nD Cert.ContextAIdeal.τ).loc Cert.ContextAIdeal.main_arg1)
      ∧ m' ((c.tc : Thread Cert.RefContextAIdeal.nD Cert.RefContextAIdeal.τ).loc Cert.RefContextAIdeal.main_arg2) = m ((c.tc : Thread Cert.ContextAIdeal.nD Cert.ContextAIdeal.τ).loc Cert.ContextAIdeal.main_arg2)) →
    ∃ (v0 : (c : Dev Cert.ContextAIdeal.nD) → Buf (Elt Ideal) ((c.tc : Thread Cert.ContextAIdeal.nD Cert.ContextAIdeal.τ).loc Cert.ContextAIdeal.main_v0)),
      θ_run (Cert.ContextAIdeal.defs (F := Ideal)) (onTc (τ := Cert.ContextAIdeal.τ) (Cert.ContextAIdeal.main (F := Ideal))) ⟨m, fun _ => 0, g⟩ (fun r => ∀ c : Dev Cert.ContextAIdeal.nD,
          r.2.mem ((c.tc : Thread Cert.ContextAIdeal.nD Cert.ContextAIdeal.τ).loc Cert.ContextAIdeal.main_v0) = v0 c
          ∧ r.2.mem ((c.tc : Thread Cert.ContextAIdeal.nD Cert.ContextAIdeal.τ).loc Cert.ContextAIdeal.main_arg0) = m ((c.tc : Thread Cert.ContextAIdeal.nD Cert.ContextAIdeal.τ).loc Cert.ContextAIdeal.main_arg0)
          ∧ r.2.mem ((c.tc : Thread Cert.ContextAIdeal.nD Cert.ContextAIdeal.τ).loc Cert.ContextAIdeal.main_arg1) = m ((c.tc : Thread Cert.ContextAIdeal.nD Cert.ContextAIdeal.τ).loc Cert.ContextAIdeal.main_arg1)
          ∧ r.2.mem ((c.tc : Thread Cert.ContextAIdeal.nD Cert.ContextAIdeal.τ).loc Cert.ContextAIdeal.main_arg2) = m ((c.tc : Thread Cert.ContextAIdeal.nD Cert.ContextAIdeal.τ).loc Cert.ContextAIdeal.main_arg2))
      ∧ θ_run (Cert.RefContextAIdeal.defs (F := Ideal)) (onTc (τ := Cert.RefContextAIdeal.τ) (Cert.RefContextAIdeal.main (F := Ideal))) ⟨m', fun _ => 0, g'⟩ (fun r => ∀ c : Dev Cert.RefContextAIdeal.nD,
          r.2.mem ((c.tc : Thread Cert.RefContextAIdeal.nD Cert.RefContextAIdeal.τ).loc Cert.RefContextAIdeal.main_v32) = v0 c
          ∧ r.2.mem ((c.tc : Thread Cert.RefContextAIdeal.nD Cert.RefContextAIdeal.τ).loc Cert.RefContextAIdeal.main_arg0) = m' ((c.tc : Thread Cert.RefContextAIdeal.nD Cert.RefContextAIdeal.τ).loc Cert.RefContextAIdeal.main_arg0)
          ∧ r.2.mem ((c.tc : Thread Cert.RefContextAIdeal.nD Cert.RefContextAIdeal.τ).loc Cert.RefContextAIdeal.main_arg1) = m' ((c.tc : Thread Cert.RefContextAIdeal.nD Cert.RefContextAIdeal.τ).loc Cert.RefContextAIdeal.main_arg1)
          ∧ r.2.mem ((c.tc : Thread Cert.RefContextAIdeal.nD Cert.RefContextAIdeal.τ).loc Cert.RefContextAIdeal.main_arg2) = m' ((c.tc : Thread Cert.RefContextAIdeal.nD Cert.RefContextAIdeal.τ).loc Cert.RefContextAIdeal.main_arg2))

def preserves_ContextB_ContextBIdeal : Prop :=
  True

def algebraic_ContextBIdeal_RefContextBIdeal_pre_finite_context_b [hContextBIdeal : Cert.ContextBIdeal.Facts] [hRefContextBIdeal : Cert.RefContextBIdeal.Facts] [hPre_finite_context_b : Cert.Pre_finite_context_b.Facts] : Prop :=
  ∀ (m : (ℓ : Loc Cert.ContextBIdeal.nD Cert.ContextBIdeal.τ Cert.ContextBIdeal.sig) → Buf (Elt Ideal) ℓ) (g : Dev Cert.ContextBIdeal.nD → PrngReg)
    (m' : (ℓ : Loc Cert.RefContextBIdeal.nD Cert.RefContextBIdeal.τ Cert.RefContextBIdeal.sig) → Buf (Elt Ideal) ℓ) (g' : Dev Cert.RefContextBIdeal.nD → PrngReg), Pre_ContextBIdeal_finite_context_b m →
    (∀ c : Dev Cert.ContextBIdeal.nD,
      m' ((c.tc : Thread Cert.RefContextBIdeal.nD Cert.RefContextBIdeal.τ).loc Cert.RefContextBIdeal.main_arg0) = m ((c.tc : Thread Cert.ContextBIdeal.nD Cert.ContextBIdeal.τ).loc Cert.ContextBIdeal.main_arg0)
      ∧ m' ((c.tc : Thread Cert.RefContextBIdeal.nD Cert.RefContextBIdeal.τ).loc Cert.RefContextBIdeal.main_arg1) = m ((c.tc : Thread Cert.ContextBIdeal.nD Cert.ContextBIdeal.τ).loc Cert.ContextBIdeal.main_arg1)
      ∧ m' ((c.tc : Thread Cert.RefContextBIdeal.nD Cert.RefContextBIdeal.τ).loc Cert.RefContextBIdeal.main_arg2) = m ((c.tc : Thread Cert.ContextBIdeal.nD Cert.ContextBIdeal.τ).loc Cert.ContextBIdeal.main_arg2)) →
    ∃ (v0 : (c : Dev Cert.ContextBIdeal.nD) → Buf (Elt Ideal) ((c.tc : Thread Cert.ContextBIdeal.nD Cert.ContextBIdeal.τ).loc Cert.ContextBIdeal.main_v0)),
      θ_run (Cert.ContextBIdeal.defs (F := Ideal)) (onTc (τ := Cert.ContextBIdeal.τ) (Cert.ContextBIdeal.main (F := Ideal))) ⟨m, fun _ => 0, g⟩ (fun r => ∀ c : Dev Cert.ContextBIdeal.nD,
          r.2.mem ((c.tc : Thread Cert.ContextBIdeal.nD Cert.ContextBIdeal.τ).loc Cert.ContextBIdeal.main_v0) = v0 c
          ∧ r.2.mem ((c.tc : Thread Cert.ContextBIdeal.nD Cert.ContextBIdeal.τ).loc Cert.ContextBIdeal.main_arg0) = m ((c.tc : Thread Cert.ContextBIdeal.nD Cert.ContextBIdeal.τ).loc Cert.ContextBIdeal.main_arg0)
          ∧ r.2.mem ((c.tc : Thread Cert.ContextBIdeal.nD Cert.ContextBIdeal.τ).loc Cert.ContextBIdeal.main_arg1) = m ((c.tc : Thread Cert.ContextBIdeal.nD Cert.ContextBIdeal.τ).loc Cert.ContextBIdeal.main_arg1)
          ∧ r.2.mem ((c.tc : Thread Cert.ContextBIdeal.nD Cert.ContextBIdeal.τ).loc Cert.ContextBIdeal.main_arg2) = m ((c.tc : Thread Cert.ContextBIdeal.nD Cert.ContextBIdeal.τ).loc Cert.ContextBIdeal.main_arg2))
      ∧ θ_run (Cert.RefContextBIdeal.defs (F := Ideal)) (onTc (τ := Cert.RefContextBIdeal.τ) (Cert.RefContextBIdeal.main (F := Ideal))) ⟨m', fun _ => 0, g'⟩ (fun r => ∀ c : Dev Cert.RefContextBIdeal.nD,
          r.2.mem ((c.tc : Thread Cert.RefContextBIdeal.nD Cert.RefContextBIdeal.τ).loc Cert.RefContextBIdeal.main_v27) = v0 c
          ∧ r.2.mem ((c.tc : Thread Cert.RefContextBIdeal.nD Cert.RefContextBIdeal.τ).loc Cert.RefContextBIdeal.main_arg0) = m' ((c.tc : Thread Cert.RefContextBIdeal.nD Cert.RefContextBIdeal.τ).loc Cert.RefContextBIdeal.main_arg0)
          ∧ r.2.mem ((c.tc : Thread Cert.RefContextBIdeal.nD Cert.RefContextBIdeal.τ).loc Cert.RefContextBIdeal.main_arg1) = m' ((c.tc : Thread Cert.RefContextBIdeal.nD Cert.RefContextBIdeal.τ).loc Cert.RefContextBIdeal.main_arg1)
          ∧ r.2.mem ((c.tc : Thread Cert.RefContextBIdeal.nD Cert.RefContextBIdeal.τ).loc Cert.RefContextBIdeal.main_arg2) = m' ((c.tc : Thread Cert.RefContextBIdeal.nD Cert.RefContextBIdeal.τ).loc Cert.RefContextBIdeal.main_arg2))

def preserves_ContextC_ContextCIdeal : Prop :=
  True

def algebraic_ContextCIdeal_RefContextCIdeal_pre_finite_context_c [hContextCIdeal : Cert.ContextCIdeal.Facts] [hRefContextCIdeal : Cert.RefContextCIdeal.Facts] [hPre_finite_context_c : Cert.Pre_finite_context_c.Facts] : Prop :=
  ∀ (m : (ℓ : Loc Cert.ContextCIdeal.nD Cert.ContextCIdeal.τ Cert.ContextCIdeal.sig) → Buf (Elt Ideal) ℓ) (g : Dev Cert.ContextCIdeal.nD → PrngReg)
    (m' : (ℓ : Loc Cert.RefContextCIdeal.nD Cert.RefContextCIdeal.τ Cert.RefContextCIdeal.sig) → Buf (Elt Ideal) ℓ) (g' : Dev Cert.RefContextCIdeal.nD → PrngReg), Pre_ContextCIdeal_finite_context_c m →
    (∀ c : Dev Cert.ContextCIdeal.nD,
      m' ((c.tc : Thread Cert.RefContextCIdeal.nD Cert.RefContextCIdeal.τ).loc Cert.RefContextCIdeal.main_arg0) = m ((c.tc : Thread Cert.ContextCIdeal.nD Cert.ContextCIdeal.τ).loc Cert.ContextCIdeal.main_arg0)) →
    ∃ (v0 : (c : Dev Cert.ContextCIdeal.nD) → Buf (Elt Ideal) ((c.tc : Thread Cert.ContextCIdeal.nD Cert.ContextCIdeal.τ).loc Cert.ContextCIdeal.main_v0)),
      θ_run (Cert.ContextCIdeal.defs (F := Ideal)) (onTc (τ := Cert.ContextCIdeal.τ) (Cert.ContextCIdeal.main (F := Ideal))) ⟨m, fun _ => 0, g⟩ (fun r => ∀ c : Dev Cert.ContextCIdeal.nD,
          r.2.mem ((c.tc : Thread Cert.ContextCIdeal.nD Cert.ContextCIdeal.τ).loc Cert.ContextCIdeal.main_v0) = v0 c
          ∧ r.2.mem ((c.tc : Thread Cert.ContextCIdeal.nD Cert.ContextCIdeal.τ).loc Cert.ContextCIdeal.main_arg0) = m ((c.tc : Thread Cert.ContextCIdeal.nD Cert.ContextCIdeal.τ).loc Cert.ContextCIdeal.main_arg0))
      ∧ θ_run (Cert.RefContextCIdeal.defs (F := Ideal)) (onTc (τ := Cert.RefContextCIdeal.τ) (Cert.RefContextCIdeal.main (F := Ideal))) ⟨m', fun _ => 0, g'⟩ (fun r => ∀ c : Dev Cert.RefContextCIdeal.nD,
          r.2.mem ((c.tc : Thread Cert.RefContextCIdeal.nD Cert.RefContextCIdeal.τ).loc Cert.RefContextCIdeal.main_v27) = v0 c
          ∧ r.2.mem ((c.tc : Thread Cert.RefContextCIdeal.nD Cert.RefContextCIdeal.τ).loc Cert.RefContextCIdeal.main_arg0) = m' ((c.tc : Thread Cert.RefContextCIdeal.nD Cert.RefContextCIdeal.τ).loc Cert.RefContextCIdeal.main_arg0))

def preserves_Modulation_ModulationIdeal : Prop :=
  True

def algebraic_ModulationIdeal_RefModulationIdeal_pre_finite_modulation [hModulationIdeal : Cert.ModulationIdeal.Facts] [hRefModulationIdeal : Cert.RefModulationIdeal.Facts] [hPre_finite_modulation : Cert.Pre_finite_modulation.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.RefModulationIdeal.nD Cert.RefModulationIdeal.τ Cert.RefModulationIdeal.sig) → Buf (Elt Ideal) ℓ) (g' : Dev Cert.RefModulationIdeal.nD → PrngReg), Pre_ModulationIdeal_finite_modulation m →
    (∀ c : Dev Cert.ModulationIdeal.nD,
      m' ((c.tc : Thread Cert.RefModulationIdeal.nD Cert.RefModulationIdeal.τ).loc Cert.RefModulationIdeal.main_arg0) = m ((c.tc : Thread Cert.ModulationIdeal.nD Cert.ModulationIdeal.τ).loc Cert.ModulationIdeal.main_arg0)
      ∧ m' ((c.tc : Thread Cert.RefModulationIdeal.nD Cert.RefModulationIdeal.τ).loc Cert.RefModulationIdeal.main_arg1) = m ((c.tc : Thread Cert.ModulationIdeal.nD Cert.ModulationIdeal.τ).loc Cert.ModulationIdeal.main_arg1)
      ∧ m' ((c.tc : Thread Cert.RefModulationIdeal.nD Cert.RefModulationIdeal.τ).loc Cert.RefModulationIdeal.main_arg2) = m ((c.tc : Thread Cert.ModulationIdeal.nD Cert.ModulationIdeal.τ).loc Cert.ModulationIdeal.main_arg2)
      ∧ m' ((c.tc : Thread Cert.RefModulationIdeal.nD Cert.RefModulationIdeal.τ).loc Cert.RefModulationIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.RefModulationIdeal.defs (F := Ideal)) (onTc (τ := Cert.RefModulationIdeal.τ) (Cert.RefModulationIdeal.main (F := Ideal))) ⟨m', fun _ => 0, g'⟩ (fun r => ∀ c : Dev Cert.RefModulationIdeal.nD,
          r.2.mem ((c.tc : Thread Cert.RefModulationIdeal.nD Cert.RefModulationIdeal.τ).loc Cert.RefModulationIdeal.main_v8) = v0 c
          ∧ r.2.mem ((c.tc : Thread Cert.RefModulationIdeal.nD Cert.RefModulationIdeal.τ).loc Cert.RefModulationIdeal.main_arg0) = m' ((c.tc : Thread Cert.RefModulationIdeal.nD Cert.RefModulationIdeal.τ).loc Cert.RefModulationIdeal.main_arg0)
          ∧ r.2.mem ((c.tc : Thread Cert.RefModulationIdeal.nD Cert.RefModulationIdeal.τ).loc Cert.RefModulationIdeal.main_arg1) = m' ((c.tc : Thread Cert.RefModulationIdeal.nD Cert.RefModulationIdeal.τ).loc Cert.RefModulationIdeal.main_arg1)
          ∧ r.2.mem ((c.tc : Thread Cert.RefModulationIdeal.nD Cert.RefModulationIdeal.τ).loc Cert.RefModulationIdeal.main_arg2) = m' ((c.tc : Thread Cert.RefModulationIdeal.nD Cert.RefModulationIdeal.τ).loc Cert.RefModulationIdeal.main_arg2)
          ∧ r.2.mem ((c.tc : Thread Cert.RefModulationIdeal.nD Cert.RefModulationIdeal.τ).loc Cert.RefModulationIdeal.main_arg3) = m' ((c.tc : Thread Cert.RefModulationIdeal.nD Cert.RefModulationIdeal.τ).loc Cert.RefModulationIdeal.main_arg3))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hRefProjectionIdeal : Cert.RefProjectionIdeal.Facts) (hAttentionB : Cert.AttentionB.Facts) (hAttentionBIdeal : Cert.AttentionBIdeal.Facts) (hRefAttentionBIdeal : Cert.RefAttentionBIdeal.Facts) (hMerge : Cert.Merge.Facts) (hMergeIdeal : Cert.MergeIdeal.Facts) (hRefMergeIdeal : Cert.RefMergeIdeal.Facts) (hOutput : Cert.Output.Facts) (hOutputIdeal : Cert.OutputIdeal.Facts) (hRefOutputIdeal : Cert.RefOutputIdeal.Facts) (hCombine : Cert.Combine.Facts) (hCombineIdeal : Cert.CombineIdeal.Facts) (hRefCombineIdeal : Cert.RefCombineIdeal.Facts) (hPrep : Cert.Prep.Facts) (hPrepIdeal : Cert.PrepIdeal.Facts) (hRefPrepIdeal : Cert.RefPrepIdeal.Facts) (hContextA : Cert.ContextA.Facts) (hContextAIdeal : Cert.ContextAIdeal.Facts) (hRefContextAIdeal : Cert.RefContextAIdeal.Facts) (hContextB : Cert.ContextB.Facts) (hContextBIdeal : Cert.ContextBIdeal.Facts) (hRefContextBIdeal : Cert.RefContextBIdeal.Facts) (hContextC : Cert.ContextC.Facts) (hContextCIdeal : Cert.ContextCIdeal.Facts) (hRefContextCIdeal : Cert.RefContextCIdeal.Facts) (hModulation : Cert.Modulation.Facts) (hModulationIdeal : Cert.ModulationIdeal.Facts) (hRefModulationIdeal : Cert.RefModulationIdeal.Facts) (hPre_finite_scores : Cert.Pre_finite_scores.Facts) (hPre_finite_scores_b : Cert.Pre_finite_scores_b.Facts) (hPre_finite_context_a : Cert.Pre_finite_context_a.Facts) (hPre_finite_context_b : Cert.Pre_finite_context_b.Facts) (hPre_finite_context_c : Cert.Pre_finite_context_c.Facts) (hPre_finite_modulation : Cert.Pre_finite_modulation.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Projection (hProjection := hProjection)
    ∧ quiescent_ProjectionIdeal (hProjectionIdeal := hProjectionIdeal)
    ∧ quiescent_RefProjectionIdeal (hRefProjectionIdeal := hRefProjectionIdeal)
    ∧ quiescent_AttentionB (hAttentionB := hAttentionB)
    ∧ quiescent_AttentionBIdeal (hAttentionBIdeal := hAttentionBIdeal)
    ∧ quiescent_AttentionBIdeal_pre_finite_scores_b (hAttentionBIdeal := hAttentionBIdeal) (hPre_finite_scores_b := hPre_finite_scores_b)
    ∧ quiescent_RefAttentionBIdeal (hRefAttentionBIdeal := hRefAttentionBIdeal)
    ∧ quiescent_RefAttentionBIdeal_pre_finite_scores_b (hRefAttentionBIdeal := hRefAttentionBIdeal) (hPre_finite_scores_b := hPre_finite_scores_b)
    ∧ quiescent_Merge (hMerge := hMerge)
    ∧ quiescent_MergeIdeal (hMergeIdeal := hMergeIdeal)
    ∧ quiescent_RefMergeIdeal (hRefMergeIdeal := hRefMergeIdeal)
    ∧ quiescent_Output (hOutput := hOutput)
    ∧ quiescent_OutputIdeal (hOutputIdeal := hOutputIdeal)
    ∧ quiescent_RefOutputIdeal (hRefOutputIdeal := hRefOutputIdeal)
    ∧ quiescent_Combine (hCombine := hCombine)
    ∧ quiescent_CombineIdeal (hCombineIdeal := hCombineIdeal)
    ∧ quiescent_RefCombineIdeal (hRefCombineIdeal := hRefCombineIdeal)
    ∧ quiescent_Prep (hPrep := hPrep)
    ∧ quiescent_PrepIdeal (hPrepIdeal := hPrepIdeal)
    ∧ quiescent_RefPrepIdeal (hRefPrepIdeal := hRefPrepIdeal)
    ∧ quiescent_ContextA (hContextA := hContextA)
    ∧ quiescent_ContextAIdeal (hContextAIdeal := hContextAIdeal)
    ∧ quiescent_ContextAIdeal_pre_finite_context_a (hContextAIdeal := hContextAIdeal) (hPre_finite_context_a := hPre_finite_context_a)
    ∧ quiescent_RefContextAIdeal (hRefContextAIdeal := hRefContextAIdeal)
    ∧ quiescent_RefContextAIdeal_pre_finite_context_a (hRefContextAIdeal := hRefContextAIdeal) (hPre_finite_context_a := hPre_finite_context_a)
    ∧ quiescent_ContextB (hContextB := hContextB)
    ∧ quiescent_ContextBIdeal (hContextBIdeal := hContextBIdeal)
    ∧ quiescent_ContextBIdeal_pre_finite_context_b (hContextBIdeal := hContextBIdeal) (hPre_finite_context_b := hPre_finite_context_b)
    ∧ quiescent_RefContextBIdeal (hRefContextBIdeal := hRefContextBIdeal)
    ∧ quiescent_RefContextBIdeal_pre_finite_context_b (hRefContextBIdeal := hRefContextBIdeal) (hPre_finite_context_b := hPre_finite_context_b)
    ∧ quiescent_ContextC (hContextC := hContextC)
    ∧ quiescent_ContextCIdeal (hContextCIdeal := hContextCIdeal)
    ∧ quiescent_ContextCIdeal_pre_finite_context_c (hContextCIdeal := hContextCIdeal) (hPre_finite_context_c := hPre_finite_context_c)
    ∧ quiescent_RefContextCIdeal (hRefContextCIdeal := hRefContextCIdeal)
    ∧ quiescent_RefContextCIdeal_pre_finite_context_c (hRefContextCIdeal := hRefContextCIdeal) (hPre_finite_context_c := hPre_finite_context_c)
    ∧ quiescent_Modulation (hModulation := hModulation)
    ∧ quiescent_ModulationIdeal (hModulationIdeal := hModulationIdeal)
    ∧ quiescent_ModulationIdeal_pre_finite_modulation (hModulationIdeal := hModulationIdeal) (hPre_finite_modulation := hPre_finite_modulation)
    ∧ quiescent_RefModulationIdeal (hRefModulationIdeal := hRefModulationIdeal)
    ∧ quiescent_RefModulationIdeal_pre_finite_modulation (hRefModulationIdeal := hRefModulationIdeal) (hPre_finite_modulation := hPre_finite_modulation)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Projection_ProjectionIdeal
    ∧ algebraic_ProjectionIdeal_RefProjectionIdeal (hProjectionIdeal := hProjectionIdeal) (hRefProjectionIdeal := hRefProjectionIdeal)
    ∧ preserves_AttentionB_AttentionBIdeal
    ∧ algebraic_AttentionBIdeal_RefAttentionBIdeal_pre_finite_scores_b (hAttentionBIdeal := hAttentionBIdeal) (hRefAttentionBIdeal := hRefAttentionBIdeal) (hPre_finite_scores_b := hPre_finite_scores_b)
    ∧ preserves_Merge_MergeIdeal
    ∧ algebraic_MergeIdeal_RefMergeIdeal (hMergeIdeal := hMergeIdeal) (hRefMergeIdeal := hRefMergeIdeal)
    ∧ preserves_Output_OutputIdeal
    ∧ algebraic_OutputIdeal_RefOutputIdeal (hOutputIdeal := hOutputIdeal) (hRefOutputIdeal := hRefOutputIdeal)
    ∧ preserves_Combine_CombineIdeal
    ∧ algebraic_CombineIdeal_RefCombineIdeal (hCombineIdeal := hCombineIdeal) (hRefCombineIdeal := hRefCombineIdeal)
    ∧ preserves_Prep_PrepIdeal
    ∧ algebraic_PrepIdeal_RefPrepIdeal (hPrepIdeal := hPrepIdeal) (hRefPrepIdeal := hRefPrepIdeal)
    ∧ preserves_ContextA_ContextAIdeal
    ∧ algebraic_ContextAIdeal_RefContextAIdeal_pre_finite_context_a (hContextAIdeal := hContextAIdeal) (hRefContextAIdeal := hRefContextAIdeal) (hPre_finite_context_a := hPre_finite_context_a)
    ∧ preserves_ContextB_ContextBIdeal
    ∧ algebraic_ContextBIdeal_RefContextBIdeal_pre_finite_context_b (hContextBIdeal := hContextBIdeal) (hRefContextBIdeal := hRefContextBIdeal) (hPre_finite_context_b := hPre_finite_context_b)
    ∧ preserves_ContextC_ContextCIdeal
    ∧ algebraic_ContextCIdeal_RefContextCIdeal_pre_finite_context_c (hContextCIdeal := hContextCIdeal) (hRefContextCIdeal := hRefContextCIdeal) (hPre_finite_context_c := hPre_finite_context_c)
    ∧ preserves_Modulation_ModulationIdeal
    ∧ algebraic_ModulationIdeal_RefModulationIdeal_pre_finite_modulation (hModulationIdeal := hModulationIdeal) (hRefModulationIdeal := hRefModulationIdeal) (hPre_finite_modulation := hPre_finite_modulation)
-- ==== Pre_finite_context_a.lean ====
abbrev S17408x768 : Shape := ⟨2, ![17408, 768]⟩
abbrev S17408x256 : Shape := ⟨2, ![17408, 256]⟩
abbrev S17408x10240 : Shape := ⟨2, ![17408, 10240]⟩
abbrev S1024x768 : Shape := ⟨2, ![1024, 768]⟩
abbrev S_ : Shape := ⟨0, ![]⟩
abbrev S1024x256 : Shape := ⟨2, ![1024, 256]⟩

class Facts : Prop where
  slices_S17408x768_S1024x768_16384_0 : S17408x768.Slices ![16384, 0] S1024x768
  bcast_S_S1024x768 : S_.BroadcastsInDim S1024x768 (![] : Fin 0 → Fin S1024x768.rank)
  reducesTo_S1024x768_S_d0_1 : S1024x768.ReducesTo [0, 1] S_
  h_S_ : 0 < S_.numel
  slices_S17408x256_S1024x256_16384_0 : S17408x256.Slices ![16384, 0] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S17408x768 .bf16) (main_arg1 : FVec F S17408x256 .bf16) (main_arg2 : FVec F S17408x10240 .bf16) : IVec S_ 1 :=
  let main_v0 : FVec F S1024x768 .bf16 := (extractStridedSlice S1024x768 ![16384, 0] · slices_S17408x768_S1024x768_16384_0) main_arg0
  let main_v1 : FVec F S1024x768 .bf16 := Host.absf main_v0
  let main_cst : FVec F S_ .bf16 := constant S_ .bf16 0x7F80#16
  let main_v2 : FVec F S1024x768 .bf16 := broadcastInDim S1024x768 ![] bcast_S_S1024x768 main_cst
  let main_v3 : IVec S1024x768 1 := cmpf .olt main_v1 main_v2
  let main_c : IVec S_ 1 := constantI S_ 1 1#1
  let main_v4 : IVec S_ 1 := (fun x v => Host.reduce IntOp.andi x v reducesTo_S1024x768_S_d0_1 h_S_) main_v3 main_c
  let main_v5 : FVec F S1024x256 .bf16 := (extractStridedSlice S1024x256 ![16384, 0] · slices_S17408x256_S1024x256_16384_0) main_arg1
  let main_v6 : FVec F S1024x256 .bf16 := Host.absf main_v5
  let main_cst_0 : FVec F S_ .bf16 := constant S_ .bf16 0x7F80#16
  let main_v7 : FVec F S1024x256 .bf16 := broadcastInDim S1024x256 ![] bcast_S_S1024x256 main_cst_0
  let main_v8 : IVec S1024x256 1 := cmpf .olt main_v6 main_v7
  let main_c_1 : IVec S_ 1 := constantI S_ 1 1#1
  let main_v9 : IVec S_ 1 := (fun x v => Host.reduce IntOp.andi x v reducesTo_S1024x256_S_d0_1 h_S_) main_v8 main_c_1
  let main_v10 : IVec S_ 1 := andi main_v4 main_v9
  main_v10
-- ==== Pre_finite_context_b.lean ====
abbrev S17408x1280 : Shape := ⟨2, ![17408, 1280]⟩
abbrev S17408x640 : Shape := ⟨2, ![17408, 640]⟩
abbrev S1024x1280 : Shape := ⟨2, ![1024, 1280]⟩
abbrev S_ : Shape := ⟨0, ![]⟩

class Facts : Prop where
  slices_S17408x1280_S1024x1280_16384_0 : S17408x1280.Slices ![16384, 0] S1024x1280
  bcast_S_S1024x1280 : S_.BroadcastsInDim S1024x1280 (![] : Fin 0 → Fin S1024x1280.rank)
  reducesTo_S1024x1280_S_d0_1 : S1024x1280.ReducesTo [0, 1] S_
  h_S_ : 0 < S_.numel

variable [Facts]

def fn {F : FTy → Type} [FloatOps F] (main_arg0 : FVec F S17408x1280 .bf16) (main_arg1 : FVec F S17408x1280 .bf16) (main_arg2 : FVec F S17408x640 .bf16) : IVec S_ 1 :=
  let main_v0 : FVec F S1024x1280 .bf16 := (extractStridedSlice S1024x1280 ![16384, 0] · slices_S17408x1280_S1024x1280_16384_0) main_arg0
  let main_v1 : FVec F S1024x1280 .bf16 := Host.absf main_v0
  let main_cst : FVec F S_ .bf16 := constant S_ .bf16 0x7F80#16
  let main_v2 : FVec F S1024x1280 .bf16 := broadcastInDim S1024x1280 ![] bcast_S_S1024x1280 main_cst
  let main_v3 : IVec S1024x1280 1 := cmpf .olt main_v1 main_v2
  let main_c : IVec S_ 1 := constantI S_ 1 1#1
  let main_v4 : IVec S_ 1 := (fun x v => Host.reduce IntOp.andi x v reducesTo_S1024x1280_S_d0_1 h_S_) main_v3 main_c
  let main_v5 : FVec F S1024x1280 .bf16 := (extractStridedSlice S1024x1280 ![16384, 0] · slices_S17408x1280_S1024x1280_16384_0) main_arg1
  let main_v6 : FVec F S1024x1280 .bf16 := Host.absf main_v5
  let main_cst_0 : FVec F S_ .bf16 := constant S_ .bf16 0x7F80#16
  let main_v7 : FVec F S1024x1280 .bf16 := broadcastInDim S1024x1280 ![] bcast_S_S1024x1280 main_cst_0
  let main_v8 : IVec S1024x1280 1 := cmpf .olt main_v6 main_v7
  let main_c_1 : IVec S_ 1 := constantI S_ 1 1#1
  let main_v9 : IVec S_ 1 := (fun x v => Host.reduce IntOp.andi x v reducesTo_S1024x1280_S_d0_1 h_S_) main_v8 main_c_1
  let main_v10 : IVec S_ 1 := andi main_v4 main_v9
  main_v10
-- ==== Pre_finite_context_c.lean ====
abbrev S17408x10240 : Shape := ⟨2, ![17408, 10240]⟩
abbrev S1024x1280 : Shape := ⟨2, ![1024, 1280]⟩
abbrev S_ : Shape := ⟨0, ![]⟩

class Facts : Prop where
  slices_S17408x10240_S1024x1280_16384_2176 : S17408x10240.Slices ![16384, 2176] S1024x1280
  bcast_S_S1024x1280 : S_.BroadcastsInDim S1024x1280 (![] : Fin 0 → Fin S1024x1280.rank)
  reducesTo_S1024x1280_S_d0_1 : S1024x1280.ReducesTo [0, 1] S_
  h_S_ : 0 < S_.numel

variable [Facts]

def fn {F : FTy → Type} [FloatOps F] (main_arg0 : FVec F S17408x10240 .bf16) : IVec S_ 1 :=
  let main_v0 : FVec F S1024x1280 .bf16 := (extractStridedSlice S1024x1280 ![16384, 2176] · slices_S17408x10240_S1024x1280_16384_2176) main_arg0
  let main_v1 : FVec F S1024x1280 .bf16 := Host.absf main_v0
  let main_cst : FVec F S_ .bf16 := constant S_ .bf16 0x7F80#16
  let main_v2 : FVec F S1024x1280 .bf16 := broadcastInDim S1024x1280 ![] bcast_S_S1024x1280 main_cst
  let main_v3 : IVec S1024x1280 1 := cmpf .olt main_v1 main_v2
  let main_c : IVec S_ 1 := constantI S_ 1 1#1
  let main_v4 : IVec S_ 1 := (fun x v => Host.reduce IntOp.andi x v reducesTo_S1024x1280_S_d0_1 h_S_) main_v3 main_c
  main_v4
-- ==== Pre_finite_modulation.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2x2048x12288 : S_.BroadcastsInDim S2x2048x12288 (![] : Fin 0 → Fin S2x2048x12288.rank)
  reducesTo_S2x2048x12288_S_d0_1_2 : S2x2048x12288.ReducesTo [0, 1, 2] S_

variable [Facts]

def fn {F : FTy → Type} [FloatOps F] (main_arg0 : FVec F S4x2048 .f32) (main_arg1 : FVec F S2048 .f32) (main_arg2 : FVec F S2x2048x12288 .f32) (main_arg3 : FVec F S2x12288 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2x2048x12288 .f32 := Host.absf main_arg2
  let main_cst_2 : FVec F S_ .f32 := constant S_ .f32 0x7F800000#32
  let main_v10 : FVec F S2x2048x12288 .f32 := broadcastInDim S2x2048x12288 ![] bcast_S_S2x2048x12288 main_cst_2
  let main_v11 : IVec S2x2048x12288 1 := cmpf .olt main_v9 main_v10
  let main_c_3 : IVec S_ 1 := constantI S_ 1 1#1
  let main_v12 : IVec S_ 1 := (fun x v => Host.reduce IntOp.andi x v reducesTo_S2x2048x12288_S_d0_1_2 h_S_) main_v11 main_c_3
  let main_v13 : IVec S_ 1 := andi main_v8 main_v12
  main_v13
-- ==== Pre_finite_scores.lean ====
abbrev S17408x768 : Shape := ⟨2, ![17408, 768]⟩
abbrev S17408x256 : Shape := ⟨2, ![17408, 256]⟩
abbrev S17408x10240 : Shape := ⟨2, ![17408, 10240]⟩
abbrev S16384x768 : Shape := ⟨2, ![16384, 768]⟩
abbrev S_ : Shape := ⟨0, ![]⟩

class Facts : Prop where
  slices_S17408x768_S16384x768_0_0 : S17408x768.Slices ![0, 0] S16384x768
  bcast_S_S16384x768 : S_.BroadcastsInDim S16384x768 (![] : Fin 0 → Fin S16384x768.rank)
  reducesTo_S16384x768_S_d0_1 : S16384x768.ReducesTo [0, 1] S_
  h_S_ : 0 < S_.numel
  bcast_S_S17408x256 : S_.BroadcastsInDim S17408x256 (![] : Fin 0 → Fin S17408x256.rank)
  reducesTo_S17408x256_S_d0_1 : S17408x256.ReducesTo [0, 1] S_

variable [Facts]

def fn {F : FTy → Type} [FloatOps F] (main_arg0 : FVec F S17408x768 .bf16) (main_arg1 : FVec F S17408x256 .bf16) (main_arg2 : FVec F S17408x10240 .bf16) : IVec S_ 1 :=
  let main_v0 : FVec F S16384x768 .bf16 := (extractStridedSlice S16384x768 ![0, 0] · slices_S17408x768_S16384x768_0_0) main_arg0
  let main_v1 : FVec F S16384x768 .bf16 := Host.absf main_v0
  let main_cst : FVec F S_ .bf16 := constant S_ .bf16 0x7F80#16
  let main_v2 : FVec F S16384x768 .bf16 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S17408x256 .bf16 := Host.absf main_arg1
  let main_cst_0 : FVec F S_ .bf16 := constant S_ .bf16 0x7F80#16
  let main_v6 : FVec F S17408x256 .bf16 := broadcastInDim S17408x256 ![] bcast_S_S17408x256 main_cst_0
  let main_v7 : IVec S17408x256 1 := cmpf .olt main_v5 main_v6
  let main_c_1 : IVec S_ 1 := constantI S_ 1 1#1
  let main_v8 : IVec S_ 1 := (fun x v => Host.reduce IntOp.andi x v reducesTo_S17408x256_S_d0_1 h_S_) main_v7 main_c_1
  let main_v9 : IVec S_ 1 := andi main_v4 main_v8
  main_v9
-- ==== Pre_finite_scores_b.lean ====
abbrev S17408x1280 : Shape := ⟨2, ![17408, 1280]⟩
abbrev S17408x640 : Shape := ⟨2, ![17408, 640]⟩
abbrev S16384x1280 : Shape := ⟨2, ![16384, 1280]⟩
abbrev S_ : Shape := ⟨0, ![]⟩

class Facts : Prop where
  slices_S17408x1280_S16384x1280_0_0 : S17408x1280.Slices ![0, 0] S16384x1280
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S17408x1280 : S_.BroadcastsInDim S17408x1280 (![] : Fin 0 → Fin S17408x1280.rank)
  reducesTo_S17408x1280_S_d0_1 : S17408x1280.ReducesTo [0, 1] S_

variable [Facts]

def fn {F : FTy → Type} [FloatOps F] (main_arg0 : FVec F S17408x1280 .bf16) (main_arg1 : FVec F S17408x1280 .bf16) (main_arg2 : FVec F S17408x640 .bf16) : IVec S_ 1 :=
  let main_v0 : FVec F S16384x1280 .bf16 := (extractStridedSlice S16384x1280 ![0, 0] · slices_S17408x1280_S16384x1280_0_0) main_arg0
  let main_v1 : FVec F S16384x1280 .bf16 := Host.absf main_v0
  let main_cst : FVec F S_ .bf16 := constant S_ .bf16 0x7F80#16
  let main_v2 : FVec F S16384x1280 .bf16 := broadcastInDim S16384x1280 ![] bcast_S_S16384x1280 main_cst
  let main_v3 : IVec S16384x1280 1 := cmpf .olt main_v1 main_v2
  let main_c : IVec S_ 1 := constantI S_ 1 1#1
  let main_v4 : IVec S_ 1 := (fun x v => Host.reduce IntOp.andi x v reducesTo_S16384x1280_S_d0_1 h_S_) main_v3 main_c
  let main_v5 : FVec F S17408x1280 .bf16 := Host.absf main_arg1
  let main_cst_0 : FVec F S_ .bf16 := constant S_ .bf16 0x7F80#16
  let main_v6 : FVec F S17408x1280 .bf16 := broadcastInDim S17408x1280 ![] bcast_S_S17408x1280 main_cst_0
  let main_v7 : IVec S17408x1280 1 := cmpf .olt main_v5 main_v6
  let main_c_1 : IVec S_ 1 := constantI S_ 1 1#1
  let main_v8 : IVec S_ 1 := (fun x v => Host.reduce IntOp.andi x v reducesTo_S17408x1280_S_d0_1 h_S_) main_v7 main_c_1
  let main_v9 : IVec S_ 1 := andi main_v4 main_v8
  main_v9
-- ==== Kernel.lean ====
abbrev S17408x768 : Shape := ⟨2, ![17408, 768]⟩
abbrev S17408x256 : Shape := ⟨2, ![17408, 256]⟩
abbrev S17408x10240 : Shape := ⟨2, ![17408, 10240]⟩
abbrev S16384x768 : Shape := ⟨2, ![16384, 768]⟩
abbrev S4096x128 : Shape := ⟨2, ![4096, 128]⟩
abbrev S256x128 : Shape := ⟨2, ![256, 128]⟩
abbrev S4352x256 : Shape := ⟨2, ![4352, 256]⟩
abbrev S4352x128 : Shape := ⟨2, ![4352, 128]⟩
abbrev S1024x128 : Shape := ⟨2, ![1024, 128]⟩
abbrev S1024x256 : Shape := ⟨2, ![1024, 256]⟩
abbrev S256x256 : Shape := ⟨2, ![256, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 4
  | .vmem => 13
  | .smem => 0
  | _ => 0

abbrev bufTy : (tb : Table) → Fin (tcTables nBuf tb) → BufTy
  | .hbm, ⟨0, _⟩ => ⟨S17408x768, .bf16⟩
  | .hbm, ⟨1, _⟩ => ⟨S17408x256, .bf16⟩
  | .hbm, ⟨2, _⟩ => ⟨S17408x10240, .bf16⟩
  | .hbm, ⟨3, _⟩ => ⟨S16384x768, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S4096x128, .bf16⟩
  | .local _ .vmem, ⟨11, _⟩ => ⟨S4096x128, .bf16⟩
  | .local _ .vmem, ⟨12, _⟩ => ⟨S4352x256, .bf16⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.addi c15_i32 v16
  let c0_i32_4 : BitVec 32 := 0#32
  ![arg0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32 : BitVec 32 := 15#32
  let v18 : BitVec 32 := Scalar.addi c15_i32 v17
  let c0_i32_4 : BitVec 32 := 0#32
  ![v0.toNat, v18.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S17408x768 : Shape := ⟨2, ![17408, 768]⟩
abbrev S17408x256 : Shape := ⟨2, ![17408, 256]⟩
abbrev S17408x10240 : Shape := ⟨2, ![17408, 10240]⟩
abbrev S16384x768 : Shape := ⟨2, ![16384, 768]⟩
abbrev S4x4096x2x3x128 : Shape := ⟨5, ![4, 4096, 2, 3, 128]⟩
abbrev S4x2x3x4096x128 : Shape := ⟨5, ![4, 2, 3, 4096, 128]⟩
abbrev S16384x256 : Shape := ⟨2, ![16384, 256]⟩
abbrev S4x4096x2x128 : Shape := ⟨4, ![4, 4096, 2, 128]⟩
abbrev S1024x256 : Shape := ⟨2, ![1024, 256]⟩
abbrev S4x256x2x128 : Shape := ⟨4, ![4, 256, 2, 128]⟩
abbrev S4x4352x2x128 : Shape := ⟨4, ![4, 4352, 2, 128]⟩
abbrev S4x2x4352x128 : Shape := ⟨4, ![4, 2, 4352, 128]⟩
abbrev S4x2x3x4096x4352 : Shape := ⟨5, ![4, 2, 3, 4096, 4352]⟩
abbrev S_ : Shape := ⟨0, ![]⟩
abbrev S4x2x3x4096 : Shape := ⟨4, ![4, 2, 3, 4096]⟩
abbrev S4x2x3x4096x1 : Shape := ⟨5, ![4, 2, 3, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S17408x256, .bf16⟩
  | .hbm, ⟨2, _⟩ => ⟨S17408x10240, .bf16⟩
  | .hbm, ⟨3, _⟩ => ⟨S17408x768, .f32⟩
  | .hbm, ⟨4, _⟩ => ⟨S17408x256, .f32⟩
  | .hbm, ⟨5, _⟩ => ⟨S17408x256, .bf16⟩
  | .hbm, ⟨6, _⟩ => ⟨S17408x256, .f32⟩
  | .hbm, ⟨7, _⟩ => ⟨S16384x768, .f32⟩
  | .hbm, ⟨8, _⟩ => ⟨S4x4096x2x3x128, .f32⟩
  | .hbm, ⟨9, _⟩ => ⟨S4x2x3x4096x128, .f32⟩
  | .hbm, ⟨10, _⟩ => ⟨S16384x256, .f32⟩
  | .hbm, ⟨11, _⟩ => ⟨S4x4096x2x128, .f32⟩
  | .hbm, ⟨12, _⟩ => ⟨S1024x256, .f32⟩
  | .hbm, ⟨13, _⟩ => ⟨S4x256x2x128, .f32⟩
  | .hbm, ⟨14, _⟩ => ⟨S4x4352x2x128, .f32⟩
  | .hbm, ⟨15, _⟩ => ⟨S4x2x4352x128, .f32⟩
  | .hbm, ⟨16, _⟩ => ⟨S16384x256, .f32⟩
  | .hbm, ⟨17, _⟩ => ⟨S4x4096x2x128, .f32⟩
  | .hbm, ⟨18, _⟩ => ⟨S1024x256, .f32⟩
  | .hbm, ⟨19, _⟩ => ⟨S4x256x2x128, .f32⟩
  | .hbm, ⟨20, _⟩ => ⟨S4x4352x2x128, .f32⟩
  | .hbm, ⟨21, _⟩ => ⟨S4x2x4352x128, .f32⟩
  | .hbm, ⟨22, _⟩ => ⟨S4x2x3x4096x4352, .f32⟩
  | .hbm, ⟨23, _⟩ => ⟨S_, .f32⟩
  | .hbm, ⟨24, _⟩ => ⟨S_, .f32⟩
  | .hbm, ⟨25, _⟩ => ⟨S4x2x3x4096x4352, .f32⟩
  | .hbm, ⟨26, _⟩ => ⟨S4x2x3x4096x4352, .f32⟩
  | .hbm, ⟨27, _⟩ => ⟨S_, .f32⟩
  | .hbm, ⟨28, _⟩ => ⟨S4x2x3x4096, .f32⟩
  | .hbm, ⟨29, _⟩ => ⟨S_, .f32⟩
  | .hbm, ⟨30, _⟩ => ⟨S4x2x3x4096, .f32⟩
  | .hbm, ⟨31, _⟩ => ⟨S4x2x3x4096, .f32⟩
  | .hbm, ⟨32, _⟩ => ⟨S4x2x3x4096x1, .f32⟩
  | .hbm, ⟨33, _⟩ => ⟨S4x2x3x4096x4352, .f32⟩
  | .hbm, ⟨34, _⟩ => ⟨S4x2x3x4096x4352, .f32⟩
  | .hbm, ⟨35, _⟩ => ⟨S4x2x3x4096x4352, .f32⟩
  | .hbm, ⟨36, _⟩ => ⟨S_, .f32⟩
  | .hbm, ⟨37, _⟩ => ⟨S4x2x3x4096, .f32⟩
  | .hbm, ⟨38, _⟩ => ⟨S4x2x3x4096x1, .f32⟩
  | .hbm, ⟨39, _⟩ => ⟨S4x2x3x4096x4352, .f32⟩
  | .hbm, ⟨40, _⟩ => ⟨S4x2x3x4096x4352, .f32⟩
  | .hbm, ⟨41, _⟩ => ⟨S4x2x3x4096x128, .f32⟩
  | .hbm, ⟨42, _⟩ => ⟨S4x4096x2x3x128, .f32⟩
  | .hbm, ⟨43, _⟩ => ⟨S16384x768, .f32⟩
  | .hbm, ⟨44, _⟩ => ⟨S16384x768, .bf16⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Projection.lean ====
abbrev S16384x2048 : Shape := ⟨2, ![16384, 2048]⟩
abbrev S1024x2048 : Shape := ⟨2, ![1024, 2048]⟩
abbrev S8x6x2048 : Shape := ⟨3, ![8, 6, 2048]⟩
abbrev S2x10240x2048 : Shape := ⟨3, ![2, 10240, 2048]⟩
abbrev S17408x10240 : Shape := ⟨2, ![17408, 10240]⟩
abbrev S1x6x2048 : Shape := ⟨3, ![1, 6, 2048]⟩
abbrev S1x1024x2048 : Shape := ⟨3, ![1, 1024, 2048]⟩
abbrev S1024x1024 : Shape := ⟨2, ![1024, 1024]⟩
abbrev S1x1x2048 : Shape := ⟨3, ![1, 1, 2048]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S8x6x2048, .f32⟩
  | .hbm, ⟨3, _⟩ => ⟨S2x10240x2048, .bf16⟩
  | .hbm, ⟨4, _⟩ => ⟨S17408x10240, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x1024x2048, .bf16⟩
  | .local _ .vmem, ⟨6, _⟩ => ⟨S1x1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 10], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefProjectionIdeal.lean ====
abbrev S16384x2048 : Shape := ⟨2, ![16384, 2048]⟩
abbrev S1024x2048 : Shape := ⟨2, ![1024, 2048]⟩
abbrev S8x6x2048 : Shape := ⟨3, ![8, 6, 2048]⟩
abbrev S2x10240x2048 : Shape := ⟨3, ![2, 10240, 2048]⟩
abbrev S1x10240x2048 : Shape := ⟨3, ![1, 10240, 2048]⟩
abbrev S10240x2048 : Shape := ⟨2, ![10240, 2048]⟩
abbrev S2048x10240 : Shape := ⟨2, ![2048, 10240]⟩
abbrev S4x1x2048 : Shape := ⟨3, ![4, 1, 2048]⟩
abbrev S4x2048 : Shape := ⟨2, ![4, 2048]⟩
abbrev S1x1x2048 : Shape := ⟨3, ![1, 1, 2048]⟩
abbrev S2048 : Shape := ⟨1, ![2048]⟩
abbrev S4x4096x2048 : Shape := ⟨3, ![4, 4096, 2048]⟩
abbrev S_ : Shape := ⟨0, ![]⟩
abbrev S4x256x2048 : Shape := ⟨3, ![4, 256, 2048]⟩
abbrev S4x4096x10240 : Shape := ⟨3, ![4, 4096, 10240]⟩
abbrev S16384x10240 : Shape := ⟨2, ![16384, 10240]⟩
abbrev S4x256x10240 : Shape := ⟨3, ![4, 256, 10240]⟩
abbrev S1024x10240 : Shape := ⟨2, ![1024, 10240]⟩
abbrev S17408x10240 : Shape := ⟨2, ![17408, 10240]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x2048, .f32⟩
  | .hbm, ⟨2, _⟩ => ⟨S8x6x2048, .f32⟩
  | .hbm, ⟨3, _⟩ => ⟨S2x10240x2048, .bf16⟩
  | .hbm, ⟨4, _⟩ => ⟨S1x10240x2048, .bf16⟩
  | .hbm, ⟨5, _⟩ => ⟨S10240x2048, .bf16⟩
  | .hbm, ⟨6, _⟩ => ⟨S10240x2048, .f32⟩
  | .hbm, ⟨7, _⟩ => ⟨S2048x10240, .f32⟩
  | .hbm, ⟨8, _⟩ => ⟨S4x1x2048, .f32⟩
  | .hbm, ⟨9, _⟩ => ⟨S4x2048, .f32⟩
  | .hbm, ⟨10, _⟩ => ⟨S4x1x2048, .f32⟩
  | .hbm, ⟨11, _⟩ => ⟨S4x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S4x4096x2048, .f32⟩
  | .hbm, ⟨17, _⟩ => ⟨S4x1x2048, .f32⟩
  | .hbm, ⟨18, _⟩ => ⟨S_, .f32⟩
  | .hbm, ⟨19, _⟩ => ⟨S4x1x2048, .f32⟩
  | .hbm, ⟨20, _⟩ => ⟨S4x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x256x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x1x2048, .f32⟩
  | .hbm, ⟨31, _⟩ => ⟨S4x256x2048, .f32⟩
  | .hbm, ⟨32, _⟩ => ⟨S4x256x2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S4x4096x10240, .f32⟩
  | .hbm, ⟨37, _⟩ => ⟨S16384x10240, .f32⟩
  | .hbm, ⟨38, _⟩ => ⟨S4x256x10240, .f32⟩
  | .hbm, ⟨39, _⟩ => ⟨S1024x10240, .f32⟩
  | .hbm, ⟨40, _⟩ => ⟨S17408x10240, .f32⟩
  | .hbm, ⟨41, _⟩ => ⟨S17408x10240, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== AttentionB.lean ====
abbrev S17408x1280 : Shape := ⟨2, ![17408, 1280]⟩
abbrev S17408x640 : Shape := ⟨2, ![17408, 640]⟩
abbrev S16384x640 : Shape := ⟨2, ![16384, 640]⟩
abbrev S4096x256 : Shape := ⟨2, ![4096, 256]⟩
abbrev S4096x128 : Shape := ⟨2, ![4096, 128]⟩
abbrev S256x256 : Shape := ⟨2, ![256, 256]⟩
abbrev S256x128 : Shape := ⟨2, ![256, 128]⟩
abbrev S4352x256 : Shape := ⟨2, ![4352, 256]⟩
abbrev S4352x128 : Shape := ⟨2, ![4352, 128]⟩
abbrev S1024x256 : Shape := ⟨2, ![1024, 256]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 4
  | .vmem => 13
  | .smem => 0
  | _ => 0

abbrev bufTy : (tb : Table) → Fin (tcTables nBuf tb) → BufTy
  | .hbm, ⟨0, _⟩ => ⟨S17408x1280, .bf16⟩
  | .hbm, ⟨1, _⟩ => ⟨S17408x1280, .bf16⟩
  | .hbm, ⟨2, _⟩ => ⟨S17408x640, .bf16⟩
  | .hbm, ⟨3, _⟩ => ⟨S16384x640, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S4096x128, .bf16⟩
  | .local _ .vmem, ⟨11, _⟩ => ⟨S4096x128, .bf16⟩
  | .local _ .vmem, ⟨12, _⟩ => ⟨S4352x256, .bf16⟩
  | _, _ => ⟨S17408x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RefAttentionBIdeal.lean ====
abbrev S17408x1280 : Shape := ⟨2, ![17408, 1280]⟩
abbrev S17408x640 : Shape := ⟨2, ![17408, 640]⟩
abbrev S16384x1280 : Shape := ⟨2, ![16384, 1280]⟩
abbrev S4x4096x5x256 : Shape := ⟨4, ![4, 4096, 5, 256]⟩
abbrev S4x5x4096x256 : Shape := ⟨4, ![4, 5, 4096, 256]⟩
abbrev S1024x1280 : Shape := ⟨2, ![1024, 1280]⟩
abbrev S4x256x5x256 : Shape := ⟨4, ![4, 256, 5, 256]⟩
abbrev S4x4352x5x256 : Shape := ⟨4, ![4, 4352, 5, 256]⟩
abbrev S4x5x4352x256 : Shape := ⟨4, ![4, 5, 4352, 256]⟩
abbrev S16384x640 : Shape := ⟨2, ![16384, 640]⟩
abbrev S4x4096x5x128 : Shape := ⟨4, ![4, 4096, 5, 128]⟩
abbrev S1024x640 : Shape := ⟨2, ![1024, 640]⟩
abbrev S4x256x5x128 : Shape := ⟨4, ![4, 256, 5, 128]⟩
abbrev S4x4352x5x128 : Shape := ⟨4, ![4, 4352, 5, 128]⟩
abbrev S4x5x4352x128 : Shape := ⟨4, ![4, 5, 4352, 128]⟩
abbrev S4x5x4096x4352 : Shape := ⟨4, ![4, 5, 4096, 4352]⟩
abbrev S_ : Shape := ⟨0, ![]⟩
abbrev S4x5x4096 : Shape := ⟨3, ![4, 5, 4096]⟩
abbrev S4x5x4096x1 : Shape := ⟨4, ![4, 5, 4096, 1]⟩
abbrev S4x5x4096x128 : Shape := ⟨4, ![4, 5, 4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S17408x1280, .bf16⟩
  | .hbm, ⟨1, _⟩ => ⟨S17408x1280, .bf16⟩
  | .hbm, ⟨2, _⟩ => ⟨S17408x640, .bf16⟩
  | .hbm, ⟨3, _⟩ => ⟨S17408x1280, .f32⟩
  | .hbm, ⟨4, _⟩ => ⟨S17408x1280, .f32⟩
  | .hbm, ⟨5, _⟩ => ⟨S17408x640, .f32⟩
  | .hbm, ⟨6, _⟩ => ⟨S16384x1280, .f32⟩
  | .hbm, ⟨7, _⟩ => ⟨S4x4096x5x256, .f32⟩
  | .hbm, ⟨8, _⟩ => ⟨S4x5x4096x256, .f32⟩
  | .hbm, ⟨9, _⟩ => ⟨S16384x1280, .f32⟩
  | .hbm, ⟨10, _⟩ => ⟨S4x4096x5x256, .f32⟩
  | .hbm, ⟨11, _⟩ => ⟨S1024x1280, .f32⟩
  | .hbm, ⟨12, _⟩ => ⟨S4x256x5x256, .f32⟩
  | .hbm, ⟨13, _⟩ => ⟨S4x4352x5x256, .f32⟩
  | .hbm, ⟨14, _⟩ => ⟨S4x5x4352x256, .f32⟩
  | .hbm, ⟨15, _⟩ => ⟨S16384x640, .f32⟩
  | .hbm, ⟨16, _⟩ => ⟨S4x4096x5x128, .f32⟩
  | .hbm, ⟨17, _⟩ => ⟨S1024x640, .f32⟩
  | .hbm, ⟨18, _⟩ => ⟨S4x256x5x128, .f32⟩
  | .hbm, ⟨19, _⟩ => ⟨S4x4352x5x128, .f32⟩
  | .hbm, ⟨20, _⟩ => ⟨S4x5x4352x128, .f32⟩
  | .hbm, ⟨21, _⟩ => ⟨S4x5x4096x4352, .f32⟩
  | .hbm, ⟨22, _⟩ => ⟨S_, .f32⟩
  | .hbm, ⟨23, _⟩ => ⟨S_, .f32⟩
  | .hbm, ⟨24, _⟩ => ⟨S4x5x4096x4352, .f32⟩
  | .hbm, ⟨25, _⟩ => ⟨S4x5x4096x4352, .f32⟩
  | .hbm, ⟨26, _⟩ => ⟨S_, .f32⟩
  | .hbm, ⟨27, _⟩ => ⟨S4x5x4096, .f32⟩
  | .hbm, ⟨28, _⟩ => ⟨S_, .f32⟩
  | .hbm, ⟨29, _⟩ => ⟨S4x5x4096, .f32⟩
  | .hbm, ⟨30, _⟩ => ⟨S4x5x4096, .f32⟩
  | .hbm, ⟨31, _⟩ => ⟨S4x5x4096x1, .f32⟩
  | .hbm, ⟨32, _⟩ => ⟨S4x5x4096x4352, .f32⟩
  | .hbm, ⟨33, _⟩ => ⟨S4x5x4096x4352, .f32⟩
  | .hbm, ⟨34, _⟩ => ⟨S4x5x4096x4352, .f32⟩
  | .hbm, ⟨35, _⟩ => ⟨S_, .f32⟩
  | .hbm, ⟨36, _⟩ => ⟨S4x5x4096, .f32⟩
  | .hbm, ⟨37, _⟩ => ⟨S4x5x4096x1, .f32⟩
  | .hbm, ⟨38, _⟩ => ⟨S4x5x4096x4352, .f32⟩
  | .hbm, ⟨39, _⟩ => ⟨S4x5x4096x4352, .f32⟩
  | .hbm, ⟨40, _⟩ => ⟨S4x5x4096x128, .f32⟩
  | .hbm, ⟨41, _⟩ => ⟨S4x4096x5x128, .f32⟩
  | .hbm, ⟨42, _⟩ => ⟨S16384x640, .f32⟩
  | .hbm, ⟨43, _⟩ => ⟨S16384x640, .bf16⟩
  | _, _ => ⟨S17408x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Merge.lean ====
abbrev S16384x768 : Shape := ⟨2, ![16384, 768]⟩
abbrev S16384x640 : Shape := ⟨2, ![16384, 640]⟩
abbrev S1024x768 : Shape := ⟨2, ![1024, 768]⟩
abbrev S1024x640 : Shape := ⟨2, ![1024, 640]⟩
abbrev S17408x10240 : Shape := ⟨2, ![17408, 10240]⟩
abbrev S768x2048 : Shape := ⟨2, ![768, 2048]⟩
abbrev S640x2048 : Shape := ⟨2, ![640, 2048]⟩
abbrev S17408x2048 : Shape := ⟨2, ![17408, 2048]⟩
abbrev S512x768 : Shape := ⟨2, ![512, 768]⟩
abbrev S512x640 : Shape := ⟨2, ![512, 640]⟩
abbrev S512x2048 : Shape := ⟨2, ![512, 2048]⟩

abbrev nBuf : Space → Nat
  | .hbm => 11
  | .vmem => 23
  | .smem => 0
  | _ => 0

abbrev bufTy : (tb : Table) → Fin (tcTables nBuf tb) → BufTy
  | .hbm, ⟨0, _⟩ => ⟨S16384x768, .bf16⟩
  | .hbm, ⟨1, _⟩ => ⟨S16384x640, .bf16⟩
  | .hbm, ⟨2, _⟩ => ⟨S16384x640, .bf16⟩
  | .hbm, ⟨3, _⟩ => ⟨S1024x768, .bf16⟩
  | .hbm, ⟨4, _⟩ => ⟨S1024x640, .bf16⟩
  | .hbm, ⟨5, _⟩ => ⟨S1024x640, .bf16⟩
  | .hbm, ⟨6, _⟩ => ⟨S17408x10240, .bf16⟩
  | .hbm, ⟨7, _⟩ => ⟨S768x2048, .bf16⟩
  | .hbm, ⟨8, _⟩ => ⟨S640x2048, .bf16⟩
  | .hbm, ⟨9, _⟩ => ⟨S640x2048, .bf16⟩
  | .hbm, ⟨10, _⟩ => ⟨S17408x2048, .bf16⟩
  | .local _ .vmem, ⟨0, _⟩ => ⟨S512x768, .bf16⟩
  | .local _ .vmem, ⟨1, _⟩ => ⟨S512x768, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S512x768, .bf16⟩
  | .local _ .vmem, ⟨7, _⟩ => ⟨S512x768, .bf16⟩
  | .local _ .vmem, ⟨8, _⟩ => ⟨S512x640, .bf16⟩
  | .local _ .vmem, ⟨9, _⟩ => ⟨S512x640, .bf16⟩
  | .local _ .vmem, ⟨10, _⟩ => ⟨S512x640, .bf16⟩
  | .local _ .vmem, ⟨11, _⟩ => ⟨S512x640, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S768x2048, .bf16⟩
  | .local _ .vmem, ⟨19, _⟩ => ⟨S640x2048, .bf16⟩
  | .local _ .vmem, ⟨20, _⟩ => ⟨S640x2048, .bf16⟩
  | .local _ .vmem, ⟨21, _⟩ => ⟨S512x2048, .bf16⟩
  | .local _ .vmem, ⟨22, _⟩ => ⟨S512x2048, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S768x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S640x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S640x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefMergeIdeal.lean ====
abbrev S16384x768 : Shape := ⟨2, ![16384, 768]⟩
abbrev S16384x640 : Shape := ⟨2, ![16384, 640]⟩
abbrev S1024x768 : Shape := ⟨2, ![1024, 768]⟩
abbrev S1024x640 : Shape := ⟨2, ![1024, 640]⟩
abbrev S17408x10240 : Shape := ⟨2, ![17408, 10240]⟩
abbrev S768x2048 : Shape := ⟨2, ![768, 2048]⟩
abbrev S640x2048 : Shape := ⟨2, ![640, 2048]⟩
abbrev S17408x6144 : Shape := ⟨2, ![17408, 6144]⟩
abbrev S_ : Shape := ⟨0, ![]⟩
abbrev S17408x2048 : Shape := ⟨2, ![17408, 2048]⟩
abbrev S17408x768 : Shape := ⟨2, ![17408, 768]⟩
abbrev S17408x640 : Shape := ⟨2, ![17408, 640]⟩

abbrev nBuf : Space → Nat
  | .hbm => 41
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x640, .bf16⟩
  | .hbm, ⟨2, _⟩ => ⟨S16384x640, .bf16⟩
  | .hbm, ⟨3, _⟩ => ⟨S1024x768, .bf16⟩
  | .hbm, ⟨4, _⟩ => ⟨S1024x640, .bf16⟩
  | .hbm, ⟨5, _⟩ => ⟨S1024x640, .bf16⟩
  | .hbm, ⟨6, _⟩ => ⟨S17408x10240, .bf16⟩
  | .hbm, ⟨7, _⟩ => ⟨S768x2048, .bf16⟩
  | .hbm, ⟨8, _⟩ => ⟨S640x2048, .bf16⟩
  | .hbm, ⟨9, _⟩ => ⟨S640x2048, .bf16⟩
  | .hbm, ⟨10, _⟩ => ⟨S17408x6144, .bf16⟩
  | .hbm, ⟨11, _⟩ => ⟨S17408x6144, .f32⟩
  | .hbm, ⟨12, _⟩ => ⟨S17408x6144, .f32⟩
  | .hbm, ⟨13, _⟩ => ⟨S17408x6144, .f32⟩
  | .hbm, ⟨14, _⟩ => ⟨S_, .f32⟩
  | .hbm, ⟨15, _⟩ => ⟨S17408x6144, .f32⟩
  | .hbm, ⟨16, _⟩ => ⟨S17408x6144, .f32⟩
  | .hbm, ⟨17, _⟩ => ⟨S_, .f32⟩
  | .hbm, ⟨18, _⟩ => ⟨S17408x6144, .f32⟩
  | .hbm, ⟨19, _⟩ => ⟨S17408x6144, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S17408x768, .bf16⟩
  | .hbm, ⟨24, _⟩ => ⟨S17408x768, .f32⟩
  | .hbm, ⟨25, _⟩ => ⟨S17408x640, .bf16⟩
  | .hbm, ⟨26, _⟩ => ⟨S17408x640, .f32⟩
  | .hbm, ⟨27, _⟩ => ⟨S17408x640, .bf16⟩
  | .hbm, ⟨28, _⟩ => ⟨S17408x640, .f32⟩
  | .hbm, ⟨29, _⟩ => ⟨S768x2048, .f32⟩
  | .hbm, ⟨30, _⟩ => ⟨S17408x2048, .f32⟩
  | .hbm, ⟨31, _⟩ => ⟨S17408x2048, .f32⟩
  | .hbm, ⟨32, _⟩ => ⟨S640x2048, .f32⟩
  | .hbm, ⟨33, _⟩ => ⟨S17408x2048, .f32⟩
  | .hbm, ⟨34, _⟩ => ⟨S17408x2048, .f32⟩
  | .hbm, ⟨35, _⟩ => ⟨S17408x2048, .f32⟩
  | .hbm, ⟨36, _⟩ => ⟨S640x2048, .f32⟩
  | .hbm, ⟨37, _⟩ => ⟨S17408x2048, .f32⟩
  | .hbm, ⟨38, _⟩ => ⟨S17408x2048, .f32⟩
  | .hbm, ⟨39, _⟩ => ⟨S17408x2048, .f32⟩
  | .hbm, ⟨40, _⟩ => ⟨S17408x2048, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Output.lean ====
abbrev S17408x2048 : Shape := ⟨2, ![17408, 2048]⟩
abbrev S16384x2048 : Shape := ⟨2, ![16384, 2048]⟩
abbrev S1024x2048 : Shape := ⟨2, ![1024, 2048]⟩
abbrev S8x6x2048 : Shape := ⟨3, ![8, 6, 2048]⟩
abbrev S2048x2048 : Shape := ⟨2, ![2048, 2048]⟩
abbrev S1x2048 : Shape := ⟨2, ![1, 2048]⟩
abbrev S2048x256 : Shape := ⟨2, ![2048, 256]⟩
abbrev S1x128 : Shape := ⟨2, ![1, 128]⟩
abbrev S17408x128 : Shape := ⟨2, ![17408, 128]⟩
abbrev S512x2048 : Shape := ⟨2, ![512, 2048]⟩
abbrev S1x6x2048 : Shape := ⟨3, ![1, 6, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩
abbrev S512x256 : Shape := ⟨2, ![512, 256]⟩
abbrev S2048x128 : Shape := ⟨2, ![2048, 128]⟩

abbrev nBuf : Space → Nat
  | .hbm => 12
  | .vmem => 18
  | .smem => 0
  | _ => 0

abbrev bufTy : (tb : Table) → Fin (tcTables nBuf tb) → BufTy
  | .hbm, ⟨0, _⟩ => ⟨S17408x2048, .bf16⟩
  | .hbm, ⟨1, _⟩ => ⟨S16384x2048, .f32⟩
  | .hbm, ⟨2, _⟩ => ⟨S1024x2048, .f32⟩
  | .hbm, ⟨3, _⟩ => ⟨S8x6x2048, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S2048x256, .bf16⟩
  | .hbm, ⟨8, _⟩ => ⟨S1x128, .f32⟩
  | .hbm, ⟨9, _⟩ => ⟨S17408x2048, .f32⟩
  | .hbm, ⟨10, _⟩ => ⟨S17408x2048, .bf16⟩
  | .hbm, ⟨11, _⟩ => ⟨S17408x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S512x2048, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let v2 : BitVec 32 := Scalar.addi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefOutputIdeal.lean ====
abbrev S17408x2048 : Shape := ⟨2, ![17408, 2048]⟩
abbrev S16384x2048 : Shape := ⟨2, ![16384, 2048]⟩
abbrev S1024x2048 : Shape := ⟨2, ![1024, 2048]⟩
abbrev S8x6x2048 : Shape := ⟨3, ![8, 6, 2048]⟩
abbrev S2048x2048 : Shape := ⟨2, ![2048, 2048]⟩
abbrev S1x2048 : Shape := ⟨2, ![1, 2048]⟩
abbrev S2048x256 : Shape := ⟨2, ![2048, 256]⟩
abbrev S1x128 : Shape := ⟨2, ![1, 128]⟩
abbrev S4x1x2048 : Shape := ⟨3, ![4, 1, 2048]⟩
abbrev S4x2048 : Shape := ⟨2, ![4, 2048]⟩
abbrev S1x1x2048 : Shape := ⟨3, ![1, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1024x1 : Shape := ⟨2, ![1024, 1]⟩

abbrev nBuf : Space → Nat
  | .hbm => 127
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S16384x2048, .f32⟩
  | .hbm, ⟨2, _⟩ => ⟨S1024x2048, .f32⟩
  | .hbm, ⟨3, _⟩ => ⟨S8x6x2048, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S2048x256, .bf16⟩
  | .hbm, ⟨8, _⟩ => ⟨S1x128, .f32⟩
  | .hbm, ⟨9, _⟩ => ⟨S17408x2048, .f32⟩
  | .hbm, ⟨10, _⟩ => ⟨S2048x2048, .f32⟩
  | .hbm, ⟨11, _⟩ => ⟨S17408x2048, .f32⟩
  | .hbm, ⟨12, _⟩ => ⟨S4x1x2048, .f32⟩
  | .hbm, ⟨13, _⟩ => ⟨S4x2048, .f32⟩
  | .hbm, ⟨14, _⟩ => ⟨S4x1x2048, .f32⟩
  | .hbm, ⟨15, _⟩ => ⟨S4x2048, .f32⟩
  | .hbm, ⟨16, _⟩ => ⟨S4x1x2048, .f32⟩
  | .hbm, ⟨17, _⟩ => ⟨S4x2048, .f32⟩
  | .hbm, ⟨18, _⟩ => ⟨S1x1x2048, .f32⟩
  | .hbm, ⟨19, _⟩ => ⟨S2048, .f32⟩
  | .hbm, ⟨20, _⟩ => ⟨S1x1x2048, .f32⟩
  | .hbm, ⟨21, _⟩ => ⟨S2048, .f32⟩
  | .hbm, ⟨22, _⟩ => ⟨S1x1x2048, .f32⟩
  | .hbm, ⟨23, _⟩ => ⟨S2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S16384x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x2048, .f32⟩
  | .hbm, ⟨58, _⟩ => ⟨S4x4096x2048, .f32⟩
  | .hbm, ⟨59, _⟩ => ⟨S1x1x2048, .f32⟩
  | .hbm, ⟨60, _⟩ => ⟨S4x4096x2048, .f32⟩
  | .hbm, ⟨61, _⟩ => ⟨S4x4096x2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S_, .f32⟩
  | .hbm, ⟨66, _⟩ => ⟨S1024x2048, .f32⟩
  | .hbm, ⟨67, _⟩ => ⟨S1024x2048, .f32⟩
  | .hbm, ⟨68, _⟩ => ⟨S1024x2048, .f32⟩
  | .hbm, ⟨69, _⟩ => ⟨S1x2048, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S_, .f32⟩
  | .hbm, ⟨79, _⟩ => ⟨S1024x1, .f32⟩
  | .hbm, ⟨80, _⟩ => ⟨S1024x1, .f32⟩
  | .hbm, ⟨81, _⟩ => ⟨S1024x2048, .f32⟩
  | .hbm, ⟨82, _⟩ => ⟨S1024x2048, .f32⟩
  | .hbm, ⟨83, _⟩ => ⟨S1024x2048, .f32⟩
  | .hbm, ⟨84, _⟩ => ⟨S_, .f32⟩
  | .hbm, ⟨85, _⟩ => ⟨S1024, .f32⟩
  | .hbm, ⟨86, _⟩ => ⟨S1024x1, .f32⟩
  | .hbm, ⟨87, _⟩ => ⟨S_, .f32⟩
  | .hbm, ⟨88, _⟩ => ⟨S1024x1, .f32⟩
  | .hbm, ⟨89, _⟩ => ⟨S1024x1, .f32⟩
  | .hbm, ⟨90, _⟩ => ⟨S1024x2048, .f32⟩
  | .hbm, ⟨91, _⟩ => ⟨S1024x2048, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S1024x1, .f32⟩
  | .hbm, ⟨96, _⟩ => ⟨S1024x2048, .f32⟩
  | .hbm, ⟨97, _⟩ => ⟨S1024x2048, .f32⟩
  | .hbm, ⟨98, _⟩ => ⟨S1x2048, .f32⟩
  | .hbm, ⟨99, _⟩ => ⟨S1024x2048, .f32⟩
  | .hbm, ⟨100, _⟩ => ⟨S1024x2048, .f32⟩
  | .hbm, ⟨101, _⟩ => ⟨S1x2048, .f32⟩
  | .hbm, ⟨102, _⟩ => ⟨S1024x2048, .f32⟩
  | .hbm, ⟨103, _⟩ => ⟨S1024x2048, .f32⟩
  | .hbm, ⟨104, _⟩ => ⟨S4x1x2048, .f32⟩
  | .hbm, ⟨105, _⟩ => ⟨S_, .f32⟩
  | .hbm, ⟨106, _⟩ => ⟨S4x1x2048, .f32⟩
  | .hbm, ⟨107, _⟩ => ⟨S4x1x2048, .f32⟩
  | .hbm, ⟨108, _⟩ => ⟨S4x4096x2048, .f32⟩
  | .hbm, ⟨109, _⟩ => ⟨S4x4096x2048, .f32⟩
  | .hbm, ⟨110, _⟩ => ⟨S4x1x2048, .f32⟩
  | .hbm, ⟨111, _⟩ => ⟨S4x4096x2048, .f32⟩
  | .hbm, ⟨112, _⟩ => ⟨S4x4096x2048, .f32⟩
  | .hbm, ⟨113, _⟩ => ⟨S_, .f32⟩
  | .hbm, ⟨114, _⟩ => ⟨S2048, .f32⟩
  | .hbm, ⟨115, _⟩ => ⟨S2048, .f32⟩
  | .hbm, ⟨116, _⟩ => ⟨S1x2048, .f32⟩
  | .hbm, ⟨117, _⟩ => ⟨S1024x2048, .f32⟩
  | .hbm, ⟨118, _⟩ => ⟨S1024x2048, .f32⟩
  | .hbm, ⟨119, _⟩ => ⟨S1x2048, .f32⟩
  | .hbm, ⟨120, _⟩ => ⟨S1024x2048, .f32⟩
  | .hbm, ⟨121, _⟩ => ⟨S1024x2048, .f32⟩
  | .hbm, ⟨122, _⟩ => ⟨S16384x2048, .f32⟩
  | .hbm, ⟨123, _⟩ => ⟨S17408x2048, .f32⟩
  | .hbm, ⟨124, _⟩ => ⟨S16384x2048, .f32⟩
  | .hbm, ⟨125, _⟩ => ⟨S17408x2048, .f32⟩
  | .hbm, ⟨126, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_12 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]
-- ==== Combine.lean ====
abbrev S16384x2048 : Shape := ⟨2, ![16384, 2048]⟩
abbrev S32768x2048 : Shape := ⟨2, ![32768, 2048]⟩
abbrev S16384x128 : Shape := ⟨2, ![16384, 128]⟩
abbrev S8x6x2048 : Shape := ⟨3, ![8, 6, 2048]⟩
abbrev S1x2048 : Shape := ⟨2, ![1, 2048]⟩
abbrev S512x2048 : Shape := ⟨2, ![512, 2048]⟩
abbrev S512x128 : Shape := ⟨2, ![512, 128]⟩
abbrev S1x6x2048 : Shape := ⟨3, ![1, 6, 2048]⟩
abbrev S512x1 : Shape := ⟨2, ![512, 1]⟩
abbrev S1x1x2048 : Shape := ⟨3, ![1, 1, 2048]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S32768x2048, .bf16⟩
  | .hbm, ⟨2, _⟩ => ⟨S16384x128, .f32⟩
  | .hbm, ⟨3, _⟩ => ⟨S8x6x2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefCombineIdeal.lean ====
abbrev S16384x2048 : Shape := ⟨2, ![16384, 2048]⟩
abbrev S32768x2048 : Shape := ⟨2, ![32768, 2048]⟩
abbrev S16384x128 : Shape := ⟨2, ![16384, 128]⟩
abbrev S8x6x2048 : Shape := ⟨3, ![8, 6, 2048]⟩
abbrev S1x2048 : Shape := ⟨2, ![1, 2048]⟩
abbrev S16384x1 : Shape := ⟨2, ![16384, 1]⟩
abbrev S4x1x2048 : Shape := ⟨3, ![4, 1, 2048]⟩
abbrev S4x2048 : Shape := ⟨2, ![4, 2048]⟩
abbrev S4x4096x2048 : Shape := ⟨3, ![4, 4096, 2048]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32768x2048, .bf16⟩
  | .hbm, ⟨2, _⟩ => ⟨S16384x128, .f32⟩
  | .hbm, ⟨3, _⟩ => ⟨S8x6x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S16384x1, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x1, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S4x1x2048, .f32⟩
  | .hbm, ⟨17, _⟩ => ⟨S4x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S4x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1, .f32⟩
  | .hbm, ⟨50, _⟩ => ⟨S4x4096x2048, .f32⟩
  | .hbm, ⟨51, _⟩ => ⟨S4x4096x2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Prep.lean ====
abbrev S17408x10240 : Shape := ⟨2, ![17408, 10240]⟩
abbrev S4096x128 : Shape := ⟨2, ![4096, 128]⟩
abbrev S4096x64 : Shape := ⟨2, ![4096, 64]⟩
abbrev S1x128 : Shape := ⟨2, ![1, 128]⟩
abbrev S1x512 : Shape := ⟨2, ![1, 512]⟩
abbrev S1x256 : Shape := ⟨2, ![1, 256]⟩
abbrev S512x1920 : Shape := ⟨2, ![512, 1920]⟩
abbrev S256x1280 : Shape := ⟨2, ![256, 1280]⟩
abbrev S128 : Shape := ⟨1, ![128]⟩
abbrev S_ : Shape := ⟨0, ![]⟩
abbrev S512x128 : Shape := ⟨2, ![512, 128]⟩
abbrev S512x64 : Shape := ⟨2, ![512, 64]⟩
abbrev S4608x128 : Shape := ⟨2, ![4608, 128]⟩
abbrev S4608x64 : Shape := ⟨2, ![4608, 64]⟩
abbrev S1x4608x1x64 : Shape := ⟨4, ![1, 4608, 1, 64]⟩
abbrev S1x4608x2x64 : Shape := ⟨4, ![1, 4608, 2, 64]⟩
abbrev S17408x768 : Shape := ⟨2, ![17408, 768]⟩
abbrev S17408x256 : Shape := ⟨2, ![17408, 256]⟩
abbrev S17408x1280 : Shape := ⟨2, ![17408, 1280]⟩
abbrev S17408x640 : Shape := ⟨2, ![17408, 640]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S512x1280 : Shape := ⟨2, ![512, 1280]⟩
abbrev S512x640 : Shape := ⟨2, ![512, 640]⟩
abbrev S512 : Shape := ⟨1, ![512]⟩
abbrev S512x1 : Shape := ⟨2, ![512, 1]⟩

abbrev nBuf : Space → Nat
  | .hbm => 38
  | .vmem => 32
  | .smem => 0
  | _ => 0

abbrev bufTy : (tb : Table) → Fin (tcTables nBuf tb) → BufTy
  | .hbm, ⟨0, _⟩ => ⟨S17408x10240, .bf16⟩
  | .hbm, ⟨1, _⟩ => ⟨S4096x128, .f32⟩
  | .hbm, ⟨2, _⟩ => ⟨S4096x128, .f32⟩
  | .hbm, ⟨3, _⟩ => ⟨S4096x64, .f32⟩
  | .hbm, ⟨4, _⟩ => ⟨S4096x64, .f32⟩
  | .hbm, ⟨5, _⟩ => ⟨S1x128, .f32⟩
  | .hbm, ⟨6, _⟩ => ⟨S1x128, .f32⟩
  | .hbm, ⟨7, _⟩ => ⟨S1x512, .f32⟩
  | .hbm, ⟨8, _⟩ => ⟨S1x256, .f32⟩
  | .hbm, ⟨9, _⟩ => ⟨S512x1920, .bf16⟩
  | .hbm, ⟨10, _⟩ => ⟨S256x1280, .bf16⟩
  | .hbm, ⟨11, _⟩ => ⟨S128, .f32⟩
  | .hbm, ⟨12, _⟩ => ⟨S_, .f32⟩
  | .hbm, ⟨13, _⟩ => ⟨S512x128, .f32⟩
  | .hbm, ⟨14, _⟩ => ⟨S_, .f32⟩
  | .hbm, ⟨15, _⟩ => ⟨S512x64, .f32⟩
  | .hbm, ⟨16, _⟩ => ⟨S4608x128, .f32⟩
  | .hbm, ⟨17, _⟩ => ⟨S1x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S512x128, .f32⟩
  | .hbm, ⟨22, _⟩ => ⟨S4608x128, .f32⟩
  | .hbm, ⟨23, _⟩ => ⟨S4608x64, .f32⟩
  | .hbm, ⟨24, _⟩ => ⟨S_, .f32⟩
  | .hbm, ⟨25, _⟩ => ⟨S512x64, .f32⟩
  | .hbm, ⟨26, _⟩ => ⟨S4608x64, .f32⟩
  | .hbm, ⟨27, _⟩ => ⟨S1x4608x1x64, .f32⟩
  | .hbm, ⟨28, _⟩ => ⟨S1x4608x2x64, .f32⟩
  | .hbm, ⟨29, _⟩ => ⟨S4608x128, .f32⟩
  | .hbm, ⟨30, _⟩ => ⟨S1x4608x1x64, .f32⟩
  | .hbm, ⟨31, _⟩ => ⟨S1x4608x2x64, .f32⟩
  | .hbm, ⟨32, _⟩ => ⟨S4608x128, .f32⟩
  | .hbm, ⟨33, _⟩ => ⟨S17408x768, .bf16⟩
  | .hbm, ⟨34, _⟩ => ⟨S17408x256, .bf16⟩
  | .hbm, ⟨35, _⟩ => ⟨S17408x1280, .bf16⟩
  | .hbm, ⟨36, _⟩ => ⟨S17408x1280, .bf16⟩
  | .hbm, ⟨37, _⟩ => ⟨S17408x640, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512, .f32⟩
  | .local _ .vmem, ⟨19, _⟩ => ⟨S1x256, .f32⟩
  | .local _ .vmem, ⟨20, _⟩ => ⟨S512x1920, .bf16⟩
  | .local _ .vmem, ⟨21, _⟩ => ⟨S256x1280, .bf16⟩
  | .local _ .vmem, ⟨22, _⟩ => ⟨S512x768, .bf16⟩
  | .local _ .vmem, ⟨23, _⟩ => ⟨S512x768, .bf16⟩
  | .local _ .vmem, ⟨24, _⟩ => ⟨S512x256, .bf16⟩
  | .local _ .vmem, ⟨25, _⟩ => ⟨S512x256, .bf16⟩
  | .local _ .vmem, ⟨26, _⟩ => ⟨S512x1280, .bf16⟩
  | .local _ .vmem, ⟨27, _⟩ => ⟨S512x1280, .bf16⟩
  | .local _ .vmem, ⟨28, _⟩ => ⟨S512x1280, .bf16⟩
  | .local _ .vmem, ⟨29, _⟩ => ⟨S512x1280, .bf16⟩
  | .local _ .vmem, ⟨30, _⟩ => ⟨S512x640, .bf16⟩
  | .local _ .vmem, ⟨31, _⟩ => ⟨S512x640, .bf16⟩
  | _, _ => ⟨S17408x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_cst_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_8 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1920 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1280 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1280 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1280 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x640 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RefPrepIdeal.lean ====
abbrev S17408x10240 : Shape := ⟨2, ![17408, 10240]⟩
abbrev S4096x128 : Shape := ⟨2, ![4096, 128]⟩
abbrev S4096x64 : Shape := ⟨2, ![4096, 64]⟩
abbrev S1x128 : Shape := ⟨2, ![1, 128]⟩
abbrev S1x512 : Shape := ⟨2, ![1, 512]⟩
abbrev S1x256 : Shape := ⟨2, ![1, 256]⟩
abbrev S512x1920 : Shape := ⟨2, ![512, 1920]⟩
abbrev S256x1280 : Shape := ⟨2, ![256, 1280]⟩
abbrev S17408x768 : Shape := ⟨2, ![17408, 768]⟩
abbrev S17408x6x128 : Shape := ⟨3, ![17408, 6, 128]⟩
abbrev S128 : Shape := ⟨1, ![128]⟩
abbrev S_ : Shape := ⟨0, ![]⟩
abbrev S17408x6 : Shape := ⟨2, ![17408, 6]⟩
abbrev S17408x6x1 : Shape := ⟨3, ![17408, 6, 1]⟩
abbrev S1x1x128 : Shape := ⟨3, ![1, 1, 128]⟩
abbrev S16384x6x128 : Shape := ⟨3, ![16384, 6, 128]⟩
abbrev S4x4096x6x128 : Shape := ⟨4, ![4, 4096, 6, 128]⟩
abbrev S4x4096x6x2x2x32 : Shape := ⟨6, ![4, 4096, 6, 2, 2, 32]⟩
abbrev S4x4096x6x2x1x32 : Shape := ⟨6, ![4, 4096, 6, 2, 1, 32]⟩
abbrev S4x4096x6x2x32 : Shape := ⟨5, ![4, 4096, 6, 2, 32]⟩
abbrev S4096x1x128 : Shape := ⟨3, ![4096, 1, 128]⟩
abbrev S1x4096x1x128 : Shape := ⟨4, ![1, 4096, 1, 128]⟩
abbrev S1024x6x128 : Shape := ⟨3, ![1024, 6, 128]⟩
abbrev S17408x256 : Shape := ⟨2, ![17408, 256]⟩
abbrev S17408x2x128 : Shape := ⟨3, ![17408, 2, 128]⟩
abbrev S17408x2 : Shape := ⟨2, ![17408, 2]⟩
abbrev S17408x2x1 : Shape := ⟨3, ![17408, 2, 1]⟩
abbrev S16384x2x128 : Shape := ⟨3, ![16384, 2, 128]⟩
abbrev S4x4096x2x128 : Shape := ⟨4, ![4, 4096, 2, 128]⟩
abbrev S4x4096x2x2x2x32 : Shape := ⟨6, ![4, 4096, 2, 2, 2, 32]⟩
abbrev S4x4096x2x2x1x32 : Shape := ⟨6, ![4, 4096, 2, 2, 1, 32]⟩
abbrev S4x4096x2x2x32 : Shape := ⟨5, ![4, 4096, 2, 2, 32]⟩
abbrev S1024x2x128 : Shape := ⟨3, ![1024, 2, 128]⟩
abbrev S17408x512 : Shape := ⟨2, ![17408, 512]⟩
abbrev S512 : Shape := ⟨1, ![512]⟩
abbrev S17408 : Shape := ⟨1, ![17408]⟩
abbrev S17408x1 : Shape := ⟨2, ![17408, 1]⟩
abbrev S17408x1920 : Shape := ⟨2, ![17408, 1920]⟩
abbrev S17408x640 : Shape := ⟨2, ![17408, 640]⟩
abbrev S17408x5x128 : Shape := ⟨3, ![17408, 5, 128]⟩
abbrev S1x4096x1x64 : Shape := ⟨4, ![1, 4096, 1, 64]⟩
abbrev S1x4096x2x64 : Shape := ⟨4, ![1, 4096, 2, 64]⟩
abbrev S16384x5x128 : Shape := ⟨3, ![16384, 5, 128]⟩
abbrev S4x4096x5x128 : Shape := ⟨4, ![4, 4096, 5, 128]⟩
abbrev S1024x5x128 : Shape := ⟨3, ![1024, 5, 128]⟩
abbrev S17408x5x256 : Shape := ⟨3, ![17408, 5, 256]⟩
abbrev S256 : Shape := ⟨1, ![256]⟩
abbrev S17408x1280 : Shape := ⟨2, ![17408, 1280]⟩
abbrev S17408x64 : Shape := ⟨2, ![17408, 64]⟩
abbrev S17408x1x64 : Shape := ⟨3, ![17408, 1, 64]⟩
abbrev S16384x1x64 : Shape := ⟨3, ![16384, 1, 64]⟩
abbrev S4x4096x1x64 : Shape := ⟨4, ![4, 4096, 1, 64]⟩
abbrev S4096x1x64 : Shape := ⟨3, ![4096, 1, 64]⟩
abbrev S1024x1x64 : Shape := ⟨3, ![1024, 1, 64]⟩
abbrev S17408x1x128 : Shape := ⟨3, ![17408, 1, 128]⟩

abbrev nBuf : Space → Nat
  | .hbm => 216
  | .vmem => 0
  | .smem => 0
  | _ => 0

abbrev hbmTy0_0 (i : Nat) : BufTy := match i % 128 with
  | 0 => ⟨S17408x10240, .bf16⟩
  | 1 => ⟨S4096x128, .f32⟩
  | 2 => ⟨S4096x128, .f32⟩
  | 3 => ⟨S4096x64, .f32⟩
  | 4 => ⟨S4096x64, .f32⟩
  | 5 => ⟨S1x128, .f32⟩
  | 6 => ⟨S1x128, .f32⟩
  | 7 => ⟨S1x512, .f32⟩
  | 8 => ⟨S1x256, .f32⟩
  | 9 => ⟨S512x1920, .bf16⟩
  | 10 => ⟨S256x1280, .bf16⟩
  | 11 => ⟨S17408x10240, .f32⟩
  | 12 => ⟨S17408x768, .f32⟩
  | 13 => ⟨S17408x6x128, .f32⟩
  | 14 => ⟨S128, .f32⟩
  | 15 => ⟨S17408x6x128, .f32⟩
  | 16 => ⟨S_, .f32⟩
  | 17 => ⟨S17408x6, .f32⟩
  | 18 => ⟨S17408x6x1, .f32⟩
  | 19 => ⟨S_, .f32⟩
  | 20 => ⟨S17408x6x1, .f32⟩
  | 21 => ⟨S17408x6x1, .f32⟩
  | 22 => ⟨S_, .f32⟩
  | 23 => ⟨S17408x6x1, .f32⟩
  | 24 => ⟨S17408x6x1, .f32⟩
  | 25 => ⟨S17408x6x1, .f32⟩
  | 26 => ⟨S17408x6x128, .f32⟩
  | 27 => ⟨S17408x6x128, .f32⟩
  | 28 => ⟨S1x1x128, .f32⟩
  | 29 => ⟨S17408x6x128, .f32⟩
  | 30 => ⟨S17408x6x128, .f32⟩
  | 31 => ⟨S16384x6x128, .f32⟩
  | 32 => ⟨S4x4096x6x128, .f32⟩
  | 33 => ⟨S4x4096x6x2x2x32, .f32⟩
  | 34 => ⟨S4x4096x6x2x1x32, .f32⟩
  | 35 => ⟨S4x4096x6x2x32, .f32⟩
  | 36 => ⟨S4x4096x6x2x32, .f32⟩
  | 37 => ⟨S4x4096x6x2x1x32, .f32⟩
  | 38 => ⟨S4x4096x6x2x32, .f32⟩
  | 39 => ⟨S4x4096x6x2x1x32, .f32⟩
  | 40 => ⟨S4x4096x6x2x1x32, .f32⟩
  | 41 => ⟨S4x4096x6x2x2x32, .f32⟩
  | 42 => ⟨S4x4096x6x128, .f32⟩
  | 43 => ⟨S4096x1x128, .f32⟩
  | 44 => ⟨S1x4096x1x128, .f32⟩
  | 45 => ⟨S4x4096x6x128, .f32⟩
  | 46 => ⟨S4x4096x6x128, .f32⟩
  | 47 => ⟨S4096x1x128, .f32⟩
  | 48 => ⟨S1x4096x1x128, .f32⟩
  | 49 => ⟨S4x4096x6x128, .f32⟩
  | 50 => ⟨S4x4096x6x128, .f32⟩
  | 51 => ⟨S4x4096x6x128, .f32⟩
  | 52 => ⟨S16384x6x128, .f32⟩
  | 53 => ⟨S1024x6x128, .f32⟩
  | 54 => ⟨S17408x6x128, .f32⟩
  | 55 => ⟨S_, .f32⟩
  | 56 => ⟨S17408x6x128, .f32⟩
  | 57 => ⟨S17408x6x128, .f32⟩
  | 58 => ⟨S17408x256, .f32⟩
  | 59 => ⟨S17408x2x128, .f32⟩
  | 60 => ⟨S128, .f32⟩
  | 61 => ⟨S17408x2x128, .f32⟩
  | 62 => ⟨S_, .f32⟩
  | 63 => ⟨S17408x2, .f32⟩
  | 64 => ⟨S17408x2x1, .f32⟩
  | 65 => ⟨S_, .f32⟩
  | 66 => ⟨S17408x2x1, .f32⟩
  | 67 => ⟨S17408x2x1, .f32⟩
  | 68 => ⟨S_, .f32⟩
  | 69 => ⟨S17408x2x1, .f32⟩
  | 70 => ⟨S17408x2x1, .f32⟩
  | 71 => ⟨S17408x2x1, .f32⟩
  | 72 => ⟨S17408x2x128, .f32⟩
  | 73 => ⟨S17408x2x128, .f32⟩
  | 74 => ⟨S1x1x128, .f32⟩
  | 75 => ⟨S17408x2x128, .f32⟩
  | 76 => ⟨S17408x2x128, .f32⟩
  | 77 => ⟨S16384x2x128, .f32⟩
  | 78 => ⟨S4x4096x2x128, .f32⟩
  | 79 => ⟨S4x4096x2x2x2x32, .f32⟩
  | 80 => ⟨S4x4096x2x2x1x32, .f32⟩
  | 81 => ⟨S4x4096x2x2x32, .f32⟩
  | 82 => ⟨S4x4096x2x2x32, .f32⟩
  | 83 => ⟨S4x4096x2x2x1x32, .f32⟩
  | 84 => ⟨S4x4096x2x2x32, .f32⟩
  | 85 => ⟨S4x4096x2x2x1x32, .f32⟩
  | 86 => ⟨S4x4096x2x2x1x32, .f32⟩
  | 87 => ⟨S4x4096x2x2x2x32, .f32⟩
  | 88 => ⟨S4x4096x2x128, .f32⟩
  | 89 => ⟨S4096x1x128, .f32⟩
  | 90 => ⟨S1x4096x1x128, .f32⟩
  | 91 => ⟨S4x4096x2x128, .f32⟩
  | 92 => ⟨S4x4096x2x128, .f32⟩
  | 93 => ⟨S4096x1x128, .f32⟩
  | 94 => ⟨S1x4096x1x128, .f32⟩
  | 95 => ⟨S4x4096x2x128, .f32⟩
  | 96 => ⟨S4x4096x2x128, .f32⟩
  | 97 => ⟨S4x4096x2x128, .f32⟩
  | 98 => ⟨S16384x2x128, .f32⟩
  | 99 => ⟨S1024x2x128, .f32⟩
  | 100 => ⟨S17408x2x128, .f32⟩
  | 101 => ⟨S17408x512, .f32⟩
  | 102 => ⟨S512, .f32⟩
  | 103 => ⟨S17408x512, .f32⟩
  | 104 => ⟨S_, .f32⟩
  | 105 => ⟨S17408, .f32⟩
  | 106 => ⟨S17408x1, .f32⟩
  | 107 => ⟨S_, .f32⟩
  | 108 => ⟨S17408x1, .f32⟩
  | 109 => ⟨S17408x1, .f32⟩
  | 110 => ⟨S_, .f32⟩
  | 111 => ⟨S17408x1, .f32⟩
  | 112 => ⟨S17408x1, .f32⟩
  | 113 => ⟨S17408x1, .f32⟩
  | 114 => ⟨S17408x512, .f32⟩
  | 115 => ⟨S17408x512, .f32⟩
  | 116 => ⟨S1x512, .f32⟩
  | 117 => ⟨S17408x512, .f32⟩
  | 118 => ⟨S17408x512, .f32⟩
  | 119 => ⟨S512x1920, .f32⟩
  | 120 => ⟨S17408x1920, .f32⟩
  | 121 => ⟨S17408x640, .f32⟩
  | 122 => ⟨S17408x5x128, .f32⟩
  | 123 => ⟨S17408x640, .f32⟩
  | 124 => ⟨S17408x5x128, .f32⟩
  | 125 => ⟨S17408x640, .f32⟩
  | 126 => ⟨S17408x5x128, .f32⟩
  | 127 => ⟨S1x4096x1x64, .f32⟩
  | _ => ⟨S17408x10240, .bf16⟩

abbrev hbmTy0_1 (i : Nat) : BufTy := match i % 128 with
  | 0 => ⟨S1x4096x2x64, .f32⟩
  | 1 => ⟨S4096x128, .f32⟩
  | 2 => ⟨S1x4096x1x64, .f32⟩
  | 3 => ⟨S1x4096x2x64, .f32⟩
  | 4 => ⟨S4096x128, .f32⟩
  | 5 => ⟨S16384x5x128, .f32⟩
  | 6 => ⟨S4x4096x5x128, .f32⟩
  | 7 => ⟨S4096x1x128, .f32⟩
  | 8 => ⟨S1x4096x1x128, .f32⟩
  | 9 => ⟨S4x4096x5x128, .f32⟩
  | 10 => ⟨S4x4096x5x128, .f32⟩
  | 11 => ⟨S16384x5x128, .f32⟩
  | 12 => ⟨S4x4096x5x128, .f32⟩
  | 13 => ⟨S4096x1x128, .f32⟩
  | 14 => ⟨S1x4096x1x128, .f32⟩
  | 15 => ⟨S4x4096x5x128, .f32⟩
  | 16 => ⟨S4x4096x5x128, .f32⟩
  | 17 => ⟨S4x4096x5x128, .f32⟩
  | 18 => ⟨S16384x5x128, .f32⟩
  | 19 => ⟨S1024x5x128, .f32⟩
  | 20 => ⟨S17408x5x128, .f32⟩
  | 21 => ⟨S17408x5x256, .f32⟩
  | 22 => ⟨S_, .f32⟩
  | 23 => ⟨S17408x5x256, .f32⟩
  | 24 => ⟨S17408x5x256, .f32⟩
  | 25 => ⟨S17408x256, .f32⟩
  | 26 => ⟨S256, .f32⟩
  | 27 => ⟨S17408x256, .f32⟩
  | 28 => ⟨S_, .f32⟩
  | 29 => ⟨S17408, .f32⟩
  | 30 => ⟨S17408x1, .f32⟩
  | 31 => ⟨S_, .f32⟩
  | 32 => ⟨S17408x1, .f32⟩
  | 33 => ⟨S17408x1, .f32⟩
  | 34 => ⟨S_, .f32⟩
  | 35 => ⟨S17408x1, .f32⟩
  | 36 => ⟨S17408x1, .f32⟩
  | 37 => ⟨S17408x1, .f32⟩
  | 38 => ⟨S17408x256, .f32⟩
  | 39 => ⟨S17408x256, .f32⟩
  | 40 => ⟨S1x256, .f32⟩
  | 41 => ⟨S17408x256, .f32⟩
  | 42 => ⟨S17408x256, .f32⟩
  | 43 => ⟨S256x1280, .f32⟩
  | 44 => ⟨S17408x1280, .f32⟩
  | 45 => ⟨S17408x64, .f32⟩
  | 46 => ⟨S17408x1x64, .f32⟩
  | 47 => ⟨S17408x64, .f32⟩
  | 48 => ⟨S17408x1x64, .f32⟩
  | 49 => ⟨S1x4096x1x64, .f32⟩
  | 50 => ⟨S1x4096x1x64, .f32⟩
  | 51 => ⟨S4096x64, .f32⟩
  | 52 => ⟨S1x4096x1x64, .f32⟩
  | 53 => ⟨S1x4096x1x64, .f32⟩
  | 54 => ⟨S4096x64, .f32⟩
  | 55 => ⟨S16384x1x64, .f32⟩
  | 56 => ⟨S4x4096x1x64, .f32⟩
  | 57 => ⟨S4096x1x64, .f32⟩
  | 58 => ⟨S1x4096x1x64, .f32⟩
  | 59 => ⟨S4x4096x1x64, .f32⟩
  | 60 => ⟨S4x4096x1x64, .f32⟩
  | 61 => ⟨S16384x1x64, .f32⟩
  | 62 => ⟨S4x4096x1x64, .f32⟩
  | 63 => ⟨S4096x1x64, .f32⟩
  | 64 => ⟨S1x4096x1x64, .f32⟩
  | 65 => ⟨S4x4096x1x64, .f32⟩
  | 66 => ⟨S4x4096x1x64, .f32⟩
  | 67 => ⟨S4x4096x1x64, .f32⟩
  | 68 => ⟨S16384x1x64, .f32⟩
  | 69 => ⟨S1024x1x64, .f32⟩
  | 70 => ⟨S17408x1x64, .f32⟩
  | 71 => ⟨S_, .f32⟩
  | 72 => ⟨S17408x1x64, .f32⟩
  | 73 => ⟨S17408x1x128, .f32⟩
  | 74 => ⟨S17408x5x128, .f32⟩
  | 75 => ⟨S17408x640, .f32⟩
  | 76 => ⟨S17408x5x128, .f32⟩
  | 77 => ⟨S17408x5x256, .f32⟩
  | 78 => ⟨S17408x768, .f32⟩
  | 79 => ⟨S17408x768, .bf16⟩
  | 80 => ⟨S17408x256, .f32⟩
  | 81 => ⟨S17408x256, .bf16⟩
  | 82 => ⟨S17408x1280, .f32⟩
  | 83 => ⟨S17408x1280, .bf16⟩
  | 84 => ⟨S17408x1280, .f32⟩
  | 85 => ⟨S17408x1280, .bf16⟩
  | 86 => ⟨S17408x640, .f32⟩
  | 87 => ⟨S17408x640, .bf16⟩
  | _ => ⟨S17408x10240, .bf16⟩

abbrev hbmTy (i : Nat) : BufTy := match i / 128 with
  | 0 => hbmTy0_0 i
  | 1 => hbmTy0_1 i
  | _ => ⟨S17408x10240, .bf16⟩

abbrev bufTy : (tb : Table) → Fin (tcTables nBuf tb) → BufTy
  | .hbm, ⟨i, _⟩ => hbmTy i
  | _, _ => ⟨S17408x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_6 : Ref sig .tc := ⟨.hbm, 104, rfl⟩
abbrev main_v86 : Ref sig .tc := ⟨.hbm, 105, rfl⟩
abbrev main_v87 : Ref sig .tc := ⟨.hbm, 106, rfl⟩
abbrev main_cst_7 : Ref sig .tc := ⟨.hbm, 107, rfl⟩
abbrev main_v88 : Ref sig .tc := ⟨.hbm, 108, rfl⟩
abbrev main_v89 : Ref sig .tc := ⟨.hbm, 109, rfl⟩
abbrev main_cst_8 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_9 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_10 : Ref sig .tc := ⟨.hbm, 156, rfl⟩
abbrev main_v134 : Ref sig .tc := ⟨.hbm, 157, rfl⟩
abbrev main_v135 : Ref sig .tc := ⟨.hbm, 158, rfl⟩
abbrev main_cst_11 : Ref sig .tc := ⟨.hbm, 159, rfl⟩
abbrev main_v136 : Ref sig .tc := ⟨.hbm, 160, rfl⟩
abbrev main_v137 : Ref sig .tc := ⟨.hbm, 161, rfl⟩
abbrev main_cst_12 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_13 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩

abbrev nD : Nat := 1
abbrev τ : Topo := Topo.v7x

variable {F : FTy → Type} [FloatOps F]
-- ==== ContextA.lean ====
abbrev S17408x768 : Shape := ⟨2, ![17408, 768]⟩
abbrev S17408x256 : Shape := ⟨2, ![17408, 256]⟩
abbrev S17408x10240 : Shape := ⟨2, ![17408, 10240]⟩
abbrev S1024x768 : Shape := ⟨2, ![1024, 768]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S17408x768, .bf16⟩
  | .hbm, ⟨1, _⟩ => ⟨S17408x256, .bf16⟩
  | .hbm, ⟨2, _⟩ => ⟨S17408x10240, .bf16⟩
  | .hbm, ⟨3, _⟩ => ⟨S1024x768, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S17408x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32 : BitVec 32 := 15#32
  let v18 : BitVec 32 := Scalar.addi c15_i32 v17
  let c0_i32_4 : BitVec 32 := 0#32
  ![v0.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefContextAIdeal.lean ====
abbrev S17408x768 : Shape := ⟨2, ![17408, 768]⟩
abbrev S17408x256 : Shape := ⟨2, ![17408, 256]⟩
abbrev S17408x10240 : Shape := ⟨2, ![17408, 10240]⟩
abbrev S1024x768 : Shape := ⟨2, ![1024, 768]⟩
abbrev S4x256x6x128 : Shape := ⟨4, ![4, 256, 6, 128]⟩
abbrev S1024x256 : Shape := ⟨2, ![1024, 256]⟩
abbrev S4x256x2x128 : Shape := ⟨4, ![4, 256, 2, 128]⟩
abbrev S4x256x2x3x128 : Shape := ⟨5, ![4, 256, 2, 3, 128]⟩
abbrev S4x6x256x256 : Shape := ⟨4, ![4, 6, 256, 256]⟩
abbrev S_ : Shape := ⟨0, ![]⟩
abbrev S4x6x256 : Shape := ⟨3, ![4, 6, 256]⟩
abbrev S4x6x256x1 : Shape := ⟨4, ![4, 6, 256, 1]⟩
abbrev S4x6x128x256 : Shape := ⟨4, ![4, 6, 128, 256]⟩

abbrev nBuf : Space → Nat
  | .hbm => 40
  | .vmem => 0
  | .smem => 0
  | _ => 0

abbrev bufTy : (tb : Table) → Fin (tcTables nBuf tb) → BufTy
  | .hbm, ⟨0, _⟩ => ⟨S17408x768, .bf16⟩
  | .hbm, ⟨1, _⟩ => ⟨S17408x256, .bf16⟩
  | .hbm, ⟨2, _⟩ => ⟨S17408x10240, .bf16⟩
  | .hbm, ⟨3, _⟩ => ⟨S17408x256, .bf16⟩
  | .hbm, ⟨4, _⟩ => ⟨S1024x768, .bf16⟩
  | .hbm, ⟨5, _⟩ => ⟨S1024x768, .f32⟩
  | .hbm, ⟨6, _⟩ => ⟨S4x256x6x128, .f32⟩
  | .hbm, ⟨7, _⟩ => ⟨S1024x256, .bf16⟩
  | .hbm, ⟨8, _⟩ => ⟨S1024x256, .f32⟩
  | .hbm, ⟨9, _⟩ => ⟨S4x256x2x128, .f32⟩
  | .hbm, ⟨10, _⟩ => ⟨S1024x256, .bf16⟩
  | .hbm, ⟨11, _⟩ => ⟨S1024x256, .f32⟩
  | .hbm, ⟨12, _⟩ => ⟨S4x256x2x128, .f32⟩
  | .hbm, ⟨13, _⟩ => ⟨S4x256x2x3x128, .f32⟩
  | .hbm, ⟨14, _⟩ => ⟨S4x256x6x128, .f32⟩
  | .hbm, ⟨15, _⟩ => ⟨S4x256x2x3x128, .f32⟩
  | .hbm, ⟨16, _⟩ => ⟨S4x256x6x128, .f32⟩
  | .hbm, ⟨17, _⟩ => ⟨S4x6x256x256, .f32⟩
  | .hbm, ⟨18, _⟩ => ⟨S_, .f32⟩
  | .hbm, ⟨19, _⟩ => ⟨S_, .f32⟩
  | .hbm, ⟨20, _⟩ => ⟨S4x6x256x256, .f32⟩
  | .hbm, ⟨21, _⟩ => ⟨S4x6x256x256, .f32⟩
  | .hbm, ⟨22, _⟩ => ⟨S_, .f32⟩
  | .hbm, ⟨23, _⟩ => ⟨S4x6x256, .f32⟩
  | .hbm, ⟨24, _⟩ => ⟨S_, .f32⟩
  | .hbm, ⟨25, _⟩ => ⟨S4x6x256, .f32⟩
  | .hbm, ⟨26, _⟩ => ⟨S4x6x256, .f32⟩
  | .hbm, ⟨27, _⟩ => ⟨S4x6x256x1, .f32⟩
  | .hbm, ⟨28, _⟩ => ⟨S4x6x256x256, .f32⟩
  | .hbm, ⟨29, _⟩ => ⟨S4x6x256x256, .f32⟩
  | .hbm, ⟨30, _⟩ => ⟨S4x6x256x256, .f32⟩
  | .hbm, ⟨31, _⟩ => ⟨S_, .f32⟩
  | .hbm, ⟨32, _⟩ => ⟨S4x6x256, .f32⟩
  | .hbm, ⟨33, _⟩ => ⟨S4x6x256x1, .f32⟩
  | .hbm, ⟨34, _⟩ => ⟨S4x6x256x256, .f32⟩
  | .hbm, ⟨35, _⟩ => ⟨S4x6x256x256, .f32⟩
  | .hbm, ⟨36, _⟩ => ⟨S4x6x128x256, .f32⟩
  | .hbm, ⟨37, _⟩ => ⟨S4x256x6x128, .f32⟩
  | .hbm, ⟨38, _⟩ => ⟨S1024x768, .f32⟩
  | .hbm, ⟨39, _⟩ => ⟨S1024x768, .bf16⟩
  | _, _ => ⟨S17408x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== ContextB.lean ====
abbrev S17408x1280 : Shape := ⟨2, ![17408, 1280]⟩
abbrev S17408x640 : Shape := ⟨2, ![17408, 640]⟩
abbrev S1024x640 : Shape := ⟨2, ![1024, 640]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S17408x1280, .bf16⟩
  | .hbm, ⟨1, _⟩ => ⟨S17408x1280, .bf16⟩
  | .hbm, ⟨2, _⟩ => ⟨S17408x640, .bf16⟩
  | .hbm, ⟨3, _⟩ => ⟨S1024x640, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S17408x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefContextBIdeal.lean ====
abbrev S17408x1280 : Shape := ⟨2, ![17408, 1280]⟩
abbrev S17408x640 : Shape := ⟨2, ![17408, 640]⟩
abbrev S1024x1280 : Shape := ⟨2, ![1024, 1280]⟩
abbrev S4x256x5x256 : Shape := ⟨4, ![4, 256, 5, 256]⟩
abbrev S1024x640 : Shape := ⟨2, ![1024, 640]⟩
abbrev S4x256x5x128 : Shape := ⟨4, ![4, 256, 5, 128]⟩
abbrev S4x5x256x256 : Shape := ⟨4, ![4, 5, 256, 256]⟩
abbrev S_ : Shape := ⟨0, ![]⟩
abbrev S4x5x256 : Shape := ⟨3, ![4, 5, 256]⟩
abbrev S4x5x256x1 : Shape := ⟨4, ![4, 5, 256, 1]⟩
abbrev S4x5x128x256 : Shape := ⟨4, ![4, 5, 128, 256]⟩

abbrev nBuf : Space → Nat
  | .hbm => 35
  | .vmem => 0
  | .smem => 0
  | _ => 0

abbrev bufTy : (tb : Table) → Fin (tcTables nBuf tb) → BufTy
  | .hbm, ⟨0, _⟩ => ⟨S17408x1280, .bf16⟩
  | .hbm, ⟨1, _⟩ => ⟨S17408x1280, .bf16⟩
  | .hbm, ⟨2, _⟩ => ⟨S17408x640, .bf16⟩
  | .hbm, ⟨3, _⟩ => ⟨S1024x1280, .bf16⟩
  | .hbm, ⟨4, _⟩ => ⟨S1024x1280, .f32⟩
  | .hbm, ⟨5, _⟩ => ⟨S4x256x5x256, .f32⟩
  | .hbm, ⟨6, _⟩ => ⟨S1024x1280, .bf16⟩
  | .hbm, ⟨7, _⟩ => ⟨S1024x1280, .f32⟩
  | .hbm, ⟨8, _⟩ => ⟨S4x256x5x256, .f32⟩
  | .hbm, ⟨9, _⟩ => ⟨S1024x640, .bf16⟩
  | .hbm, ⟨10, _⟩ => ⟨S1024x640, .f32⟩
  | .hbm, ⟨11, _⟩ => ⟨S4x256x5x128, .f32⟩
  | .hbm, ⟨12, _⟩ => ⟨S4x5x256x256, .f32⟩
  | .hbm, ⟨13, _⟩ => ⟨S_, .f32⟩
  | .hbm, ⟨14, _⟩ => ⟨S_, .f32⟩
  | .hbm, ⟨15, _⟩ => ⟨S4x5x256x256, .f32⟩
  | .hbm, ⟨16, _⟩ => ⟨S4x5x256x256, .f32⟩
  | .hbm, ⟨17, _⟩ => ⟨S_, .f32⟩
  | .hbm, ⟨18, _⟩ => ⟨S4x5x256, .f32⟩
  | .hbm, ⟨19, _⟩ => ⟨S_, .f32⟩
  | .hbm, ⟨20, _⟩ => ⟨S4x5x256, .f32⟩
  | .hbm, ⟨21, _⟩ => ⟨S4x5x256, .f32⟩
  | .hbm, ⟨22, _⟩ => ⟨S4x5x256x1, .f32⟩
  | .hbm, ⟨23, _⟩ => ⟨S4x5x256x256, .f32⟩
  | .hbm, ⟨24, _⟩ => ⟨S4x5x256x256, .f32⟩
  | .hbm, ⟨25, _⟩ => ⟨S4x5x256x256, .f32⟩
  | .hbm, ⟨26, _⟩ => ⟨S_, .f32⟩
  | .hbm, ⟨27, _⟩ => ⟨S4x5x256, .f32⟩
  | .hbm, ⟨28, _⟩ => ⟨S4x5x256x1, .f32⟩
  | .hbm, ⟨29, _⟩ => ⟨S4x5x256x256, .f32⟩
  | .hbm, ⟨30, _⟩ => ⟨S4x5x256x256, .f32⟩
  | .hbm, ⟨31, _⟩ => ⟨S4x5x128x256, .f32⟩
  | .hbm, ⟨32, _⟩ => ⟨S4x256x5x128, .f32⟩
  | .hbm, ⟨33, _⟩ => ⟨S1024x640, .f32⟩
  | .hbm, ⟨34, _⟩ => ⟨S1024x640, .bf16⟩
  | _, _ => ⟨S17408x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== ContextC.lean ====
abbrev S17408x10240 : Shape := ⟨2, ![17408, 10240]⟩
abbrev S1024x640 : Shape := ⟨2, ![1024, 640]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S17408x10240, .bf16⟩
  | .hbm, ⟨1, _⟩ => ⟨S1024x640, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S17408x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c17_i32 : BitVec 32 := 17#32
  let v1 : BitVec 32 := Scalar.addi c17_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c22_i32 : BitVec 32 := 22#32
  let v1 : BitVec 32 := Scalar.addi c22_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c27_i32 : BitVec 32 := 27#32
  let v1 : BitVec 32 := Scalar.addi c27_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefContextCIdeal.lean ====
abbrev S17408x10240 : Shape := ⟨2, ![17408, 10240]⟩
abbrev S1024x640 : Shape := ⟨2, ![1024, 640]⟩
abbrev S4x256x5x128 : Shape := ⟨4, ![4, 256, 5, 128]⟩
abbrev S4x5x256x256 : Shape := ⟨4, ![4, 5, 256, 256]⟩
abbrev S_ : Shape := ⟨0, ![]⟩
abbrev S4x5x256 : Shape := ⟨3, ![4, 5, 256]⟩
abbrev S4x5x256x1 : Shape := ⟨4, ![4, 5, 256, 1]⟩
abbrev S4x5x128x256 : Shape := ⟨4, ![4, 5, 128, 256]⟩

abbrev nBuf : Space → Nat
  | .hbm => 33
  | .vmem => 0
  | .smem => 0
  | _ => 0

abbrev bufTy : (tb : Table) → Fin (tcTables nBuf tb) → BufTy
  | .hbm, ⟨0, _⟩ => ⟨S17408x10240, .bf16⟩
  | .hbm, ⟨1, _⟩ => ⟨S1024x640, .bf16⟩
  | .hbm, ⟨2, _⟩ => ⟨S1024x640, .f32⟩
  | .hbm, ⟨3, _⟩ => ⟨S4x256x5x128, .f32⟩
  | .hbm, ⟨4, _⟩ => ⟨S1024x640, .bf16⟩
  | .hbm, ⟨5, _⟩ => ⟨S1024x640, .f32⟩
  | .hbm, ⟨6, _⟩ => ⟨S4x256x5x128, .f32⟩
  | .hbm, ⟨7, _⟩ => ⟨S1024x640, .bf16⟩
  | .hbm, ⟨8, _⟩ => ⟨S1024x640, .f32⟩
  | .hbm, ⟨9, _⟩ => ⟨S4x256x5x128, .f32⟩
  | .hbm, ⟨10, _⟩ => ⟨S4x5x256x256, .f32⟩
  | .hbm, ⟨11, _⟩ => ⟨S_, .f32⟩
  | .hbm, ⟨12, _⟩ => ⟨S_, .f32⟩
  | .hbm, ⟨13, _⟩ => ⟨S4x5x256x256, .f32⟩
  | .hbm, ⟨14, _⟩ => ⟨S4x5x256x256, .f32⟩
  | .hbm, ⟨15, _⟩ => ⟨S_, .f32⟩
  | .hbm, ⟨16, _⟩ => ⟨S4x5x256, .f32⟩
  | .hbm, ⟨17, _⟩ => ⟨S_, .f32⟩
  | .hbm, ⟨18, _⟩ => ⟨S4x5x256, .f32⟩
  | .hbm, ⟨19, _⟩ => ⟨S4x5x256, .f32⟩
  | .hbm, ⟨20, _⟩ => ⟨S4x5x256x1, .f32⟩
  | .hbm, ⟨21, _⟩ => ⟨S4x5x256x256, .f32⟩
  | .hbm, ⟨22, _⟩ => ⟨S4x5x256x256, .f32⟩
  | .hbm, ⟨23, _⟩ => ⟨S4x5x256x256, .f32⟩
  | .hbm, ⟨24, _⟩ => ⟨S_, .f32⟩
  | .hbm, ⟨25, _⟩ => ⟨S4x5x256, .f32⟩
  | .hbm, ⟨26, _⟩ => ⟨S4x5x256x1, .f32⟩
  | .hbm, ⟨27, _⟩ => ⟨S4x5x256x256, .f32⟩
  | .hbm, ⟨28, _⟩ => ⟨S4x5x256x256, .f32⟩
  | .hbm, ⟨29, _⟩ => ⟨S4x5x128x256, .f32⟩
  | .hbm, ⟨30, _⟩ => ⟨S4x256x5x128, .f32⟩
  | .hbm, ⟨31, _⟩ => ⟨S1024x640, .f32⟩
  | .hbm, ⟨32, _⟩ => ⟨S1024x640, .bf16⟩
  | _, _ => ⟨S17408x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Modulation.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S16x2048 : Shape := ⟨2, ![16, 2048]⟩
abbrev S16x512 : Shape := ⟨2, ![16, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModulationIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2x12288x8, .f32⟩
  | .hbm, ⟨18, _⟩ => ⟨S2x8x12288, .f32⟩
  | .hbm, ⟨19, _⟩ => ⟨S2x1x12288, .f32⟩
  | .hbm, ⟨20, _⟩ => ⟨S2x8x12288, .f32⟩
  | .hbm, ⟨21, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Frames.lean ====
/- The references terminate and leave their arguments as they were. -/
module

public import proofs.«01_k».proof.Defs
public import Idealize.ShloMosaic.Lib.Quiescent
public import proofs.«01_k».proof.Proof.Gen.ReferenceIdeal.Run
public import proofs.«01_k».proof.Proof.Gen.RefProjectionIdeal.Run
public import proofs.«01_k».proof.Proof.Gen.RefAttentionBIdeal.Run
public import proofs.«01_k».proof.Proof.Gen.RefMergeIdeal.Run
public import proofs.«01_k».proof.Proof.Gen.RefOutputIdeal.Run
public import proofs.«01_k».proof.Proof.Gen.RefPrepIdeal.Run
public import proofs.«01_k».proof.Proof.Gen.RefContextAIdeal.Run
public import proofs.«01_k».proof.Proof.Gen.RefContextBIdeal.Run
public import proofs.«01_k».proof.Proof.Gen.RefContextCIdeal.Run
public import proofs.«01_k».proof.Proof.Gen.RefModulationIdeal.Run
public import proofs.«01_k».proof.Proof.Gen.RefCombineIdeal.Run

@[expose] public section

set_option maxRecDepth 16384

noncomputable section

namespace Cert.Pairs

open Idealize.ShloMosaic Idealize.SL.Sem

/-- The first attention's reference terminates, leaves its arguments as they were, and has no semaphore to leave raised. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The input projection's reference terminates, leaves its arguments as they were, and has no semaphore to leave raised. -/
theorem frame_RefProjectionIdeal : Cert.quiescent_RefProjectionIdeal (hRefProjectionIdeal := Cert.RefProjectionIdeal.Gen.facts) := fun m g _ =>
  (θ_run _ _ _).mono (fun r h => ⟨fun c => (h c).2, sem_eq_zero_of_no_sems (by decide) r.2⟩) (Cert.RefProjectionIdeal.Value.run m g)

/-- The second attention's reference terminates, leaves its arguments as they were, and has no semaphore to leave raised. -/
theorem frame_RefAttentionBIdeal : Cert.quiescent_RefAttentionBIdeal (hRefAttentionBIdeal := Cert.RefAttentionBIdeal.Gen.facts) := fun m g _ =>
  (θ_run _ _ _).mono (fun r h => ⟨fun c => (h c).2, sem_eq_zero_of_no_sems (by decide) r.2⟩) (Cert.RefAttentionBIdeal.Value.run m g)

/-- The branch merge's reference terminates, leaves its arguments as they were, and has no semaphore to leave raised. -/
theorem frame_RefMergeIdeal : Cert.quiescent_RefMergeIdeal (hRefMergeIdeal := Cert.RefMergeIdeal.Gen.facts) := fun m g _ =>
  (θ_run _ _ _).mono (fun r h => ⟨fun c => (h c).2, sem_eq_zero_of_no_sems (by decide) r.2⟩) (Cert.RefMergeIdeal.Value.run m g)

/-- The output projection's reference terminates, leaves its arguments as they were, and has no semaphore to leave raised. -/
theorem frame_RefOutputIdeal : Cert.quiescent_RefOutputIdeal (hRefOutputIdeal := Cert.RefOutputIdeal.Gen.facts) := fun m g _ =>
  (θ_run _ _ _).mono (fun r h => ⟨fun c => (h c).2.2, sem_eq_zero_of_no_sems (by decide) r.2⟩) (Cert.RefOutputIdeal.Value.run m g)

theorem frame_RefPrepIdeal : Cert.quiescent_RefPrepIdeal (hRefPrepIdeal := Cert.RefPrepIdeal.Gen.facts) := fun m g _ =>
  (θ_run _ _ _).mono (fun r h => ⟨fun c => (h c).2.2.2.2.2, sem_eq_zero_of_no_sems (by decide) r.2⟩) (Cert.RefPrepIdeal.Value.run m g)

/-- The last step's reference terminates, leaves its arguments as they were, and has no semaphore to leave raised. -/
theorem frame_RefCombineIdeal : Cert.quiescent_RefCombineIdeal (hRefCombineIdeal := Cert.RefCombineIdeal.Gen.facts) := fun m g _ =>
  (θ_run _ _ _).mono (fun r h => ⟨fun c => (h c).2, sem_eq_zero_of_no_sems (by decide) r.2⟩) (Cert.RefCombineIdeal.Value.run m g)

theorem frame_RefContextAIdeal : Cert.quiescent_RefContextAIdeal (hRefContextAIdeal := Cert.RefContextAIdeal.Gen.facts) := fun m g _ =>
  (θ_run _ _ _).mono (fun r h => ⟨fun c => (h c).2, sem_eq_zero_of_no_sems (by decide) r.2⟩) (Cert.RefContextAIdeal.Value.run m g)

theorem frame_RefContextBIdeal : Cert.quiescent_RefContextBIdeal (hRefContextBIdeal := Cert.RefContextBIdeal.Gen.facts) := fun m g _ =>
  (θ_run _ _ _).mono (fun r h => ⟨fun c => (h c).2, sem_eq_zero_of_no_sems (by decide) r.2⟩) (Cert.RefContextBIdeal.Value.run m g)

theorem frame_RefContextCIdeal : Cert.quiescent_RefContextCIdeal (hRefContextCIdeal := Cert.RefContextCIdeal.Gen.facts) := fun m g _ =>
  (θ_run _ _ _).mono (fun r h => ⟨fun c => (h c).2, sem_eq_zero_of_no_sems (by decide) r.2⟩) (Cert.RefContextCIdeal.Value.run m g)

theorem frame_RefModulationIdeal : Cert.quiescent_RefModulationIdeal (hRefModulationIdeal := Cert.RefModulationIdeal.Gen.facts) := fun m g _ =>
  (θ_run _ _ _).mono (fun r h => ⟨fun c => (h c).2, sem_eq_zero_of_no_sems (by decide) r.2⟩) (Cert.RefModulationIdeal.Value.run m g)

end Cert.Pairs
end
-- ==== Proof.Softmax.lean ====
/- The arithmetic of a base-2 softmax accumulated chunk by chunk, over the extended reals. -/
module

public import Idealize.ShloMosaic.PureOps.Ideal

@[expose] public section

noncomputable section

namespace Cert.Softmax

open Idealize.ShloMosaic

/-- The word a maximum starts from. -/
theorem negInf_f32 : Ideal.ofBits .f32 0xFF800000#32 = ⊥ := by simp [Ideal.ofBits, Ideal.ieee]

/-- The natural logarithm of the constant two. -/
theorem log_two_f32 : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]; norm_num
  rw [h, Ideal.log_coe, if_neg (by norm_num)]

/-- A nonnegative real factor moves into a finite sum of extended reals. -/
theorem coe_mul_sum {ι : Type*} (S : Finset ι) {c : ℝ} (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

/-- A finite sum of reals is the sum of their extended reals. -/
theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The exponential weight of a score. -/
def wt (s : ℝ) : ℝ := Real.rpow 2 s

theorem wt_pos (s : ℝ) : 0 < wt s := Real.rpow_pos_of_pos two_pos s

theorem wt_add (a b : ℝ) : wt (a + b) = wt a * wt b := Real.rpow_add two_pos a b

theorem exp2_sub (a b : ℝ) : Ideal.exp2 ((a : EReal) - (b : EReal)) = ((wt (-b) * wt a : ℝ) : EReal) := by
  rw [← EReal.coe_sub, Ideal.exp2_coe, ← wt_add]; congr 2; ring

/-- The weighted sum of the values, the scores unshifted. -/
def mix {ι : Type*} [Fintype ι] (s : ι → ℝ) (v : ι → EReal) : EReal := ∑ j, (wt (s j) : EReal) * v j

/-- A chunk's contribution under the running maximum `m` is the unshifted one times `2 ^ (-m)`. -/
theorem chunk_eq {ι : Type*} [Fintype ι] (s : ι → ℝ) (v : ι → EReal) (m : ℝ) :
    ∑ j, Ideal.exp2 ((s j : EReal) - (m : EReal)) * v j = (wt (-m) : EReal) * mix s v := by
  rw [mix, coe_mul_sum _ (wt_pos _).le]
  refine Finset.sum_congr rfl fun j _ => ?_
  rw [exp2_sub, EReal.coe_mul, mul_assoc]

/-- One step of the running sum: rescale what is there, add the next chunk. -/
theorem step_eq {ι : Type*} [Fintype ι] (s : ι → ℝ) (v : ι → EReal) (m m' : ℝ) (A : EReal) :
    ((wt (-m) : EReal) * A) * Ideal.exp2 ((m : EReal) - (m' : EReal))
        + ∑ j, Ideal.exp2 ((s j : EReal) - (m' : EReal)) * v j
      = (wt (-m') : EReal) * (A + mix s v) := by
  rw [chunk_eq, exp2_sub, EReal.left_distrib_of_nonneg_of_ne_top (EReal.coe_nonneg.2 (wt_pos _).le) (EReal.coe_ne_top _)]
  congr 1
  rw [mul_right_comm, ← EReal.coe_mul]
  congr 2
  rw [← mul_assoc, mul_comm (wt (-m)), mul_assoc, ← wt_add]
  simp [wt]

/-- The total weight, as a real. -/
def tot {ι : Type*} [Fintype ι] (s : ι → ℝ) : ℝ := ∑ j, wt (s j)

theorem tot_pos {ι : Type*} [Fintype ι] [Nonempty ι] (s : ι → ℝ) : 0 < tot s :=
  Finset.sum_pos (fun j _ => wt_pos _) Finset.univ_nonempty

theorem mix_one {ι : Type*} [Fintype ι] (s : ι → ℝ) : mix s (fun _ => 1) = (tot s : EReal) := by
  simp only [mix, tot, mul_one]
  exact (coe_sum _ _).symm

/-- The shift cancels in the quotient. -/
theorem div_shift (m Z : ℝ) (hZ : 0 < Z) (A : EReal) :
    Ideal.div ((wt (-m) : EReal) * A) ((wt (-m) : EReal) * (Z : EReal)) = A * ((1 / Z : ℝ) : EReal) := by
  have hm := wt_pos (-m)
  rw [← EReal.coe_mul, Ideal.div_coe (mul_pos hm hZ).ne', mul_right_comm, ← EReal.coe_mul, mul_comm]
  congr 2
  field_simp

/-- The largest of finitely many real numbers, at least one, is a real number. -/
theorem fold_max_real {ι : Type*} (S : Finset ι) (hS : S.Nonempty) (f : ι → ℝ) :
    ∃ m : ℝ, S.fold max (⊥ : EReal) (fun j => (f j : EReal)) = (m : EReal) := by
  classical
  induction hS using Finset.Nonempty.cons_induction with
  | singleton a => exact ⟨f a, by simp⟩
  | cons a S ha hS ih =>
    obtain ⟨m, hm⟩ := ih
    exact ⟨max (f a) m, by rw [Finset.fold_cons, hm]; exact (EReal.coe_strictMono.monotone.map_max).symm⟩

theorem max_real (a b : ℝ) : max (a : EReal) (b : EReal) = ((max a b : ℝ) : EReal) :=
  (EReal.coe_strictMono.monotone.map_max).symm

/-- The natural-base softmax of `s · log 2`, shifted by any real, weighs as the base-2 one does. -/
theorem exp_shift (s M : ℝ) :
    Ideal.exp ((s : EReal) * ((Real.log 2 : ℝ) : EReal) - (M : EReal)) = ((Real.exp (-M) * wt s : ℝ) : EReal) := by
  rw [← EReal.coe_mul, ← EReal.coe_sub, Ideal.exp_coe, wt, Real.rpow_eq_pow, Real.rpow_def_of_pos two_pos, ← Real.exp_add]
  congr 2; ring

/-- The normalised weights against the values: the sum divided once at the end. -/
theorem soft_eq {ι : Type*} [Fintype ι] [Nonempty ι] (s : ι → ℝ) (v : ι → EReal) (M : ℝ) :
    ∑ j, Ideal.div (Ideal.exp ((s j : EReal) * ((Real.log 2 : ℝ) : EReal) - (M : EReal)))
        (∑ k, Ideal.exp ((s k : EReal) * ((Real.log 2 : ℝ) : EReal) - (M : EReal))) * v j
      = mix s v * ((1 / tot s : ℝ) : EReal) := by
  have hZ := tot_pos s
  have hM := Real.exp_pos (-M)
  have hs : (∑ k, Ideal.exp ((s k : EReal) * ((Real.log 2 : ℝ) : EReal) - (M : EReal)))
      = ((Real.exp (-M) * tot s : ℝ) : EReal) := by
    simp only [exp_shift, tot, Finset.mul_sum]
    exact (coe_sum _ _).symm
  rw [hs, mul_comm (mix s v), mix, coe_mul_sum _ (one_div_pos.2 hZ).le]
  refine Finset.sum_congr rfl fun j _ => ?_
  rw [exp_shift, Ideal.div_coe (mul_pos hM hZ).ne', ← EReal.coe_mul, ← mul_assoc, ← EReal.coe_mul]
  congr 2
  field_simp

/-- A sum over all keys, chunk by chunk. -/
theorem sum_chunks {M : Type*} [AddCommMonoid M] (f : Fin 4352 → M) :
    ∑ j, f j = ∑ k : Fin 1024, f ⟨k, by omega⟩ + ∑ k : Fin 1024, f ⟨1024 + k, by omega⟩ + ∑ k : Fin 1024, f ⟨2048 + k, by omega⟩
      + ∑ k : Fin 1024, f ⟨3072 + k, by omega⟩ + ∑ k : Fin 256, f ⟨4096 + k, by omega⟩ := by
  rw [show ∑ j, f j = _ from Fin.sum_univ_add (a := 4096) (b := 256) f]
  congr 1
  rw [Fin.sum_univ_add (a := 3072) (b := 1024)]
  congr 1
  rw [Fin.sum_univ_add (a := 2048) (b := 1024)]
  congr 1
  rw [Fin.sum_univ_add (a := 1024) (b := 1024)]
  rfl

end Cert.Softmax

end
-- ==== Proof.Tile.lean ====
/- One query tile of the dense attention: five key chunks, the running maximum, the values with a column of ones beside
   them. The functions are stated over the scores, so that heads of any width share them. -/
module

public import proofs.«01_k».proof.Proof.Gen.KernelIdeal.Skeleton
public import proofs.«01_k».proof.Proof.Softmax
public import Idealize.ShloMosaic.Lib.Pipeline.ValueKit

@[expose] public section

set_option maxRecDepth 16384

noncomputable section

namespace Cert.Tile

open Cert.KernelIdeal Cert.KernelIdeal.Gen Cert.KernelIdeal.Facts Idealize.ShloMosaic Idealize.ShloMosaic.TcCoe Idealize.SL.Sem
open Cert.Softmax

/-- The largest score of each row of a full chunk. -/
def top (s : FVec Ideal S512x1024 .f32) : FVec Ideal S512x1 .f32 :=
  shapeCast S512x1 (multiReduction .maximumf [1] S512 s 0xFF800000#32 reduces_S512x1024_S512 (.inl rfl) rfl) shapeCasts_S512_S512x1

/-- The largest score of each row of the last chunk. -/
def topL (s : FVec Ideal S512x256 .f32) : FVec Ideal S512x1 .f32 :=
  shapeCast S512x1 (multiReduction .maximumf [1] S512 s 0xFF800000#32 reduces_S512x256_S512 (.inl rfl) rfl) shapeCasts_S512_S512x1

/-- A full chunk's weighted values under the maximum `m`. -/
def part (s : FVec Ideal S512x1024 .f32) (w : FVec Ideal S1024x256 .bf16) (m : FVec Ideal S512x1 .f32) : FVec Ideal S512x256 .f32 :=
  matmul dot_S512x1024_S1024x256_S512x256_1_0_0_1_n_n none
    (exp2 (truncf .bf16 (subf s (broadcastTo S512x1024 m broadcasts_S512x1_S512x1024)) bitsLt_bf16_f32)) w
    (constant S512x256 .f32 0x00000000#32)

/-- The last chunk's weighted values under the maximum `m`. -/
def partL (s : FVec Ideal S512x256 .f32) (w : FVec Ideal S256x256 .bf16) (m : FVec Ideal S512x1 .f32) : FVec Ideal S512x256 .f32 :=
  matmul dot_S512x256_S256x256_S512x256_1_0_0_1_n_n none
    (exp2 (truncf .bf16 (subf s (broadcastTo S512x256 m broadcasts_S512x1_S512x256)) bitsLt_bf16_f32)) w
    (constant S512x256 .f32 0x00000000#32)

/-- What is accumulated so far, carried from the maximum `m` to `m'`. -/
def carry (a : FVec Ideal S512x256 .f32) (m m' : FVec Ideal S512x1 .f32) : FVec Ideal S512x256 .f32 :=
  mulf a (broadcastTo S512x256 (exp2 (subf m m')) broadcasts_S512x1_S512x256)

/-- The accumulated values over the accumulated weights (column 128, the values' ones). -/
def quot (a : FVec Ideal S512x256 .f32) : FVec Ideal S512x128 .bf16 :=
  truncf .bf16 (divf (extractStridedSlice S512x128 ![0, 0] a slices_S512x256_o0_0_S512x128)
    (broadcastTo S512x128 (extractStridedSlice S512x1 ![0, 128] a slices_S512x256_o0_128_S512x1) broadcasts_S512x1_S512x128)) bitsLt_bf16_f32

/-- The tile: scores and values of the five chunks. -/
def att (s1 s2 s3 s4 : FVec Ideal S512x1024 .f32) (s5 : FVec Ideal S512x256 .f32)
    (w1 w2 w3 w4 : FVec Ideal S1024x256 .bf16) (w5 : FVec Ideal S256x256 .bf16) : FVec Ideal S512x128 .bf16 :=
  have m1 := top s1
  have m2 := maximumf m1 (top s2)
  have m3 := maximumf m2 (top s3)
  have m4 := maximumf m3 (top s4)
  have m5 := maximumf m4 (topL s5)
  quot (addf (carry (addf (carry (addf (carry (addf (carry (part s1 w1 m1) m1 m2) (part s2 w2 m2)) m2 m3) (part s3 w3 m3)) m3 m4) (part s4 w4 m4)) m4 m5) (partL s5 w5 m5))

theorem top_at (s : FVec Ideal S512x1024 .f32) (i : Fin 512) (z : Fin 1) :
    top s (ix2 i z) = Finset.univ.fold max (⊥ : EReal) (fun k : Fin 1024 => s (ix2 i k)) := by
  pointwise [top, negInf_f32]

theorem topL_at (s : FVec Ideal S512x256 .f32) (i : Fin 512) (z : Fin 1) :
    topL s (ix2 i z) = Finset.univ.fold max (⊥ : EReal) (fun k : Fin 256 => s (ix2 i k)) := by
  pointwise [topL, negInf_f32]

theorem part_at (s : FVec Ideal S512x1024 .f32) (w : FVec Ideal S1024x256 .bf16) (m : FVec Ideal S512x1 .f32) (i : Fin 512) (d : Fin 256) :
    part s w m (ix2 i d) = ∑ k : Fin 1024, Ideal.exp2 (s (ix2 i k) - m (ix2 i 0)) * w (ix2 k d) := by
  pointwise [part]
  rfl

theorem partL_at (s : FVec Ideal S512x256 .f32) (w : FVec Ideal S256x256 .bf16) (m : FVec Ideal S512x1 .f32) (i : Fin 512) (d : Fin 256) :
    partL s w m (ix2 i d) = ∑ k : Fin 256, Ideal.exp2 (s (ix2 i k) - m (ix2 i 0)) * w (ix2 k d) := by
  pointwise [partL]
  rfl

theorem quot_at (a : FVec Ideal S512x256 .f32) (i : Fin 512) (d : Fin 128) :
    quot a (ix2 i d) = Ideal.div (a (ix2 i ⟨d, by omega⟩)) (a (ix2 i 128)) := by
  pointwise [quot]

theorem carry_at (a : FVec Ideal S512x256 .f32) (m m' : FVec Ideal S512x1 .f32) (i : Fin 512) (d : Fin 256) :
    carry a m m' (ix2 i d) = a (ix2 i d) * Ideal.exp2 (m (ix2 i 0) - m' (ix2 i 0)) := by
  pointwise [carry]
  rfl

/-- A row's largest score in a full chunk is real when the row's scores are. -/
theorem top_real (s : FVec Ideal S512x1024 .f32) (i : Fin 512) (σ : Fin 1024 → ℝ) (h : ∀ k, s (ix2 i k) = (σ k : EReal)) :
    ∃ m : ℝ, top s (ix2 i 0) = (m : EReal) := by
  rw [top_at, show (fun k : Fin 1024 => s (ix2 i k)) = fun k => (σ k : EReal) from funext h]
  exact fold_max_real _ Finset.univ_nonempty σ

theorem topL_real (s : FVec Ideal S512x256 .f32) (i : Fin 512) (σ : Fin 256 → ℝ) (h : ∀ k, s (ix2 i k) = (σ k : EReal)) :
    ∃ m : ℝ, topL s (ix2 i 0) = (m : EReal) := by
  rw [topL_at, show (fun k : Fin 256 => s (ix2 i k)) = fun k => (σ k : EReal) from funext h]
  exact fold_max_real _ Finset.univ_nonempty σ

/-- The running maximum of two real rows. -/
theorem max_row (m n : FVec Ideal S512x1 .f32) (i : Fin 512) {a b : ℝ} (ha : m (ix2 i 0) = (a : EReal)) (hb : n (ix2 i 0) = (b : EReal)) :
    maximumf m n (ix2 i 0) = ((max a b : ℝ) : EReal) := by
  show max (m (ix2 i 0)) (n (ix2 i 0)) = _
  rw [ha, hb, max_real]

theorem part_mix (s : FVec Ideal S512x1024 .f32) (w : FVec Ideal S1024x256 .bf16) (m : FVec Ideal S512x1 .f32) (i : Fin 512) (d : Fin 256)
    (σ : Fin 1024 → ℝ) (h : ∀ k, s (ix2 i k) = (σ k : EReal)) {a : ℝ} (ha : m (ix2 i 0) = (a : EReal)) :
    part s w m (ix2 i d) = (wt (-a) : EReal) * mix σ (fun k => w (ix2 k d)) := by
  rw [part_at, ha]; simp only [h]; exact chunk_eq σ _ a

/-- One more full chunk. -/
theorem step_mix (acc : FVec Ideal S512x256 .f32) (s : FVec Ideal S512x1024 .f32) (w : FVec Ideal S1024x256 .bf16) (m m' : FVec Ideal S512x1 .f32)
    (i : Fin 512) (d : Fin 256) (σ : Fin 1024 → ℝ) (h : ∀ k, s (ix2 i k) = (σ k : EReal)) {a a' : ℝ} (ha : m (ix2 i 0) = (a : EReal))
    (ha' : m' (ix2 i 0) = (a' : EReal)) {A : EReal} (hA : acc (ix2 i d) = (wt (-a) : EReal) * A) :
    addf (carry acc m m') (part s w m') (ix2 i d) = (wt (-a') : EReal) * (A + mix σ (fun k => w (ix2 k d))) := by
  show carry acc m m' (ix2 i d) + part s w m' (ix2 i d) = _
  rw [carry_at, part_at, hA, ha, ha']; simp only [h]; exact step_eq σ _ a a' A

/-- The last chunk. -/
theorem step_mixL (acc : FVec Ideal S512x256 .f32) (s : FVec Ideal S512x256 .f32) (w : FVec Ideal S256x256 .bf16) (m m' : FVec Ideal S512x1 .f32)
    (i : Fin 512) (d : Fin 256) (σ : Fin 256 → ℝ) (h : ∀ k, s (ix2 i k) = (σ k : EReal)) {a a' : ℝ} (ha : m (ix2 i 0) = (a : EReal))
    (ha' : m' (ix2 i 0) = (a' : EReal)) {A : EReal} (hA : acc (ix2 i d) = (wt (-a) : EReal) * A) :
    addf (carry acc m m') (partL s w m') (ix2 i d) = (wt (-a') : EReal) * (A + mix σ (fun k => w (ix2 k d))) := by
  show carry acc m m' (ix2 i d) + partL s w m' (ix2 i d) = _
  rw [carry_at, partL_at, hA, ha, ha']; simp only [h]; exact step_eq σ _ a a' A

/-- The tile's value at row `i`, column `d`, of real scores: the weighted values over the total weight. -/
theorem att_at (s1 s2 s3 s4 : FVec Ideal S512x1024 .f32) (s5 : FVec Ideal S512x256 .f32)
    (w1 w2 w3 w4 : FVec Ideal S1024x256 .bf16) (w5 : FVec Ideal S256x256 .bf16) (i : Fin 512) (d : Fin 128)
    (σ1 σ2 σ3 σ4 : Fin 1024 → ℝ) (σ5 : Fin 256 → ℝ)
    (h1 : ∀ k, s1 (ix2 i k) = (σ1 k : EReal)) (h2 : ∀ k, s2 (ix2 i k) = (σ2 k : EReal)) (h3 : ∀ k, s3 (ix2 i k) = (σ3 k : EReal))
    (h4 : ∀ k, s4 (ix2 i k) = (σ4 k : EReal)) (h5 : ∀ k, s5 (ix2 i k) = (σ5 k : EReal))
    (e1 : ∀ k, w1 (ix2 k 128) = 1) (e2 : ∀ k, w2 (ix2 k 128) = 1) (e3 : ∀ k, w3 (ix2 k 128) = 1)
    (e4 : ∀ k, w4 (ix2 k 128) = 1) (e5 : ∀ k, w5 (ix2 k 128) = 1) :
    att s1 s2 s3 s4 s5 w1 w2 w3 w4 w5 (ix2 i d)
      = (mix σ1 (fun k => w1 (ix2 k ⟨d, by omega⟩)) + mix σ2 (fun k => w2 (ix2 k ⟨d, by omega⟩)) + mix σ3 (fun k => w3 (ix2 k ⟨d, by omega⟩))
          + mix σ4 (fun k => w4 (ix2 k ⟨d, by omega⟩)) + mix σ5 (fun k => w5 (ix2 k ⟨d, by omega⟩)))
        * ((1 / (tot σ1 + tot σ2 + tot σ3 + tot σ4 + tot σ5) : ℝ) : EReal) := by
  obtain ⟨t1, ht1⟩ := top_real s1 i σ1 h1
  obtain ⟨t2, ht2⟩ := top_real s2 i σ2 h2
  obtain ⟨t3, ht3⟩ := top_real s3 i σ3 h3
  obtain ⟨t4, ht4⟩ := top_real s4 i σ4 h4
  obtain ⟨t5, ht5⟩ := topL_real s5 i σ5 h5
  have g2 := max_row _ _ i ht1 ht2
  have g3 := max_row _ _ i g2 ht3
  have g4 := max_row _ _ i g3 ht4
  have g5 := max_row _ _ i g4 ht5
  have run := fun d => step_mixL _ s5 w5 _ _ i d σ5 h5 g4 g5 (step_mix _ s4 w4 _ _ i d σ4 h4 g3 g4 (step_mix _ s3 w3 _ _ i d σ3 h3 g2 g3
    (step_mix _ s2 w2 _ _ i d σ2 h2 ht1 g2 (part_mix s1 w1 _ i d σ1 h1 ht1))))
  unfold att
  rw [quot_at, run, run]
  simp only [e1, e2, e3, e4, e5, mix_one]
  have p1 : 0 < tot σ1 := tot_pos σ1
  have p2 := tot_pos σ2
  have p3 := tot_pos σ3
  have p4 := tot_pos σ4
  have p5 := tot_pos σ5
  rw [← EReal.coe_add, ← EReal.coe_add, ← EReal.coe_add, ← EReal.coe_add, div_shift _ _ (by positivity)]

/-- The same over one score and one value per key. -/
theorem att_row (s1 s2 s3 s4 : FVec Ideal S512x1024 .f32) (s5 : FVec Ideal S512x256 .f32)
    (w1 w2 w3 w4 : FVec Ideal S1024x256 .bf16) (w5 : FVec Ideal S256x256 .bf16) (i : Fin 512) (d : Fin 128)
    (σ : Fin 4352 → ℝ) (v : Fin 4352 → EReal)
    (h1 : ∀ k : Fin 1024, s1 (ix2 i k) = (σ ⟨k, by omega⟩ : EReal)) (h2 : ∀ k : Fin 1024, s2 (ix2 i k) = (σ ⟨1024 + k, by omega⟩ : EReal))
    (h3 : ∀ k : Fin 1024, s3 (ix2 i k) = (σ ⟨2048 + k, by omega⟩ : EReal)) (h4 : ∀ k : Fin 1024, s4 (ix2 i k) = (σ ⟨3072 + k, by omega⟩ : EReal))
    (h5 : ∀ k : Fin 256, s5 (ix2 i k) = (σ ⟨4096 + k, by omega⟩ : EReal))
    (u1 : ∀ k : Fin 1024, w1 (ix2 k ⟨d, by omega⟩) = v ⟨k, by omega⟩) (u2 : ∀ k : Fin 1024, w2 (ix2 k ⟨d, by omega⟩) = v ⟨1024 + k, by omega⟩)
    (u3 : ∀ k : Fin 1024, w3 (ix2 k ⟨d, by omega⟩) = v ⟨2048 + k, by omega⟩) (u4 : ∀ k : Fin 1024, w4 (ix2 k ⟨d, by omega⟩) = v ⟨3072 + k, by omega⟩)
    (u5 : ∀ k : Fin 256, w5 (ix2 k ⟨d, by omega⟩) = v ⟨4096 + k, by omega⟩)
    (e1 : ∀ k, w1 (ix2 k 128) = 1) (e2 : ∀ k, w2 (ix2 k 128) = 1) (e3 : ∀ k, w3 (ix2 k 128) = 1)
    (e4 : ∀ k, w4 (ix2 k 128) = 1) (e5 : ∀ k, w5 (ix2 k 128) = 1) :
    att s1 s2 s3 s4 s5 w1 w2 w3 w4 w5 (ix2 i d) = mix σ v * ((1 / tot σ : ℝ) : EReal) := by
  rw [att_at s1 s2 s3 s4 s5 w1 w2 w3 w4 w5 i d _ _ _ _ _ h1 h2 h3 h4 h5 e1 e2 e3 e4 e5]
  simp only [u1, u2, u3, u4, u5]
  unfold mix tot
  rw [sum_chunks (fun j => _), sum_chunks (fun j => _)]

end Cert.Tile

end
-- ==== Proof.Tokens.lean ====
/- The rows of keys and values that a grid point of the dense attention holds, and the scratch it lays the values out in. -/
module

public import Idealize.ShloMosaic.Lib.Pipeline.ValueKit

@[expose] public section

set_option maxRecDepth 16384

noncomputable section

namespace Cert.Tokens

open Idealize.ShloMosaic

abbrev Cols (k n : ℕ) : Shape := ⟨2, ![k, n]⟩

/-- All keys of a batch entry: the latents' and after them the context's. -/
def rows {n : ℕ} (K : FVec Ideal (Cols 4096 n) .bf16) (C : FVec Ideal (Cols 256 n) .bf16) (j : Fin 4352) (d : Fin n) : EReal :=
  if h : j.val < 4096 then K (ix2 ⟨j, h⟩ d) else C (ix2 ⟨j - 4096, by omega⟩ d)

/-- The scratch: the values, and ones beside them. -/
def vals (A : FVec Ideal (Cols 4096 128) .bf16) (C : FVec Ideal (Cols 256 128) .bf16) : FVec Ideal (Cols 4352 256) .bf16 := fun y =>
  if h : (y 1).val < 128 then rows A C (y 0) ⟨(y 1).val, h⟩ else 1

theorem vals_val (A : FVec Ideal (Cols 4096 128) .bf16) (C : FVec Ideal (Cols 256 128) .bf16) (y : (Cols 4352 256).Idx) (j : Fin 4352) (d : Fin 128)
    (h0 : (y 0).val = j.val) (h1 : (y 1).val = d.val) : vals A C y = rows A C j d := by
  unfold vals
  rw [dif_pos (by omega)]
  exact congrArg₂ (rows A C) (Fin.ext h0) (Fin.ext h1)

theorem vals_one (A : FVec Ideal (Cols 4096 128) .bf16) (C : FVec Ideal (Cols 256 128) .bf16) (y : (Cols 4352 256).Idx)
    (h1 : (y 1).val = 128) : vals A C y = 1 := by
  unfold vals
  rw [dif_neg (by omega)]

theorem rows_lat {n : ℕ} (K : FVec Ideal (Cols 4096 n) .bf16) (C : FVec Ideal (Cols 256 n) .bf16) (y : (Cols 4096 n).Idx) (j : Fin 4352) (d : Fin n)
    (h0 : (y 0).val = j.val) (h1 : (y 1).val = d.val) : K y = rows K C j d := by
  have lt : j.val < 4096 := h0 ▸ (y 0).isLt
  have e0 : y 0 = ⟨j, lt⟩ := Fin.ext h0
  have e1 : y 1 = d := Fin.ext h1
  unfold rows
  rw [dif_pos lt, eq_ix2 y]
  exact congrArg K (congrArg₂ ix2 e0 e1)

theorem rows_ctx {n : ℕ} (K : FVec Ideal (Cols 4096 n) .bf16) (C : FVec Ideal (Cols 256 n) .bf16) (k : Fin 256) (d : Fin n) :
    C (ix2 k d) = rows K C ⟨4096 + k, by omega⟩ d := by
  unfold rows
  rw [dif_neg (by simp)]
  exact congrArg C (congrArg₂ ix2 (Fin.ext (by simp)) rfl)

/-- An entry of a query block, at its row and its column. -/
def row {n : ℕ} (Q : FVec Ideal (Cols 4096 n) .bf16) (i : Fin 4096) (e : Fin n) : EReal := Q (ix2 i e)

theorem row_at {n : ℕ} (Q : FVec Ideal (Cols 4096 n) .bf16) (y : (Cols 4096 n).Idx) (i : Fin 4096) (e : Fin n)
    (h0 : (y 0).val = i.val) (h1 : (y 1).val = e.val) : Q y = row Q i e := by
  have e0 : y 0 = i := Fin.ext h0
  have e1 : y 1 = e := Fin.ext h1
  rw [eq_ix2 y]
  exact congrArg Q (congrArg₂ ix2 e0 e1)

end Cert.Tokens
end
-- ==== Proof.Block.lean ====
/- What a grid point of the dense attention leaves in its output block. -/
module

public import proofs.«01_k».proof.Proof.Gen.KernelIdeal.Value
public import proofs.«01_k».proof.Proof.Tile
public import proofs.«01_k».proof.Proof.Tokens
public import Idealize.ShloMosaic.Lib.Pipeline.ReadBack

@[expose] public section

set_option maxRecDepth 16384

noncomputable section

namespace Cert.KernelIdeal.Value

open Cert.KernelIdeal Cert.KernelIdeal.Gen Cert.KernelIdeal.Facts Idealize.ShloMosaic Idealize.ShloMosaic.TcCoe Idealize.SL.Sem
open Idealize.ShloMosaic.Pipeline (Dat)
open Cert.Softmax Cert.Tokens

variable (m : (ℓ : Loc nD τ sig) → Buf (Elt Ideal) ℓ)

/-- The scores of a query tile against a key chunk, and against the last one. -/
def score (q : FVec Ideal S512x128 .bf16) (k : FVec Ideal S1024x128 .bf16) : FVec Ideal S512x1024 .f32 :=
  matmul dot_S512x128_S1024x128_S512x1024_1_1_0_0_n_n none q k (constant S512x1024 .f32 0x00000000#32)
def scoreL (q : FVec Ideal S512x128 .bf16) (k : FVec Ideal S256x128 .bf16) : FVec Ideal S512x256 .f32 :=
  matmul dot_S512x128_S256x128_S512x256_1_1_0_0_n_n none q k (constant S512x256 .f32 0x00000000#32)

theorem score_at (q : FVec Ideal S512x128 .bf16) (k : FVec Ideal S1024x128 .bf16) (i : Fin 512) (j : Fin 1024) :
    score q k (ix2 i j) = ∑ e : Fin 128, q (ix2 i e) * k (ix2 j e) := by pointwise [score]

theorem scoreL_at (q : FVec Ideal S512x128 .bf16) (k : FVec Ideal S256x128 .bf16) (i : Fin 512) (j : Fin 256) :
    scoreL q k (ix2 i j) = ∑ e : Fin 128, q (ix2 i e) * k (ix2 j e) := by pointwise [scoreL]

/-- One query tile against its five chunks. -/
def tile (q : FVec Ideal S512x128 .bf16) (k1 k2 k3 k4 : FVec Ideal S1024x128 .bf16) (k5 : FVec Ideal S256x128 .bf16)
    (w1 w2 w3 w4 : FVec Ideal S1024x256 .bf16) (w5 : FVec Ideal S256x256 .bf16) : FVec Ideal S512x128 .bf16 :=
  Tile.att (score q k1) (score q k2) (score q k3) (score q k4) (scoreL q k5) w1 w2 w3 w4 w5

theorem vals_canon (A : Vec Ideal S4096x128 .bf16) (C : Vec Ideal S256x128 .bf16) :
    View.canon (Val := Elt Ideal) (s := S4352x256) (e := .bf16)
      [⟨Rect.unit ![0, 128] ![4352, 128] inb_S4352x256_S4352x128_0_128, k0_pay4 (F := Ideal)⟩,
       ⟨Rect.unit ![4096, 0] ![256, 128] inb_S4352x256_S256x128_4096_0, k0_pay3 (F := Ideal) C⟩,
       ⟨Rect.unit ![0, 0] ![4096, 128] inb_S4352x256_S4096x128_0_0, k0_pay2 (F := Ideal) A⟩] = vals A C := by
  funext y
  canon_tiles x h using (by
    have y0 := (y 0).isLt
    have y1 := (y 1).isLt
    simp only [S4352x256, Matrix.cons_val_zero, Matrix.cons_val_one] at y0 y1
    by_cases c1 : (y 1).val < 128
    · by_cases c0 : (y 0).val < 4096
      · refine ⟨_, List.mem_cons_of_mem _ (List.mem_cons_of_mem _ List.mem_cons_self), ?_⟩
        exact (LoadRect.mem_set _).mpr fun a => by
          fin_cases a
          · exact ⟨(y 0).val, c0, by simp [Rect.unit]⟩
          · exact ⟨(y 1).val, c1, by simp [Rect.unit]⟩
      · refine ⟨_, List.mem_cons_of_mem _ List.mem_cons_self, ?_⟩
        exact (LoadRect.mem_set _).mpr fun a => by
          fin_cases a
          · exact ⟨(y 0).val - 4096, show _ < 256 by omega, by simp [Rect.unit]; omega⟩
          · exact ⟨(y 1).val, c1, by simp [Rect.unit]⟩
    · refine ⟨_, List.mem_cons_self, ?_⟩
      exact (LoadRect.mem_set _).mpr fun a => by
        fin_cases a
        · exact ⟨(y 0).val, y0, by simp [Rect.unit]⟩
        · exact ⟨(y 1).val - 128, show _ < 128 by omega, by simp [Rect.unit]; omega⟩)
  case piece0 =>
    unfold vals
    rw [dif_neg (by omega)]
    exact Ideal.ofBits_one_bf16
  case piece1 =>
    idx_vars x
    have e := vals_val A C y ⟨4096 + x0, by omega⟩ x1 h0 h1
    rw [e, ← rows_ctx]
    pointwise [k0_pay3]
  case piece2 =>
    idx_vars x
    have e := vals_val A C y ⟨x0, by omega⟩ x1 h0 h1
    rw [e, ← rows_lat A C (ix2 x0 x1) ⟨x0, by omega⟩ x1 rfl rfl]
    pointwise [k0_pay2]

theorem outs_at (c : Dev nD) (t : Fin cfg0.N) (y : S4096x128.Idx) (σ : Fin 4352 → ℝ)
    (hs : ∀ j, ∑ e : Fin 128, row (X0_0 m c t) (y 0) e * rows (X0_1 m c t) (iblk m c 3 t) j e = (σ j : EReal)) :
    outsAt0 m c t y = mix σ (fun j => rows (X0_2 m c t) (iblk m c 4 t) j (y 1)) * ((1 / tot σ : ℝ) : EReal) := by
  unfold outsAt0
  frame_out
  simp only [View.readCov_eq_canon', vals_canon]
  canon_tiles x h
  all_goals
    refine Eq.trans (b := tile _ _ _ _ _ _ _ _ _ _ _ x) rfl ?_
    idx_vars x
    refine Tile.att_row _ _ _ _ _ _ _ _ _ _ _ _ σ _ ?_ ?_ ?_ ?_ ?_ ?_ ?_ ?_ ?_ ?_ ?_ ?_ ?_ ?_ ?_ <;> intro k
    iterate 4
      · rw [score_at, ← hs]
        refine Finset.sum_congr rfl fun e _ => congrArg₂ (· * ·) (row_at _ _ _ _ ?_ ?_) (rows_lat _ _ _ _ _ ?_ ?_) <;> simp [LoadRect.idx, Rect.unit] <;> omega
    · rw [scoreL_at, ← hs]
      refine Finset.sum_congr rfl fun e _ => congrArg₂ (· * ·) (row_at _ _ _ _ ?_ ?_) (rows_ctx _ _ _ _) <;> simp [LoadRect.idx, Rect.unit] <;> omega
    iterate 5
      · refine vals_val _ _ _ _ _ ?_ ?_ <;> simp [LoadRect.idx, Rect.unit] <;> omega
    iterate 5
      · exact vals_one _ _ _ rfl

end Cert.KernelIdeal.Value
end
-- ==== Proof.Heads.lean ====
/- Grouped-query attention, row by row: what both programs compute, over the arrays of queries, keys and values. -/
module

public import proofs.«01_k».proof.Proof.Softmax
public import Idealize.ShloMosaic.Lib.Pipeline.ValueKit

@[expose] public section

noncomputable section

namespace Cert.Heads

open Idealize.ShloMosaic Cert.Softmax

/-- A projection's rows: the latents of four batch entries, 4096 each, and after them their contexts, 256 each. -/
abbrev Rows (n : Nat) : Shape := ⟨2, ![17408, n]⟩

/-- The row that holds token `j` of batch entry `b`. -/
def place (b : Fin 4) (j : Fin 4352) : Fin 17408 :=
  if j.val < 4096 then ⟨4096 * b + j, by omega⟩ else ⟨16384 + 256 * b + (j - 4096), by omega⟩

theorem place_lat (b : Fin 4) (j : Fin 4352) (h : j.val < 4096) : (place b j).val = 4096 * b.val + j.val := by
  unfold place; rw [if_pos h]

theorem place_ctx (b : Fin 4) (j : Fin 4352) (h : ¬ j.val < 4096) : (place b j).val = 16384 + 256 * b.val + (j.val - 4096) := by
  unfold place; rw [if_neg h]

/-- The score of latent row `r` against token `j` of its batch entry, in head `h`, whose key head is `h / 3`. -/
def logit (Q : FVec Ideal (Rows 768) .bf16) (K : FVec Ideal (Rows 256) .bf16) (r : Fin 16384) (h : Fin 6) (j : Fin 4352) : EReal :=
  ∑ e : Fin 128, Q (ix2 ⟨r, by omega⟩ ⟨128 * h + e, by omega⟩) * K (ix2 (place ⟨r / 4096, by omega⟩ j) ⟨128 * (h / 3) + e, by omega⟩)

/-- The value of token `j`, lane `d` of head `h`: the projection's columns from 1920 on. -/
def value (W : FVec Ideal (Rows 10240) .bf16) (r : Fin 16384) (h : Fin 6) (j : Fin 4352) (d : Fin 128) : EReal :=
  W (ix2 (place ⟨r / 4096, by omega⟩ j) ⟨1920 + 128 * (h / 3) + d, by omega⟩)

/-- The attention's result at row `r`, head `h`, lane `d`. -/
def attend (Q : FVec Ideal (Rows 768) .bf16) (K : FVec Ideal (Rows 256) .bf16) (W : FVec Ideal (Rows 10240) .bf16)
    (r : Fin 16384) (h : Fin 6) (d : Fin 128) : EReal :=
  mix (fun j => (logit Q K r h j).toReal) (fun j => value W r h j d) * ((1 / tot fun j => (logit Q K r h j).toReal : ℝ) : EReal)

/-- The array of results: head `h` in columns `128 h` to `128 h + 127`. -/
def result (Q : FVec Ideal (Rows 768) .bf16) (K : FVec Ideal (Rows 256) .bf16) (W : FVec Ideal (Rows 10240) .bf16) :
    FVec Ideal ⟨2, ![16384, 768]⟩ .bf16 := fun i =>
  attend Q K W (i 0) ⟨(i 1).val / 128, by have : (i 1).val < 768 := (i 1).isLt; omega⟩ ⟨(i 1).val % 128, by omega⟩

theorem result_at (Q : FVec Ideal (Rows 768) .bf16) (K : FVec Ideal (Rows 256) .bf16) (W : FVec Ideal (Rows 10240) .bf16)
    (i : (⟨2, ![16384, 768]⟩ : Shape).Idx) (r : Fin 16384) (h : Fin 6) (d : Fin 128) (h0 : (i 0).val = r.val)
    (h1 : (i 1).val = 128 * h.val + d.val) : result Q K W i = attend Q K W r h d := by
  unfold result
  have e0 : i 0 = r := Fin.ext h0
  have e1 : (⟨(i 1).val / 128, by have : (i 1).val < 768 := (i 1).isLt; omega⟩ : Fin 6) = h := Fin.ext (by simp only; omega)
  have e2 : (⟨(i 1).val % 128, by omega⟩ : Fin 128) = d := Fin.ext (by simp only; omega)
  rw [e1, e2]
  exact congrArg (attend Q K W · h d) e0

/-- A sum of products of reals is real. -/
theorem real_dot {n : Nat} (f g : Fin n → EReal) (hf : ∀ e, ∃ x : ℝ, f e = x) (hg : ∀ e, ∃ x : ℝ, g e = x) :
    ∑ e, f e * g e = ((∑ e, f e * g e).toReal : EReal) := by
  choose x hx using hf
  choose z hz using hg
  have e : ∑ e, f e * g e = ((∑ e, x e * z e : ℝ) : EReal) := by
    rw [coe_sum]
    exact Finset.sum_congr rfl fun e _ => by rw [hx, hz, EReal.coe_mul]
  rw [e, EReal.toReal_coe]

theorem logit_real (Q : FVec Ideal (Rows 768) .bf16) (K : FVec Ideal (Rows 256) .bf16) (hQ : ∀ (r : Fin 16384) c, ∃ x : ℝ, Q (ix2 ⟨r, by omega⟩ c) = x)
    (hK : ∀ i, ∃ x : ℝ, K i = x) (r : Fin 16384) (h : Fin 6) (j : Fin 4352) : logit Q K r h j = ((logit Q K r h j).toReal : EReal) :=
  real_dot _ _ (fun _ => hQ _ _) fun _ => hK _

end Cert.Heads
end
-- ==== Proof.Final.lean ====
/- The array the dense attention leaves. -/
module

public import proofs.«01_k».proof.Proof.Block
public import proofs.«01_k».proof.Proof.Heads

@[expose] public section

set_option maxRecDepth 16384

noncomputable section

namespace Cert.KernelIdeal.Value

open Cert.KernelIdeal Cert.KernelIdeal.Gen Cert.KernelIdeal.Facts Idealize.ShloMosaic Idealize.ShloMosaic.TcCoe Idealize.SL.Sem
open Idealize.ShloMosaic.Pipeline (Dat)
open Cert.Softmax Cert.Heads Cert.Tokens

variable (m : (ℓ : Loc nD τ sig) → Buf (Elt Ideal) ℓ)

/-- The grid: point `t` is batch entry `t / 6`, head `t % 6`. -/
theorem idx : ∀ t : Fin cfg0.N, win0_0.index t = ![t.val / 6, t.val % 6] ∧ win0_1.index t = ![t.val / 6, t.val % 6 / 3]
    ∧ win0_2.index t = ![t.val / 6, 15 + t.val % 6 / 3] ∧ win0_3.index t = ![64 + t.val / 6, t.val % 6 / 3]
    ∧ win0_4.index t = ![64 + t.val / 6, 15 + t.val % 6 / 3] ∧ win0_5.index t = ![t.val / 6, t.val % 6] :=
  (by decide +kernel : ∀ t : Fin grid0.N, _)

theorem lt24 (t : Fin cfg0.N) : t.val < 24 := lt_of_lt_of_eq t.isLt (by decide +kernel)

theorem x0_at (c : Dev nD) (t : Fin cfg0.N) (r : Fin 4096) (e : Fin 128) :
    (X0_0 m c t : FVec Ideal S4096x128 .bf16) (ix2 r e) = m ((c : Thread nD τ).loc main_arg0)
      (ix2 ⟨4096 * (t.val / 6) + r, by have := lt24 t; omega⟩ ⟨128 * (t.val % 6) + e, by omega⟩) := by
  have ht := lt24 t
  unfold X0_0 Pipeline.Window.fill
  rw [dif_pos (moved0_0 t _)]
  blk_point [iblk, V, idx t]

theorem x3_at (c : Dev nD) (t : Fin cfg0.N) (r : Fin 256) (e : Fin 128) :
    (iblk m c 3 t : FVec Ideal S256x128 .bf16) (ix2 r e) = m ((c : Thread nD τ).loc main_arg1)
      (ix2 ⟨16384 + 256 * (t.val / 6) + r, by have := lt24 t; omega⟩ ⟨128 * (t.val % 6 / 3) + e, by omega⟩) := by
  have ht := lt24 t
  blk_point [iblk, V, idx t]

theorem x4_at (c : Dev nD) (t : Fin cfg0.N) (r : Fin 256) (e : Fin 128) :
    (iblk m c 4 t : FVec Ideal S256x128 .bf16) (ix2 r e) = m ((c : Thread nD τ).loc main_arg2)
      (ix2 ⟨16384 + 256 * (t.val / 6) + r, by have := lt24 t; omega⟩ ⟨1920 + 128 * (t.val % 6 / 3) + e, by omega⟩) := by
  have ht := lt24 t
  blk_point [iblk, V, idx t]

theorem x1_at (c : Dev nD) (t : Fin cfg0.N) (r : Fin 4096) (e : Fin 128) :
    (X0_1 m c t : FVec Ideal S4096x128 .bf16) (ix2 r e) = m ((c : Thread nD τ).loc main_arg1)
      (ix2 ⟨4096 * (t.val / 6) + r, by have := lt24 t; omega⟩ ⟨128 * (t.val % 6 / 3) + e, by omega⟩) := by
  have ht := lt24 t
  unfold X0_1 Pipeline.Window.fill
  rw [dif_pos (moved0_1 t _)]
  blk_point [iblk, V, idx t]

theorem x2_at (c : Dev nD) (t : Fin cfg0.N) (r : Fin 4096) (e : Fin 128) :
    (X0_2 m c t : FVec Ideal S4096x128 .bf16) (ix2 r e) = m ((c : Thread nD τ).loc main_arg2)
      (ix2 ⟨4096 * (t.val / 6) + r, by have := lt24 t; omega⟩ ⟨1920 + 128 * (t.val % 6 / 3) + e, by omega⟩) := by
  have ht := lt24 t
  unfold X0_2 Pipeline.Window.fill
  rw [dif_pos (moved0_2 t _)]
  blk_point [iblk, V, idx t]

/-- The keys and the values a point holds are its batch entry's, in its key head's columns. -/
theorem keys_at (c : Dev nD) (t : Fin cfg0.N) (r : Fin 16384) (h : Fin 6) (hr : r.val / 4096 = t.val / 6) (hh : h.val = t.val % 6)
    (j : Fin 4352) (e : Fin 128) : rows (X0_1 m c t) (iblk m c 3 t) j e
      = m ((c : Thread nD τ).loc main_arg1) (ix2 (place ⟨r / 4096, by omega⟩ j) ⟨128 * (h / 3) + e, by omega⟩) := by
  unfold rows
  split
  · next hj =>
    rw [x1_at]
    refine congrArg _ (congrArg₂ ix2 (Fin.ext ?_) (Fin.ext ?_))
    · rw [place_lat _ _ hj]; simp only; omega
    · simp only; omega
  · next hj =>
    rw [x3_at]
    refine congrArg _ (congrArg₂ ix2 (Fin.ext ?_) (Fin.ext ?_))
    · rw [place_ctx _ _ hj]; simp only; omega
    · simp only; omega

theorem vals_at (c : Dev nD) (t : Fin cfg0.N) (r : Fin 16384) (h : Fin 6) (hr : r.val / 4096 = t.val / 6) (hh : h.val = t.val % 6)
    (j : Fin 4352) (d : Fin 128) : rows (X0_2 m c t) (iblk m c 4 t) j d = value (m ((c : Thread nD τ).loc main_arg2)) r h j d := by
  unfold rows value
  split
  · next hj =>
    rw [x2_at]
    refine congrArg _ (congrArg₂ ix2 (Fin.ext ?_) (Fin.ext ?_))
    · rw [place_lat _ _ hj]; simp only; omega
    · simp only; omega
  · next hj =>
    rw [x4_at]
    refine congrArg _ (congrArg₂ ix2 (Fin.ext ?_) (Fin.ext ?_))
    · rw [place_ctx _ _ hj]; simp only; omega
    · simp only; omega

/-- The array of results, from finite queries and keys. -/
theorem final (c : Dev nD) (hQ : ∀ (r : Fin 16384) e, ∃ x : ℝ, m ((c : Thread nD τ).loc main_arg0) (ix2 ⟨r, by omega⟩ e) = (x : EReal))
    (hK : ∀ i, ∃ x : ℝ, m ((c : Thread nD τ).loc main_arg1) i = (x : EReal)) :
    (dats m 0 c).arrAt 5 cfg0.N
      = result (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := lt24 t
  idx_vars y
  refine Eq.trans ?_ (result_at _ _ _ _ ⟨4096 * (t.val / 6) + y0.val, by omega⟩ ⟨t.val % 6, by omega⟩ y1 ?_ ?_).symm
  · blk_simp
    rw [after0_5, outs_at m c t _ (fun j => (logit (m ((c : Thread nD τ).loc main_arg0)) (m ((c : Thread nD τ).loc main_arg1))
      ⟨4096 * (t.val / 6) + y0.val, by omega⟩ ⟨t.val % 6, by omega⟩ j).toReal) fun j => ?_]
    · unfold attend
      refine congrArg (· * _) (congrArg (mix _) (funext fun j => ?_))
      exact vals_at m c t _ _ (by simp only; omega) rfl j y1
    · rw [← logit_real _ _ hQ hK]
      unfold logit
      refine Finset.sum_congr rfl fun e _ => congrArg₂ (· * ·) (x0_at m c t y0 e) ?_
      exact keys_at m c t _ _ (by simp only; omega) rfl j e
  all_goals
    blk_simp [idx t]
    dsimp only
    omega

end Cert.KernelIdeal.Value
end
-- ==== Proof.BlockB.lean ====
/- What a grid point of the second dense attention leaves in its output block. -/
module

public import proofs.«01_k».proof.Proof.Gen.AttentionBIdeal.Value
public import proofs.«01_k».proof.Proof.Tile
public import proofs.«01_k».proof.Proof.Tokens
public import Idealize.ShloMosaic.Lib.Pipeline.ReadBack

@[expose] public section

set_option maxRecDepth 16384

noncomputable section

namespace Cert.AttentionBIdeal.Value

open Cert.AttentionBIdeal Cert.AttentionBIdeal.Gen Cert.AttentionBIdeal.Facts Idealize.ShloMosaic Idealize.ShloMosaic.TcCoe Idealize.SL.Sem
open Idealize.ShloMosaic.Pipeline (Dat)
open Cert.Softmax Cert.Tokens

variable (m : (ℓ : Loc nD τ sig) → Buf (Elt Ideal) ℓ)

/-- The scores of a query tile against a key chunk, and against the last one. -/
def score (q : FVec Ideal S512x256 .bf16) (k : FVec Ideal S1024x256 .bf16) : FVec Ideal S512x1024 .f32 :=
  matmul dot_S512x256_S1024x256_S512x1024_1_1_0_0_n_n none q k (constant S512x1024 .f32 0x00000000#32)
def scoreL (q : FVec Ideal S512x256 .bf16) (k : FVec Ideal S256x256 .bf16) : FVec Ideal S512x256 .f32 :=
  matmul dot_S512x256_S256x256_S512x256_1_1_0_0_n_n none q k (constant S512x256 .f32 0x00000000#32)

theorem score_at (q : FVec Ideal S512x256 .bf16) (k : FVec Ideal S1024x256 .bf16) (i : Fin 512) (j : Fin 1024) :
    score q k (ix2 i j) = ∑ e : Fin 256, q (ix2 i e) * k (ix2 j e) := by pointwise [score]

theorem scoreL_at (q : FVec Ideal S512x256 .bf16) (k : FVec Ideal S256x256 .bf16) (i : Fin 512) (j : Fin 256) :
    scoreL q k (ix2 i j) = ∑ e : Fin 256, q (ix2 i e) * k (ix2 j e) := by pointwise [scoreL]

/-- One query tile against its five chunks. -/
def tile (q : FVec Ideal S512x256 .bf16) (k1 k2 k3 k4 : FVec Ideal S1024x256 .bf16) (k5 : FVec Ideal S256x256 .bf16)
    (w1 w2 w3 w4 : FVec Ideal S1024x256 .bf16) (w5 : FVec Ideal S256x256 .bf16) : FVec Ideal S512x128 .bf16 :=
  Tile.att (score q k1) (score q k2) (score q k3) (score q k4) (scoreL q k5) w1 w2 w3 w4 w5

theorem vals_canon (A : Vec Ideal S4096x128 .bf16) (C : Vec Ideal S256x128 .bf16) :
    View.canon (Val := Elt Ideal) (s := S4352x256) (e := .bf16)
      [⟨Rect.unit ![0, 128] ![4352, 128] inb_S4352x256_S4352x128_0_128, k0_pay4 (F := Ideal)⟩,
       ⟨Rect.unit ![4096, 0] ![256, 128] inb_S4352x256_S256x128_4096_0, k0_pay3 (F := Ideal) C⟩,
       ⟨Rect.unit ![0, 0] ![4096, 128] inb_S4352x256_S4096x128_0_0, k0_pay2 (F := Ideal) A⟩] = vals A C := by
  funext y
  canon_tiles x h using (by
    have y0 := (y 0).isLt
    have y1 := (y 1).isLt
    simp only [S4352x256, Matrix.cons_val_zero, Matrix.cons_val_one] at y0 y1
    by_cases c1 : (y 1).val < 128
    · by_cases c0 : (y 0).val < 4096
      · refine ⟨_, List.mem_cons_of_mem _ (List.mem_cons_of_mem _ List.mem_cons_self), ?_⟩
        exact (LoadRect.mem_set _).mpr fun a => by
          fin_cases a
          · exact ⟨(y 0).val, c0, by simp [Rect.unit]⟩
          · exact ⟨(y 1).val, c1, by simp [Rect.unit]⟩
      · refine ⟨_, List.mem_cons_of_mem _ List.mem_cons_self, ?_⟩
        exact (LoadRect.mem_set _).mpr fun a => by
          fin_cases a
          · exact ⟨(y 0).val - 4096, show _ < 256 by omega, by simp [Rect.unit]; omega⟩
          · exact ⟨(y 1).val, c1, by simp [Rect.unit]⟩
    · refine ⟨_, List.mem_cons_self, ?_⟩
      exact (LoadRect.mem_set _).mpr fun a => by
        fin_cases a
        · exact ⟨(y 0).val, y0, by simp [Rect.unit]⟩
        · exact ⟨(y 1).val - 128, show _ < 128 by omega, by simp [Rect.unit]; omega⟩)
  case piece0 =>
    unfold vals
    rw [dif_neg (by omega)]
    exact Ideal.ofBits_one_bf16
  case piece1 =>
    idx_vars x
    have e := vals_val A C y ⟨4096 + x0, by omega⟩ x1 h0 h1
    rw [e, ← rows_ctx]
    pointwise [k0_pay3]
  case piece2 =>
    idx_vars x
    have e := vals_val A C y ⟨x0, by omega⟩ x1 h0 h1
    rw [e, ← rows_lat A C (ix2 x0 x1) ⟨x0, by omega⟩ x1 rfl rfl]
    pointwise [k0_pay2]

theorem outs_at (c : Dev nD) (t : Fin cfg0.N) (y : S4096x128.Idx) (σ : Fin 4352 → ℝ)
    (hs : ∀ j, ∑ e : Fin 256, row (X0_0 m c t) (y 0) e * rows (X0_1 m c t) (iblk m c 3 t) j e = (σ j : EReal)) :
    outsAt0 m c t y = mix σ (fun j => rows (X0_2 m c t) (iblk m c 4 t) j (y 1)) * ((1 / tot σ : ℝ) : EReal) := by
  unfold outsAt0
  frame_out
  simp only [View.readCov_eq_canon', vals_canon]
  canon_tiles x h
  all_goals
    refine Eq.trans (b := tile _ _ _ _ _ _ _ _ _ _ _ x) rfl ?_
    idx_vars x
    refine Tile.att_row _ _ _ _ _ _ _ _ _ _ _ _ σ _ ?_ ?_ ?_ ?_ ?_ ?_ ?_ ?_ ?_ ?_ ?_ ?_ ?_ ?_ ?_ <;> intro k
    iterate 4
      · rw [score_at, ← hs]
        refine Finset.sum_congr rfl fun e _ => congrArg₂ (· * ·) (row_at _ _ _ _ ?_ ?_) (rows_lat _ _ _ _ _ ?_ ?_) <;> simp [LoadRect.idx, Rect.unit] <;> omega
    · rw [scoreL_at, ← hs]
      refine Finset.sum_congr rfl fun e _ => congrArg₂ (· * ·) (row_at _ _ _ _ ?_ ?_) (rows_ctx _ _ _ _) <;> simp [LoadRect.idx, Rect.unit] <;> omega
    iterate 5
      · refine vals_val _ _ _ _ _ ?_ ?_ <;> simp [LoadRect.idx, Rect.unit] <;> omega
    iterate 5
      · exact vals_one _ _ _ rfl

end Cert.AttentionBIdeal.Value
end
-- ==== Proof.HeadsB.lean ====
/- Attention with a key head for each query head, row by row: what both programs compute, over the arrays of queries, keys and values. -/
module

public import proofs.«01_k».proof.Proof.Heads

@[expose] public section

noncomputable section

namespace Cert.HeadsB

open Idealize.ShloMosaic Cert.Softmax Cert.Heads

/-- The score of latent row `r` against token `j` of its batch entry, in head `h`. -/
def logit (Q K : FVec Ideal (Rows 1280) .bf16) (r : Fin 16384) (h : Fin 5) (j : Fin 4352) : EReal :=
  ∑ e : Fin 256, Q (ix2 ⟨r, by omega⟩ ⟨256 * h + e, by omega⟩) * K (ix2 (place ⟨r / 4096, by omega⟩ j) ⟨256 * h + e, by omega⟩)

/-- The value of token `j`, lane `d` of head `h`. -/
def value (W : FVec Ideal (Rows 640) .bf16) (r : Fin 16384) (h : Fin 5) (j : Fin 4352) (d : Fin 128) : EReal :=
  W (ix2 (place ⟨r / 4096, by omega⟩ j) ⟨128 * h + d, by omega⟩)

/-- The attention's result at row `r`, head `h`, lane `d`. -/
def attend (Q K : FVec Ideal (Rows 1280) .bf16) (W : FVec Ideal (Rows 640) .bf16) (r : Fin 16384) (h : Fin 5) (d : Fin 128) : EReal :=
  mix (fun j => (logit Q K r h j).toReal) (fun j => value W r h j d) * ((1 / tot fun j => (logit Q K r h j).toReal : ℝ) : EReal)

/-- The array of results: head `h` in columns `128 h` to `128 h + 127`. -/
def result (Q K : FVec Ideal (Rows 1280) .bf16) (W : FVec Ideal (Rows 640) .bf16) : FVec Ideal ⟨2, ![16384, 640]⟩ .bf16 := fun i =>
  attend Q K W (i 0) ⟨(i 1).val / 128, by have : (i 1).val < 640 := (i 1).isLt; omega⟩ ⟨(i 1).val % 128, by omega⟩

theorem result_at (Q K : FVec Ideal (Rows 1280) .bf16) (W : FVec Ideal (Rows 640) .bf16) (i : (⟨2, ![16384, 640]⟩ : Shape).Idx) (r : Fin 16384) (h : Fin 5) (d : Fin 128)
    (h0 : (i 0).val = r.val) (h1 : (i 1).val = 128 * h.val + d.val) : result Q K W i = attend Q K W r h d := by
  unfold result
  have e0 : i 0 = r := Fin.ext h0
  have e1 : (⟨(i 1).val / 128, by have : (i 1).val < 640 := (i 1).isLt; omega⟩ : Fin 5) = h := Fin.ext (by simp only; omega)
  have e2 : (⟨(i 1).val % 128, by omega⟩ : Fin 128) = d := Fin.ext (by simp only; omega)
  rw [e1, e2]
  exact congrArg (attend Q K W · h d) e0

theorem logit_real (Q K : FVec Ideal (Rows 1280) .bf16) (hQ : ∀ (r : Fin 16384) c, ∃ x : ℝ, Q (ix2 ⟨r, by omega⟩ c) = x)
    (hK : ∀ i, ∃ x : ℝ, K i = x) (r : Fin 16384) (h : Fin 5) (j : Fin 4352) : logit Q K r h j = ((logit Q K r h j).toReal : EReal) :=
  real_dot _ _ (fun _ => hQ _ _) fun _ => hK _

end Cert.HeadsB
end
-- ==== Proof.FinalB.lean ====
/- The array the second dense attention leaves. -/
module

public import proofs.«01_k».proof.Proof.BlockB
public import proofs.«01_k».proof.Proof.HeadsB

@[expose] public section

set_option maxRecDepth 16384

noncomputable section

namespace Cert.AttentionBIdeal.Value

open Cert.AttentionBIdeal Cert.AttentionBIdeal.Gen Cert.AttentionBIdeal.Facts Idealize.ShloMosaic Idealize.ShloMosaic.TcCoe Idealize.SL.Sem
open Idealize.ShloMosaic.Pipeline (Dat)
open Cert.Heads (place place_lat place_ctx)
open Cert.Softmax Cert.HeadsB Cert.Tokens

variable (m : (ℓ : Loc nD τ sig) → Buf (Elt Ideal) ℓ)

/-- The grid: point `t` is batch entry `t / 5`, head `t % 5`. -/
theorem idx : ∀ t : Fin cfg0.N, win0_0.index t = ![t.val / 5, t.val % 5] ∧ win0_1.index t = ![t.val / 5, t.val % 5]
    ∧ win0_2.index t = ![t.val / 5, t.val % 5] ∧ win0_3.index t = ![64 + t.val / 5, t.val % 5]
    ∧ win0_4.index t = ![64 + t.val / 5, t.val % 5] ∧ win0_5.index t = ![t.val / 5, t.val % 5] :=
  (by decide +kernel : ∀ t : Fin grid0.N, _)

theorem lt20 (t : Fin cfg0.N) : t.val < 20 := lt_of_lt_of_eq t.isLt (by decide +kernel)

theorem x0_at (c : Dev nD) (t : Fin cfg0.N) (r : Fin 4096) (e : Fin 256) :
    (X0_0 m c t : FVec Ideal S4096x256 .bf16) (ix2 r e) = m ((c : Thread nD τ).loc main_arg0)
      (ix2 ⟨4096 * (t.val / 5) + r, by have := lt20 t; omega⟩ ⟨256 * (t.val % 5) + e, by omega⟩) := by
  have ht := lt20 t
  unfold X0_0 Pipeline.Window.fill
  rw [dif_pos (moved0_0 t _)]
  blk_point [iblk, V, idx t]

theorem x3_at (c : Dev nD) (t : Fin cfg0.N) (r : Fin 256) (e : Fin 256) :
    (iblk m c 3 t : FVec Ideal S256x256 .bf16) (ix2 r e) = m ((c : Thread nD τ).loc main_arg1)
      (ix2 ⟨16384 + 256 * (t.val / 5) + r, by have := lt20 t; omega⟩ ⟨256 * (t.val % 5) + e, by omega⟩) := by
  have ht := lt20 t
  blk_point [iblk, V, idx t]

theorem x4_at (c : Dev nD) (t : Fin cfg0.N) (r : Fin 256) (e : Fin 128) :
    (iblk m c 4 t : FVec Ideal S256x128 .bf16) (ix2 r e) = m ((c : Thread nD τ).loc main_arg2)
      (ix2 ⟨16384 + 256 * (t.val / 5) + r, by have := lt20 t; omega⟩ ⟨128 * (t.val % 5) + e, by omega⟩) := by
  have ht := lt20 t
  blk_point [iblk, V, idx t]

theorem x1_at (c : Dev nD) (t : Fin cfg0.N) (r : Fin 4096) (e : Fin 256) :
    (X0_1 m c t : FVec Ideal S4096x256 .bf16) (ix2 r e) = m ((c : Thread nD τ).loc main_arg1)
      (ix2 ⟨4096 * (t.val / 5) + r, by have := lt20 t; omega⟩ ⟨256 * (t.val % 5) + e, by omega⟩) := by
  have ht := lt20 t
  unfold X0_1 Pipeline.Window.fill
  rw [dif_pos (moved0_1 t _)]
  blk_point [iblk, V, idx t]

theorem x2_at (c : Dev nD) (t : Fin cfg0.N) (r : Fin 4096) (e : Fin 128) :
    (X0_2 m c t : FVec Ideal S4096x128 .bf16) (ix2 r e) = m ((c : Thread nD τ).loc main_arg2)
      (ix2 ⟨4096 * (t.val / 5) + r, by have := lt20 t; omega⟩ ⟨128 * (t.val % 5) + e, by omega⟩) := by
  have ht := lt20 t
  unfold X0_2 Pipeline.Window.fill
  rw [dif_pos (moved0_2 t _)]
  blk_point [iblk, V, idx t]

/-- The keys and the values a point holds are its batch entry's, in its key head's columns. -/
theorem keys_at (c : Dev nD) (t : Fin cfg0.N) (r : Fin 16384) (h : Fin 5) (hr : r.val / 4096 = t.val / 5) (hh : h.val = t.val % 5)
    (j : Fin 4352) (e : Fin 256) : rows (X0_1 m c t) (iblk m c 3 t) j e
      = m ((c : Thread nD τ).loc main_arg1) (ix2 (place ⟨r / 4096, by omega⟩ j) ⟨256 * h + e, by omega⟩) := by
  unfold rows
  split
  · next hj =>
    rw [x1_at]
    refine congrArg _ (congrArg₂ ix2 (Fin.ext ?_) (Fin.ext ?_))
    · rw [place_lat _ _ hj]; simp only; omega
    · simp only; omega
  · next hj =>
    rw [x3_at]
    refine congrArg _ (congrArg₂ ix2 (Fin.ext ?_) (Fin.ext ?_))
    · rw [place_ctx _ _ hj]; simp only; omega
    · simp only; omega

theorem vals_at (c : Dev nD) (t : Fin cfg0.N) (r : Fin 16384) (h : Fin 5) (hr : r.val / 4096 = t.val / 5) (hh : h.val = t.val % 5)
    (j : Fin 4352) (d : Fin 128) : rows (X0_2 m c t) (iblk m c 4 t) j d = value (m ((c : Thread nD τ).loc main_arg2)) r h j d := by
  unfold rows value
  split
  · next hj =>
    rw [x2_at]
    refine congrArg _ (congrArg₂ ix2 (Fin.ext ?_) (Fin.ext ?_))
    · rw [place_lat _ _ hj]; simp only; omega
    · simp only; omega
  · next hj =>
    rw [x4_at]
    refine congrArg _ (congrArg₂ ix2 (Fin.ext ?_) (Fin.ext ?_))
    · rw [place_ctx _ _ hj]; simp only; omega
    · simp only; omega

/-- The array of results, from finite queries and keys. -/
theorem final (c : Dev nD) (hQ : ∀ (r : Fin 16384) e, ∃ x : ℝ, m ((c : Thread nD τ).loc main_arg0) (ix2 ⟨r, by omega⟩ e) = (x : EReal))
    (hK : ∀ i, ∃ x : ℝ, m ((c : Thread nD τ).loc main_arg1) i = (x : EReal)) :
    (dats m 0 c).arrAt 5 cfg0.N
      = result (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := lt20 t
  idx_vars y
  refine Eq.trans ?_ (result_at _ _ _ _ ⟨4096 * (t.val / 5) + y0.val, by omega⟩ ⟨t.val % 5, by omega⟩ y1 ?_ ?_).symm
  · blk_simp
    rw [after0_5, outs_at m c t _ (fun j => (logit (m ((c : Thread nD τ).loc main_arg0)) (m ((c : Thread nD τ).loc main_arg1))
      ⟨4096 * (t.val / 5) + y0.val, by omega⟩ ⟨t.val % 5, by omega⟩ j).toReal) fun j => ?_]
    · unfold attend
      refine congrArg (· * _) (congrArg (mix _) (funext fun j => ?_))
      exact vals_at m c t _ _ (by simp only; omega) rfl j y1
    · rw [← logit_real _ _ hQ hK]
      unfold logit
      refine Finset.sum_congr rfl fun e _ => congrArg₂ (· * ·) (x0_at m c t y0 e) ?_
      exact keys_at m c t _ _ (by simp only; omega) rfl j e
  all_goals
    blk_simp [idx t]
    dsimp only
    omega

end Cert.AttentionBIdeal.Value
end
-- ==== Proof.Reference.lean ====
/- What the reference computes, entry by entry. -/
module

public import proofs.«01_k».proof.Proof.Gen.ReferenceIdeal.Run
public import proofs.«01_k».proof.Proof.Heads
public import Idealize.ShloMosaic.Lib.Pipeline.ValueKit

@[expose] public section

set_option maxRecDepth 16384

noncomputable section

namespace Cert.ReferenceIdeal.Value

open Cert.ReferenceIdeal Cert.ReferenceIdeal.Gen Cert.ReferenceIdeal.Facts Idealize.ShloMosaic Idealize.ShloMosaic.TcCoe Idealize.SL.Sem
open Cert.Softmax Cert.Heads

variable (m : (ℓ : Loc nD τ sig) → Buf (Elt Ideal) ℓ)

/-- The queries, head by head. -/
def heads (Q : FVec Ideal S17408x768 .bf16) : FVec Ideal S4x2x3x4096x128 .f32 :=
  transpose S4x2x3x4096x128 [0, 2, 3, 1, 4] (shapeCast _ (extractStridedSlice S16384x768 ![0, 0] (extf .f32 Q bitsLt_bf16_f32)
    slices_S17408x768_S16384x768_0_0) shapeCasts_S16384x768_S4x4096x2x3x128) transposes_S4x4096x2x3x128_S4x2x3x4096x128_0_2_3_1_4

/-- The keys, or the values, of every token, head by head. -/
def tokens (K : FVec Ideal S17408x256 .bf16) : FVec Ideal S4x2x4352x128 .f32 :=
  transpose S4x2x4352x128 [0, 2, 1, 3] (concatenate S4x4352x2x128 1
    [⟨S4x4096x2x128, shapeCast _ (extractStridedSlice S16384x256 ![0, 0] (extf .f32 K bitsLt_bf16_f32) slices_S17408x256_S16384x256_0_0) shapeCasts_S16384x256_S4x4096x2x128⟩,
     ⟨S4x256x2x128, shapeCast _ (extractStridedSlice S1024x256 ![16384, 0] (extf .f32 K bitsLt_bf16_f32) slices_S17408x256_S1024x256_16384_0) shapeCasts_S1024x256_S4x256x2x128⟩]
    concatenates_S4x4096x2x128_S4x256x2x128_S4x4352x2x128_d1) transposes_S4x4352x2x128_S4x2x4352x128_0_2_1_3

/-- The scores in natural logarithms. -/
def logits (q : FVec Ideal S4x2x3x4096x128 .f32) (k : FVec Ideal S4x2x4352x128 .f32) : FVec Ideal S4x2x3x4096x4352 .f32 :=
  mulf (Host.dotGeneral dot_S4x2x3x4096x128_S4x2x4352x128_S4x2x3x4096x4352_4_3_23_2_01_01 none q k)
    (broadcastInDim S4x2x3x4096x4352 ![] bcast_S_S4x2x3x4096x4352 (Host.log (constant S_ .f32 0x40000000#32)))

/-- A row's entry, at every token. -/
def along (a : FVec Ideal S4x2x3x4096 .f32) : FVec Ideal S4x2x3x4096x4352 .f32 :=
  broadcastInDim S4x2x3x4096x4352 ![0, 1, 2, 3, 4] bcast_S4x2x3x4096x1_S4x2x3x4096x4352_0_1_2_3_4
    (broadcastInDim S4x2x3x4096x1 ![0, 1, 2, 3] bcast_S4x2x3x4096_S4x2x3x4096x1_0_1_2_3 a)

/-- A row's largest score, and that bounded below by the word the maximum starts from. -/
def highest (s : FVec Ideal S4x2x3x4096x4352 .f32) : FVec Ideal S4x2x3x4096 .f32 :=
  Host.reduce FloatOps.maximumf s (constant S_ .f32 0xFF800000#32) reducesTo_S4x2x3x4096x4352_S4x2x3x4096_d4 h_S_
def peak (a : FVec Ideal S4x2x3x4096 .f32) : FVec Ideal S4x2x3x4096 .f32 :=
  maximumf (broadcastInDim S4x2x3x4096 ![] bcast_S_S4x2x3x4096 (constant S_ .f32 0xFF800000#32)) a

/-- A row's sum. -/
def total (s : FVec Ideal S4x2x3x4096x4352 .f32) : FVec Ideal S4x2x3x4096 .f32 :=
  Host.reduceAdd s (constant S_ .f32 0x00000000#32) reducesTo_S4x2x3x4096x4352_S4x2x3x4096_d4 h_S_

/-- The exponentials under the largest score, and their share of the row's sum. -/
def expo (s : FVec Ideal S4x2x3x4096x4352 .f32) : FVec Ideal S4x2x3x4096x4352 .f32 := Host.exp (subf s (along (peak (highest s))))
def share (s : FVec Ideal S4x2x3x4096x4352 .f32) : FVec Ideal S4x2x3x4096x4352 .f32 := Host.divf (expo s) (along (total (expo s)))

/-- The weighted values, and the array they are laid out in. -/
def blend (p : FVec Ideal S4x2x3x4096x4352 .f32) (v : FVec Ideal S4x2x4352x128 .f32) : FVec Ideal S4x2x3x4096x128 .f32 :=
  Host.dotGeneral dot_S4x2x3x4096x4352_S4x2x4352x128_S4x2x3x4096x128_4_2_23_3_01_01 none p v
def laid (o : FVec Ideal S4x2x3x4096x128 .f32) : FVec Ideal S16384x768 .bf16 :=
  truncf .bf16 (shapeCast _ (transpose S4x4096x2x3x128 [0, 3, 1, 2, 4] o transposes_S4x2x3x4096x128_S4x4096x2x3x128_0_3_1_2_4)
    shapeCasts_S4x4096x2x3x128_S16384x768) bitsLt_bf16_f32

/-- The values among the projection's columns. -/
def columns (W : FVec Ideal S17408x10240 .bf16) : FVec Ideal S17408x256 .bf16 :=
  extractStridedSlice S17408x256 ![0, 1920] W slices_S17408x10240_S17408x256_0_1920

theorem out_eq (c : Dev nD) : res_out0 m c = laid (blend (share (logits (heads (m ((c.tc : Thread nD τ).loc main_arg0))) (tokens (m ((c.tc : Thread nD τ).loc main_arg1)))))
    (tokens (columns (m ((c.tc : Thread nD τ).loc main_arg2))))) := rfl

theorem heads_at (Q : FVec Ideal S17408x768 .bf16) (b : Fin 4) (h : Fin 2) (g : Fin 3) (r : Fin 4096) (e : Fin 128) :
    heads Q (ix5 b h g r e) = Q (ix2 ⟨4096 * b + r, by omega⟩ ⟨128 * (3 * h + g) + e, by omega⟩) := by
  pointwise [heads]
  blk_ext

theorem tokens_at (K : FVec Ideal S17408x256 .bf16) (b : Fin 4) (h : Fin 2) (j : Fin 4352) (e : Fin 128) :
    tokens K (ix4 b h j e) = K (ix2 (place b j) ⟨128 * h + e, by omega⟩) := by
  pointwise [tokens]
  split
  · next hj => exact congrArg K (congrArg₂ ix2 (Fin.ext (by rw [place_lat _ _ hj]; simp only; omega)) (Fin.ext (by simp only; omega)))
  · next hj => exact congrArg K (congrArg₂ ix2 (Fin.ext (by rw [place_ctx _ _ hj]; simp only; omega)) (Fin.ext (by simp only; omega)))

theorem logits_at (q : FVec Ideal S4x2x3x4096x128 .f32) (k : FVec Ideal S4x2x4352x128 .f32) (b : Fin 4) (h : Fin 2) (g : Fin 3) (r : Fin 4096) (j : Fin 4352) :
    logits q k (ix5 b h g r j) = (∑ e : Fin 128, q (ix5 b h g r e) * k (ix4 b h j e)) * (Real.log 2 : ℝ) := by
  pointwise [logits]
  rw [log_two_f32]

theorem highest_at (s : FVec Ideal S4x2x3x4096x4352 .f32) (b : Fin 4) (h : Fin 2) (g : Fin 3) (r : Fin 4096) :
    highest s (ix4 b h g r) = Finset.univ.fold max (⊥ : EReal) (fun j : Fin 4352 => s (ix5 b h g r j)) := by
  pointwise [highest]
  rw [show Ideal.ofBits .f32 4286578688#32 = ⊥ from negInf_f32]

theorem peak_at (a : FVec Ideal S4x2x3x4096 .f32) (i : S4x2x3x4096.Idx) : peak a i = a i := by
  pointwise [peak]
  rw [show Ideal.ofBits .f32 4286578688#32 = ⊥ from negInf_f32]
  exact max_eq_right bot_le

theorem total_at (s : FVec Ideal S4x2x3x4096x4352 .f32) (b : Fin 4) (h : Fin 2) (g : Fin 3) (r : Fin 4096) :
    total s (ix4 b h g r) = ∑ j : Fin 4352, s (ix5 b h g r j) := by
  pointwise [total]

theorem share_at (s : FVec Ideal S4x2x3x4096x4352 .f32) (b : Fin 4) (h : Fin 2) (g : Fin 3) (r : Fin 4096) (j : Fin 4352) :
    share s (ix5 b h g r j) = Ideal.div (expo s (ix5 b h g r j)) (total (expo s) (ix4 b h g r)) := by
  pointwise [share, along]

theorem expo_at (s : FVec Ideal S4x2x3x4096x4352 .f32) (b : Fin 4) (h : Fin 2) (g : Fin 3) (r : Fin 4096) (j : Fin 4352) :
    expo s (ix5 b h g r j) = Ideal.exp (s (ix5 b h g r j) - peak (highest s) (ix4 b h g r)) := by
  pointwise [expo, along]

theorem blend_at (p : FVec Ideal S4x2x3x4096x4352 .f32) (v : FVec Ideal S4x2x4352x128 .f32) (b : Fin 4) (h : Fin 2) (g : Fin 3) (r : Fin 4096) (d : Fin 128) :
    blend p v (ix5 b h g r d) = ∑ j : Fin 4352, p (ix5 b h g r j) * v (ix4 b h j d) := by
  pointwise [blend]

theorem laid_at (o : FVec Ideal S4x2x3x4096x128 .f32) (r : Fin 16384) (c : Fin 768) :
    laid o (ix2 r c) = o (ix5 ⟨r / 4096, by omega⟩ ⟨c / 384, by omega⟩ ⟨c % 384 / 128, by omega⟩ ⟨r % 4096, by omega⟩ ⟨c % 128, by omega⟩) := by
  pointwise [laid]
  blk_ext

/-- A row of real scores: the softmax's weighted values. -/
theorem row_at (S : FVec Ideal S4x2x3x4096x4352 .f32) (V : FVec Ideal S4x2x4352x128 .f32) (b : Fin 4) (h : Fin 2) (g : Fin 3) (r : Fin 4096) (d : Fin 128)
    (σ : Fin 4352 → ℝ) (hS : ∀ j, S (ix5 b h g r j) = (σ j : EReal) * (Real.log 2 : ℝ)) :
    blend (share S) V (ix5 b h g r d) = mix σ (fun j => V (ix4 b h j d)) * ((1 / tot σ : ℝ) : EReal) := by
  obtain ⟨M, hM⟩ := fold_max_real Finset.univ Finset.univ_nonempty (fun j => σ j * Real.log 2)
  rw [blend_at, ← soft_eq σ _ M]
  refine Finset.sum_congr rfl fun j _ => ?_
  simp only [share_at, total_at, expo_at, peak_at, highest_at, hS, ← EReal.coe_mul, hM]

theorem out_at (c : Dev nD) (hQ : ∀ (r : Fin 16384) e, ∃ x : ℝ, m ((c.tc : Thread nD τ).loc main_arg0) (ix2 ⟨r, by omega⟩ e) = (x : EReal))
    (hK : ∀ i, ∃ x : ℝ, m ((c.tc : Thread nD τ).loc main_arg1) i = (x : EReal)) :
    res_out0 m c = result (m ((c.tc : Thread nD τ).loc main_arg0)) (m ((c.tc : Thread nD τ).loc main_arg1)) (m ((c.tc : Thread nD τ).loc main_arg2)) := by
  rw [out_eq]
  funext i
  idx_vars i
  rw [laid_at, result_at _ _ _ _ i0 ⟨i1 / 128, by omega⟩ ⟨i1 % 128, by omega⟩ rfl (by simp only [ix2]; omega),
    row_at _ _ _ _ _ _ _ (fun j => (logit (m ((c.tc : Thread nD τ).loc main_arg0)) (m ((c.tc : Thread nD τ).loc main_arg1)) i0 ⟨i1 / 128, by omega⟩ j).toReal)]
  · unfold attend
    refine congrArg (· * _) (congrArg (mix _) (funext fun j => ?_))
    rw [tokens_at]
    unfold value
    pointwise [columns]
    blk_ext
  · intro j
    rw [logits_at, ← logit_real _ _ hQ hK]
    refine congrArg (· * _) (Finset.sum_congr rfl fun e _ => congrArg₂ (· * ·) ?_ ?_)
    · rw [heads_at]; exact congrArg _ (congrArg₂ ix2 (Fin.ext (by simp only; omega)) (Fin.ext (by simp only; omega)))
    · rw [tokens_at]; exact congrArg _ (congrArg₂ ix2 rfl (Fin.ext (by simp only; omega)))

end Cert.ReferenceIdeal.Value
end
-- ==== Proof.ReferenceB.lean ====
/- What the second attention's reference computes, entry by entry. -/
module

public import proofs.«01_k».proof.Proof.Gen.RefAttentionBIdeal.Run
public import proofs.«01_k».proof.Proof.HeadsB
public import Idealize.ShloMosaic.Lib.Pipeline.ValueKit

@[expose] public section

set_option maxRecDepth 16384

noncomputable section

namespace Cert.RefAttentionBIdeal.Value

open Cert.RefAttentionBIdeal Cert.RefAttentionBIdeal.Gen Cert.RefAttentionBIdeal.Facts Idealize.ShloMosaic Idealize.ShloMosaic.TcCoe Idealize.SL.Sem
open Cert.Heads (place place_lat place_ctx)
open Cert.Softmax Cert.HeadsB

variable (m : (ℓ : Loc nD τ sig) → Buf (Elt Ideal) ℓ)

/-- The queries, head by head. -/
def heads (Q : FVec Ideal S17408x1280 .bf16) : FVec Ideal S4x5x4096x256 .f32 :=
  transpose S4x5x4096x256 [0, 2, 1, 3] (shapeCast _ (extractStridedSlice S16384x1280 ![0, 0] (extf .f32 Q bitsLt_bf16_f32)
    slices_S17408x1280_S16384x1280_0_0) shapeCasts_S16384x1280_S4x4096x5x256) transposes_S4x4096x5x256_S4x5x4096x256_0_2_1_3

/-- The keys of every token, head by head. -/
def keys (K : FVec Ideal S17408x1280 .bf16) : FVec Ideal S4x5x4352x256 .f32 :=
  transpose S4x5x4352x256 [0, 2, 1, 3] (concatenate S4x4352x5x256 1
    [⟨S4x4096x5x256, shapeCast _ (extractStridedSlice S16384x1280 ![0, 0] (extf .f32 K bitsLt_bf16_f32) slices_S17408x1280_S16384x1280_0_0) shapeCasts_S16384x1280_S4x4096x5x256⟩,
     ⟨S4x256x5x256, shapeCast _ (extractStridedSlice S1024x1280 ![16384, 0] (extf .f32 K bitsLt_bf16_f32) slices_S17408x1280_S1024x1280_16384_0) shapeCasts_S1024x1280_S4x256x5x256⟩]
    concatenates_S4x4096x5x256_S4x256x5x256_S4x4352x5x256_d1) transposes_S4x4352x5x256_S4x5x4352x256_0_2_1_3

/-- The values of every token, head by head. -/
def values (W : FVec Ideal S17408x640 .bf16) : FVec Ideal S4x5x4352x128 .f32 :=
  transpose S4x5x4352x128 [0, 2, 1, 3] (concatenate S4x4352x5x128 1
    [⟨S4x4096x5x128, shapeCast _ (extractStridedSlice S16384x640 ![0, 0] (extf .f32 W bitsLt_bf16_f32) slices_S17408x640_S16384x640_0_0) shapeCasts_S16384x640_S4x4096x5x128⟩,
     ⟨S4x256x5x128, shapeCast _ (extractStridedSlice S1024x640 ![16384, 0] (extf .f32 W bitsLt_bf16_f32) slices_S17408x640_S1024x640_16384_0) shapeCasts_S1024x640_S4x256x5x128⟩]
    concatenates_S4x4096x5x128_S4x256x5x128_S4x4352x5x128_d1) transposes_S4x4352x5x128_S4x5x4352x128_0_2_1_3

/-- The scores in natural logarithms. -/
def logits (q : FVec Ideal S4x5x4096x256 .f32) (k : FVec Ideal S4x5x4352x256 .f32) : FVec Ideal S4x5x4096x4352 .f32 :=
  mulf (Host.dotGeneral dot_S4x5x4096x256_S4x5x4352x256_S4x5x4096x4352_3_3_2_2_01_01 none q k)
    (broadcastInDim S4x5x4096x4352 ![] bcast_S_S4x5x4096x4352 (Host.log (constant S_ .f32 0x40000000#32)))

/-- A row's entry, at every token. -/
def along (a : FVec Ideal S4x5x4096 .f32) : FVec Ideal S4x5x4096x4352 .f32 :=
  broadcastInDim S4x5x4096x4352 ![0, 1, 2, 3] bcast_S4x5x4096x1_S4x5x4096x4352_0_1_2_3
    (broadcastInDim S4x5x4096x1 ![0, 1, 2] bcast_S4x5x4096_S4x5x4096x1_0_1_2 a)

/-- A row's largest score, and that bounded below by the word the maximum starts from. -/
def highest (s : FVec Ideal S4x5x4096x4352 .f32) : FVec Ideal S4x5x4096 .f32 :=
  Host.reduce FloatOps.maximumf s (constant S_ .f32 0xFF800000#32) reducesTo_S4x5x4096x4352_S4x5x4096_d3 h_S_
def peak (a : FVec Ideal S4x5x4096 .f32) : FVec Ideal S4x5x4096 .f32 :=
  maximumf (broadcastInDim S4x5x4096 ![] bcast_S_S4x5x4096 (constant S_ .f32 0xFF800000#32)) a

/-- A row's sum. -/
def total (s : FVec Ideal S4x5x4096x4352 .f32) : FVec Ideal S4x5x4096 .f32 :=
  Host.reduceAdd s (constant S_ .f32 0x00000000#32) reducesTo_S4x5x4096x4352_S4x5x4096_d3 h_S_

/-- The exponentials under the largest score, and their share of the row's sum. -/
def expo (s : FVec Ideal S4x5x4096x4352 .f32) : FVec Ideal S4x5x4096x4352 .f32 := Host.exp (subf s (along (peak (highest s))))
def share (s : FVec Ideal S4x5x4096x4352 .f32) : FVec Ideal S4x5x4096x4352 .f32 := Host.divf (expo s) (along (total (expo s)))

/-- The weighted values, and the array they are laid out in. -/
def blend (p : FVec Ideal S4x5x4096x4352 .f32) (v : FVec Ideal S4x5x4352x128 .f32) : FVec Ideal S4x5x4096x128 .f32 :=
  Host.dotGeneral dot_S4x5x4096x4352_S4x5x4352x128_S4x5x4096x128_3_2_2_3_01_01 none p v
def laid (o : FVec Ideal S4x5x4096x128 .f32) : FVec Ideal S16384x640 .bf16 :=
  truncf .bf16 (shapeCast _ (transpose S4x4096x5x128 [0, 2, 1, 3] o transposes_S4x5x4096x128_S4x4096x5x128_0_2_1_3)
    shapeCasts_S4x4096x5x128_S16384x640) bitsLt_bf16_f32

theorem out_eq (c : Dev nD) : res_out0 m c = laid (blend (share (logits (heads (m ((c.tc : Thread nD τ).loc main_arg0))) (keys (m ((c.tc : Thread nD τ).loc main_arg1)))))
    (values (m ((c.tc : Thread nD τ).loc main_arg2)))) := rfl

theorem heads_at (Q : FVec Ideal S17408x1280 .bf16) (b : Fin 4) (h : Fin 5) (r : Fin 4096) (e : Fin 256) :
    heads Q (ix4 b h r e) = Q (ix2 ⟨4096 * b + r, by omega⟩ ⟨256 * h + e, by omega⟩) := by
  pointwise [heads]
  blk_ext

theorem keys_at (K : FVec Ideal S17408x1280 .bf16) (b : Fin 4) (h : Fin 5) (j : Fin 4352) (e : Fin 256) :
    keys K (ix4 b h j e) = K (ix2 (place b j) ⟨256 * h + e, by omega⟩) := by
  pointwise [keys]
  split
  · next hj => exact congrArg K (congrArg₂ ix2 (Fin.ext (by rw [place_lat _ _ hj]; simp only; omega)) (Fin.ext (by simp only; omega)))
  · next hj => exact congrArg K (congrArg₂ ix2 (Fin.ext (by rw [place_ctx _ _ hj]; simp only; omega)) (Fin.ext (by simp only; omega)))

theorem values_at (W : FVec Ideal S17408x640 .bf16) (b : Fin 4) (h : Fin 5) (j : Fin 4352) (d : Fin 128) :
    values W (ix4 b h j d) = W (ix2 (place b j) ⟨128 * h + d, by omega⟩) := by
  pointwise [values]
  split
  · next hj => exact congrArg W (congrArg₂ ix2 (Fin.ext (by rw [place_lat _ _ hj]; simp only; omega)) (Fin.ext (by simp only; omega)))
  · next hj => exact congrArg W (congrArg₂ ix2 (Fin.ext (by rw [place_ctx _ _ hj]; simp only; omega)) (Fin.ext (by simp only; omega)))

theorem logits_at (q : FVec Ideal S4x5x4096x256 .f32) (k : FVec Ideal S4x5x4352x256 .f32) (b : Fin 4) (h : Fin 5) (r : Fin 4096) (j : Fin 4352) :
    logits q k (ix4 b h r j) = (∑ e : Fin 256, q (ix4 b h r e) * k (ix4 b h j e)) * (Real.log 2 : ℝ) := by
  pointwise [logits]
  rw [log_two_f32]

theorem highest_at (s : FVec Ideal S4x5x4096x4352 .f32) (b : Fin 4) (h : Fin 5) (r : Fin 4096) :
    highest s (ix3 b h r) = Finset.univ.fold max (⊥ : EReal) (fun j : Fin 4352 => s (ix4 b h r j)) := by
  pointwise [highest]
  rw [show Ideal.ofBits .f32 4286578688#32 = ⊥ from negInf_f32]

theorem peak_at (a : FVec Ideal S4x5x4096 .f32) (i : S4x5x4096.Idx) : peak a i = a i := by
  pointwise [peak]
  rw [show Ideal.ofBits .f32 4286578688#32 = ⊥ from negInf_f32]
  exact max_eq_right bot_le

theorem total_at (s : FVec Ideal S4x5x4096x4352 .f32) (b : Fin 4) (h : Fin 5) (r : Fin 4096) :
    total s (ix3 b h r) = ∑ j : Fin 4352, s (ix4 b h r j) := by
  pointwise [total]

theorem share_at (s : FVec Ideal S4x5x4096x4352 .f32) (b : Fin 4) (h : Fin 5) (r : Fin 4096) (j : Fin 4352) :
    share s (ix4 b h r j) = Ideal.div (expo s (ix4 b h r j)) (total (expo s) (ix3 b h r)) := by
  pointwise [share, along]

theorem expo_at (s : FVec Ideal S4x5x4096x4352 .f32) (b : Fin 4) (h : Fin 5) (r : Fin 4096) (j : Fin 4352) :
    expo s (ix4 b h r j) = Ideal.exp (s (ix4 b h r j) - peak (highest s) (ix3 b h r)) := by
  pointwise [expo, along]

theorem blend_at (p : FVec Ideal S4x5x4096x4352 .f32) (v : FVec Ideal S4x5x4352x128 .f32) (b : Fin 4) (h : Fin 5) (r : Fin 4096) (d : Fin 128) :
    blend p v (ix4 b h r d) = ∑ j : Fin 4352, p (ix4 b h r j) * v (ix4 b h j d) := by
  pointwise [blend]

theorem laid_at (o : FVec Ideal S4x5x4096x128 .f32) (r : Fin 16384) (c : Fin 640) :
    laid o (ix2 r c) = o (ix4 ⟨r / 4096, by omega⟩ ⟨c / 128, by omega⟩ ⟨r % 4096, by omega⟩ ⟨c % 128, by omega⟩) := by
  pointwise [laid]
  blk_ext

/-- A row of real scores: the softmax's weighted values. -/
theorem row_at (S : FVec Ideal S4x5x4096x4352 .f32) (V : FVec Ideal S4x5x4352x128 .f32) (b : Fin 4) (h : Fin 5) (r : Fin 4096) (d : Fin 128)
    (σ : Fin 4352 → ℝ) (hS : ∀ j, S (ix4 b h r j) = (σ j : EReal) * (Real.log 2 : ℝ)) :
    blend (share S) V (ix4 b h r d) = mix σ (fun j => V (ix4 b h j d)) * ((1 / tot σ : ℝ) : EReal) := by
  obtain ⟨M, hM⟩ := fold_max_real Finset.univ Finset.univ_nonempty (fun j => σ j * Real.log 2)
  rw [blend_at, ← soft_eq σ _ M]
  refine Finset.sum_congr rfl fun j _ => ?_
  simp only [share_at, total_at, expo_at, peak_at, highest_at, hS, ← EReal.coe_mul, hM]

theorem out_at (c : Dev nD) (hQ : ∀ (r : Fin 16384) e, ∃ x : ℝ, m ((c.tc : Thread nD τ).loc main_arg0) (ix2 ⟨r, by omega⟩ e) = (x : EReal))
    (hK : ∀ i, ∃ x : ℝ, m ((c.tc : Thread nD τ).loc main_arg1) i = (x : EReal)) :
    res_out0 m c = result (m ((c.tc : Thread nD τ).loc main_arg0)) (m ((c.tc : Thread nD τ).loc main_arg1)) (m ((c.tc : Thread nD τ).loc main_arg2)) := by
  rw [out_eq]
  funext i
  idx_vars i
  rw [laid_at, result_at _ _ _ _ i0 ⟨i1 / 128, by omega⟩ ⟨i1 % 128, by omega⟩ rfl (by simp only [ix2]; omega),
    row_at _ _ _ _ _ _ (fun j => (logit (m ((c.tc : Thread nD τ).loc main_arg0)) (m ((c.tc : Thread nD τ).loc main_arg1)) i0 ⟨i1 / 128, by omega⟩ j).toReal)]
  · unfold attend
    refine congrArg (· * _) (congrArg (mix _) (funext fun j => ?_))
    rw [values_at]
    rfl
  · intro j
    rw [logits_at, ← logit_real _ _ hQ hK]
    refine congrArg (· * _) (Finset.sum_congr rfl fun e _ => congrArg₂ (· * ·) ?_ ?_)
    · rw [heads_at]; exact congrArg _ (congrArg₂ ix2 (Fin.ext (by simp only; omega)) rfl)
    · rw [keys_at]

end Cert.RefAttentionBIdeal.Value
end
-- ==== Proof.Finite.lean ====
/- The precondition, read: every query entry of a latent row and every key entry is a real number. -/
module

public import proofs.«01_k».proof.Pre_finite_scores
public import proofs.«01_k».proof.Proof.Heads
public import Idealize.ShloMosaic.Lib.ReduceAll
public import Idealize.ShloMosaic.Lib.Affine
public import Idealize.ShloMosaic.Lib.Pipeline.ValueKit

@[expose] public section

noncomputable section

namespace Cert.Pre_finite_scores

open Idealize.ShloMosaic Facts

/-- The side conditions of the precondition's operations. -/
theorem facts : Cert.Pre_finite_scores.Facts where
  slices_S17408x768_S16384x768_0_0 := by decide
  bcast_S_S16384x768 := by decide
  reducesTo_S16384x768_S_d0_1 := by decide
  h_S_ := by decide
  bcast_S_S17408x256 := by decide
  reducesTo_S17408x256_S_d0_1 := by decide

/-- A conjunction of two bits holds only if both do. -/
theorem both : ∀ a b : BitVec 1, a &&& b = 1#1 → a = 1#1 ∧ b = 1#1 := by decide

/-- The word a magnitude is compared with. -/
theorem inf_bf16 : Ideal.ofBits .bf16 0x7F80#16 = ⊤ := by simp [Ideal.ofBits, Ideal.ieee]

/-- A number whose magnitude is below that word is real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

variable [Facts] (Q : FVec Ideal S17408x768 .bf16) (K : FVec Ideal S17408x256 .bf16) (W : FVec Ideal S17408x10240 .bf16)

theorem split (h : fn Q K W = fun _ => 1#1) :
    (∀ i, cmpf .olt (Host.absf (extractStridedSlice S16384x768 ![0, 0] Q slices_S17408x768_S16384x768_0_0)) (broadcastInDim S16384x768 ![] bcast_S_S16384x768 (constant S_ .bf16 0x7F80#16)) i = 1#1)
      ∧ ∀ i, cmpf .olt (Host.absf K) (broadcastInDim S17408x256 ![] bcast_S_S17408x256 (constant S_ .bf16 0x7F80#16)) i = 1#1 := by
  have e := congrFun h (fun a => a.elim0)
  dsimp only [fn] at e
  have e' := both _ _ e
  haveI : Subsingleton S_.Idx := ⟨fun a b => funext fun i => i.elim0⟩
  exact ⟨Host.reduce_andi_all _ _ _ _ _ e'.1, Host.reduce_andi_all _ _ _ _ _ e'.2⟩

theorem queries (h : fn Q K W = fun _ => 1#1) (r : Fin 16384) (e : Fin 768) : ∃ x : ℝ, Q (ix2 ⟨r, by omega⟩ e) = (x : EReal) := by
  refine real_of_abs_lt _ ?_
  rw [← inf_bf16]
  refine Eq.trans ?_ ((split Q K W h).1 (ix2 r e))
  pointwise []
  rfl

theorem keys (h : fn Q K W = fun _ => 1#1) (i : S17408x256.Idx) : ∃ x : ℝ, K i = (x : EReal) := by
  refine real_of_abs_lt _ ?_
  rw [← inf_bf16]
  exact (split Q K W h).2 i

end Cert.Pre_finite_scores
end
-- ==== Proof.FiniteB.lean ====
/- The second precondition, read: every query entry of a latent row and every key entry is a real number. -/
module

public import proofs.«01_k».proof.Pre_finite_scores_b
public import proofs.«01_k».proof.Proof.Finite
public import Idealize.ShloMosaic.Lib.ReduceAll
public import Idealize.ShloMosaic.Lib.Affine
public import Idealize.ShloMosaic.Lib.Pipeline.ValueKit

@[expose] public section

noncomputable section

namespace Cert.Pre_finite_scores_b

open Idealize.ShloMosaic Facts
open Cert.Pre_finite_scores (both inf_bf16 real_of_abs_lt)

/-- The side conditions of the precondition's operations. -/
theorem facts : Cert.Pre_finite_scores_b.Facts where
  slices_S17408x1280_S16384x1280_0_0 := by decide
  bcast_S_S16384x1280 := by decide
  reducesTo_S16384x1280_S_d0_1 := by decide
  h_S_ := by decide
  bcast_S_S17408x1280 := by decide
  reducesTo_S17408x1280_S_d0_1 := by decide

variable [Facts] (Q : FVec Ideal S17408x1280 .bf16) (K : FVec Ideal S17408x1280 .bf16) (W : FVec Ideal S17408x640 .bf16)

theorem split (h : fn Q K W = fun _ => 1#1) :
    (∀ i, cmpf .olt (Host.absf (extractStridedSlice S16384x1280 ![0, 0] Q slices_S17408x1280_S16384x1280_0_0)) (broadcastInDim S16384x1280 ![] bcast_S_S16384x1280 (constant S_ .bf16 0x7F80#16)) i = 1#1)
      ∧ ∀ i, cmpf .olt (Host.absf K) (broadcastInDim S17408x1280 ![] bcast_S_S17408x1280 (constant S_ .bf16 0x7F80#16)) i = 1#1 := by
  have e := congrFun h (fun a => a.elim0)
  dsimp only [fn] at e
  have e' := both _ _ e
  haveI : Subsingleton S_.Idx := ⟨fun a b => funext fun i => i.elim0⟩
  exact ⟨Host.reduce_andi_all _ _ _ _ _ e'.1, Host.reduce_andi_all _ _ _ _ _ e'.2⟩

theorem queries (h : fn Q K W = fun _ => 1#1) (r : Fin 16384) (e : Fin 1280) : ∃ x : ℝ, Q (ix2 ⟨r, by omega⟩ e) = (x : EReal) := by
  refine real_of_abs_lt _ ?_
  rw [← inf_bf16]
  refine Eq.trans ?_ ((split Q K W h).1 (ix2 r e))
  pointwise []
  rfl

theorem keys (h : fn Q K W = fun _ => 1#1) (i : S17408x1280.Idx) : ∃ x : ℝ, K i = (x : EReal) := by
  refine real_of_abs_lt _ ?_
  rw [← inf_bf16]
  exact (split Q K W h).2 i

end Cert.Pre_finite_scores_b
end
-- ==== Proof.PairAttention.lean ====
/- The two attention calls write what their references compute. -/
module

public import proofs.«01_k».proof.Defs
public import proofs.«01_k».proof.Proof.Final
public import proofs.«01_k».proof.Proof.FinalB
public import proofs.«01_k».proof.Proof.Reference
public import proofs.«01_k».proof.Proof.ReferenceB
public import proofs.«01_k».proof.Proof.Finite
public import proofs.«01_k».proof.Proof.FiniteB

@[expose] public section

set_option maxRecDepth 16384

noncomputable section

namespace Cert.Pairs

open Idealize.ShloMosaic Idealize.SL.Sem

/-- The grouped-query attention. -/
theorem attention [Cert.Pre_finite_scores.Facts] : Cert.algebraic_KernelIdeal_ReferenceIdeal_pre_finite_scores := by
  pair_intro
  · run_from Cert.KernelIdeal.Gen.run_main m g
  · run_from Cert.ReferenceIdeal.Value.run m' g'
    have hQ := Cert.Pre_finite_scores.queries _ _ _ (hpre c)
    have hK := Cert.Pre_finite_scores.keys _ _ _ (hpre c)
    have h0 := (hagree c).1
    have h1 := (hagree c).2.1
    have h2 := (hagree c).2.2
    refine (Cert.ReferenceIdeal.Value.out_at (m := m') c ?_ ?_).trans ?_
    · intro r e; rw [h0]; exact hQ r e
    · intro i; rw [h1]; exact hK i
    · rw [h0, h1, h2]; exact (Cert.KernelIdeal.Value.final (m := m) c hQ hK).symm

/-- The attention with a key head for each query head. -/
theorem attention_b [Cert.Pre_finite_scores_b.Facts] : Cert.algebraic_AttentionBIdeal_RefAttentionBIdeal_pre_finite_scores_b := by
  pair_intro
  · run_from Cert.AttentionBIdeal.Gen.run_main m g
  · run_from Cert.RefAttentionBIdeal.Value.run m' g'
    have hQ := Cert.Pre_finite_scores_b.queries _ _ _ (hpre c)
    have hK := Cert.Pre_finite_scores_b.keys _ _ _ (hpre c)
    have h0 := (hagree c).1
    have h1 := (hagree c).2.1
    have h2 := (hagree c).2.2
    refine (Cert.RefAttentionBIdeal.Value.out_at (m := m') c ?_ ?_).trans ?_
    · intro r e; rw [h0]; exact hQ r e
    · intro i; rw [h1]; exact hK i
    · rw [h0, h1, h2]; exact (Cert.AttentionBIdeal.Value.final (m := m) c hQ hK).symm

end Cert.Pairs
end
-- ==== Proof.Stream.lean ====
/- The layer's rows, latents above contexts, each modulated by its batch entry's shift and scale, and their input projection. -/
module

public import Idealize.ShloMosaic.Lib.Pipeline.ValueKit

@[expose] public section

noncomputable section

namespace Cert.Stream

open Idealize.ShloMosaic

abbrev Lat (k : ℕ) : Shape := ⟨2, ![16384, k]⟩
abbrev Ctx (k : ℕ) : Shape := ⟨2, ![1024, k]⟩
abbrev Mod : Shape := ⟨3, ![8, 6, 2048]⟩

/-- Row `r` of the latents with the contexts below them. -/
def row {k : ℕ} {φ : FTy} (X : FVec Ideal (Lat k) φ) (C : FVec Ideal (Ctx k) φ) (r : Fin 17408) (e : Fin k) : EReal :=
  if h : r.val < 16384 then X (ix2 ⟨r, h⟩ e) else C (ix2 ⟨r - 16384, by omega⟩ e)

theorem row_lat {k : ℕ} {φ : FTy} (X : FVec Ideal (Lat k) φ) (C : FVec Ideal (Ctx k) φ) (r : Fin 17408) (s : Fin 16384) (e : Fin k) (h : r.val = s.val) :
    row X C r e = X (ix2 s e) := by
  unfold row
  rw [dif_pos (by omega)]
  exact congrArg X (congrArg (ix2 · e) (Fin.ext h))

theorem row_ctx {k : ℕ} {φ : FTy} (X : FVec Ideal (Lat k) φ) (C : FVec Ideal (Ctx k) φ) (r : Fin 17408) (s : Fin 1024) (e : Fin k) (h : r.val = 16384 + s.val) :
    row X C r e = C (ix2 s e) := by
  unfold row
  rw [dif_neg (by omega)]
  exact congrArg C (congrArg (ix2 · e) (Fin.ext (by simp only; omega)))

/-- The row of modulations that goes with row `r`: one for each batch entry, and the fifth for all contexts. -/
def entry (r : Fin 17408) : Fin 8 := ⟨r / 4096, by omega⟩

/-- A number scaled by one plus the modulation in line `s` and shifted by the one in line `t`. -/
def adapt (M : FVec Ideal Mod .f32) (s t : Fin 6) (r : Fin 17408) (e : Fin 2048) (x : EReal) : EReal :=
  x * (Ideal.ofBits .f32 0x3F800000#32 + M (ix3 (entry r) s e)) + M (ix3 (entry r) t e)

/-- The input projection at row `r` and column `n`. -/
def project (X : FVec Ideal (Lat 2048) .f32) (C : FVec Ideal (Ctx 2048) .f32) (M : FVec Ideal Mod .f32) (W : FVec Ideal ⟨3, ![2, 10240, 2048]⟩ .bf16)
    (r : Fin 17408) (n : Fin 10240) : EReal :=
  ∑ e : Fin 2048, adapt M 1 0 r e (row X C r e) * W (ix3 0 n e)

/-- The array of the input projection. -/
def projected (X : FVec Ideal (Lat 2048) .f32) (C : FVec Ideal (Ctx 2048) .f32) (M : FVec Ideal Mod .f32) (W : FVec Ideal ⟨3, ![2, 10240, 2048]⟩ .bf16) :
    FVec Ideal ⟨2, ![17408, 10240]⟩ .bf16 := fun i => project X C M W (i 0) (i 1)

theorem projected_at (X : FVec Ideal (Lat 2048) .f32) (C : FVec Ideal (Ctx 2048) .f32) (M : FVec Ideal Mod .f32) (W : FVec Ideal ⟨3, ![2, 10240, 2048]⟩ .bf16)
    (i : (⟨2, ![17408, 10240]⟩ : Shape).Idx) (r : Fin 17408) (n : Fin 10240) (h0 : (i 0).val = r.val) (h1 : (i 1).val = n.val) :
    projected X C M W i = project X C M W r n := by
  have e0 : i 0 = r := Fin.ext h0
  have e1 : i 1 = n := Fin.ext h1
  unfold projected
  exact congrArg₂ (project X C M W) e0 e1

end Cert.Stream
end
-- ==== Proof.Projection.lean ====
/- What the input projection's grid leaves: each tile of rows is modulated once, at the first of its ten column blocks,
   and the modulated tile is multiplied by every block of weights. -/
module

public import proofs.«01_k».proof.Proof.Gen.ProjectionIdeal.Value
public import proofs.«01_k».proof.Proof.Stream
public import Idealize.ShloMosaic.Lib.Pipeline.ReadBack

@[expose] public section

set_option maxRecDepth 16384

noncomputable section

namespace Cert.ProjectionIdeal.Value

open Cert.ProjectionIdeal Cert.ProjectionIdeal.Gen Cert.ProjectionIdeal.Facts Idealize.ShloMosaic Idealize.ShloMosaic.TcCoe Idealize.SL.Sem
open Idealize.ShloMosaic.Pipeline (Dat)
open Cert.Stream

variable (m : (ℓ : Loc nD τ sig) → Buf (Elt Ideal) ℓ)

theorem modulate_lat (X : FVec Ideal S1024x2048 .f32) (A B : FVec Ideal S1x1x2048 .f32) (r : Fin 1024) (e : Fin 2048) :
    (k0_pay1 (F := Ideal) X A B (ix2 r e) : EReal) = X (ix2 r e) * (Ideal.ofBits .f32 0x3F800000#32 + A (ix3 0 0 e)) + B (ix3 0 0 e) := by
  pointwise [k0_pay1]

theorem modulate_ctx (X : FVec Ideal S1024x2048 .f32) (A B : FVec Ideal S1x1x2048 .f32) (r : Fin 1024) (e : Fin 2048) :
    (k0_pay2 (F := Ideal) X A B (ix2 r e) : EReal) = X (ix2 r e) * (Ideal.ofBits .f32 0x3F800000#32 + A (ix3 0 0 e)) + B (ix3 0 0 e) := by
  pointwise [k0_pay2]

theorem multiply (U : FVec Ideal S1024x2048 .bf16) (W : FVec Ideal S1x1024x2048 .bf16) (r : Fin 1024) (n : Fin 1024) :
    (k0_pay3 (F := Ideal) U W (ix2 r n) : EReal) = ∑ e : Fin 2048, U (ix2 r e) * W (ix3 0 n e) := by
  pointwise [k0_pay3]

/-- The grid: point `t` is tile `t / 10` of rows and block `t % 10` of columns. -/
theorem idx : ∀ t : Fin cfg0.N, win0_0.index t = ![min (t.val / 10) 15, 0] ∧ win0_1.index t = ![t.val / 10 - 16, 0]
    ∧ win0_2.index t = ![min (t.val / 40) 4, 0, 0] ∧ win0_3.index t = ![0, t.val % 10, 0]
    ∧ win0_4.index t = ![t.val / 10, t.val % 10] :=
  (by decide +kernel : ∀ t : Fin grid0.N, _)

theorem lt170 (t : Fin cfg0.N) : t.val < 170 := lt_of_lt_of_eq t.isLt (by decide +kernel)

theorem x0_at (c : Dev nD) (t : Fin cfg0.N) (h : t.val < 160) (r : Fin 1024) (e : Fin 2048) :
    (iblk m c 0 t : FVec Ideal S1024x2048 .f32) (ix2 r e) = m ((c : Thread nD τ).loc main_arg0) (ix2 ⟨1024 * (t.val / 10) + r, by omega⟩ e) := by
  blk_point [iblk, V, idx t]

theorem x1_at (c : Dev nD) (t : Fin cfg0.N) (h : 160 ≤ t.val) (r : Fin 1024) (e : Fin 2048) :
    (iblk m c 1 t : FVec Ideal S1024x2048 .f32) (ix2 r e) = m ((c : Thread nD τ).loc main_arg1) (ix2 r e) := by
  have := lt170 t
  blk_point [iblk, V, idx t]

theorem x2_at (c : Dev nD) (t : Fin cfg0.N) (s : Fin 6) (e : Fin 2048) :
    (iblk m c 2 t : FVec Ideal S1x6x2048 .f32) (ix3 0 s e) = m ((c : Thread nD τ).loc main_arg2) (ix3 ⟨min (t.val / 40) 4, by omega⟩ s e) := by
  blk_point [iblk, V, idx t]

theorem x3_at (c : Dev nD) (t : Fin cfg0.N) (n : Fin 1024) (e : Fin 2048) :
    (iblk m c 3 t : FVec Ideal S1x1024x2048 .bf16) (ix3 0 n e) = m ((c : Thread nD τ).loc main_arg3) (ix3 0 ⟨1024 * (t.val % 10) + n, by omega⟩ e) := by
  blk_point [iblk, V, idx t]

/-- Row `r`, column `e` of point `t`'s tile of rows, modulated. -/
def cell (c : Dev nD) (t : Fin cfg0.N) (r : Fin 1024) (e : Fin 2048) : EReal :=
  adapt (m ((c : Thread nD τ).loc main_arg2)) 1 0 ⟨1024 * (t.val / 10) + r, by have := lt170 t; omega⟩ e
    (row (φ := .f32) (m ((c : Thread nD τ).loc main_arg0)) (m ((c : Thread nD τ).loc main_arg1)) ⟨1024 * (t.val / 10) + r, by have := lt170 t; omega⟩ e)

theorem cell_congr (c : Dev nD) (t u : Fin cfg0.N) (h : t.val / 10 = u.val / 10) (r : Fin 1024) (e : Fin 2048) : cell m c t r e = cell m c u r e := by
  unfold cell
  simp only [h]

/-- The modulated tile of point `t`. -/
def tile (c : Dev nD) (t : Fin cfg0.N) : FVec Ideal S1024x2048 .bf16 := fun y => cell m c t (y 0) (y 1)

/-- A line of the modulations that point `t` holds. -/
theorem line (c : Dev nD) (t : Fin cfg0.N) (s : Fin 6) (e : Fin 2048) (r : Fin 17408) (hr : r.val / 1024 = t.val / 10) :
    (iblk m c 2 t : FVec Ideal S1x6x2048 .f32) (ix3 0 s e) = m ((c : Thread nD τ).loc main_arg2) (ix3 (entry r) s e) := by
  have ht := lt170 t
  refine (x2_at m c t s e).trans (congrArg _ (congrArg (ix3 · s e) (Fin.ext ?_)))
  unfold entry
  simp only
  omega

/-- What the first block of a latent tile stores is the modulated tile. -/
theorem tile_lat (c : Dev nD) (t : Fin cfg0.N) (h1 : t.val < 160) (A B : FVec Ideal S1x1x2048 .f32)
    (hA : ∀ e, A (ix3 0 0 e) = (iblk m c 2 t : FVec Ideal S1x6x2048 .f32) (ix3 0 1 e))
    (hB : ∀ e, B (ix3 0 0 e) = (iblk m c 2 t : FVec Ideal S1x6x2048 .f32) (ix3 0 0 e)) : k0_pay1 (iblk m c 0 t) A B = tile m c t := by
  funext y
  idx_vars y
  refine (modulate_lat _ _ _ _ _).trans ?_
  rw [hA, hB, x0_at m c t h1]
  show _ = cell m c t y0 y1
  unfold cell adapt
  rw [line m c t 1 y1 ⟨1024 * (t.val / 10) + y0.val, by omega⟩ (by simp only; omega), line m c t 0 y1 ⟨1024 * (t.val / 10) + y0.val, by omega⟩ (by simp only; omega),
    row_lat _ _ _ ⟨1024 * (t.val / 10) + y0.val, by omega⟩ _ rfl]

/-- What the first block of a context tile stores is the modulated tile. -/
theorem tile_ctx (c : Dev nD) (t : Fin cfg0.N) (h1 : 160 ≤ t.val) (A B : FVec Ideal S1x1x2048 .f32)
    (hA : ∀ e, A (ix3 0 0 e) = (iblk m c 2 t : FVec Ideal S1x6x2048 .f32) (ix3 0 1 e))
    (hB : ∀ e, B (ix3 0 0 e) = (iblk m c 2 t : FVec Ideal S1x6x2048 .f32) (ix3 0 0 e)) : k0_pay2 (iblk m c 1 t) A B = tile m c t := by
  have ht := lt170 t
  funext y
  idx_vars y
  refine (modulate_ctx _ _ _ _ _).trans ?_
  rw [hA, hB, x1_at m c t h1]
  show _ = cell m c t y0 y1
  unfold cell adapt
  rw [line m c t 1 y1 ⟨1024 * (t.val / 10) + y0.val, by omega⟩ (by simp only; omega), line m c t 0 y1 ⟨1024 * (t.val / 10) + y0.val, by omega⟩ (by simp only; omega),
    row_ctx _ _ _ y0 _ (by simp only; omega)]

/-- The first block of a tile of latent rows. -/
theorem start_lat (c : Dev nD) (t : Fin cfg0.N) (h0 : t.val % 10 = 0) (h1 : t.val < 160) :
    outsAt0 m c t.val t.isLt = (k0_pay3 (tile m c t) (iblk m c 3 t), tile m c t) := by
  rw [outsAt0_A m c t h0 h1 (by omega)]
  refine Prod.ext ?_ ?_ <;> dsimp only <;> frame_out
  · refine congrArg (k0_pay3 · _) (tile_lat m c t h1 _ _ ?_ ?_) <;> intro e <;> exact congrArg (iblk m c 2 t) (funext fun a => Fin.ext (by fin_cases a <;> simp [LoadRect.idx, Rect.unit]))
  · refine tile_lat m c t h1 _ _ ?_ ?_ <;> intro e <;> exact congrArg (iblk m c 2 t) (funext fun a => Fin.ext (by fin_cases a <;> simp [LoadRect.idx, Rect.unit]))

/-- The first block of a tile of context rows. -/
theorem start_ctx (c : Dev nD) (t : Fin cfg0.N) (h0 : t.val % 10 = 0) (h1 : 160 ≤ t.val) :
    outsAt0 m c t.val t.isLt = (k0_pay3 (tile m c t) (iblk m c 3 t), tile m c t) := by
  rw [outsAt0_C m c t h0 (by omega) h1]
  refine Prod.ext ?_ ?_ <;> dsimp only <;> frame_out
  · refine congrArg (k0_pay3 · _) (tile_ctx m c t h1 _ _ ?_ ?_) <;> intro e <;> exact congrArg (iblk m c 2 t) (funext fun a => Fin.ext (by fin_cases a <;> simp [LoadRect.idx, Rect.unit]))
  · refine tile_ctx m c t h1 _ _ ?_ ?_ <;> intro e <;> exact congrArg (iblk m c 2 t) (funext fun a => Fin.ext (by fin_cases a <;> simp [LoadRect.idx, Rect.unit]))

/-- A later block keeps the tile and multiplies it by its own weights. -/
theorem later (c : Dev nD) (t : Fin cfg0.N) (h0 : ¬ t.val % 10 = 0) (U : FVec Ideal S1024x2048 .bf16)
    (hU : (outsAt0 m c (t.val - 1) (Nat.lt_of_le_of_lt (Nat.sub_le _ _) t.isLt)).2 = U) :
    outsAt0 m c t.val t.isLt = (k0_pay3 U (iblk m c 3 t), U) := by
  rw [outsAt0_B m c t h0, hU]
  refine Prod.ext ?_ ?_
  · dsimp only
    frame_out
    refine congrArg (k0_pay3 · _) ?_
    simp only [read_unread_whole]
  · rfl

/-- Every point of the grid: the modulated tile times the point's block of weights. -/
theorem outs (c : Dev nD) : ∀ (n : ℕ) (hn : n < cfg0.N),
    outsAt0 m c n hn = (k0_pay3 (tile m c ⟨n, hn⟩) (iblk m c 3 ⟨n, hn⟩), tile m c ⟨n, hn⟩) := by
  intro n
  induction n with
  | zero => exact fun hn => start_lat m c ⟨0, hn⟩ rfl (show 0 < 160 by decide)
  | succ n ih =>
    intro hn
    by_cases h0 : (n + 1) % 10 = 0
    · by_cases h1 : n + 1 < 160
      · exact start_lat m c ⟨n + 1, hn⟩ h0 h1
      · exact start_ctx m c ⟨n + 1, hn⟩ h0 (by simp only; omega)
    · have e : tile m c ⟨n, Nat.lt_of_succ_lt hn⟩ = tile m c ⟨n + 1, hn⟩ := by
        unfold tile
        have d : n / 10 = (n + 1) / 10 := by omega
        exact funext fun y => cell_congr m c ⟨n, Nat.lt_of_succ_lt hn⟩ ⟨n + 1, hn⟩ d (y 0) (y 1)
      exact later m c ⟨n + 1, hn⟩ h0 _ ((congrArg Prod.snd (ih (Nat.lt_of_succ_lt hn))).trans e)

/-- The array the input projection leaves. -/
theorem final (c : Dev nD) : (dats m 0 c).arrAt 4 cfg0.N = projected (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht := lt170 t
  idx_vars y
  refine Eq.trans ?_ (projected_at _ _ _ _ _ ⟨1024 * (t.val / 10) + y0.val, by omega⟩ ⟨1024 * (t.val % 10) + y1.val, by omega⟩ ?_ ?_).symm
  · blk_simp
    rw [after0_4, outs m c t.val t.isLt]
    refine (multiply _ _ _ _).trans ?_
    unfold project
    refine Finset.sum_congr rfl fun e _ => congrArg₂ (· * ·) rfl (x3_at m c t y1 e)
  all_goals
    blk_simp [idx t]
    dsimp only
    omega

end Cert.ProjectionIdeal.Value
end
-- ==== Proof.RefProjection.lean ====
/- What the reference of the input projection computes, entry by entry. -/
module

public import proofs.«01_k».proof.Proof.Gen.RefProjectionIdeal.Run
public import proofs.«01_k».proof.Proof.Stream

@[expose] public section

set_option maxRecDepth 16384

noncomputable section

namespace Cert.RefProjectionIdeal.Value

open Cert.RefProjectionIdeal Cert.RefProjectionIdeal.Gen Cert.RefProjectionIdeal.Facts Idealize.ShloMosaic Idealize.ShloMosaic.TcCoe Idealize.SL.Sem
open Cert.Stream

variable (m : (ℓ : Loc nD τ sig) → Buf (Elt Ideal) ℓ)

/-- The weights, a column for each output. -/
def weights (W : FVec Ideal S2x10240x2048 .bf16) : FVec Ideal S2048x10240 .f32 :=
  transpose S2048x10240 [1, 0] (extf .f32 (shapeCast _ (extractStridedSlice S1x10240x2048 ![0, 0, 0] W slices_S2x10240x2048_S1x10240x2048_0_0_0)
    shapeCasts_S1x10240x2048_S10240x2048) bitsLt_bf16_f32) transposes_S10240x2048_S2048x10240_1_0

/-- The latents, scaled and shifted by their batch entry's modulations. -/
def latents (X : FVec Ideal S16384x2048 .f32) (M : FVec Ideal S8x6x2048 .f32) : FVec Ideal S4x4096x2048 .f32 :=
  addf (mulf (shapeCast _ X shapeCasts_S16384x2048_S4x4096x2048) (broadcastInDim S4x4096x2048 ![0, 1, 2] bcast_S4x1x2048_S4x4096x2048_0_1_2
      (addf (broadcastInDim S4x1x2048 ![] bcast_S_S4x1x2048 (constant S_ .f32 0x3F800000#32)) (broadcastInDim S4x1x2048 ![0, 2] bcast_S4x2048_S4x1x2048_0_2
        (shapeCast _ (extractStridedSlice S4x1x2048 ![0, 1, 0] M slices_S8x6x2048_S4x1x2048_0_1_0) shapeCasts_S4x1x2048_S4x2048)))))
    (broadcastInDim S4x4096x2048 ![0, 1, 2] bcast_S4x1x2048_S4x4096x2048_0_1_2 (broadcastInDim S4x1x2048 ![0, 2] bcast_S4x2048_S4x1x2048_0_2
      (shapeCast _ (extractStridedSlice S4x1x2048 ![0, 0, 0] M slices_S8x6x2048_S4x1x2048_0_0_0) shapeCasts_S4x1x2048_S4x2048)))

/-- The contexts, scaled and shifted by the fifth row of modulations. -/
def contexts (C : FVec Ideal S1024x2048 .f32) (M : FVec Ideal S8x6x2048 .f32) : FVec Ideal S4x256x2048 .f32 :=
  addf (mulf (shapeCast _ C shapeCasts_S1024x2048_S4x256x2048) (broadcastInDim S4x256x2048 ![0, 1, 2] bcast_S1x1x2048_S4x256x2048_0_1_2
      (broadcastInDim S1x1x2048 ![2] bcast_S2048_S1x1x2048_2 (addf (broadcastInDim S2048 ![] bcast_S_S2048 (constant S_ .f32 0x3F800000#32))
        (shapeCast _ (extractStridedSlice S1x1x2048 ![4, 1, 0] M slices_S8x6x2048_S1x1x2048_4_1_0) shapeCasts_S1x1x2048_S2048)))))
    (broadcastInDim S4x256x2048 ![0, 1, 2] bcast_S1x1x2048_S4x256x2048_0_1_2 (broadcastInDim S1x1x2048 ![2] bcast_S2048_S1x1x2048_2
      (shapeCast _ (extractStridedSlice S1x1x2048 ![4, 0, 0] M slices_S8x6x2048_S1x1x2048_4_0_0) shapeCasts_S1x1x2048_S2048)))

/-- The latents' projection above the contexts'. -/
def joined (A : FVec Ideal S4x4096x2048 .f32) (B : FVec Ideal S4x256x2048 .f32) (W : FVec Ideal S2048x10240 .f32) : FVec Ideal S17408x10240 .bf16 :=
  truncf .bf16 (concatenate S17408x10240 0
    [⟨S16384x10240, shapeCast _ (Host.dotGeneral dot_S4x4096x2048_S2048x10240_S4x4096x10240_2_0_01_1_n_n none A W) shapeCasts_S4x4096x10240_S16384x10240⟩,
     ⟨S1024x10240, shapeCast _ (Host.dotGeneral dot_S4x256x2048_S2048x10240_S4x256x10240_2_0_01_1_n_n none B W) shapeCasts_S4x256x10240_S1024x10240⟩]
    concatenates_S16384x10240_S1024x10240_S17408x10240_d0) bitsLt_bf16_f32

theorem weights_at (W : FVec Ideal S2x10240x2048 .bf16) (e : Fin 2048) (n : Fin 10240) : weights W (ix2 e n) = W (ix3 0 n e) := by
  pointwise [weights]
  blk_ext

theorem latents_at (X : FVec Ideal S16384x2048 .f32) (M : FVec Ideal S8x6x2048 .f32) (b : Fin 4) (s : Fin 4096) (e : Fin 2048) :
    latents X M (ix3 b s e) = X (ix2 ⟨b * 4096 + s, by omega⟩ e) * (Ideal.ofBits .f32 0x3F800000#32 + M (ix3 ⟨b, by omega⟩ 1 e)) + M (ix3 ⟨b, by omega⟩ 0 e) := by
  pointwise [latents]

theorem contexts_at (C : FVec Ideal S1024x2048 .f32) (M : FVec Ideal S8x6x2048 .f32) (b : Fin 4) (s : Fin 256) (e : Fin 2048) :
    contexts C M (ix3 b s e) = C (ix2 ⟨b * 256 + s, by omega⟩ e) * (Ideal.ofBits .f32 0x3F800000#32 + M (ix3 4 1 e)) + M (ix3 4 0 e) := by
  pointwise [contexts]

theorem joined_at (A : FVec Ideal S4x4096x2048 .f32) (B : FVec Ideal S4x256x2048 .f32) (W : FVec Ideal S2048x10240 .f32) (r : Fin 17408) (n : Fin 10240) :
    joined A B W (ix2 r n) = if h : r.val < 16384 then ∑ e : Fin 2048, A (ix3 ⟨r / 4096, by omega⟩ ⟨r % 4096, by omega⟩ e) * W (ix2 e n)
      else ∑ e : Fin 2048, B (ix3 ⟨(r - 16384) / 256, by omega⟩ ⟨(r - 16384) % 256, by omega⟩ e) * W (ix2 e n) := by
  pointwise [joined]

theorem out_at (X : FVec Ideal S16384x2048 .f32) (C : FVec Ideal S1024x2048 .f32) (M : FVec Ideal S8x6x2048 .f32) (W : FVec Ideal S2x10240x2048 .bf16) :
    joined (latents X M) (contexts C M) (weights W) = projected X C M W := by
  funext i
  idx_vars i
  rw [joined_at, projected_at _ _ _ _ _ i0 i1 rfl rfl]
  unfold project
  split
  · next h =>
    refine Finset.sum_congr rfl fun e _ => ?_
    rw [weights_at, latents_at, row_lat _ _ _ ⟨i0, h⟩ _ rfl]
    exact congrArg (fun z => adapt M 1 0 i0 e (X (ix2 z e)) * W (ix3 0 i1 e)) (Fin.ext (Nat.div_add_mod' i0.val 4096))
  · next h =>
    refine Finset.sum_congr rfl fun e _ => ?_
    rw [weights_at, contexts_at, row_ctx _ _ _ ⟨i0 - 16384, by omega⟩ _ (by simp only; omega)]
    have h4 : entry i0 = 4 := Fin.ext (show i0.val / 4096 = 4 by omega)
    unfold adapt
    rw [h4]
    exact congrArg (fun z => (C (ix2 z e) * (Ideal.ofBits .f32 0x3F800000#32 + M (ix3 4 1 e)) + M (ix3 4 0 e)) * W (ix3 0 i1 e))
      (Fin.ext (Nat.div_add_mod' (i0.val - 16384) 256))

end Cert.RefProjectionIdeal.Value
end
-- ==== Proof.PairProjection.lean ====
/- The input projection writes what its reference computes. -/
module

public import proofs.«01_k».proof.Defs
public import proofs.«01_k».proof.Proof.Projection
public import proofs.«01_k».proof.Proof.RefProjection

@[expose] public section

set_option maxRecDepth 16384

noncomputable section

namespace Cert.Pairs

open Idealize.ShloMosaic Idealize.SL.Sem

theorem projection : Cert.algebraic_ProjectionIdeal_RefProjectionIdeal := by
  pair_intro
  · run_from Cert.ProjectionIdeal.Gen.run_main m g
  · run_from Cert.RefProjectionIdeal.Value.run m' g'
    have h3 := (hagree c).2.2.2
    refine (Cert.RefProjectionIdeal.Value.out_at _ _ _ _).trans (Eq.trans ?_ (Cert.ProjectionIdeal.Value.final (m := m) c).symm)
    rw [h3]

end Cert.Pairs
end
-- ==== Proof.Gate.lean ====
/- The three branches of the layer, each times its gate, added up. -/
module

public import proofs.«01_k».proof.Proof.Stream

@[expose] public section

noncomputable section

namespace Cert.Gate

open Idealize.ShloMosaic Cert.Stream

/-- Row `r` of a branch's heads, latents above contexts, through the branch's weights. -/
def branch {k : ℕ} (X : FVec Ideal (Lat k) .bf16) (C : FVec Ideal (Ctx k) .bf16) (W : FVec Ideal ⟨2, ![k, 2048]⟩ .bf16) (r : Fin 17408) (n : Fin 2048) : EReal :=
  ∑ e : Fin k, row X C r e * W (ix2 e n)

/-- The gate in column `n` of row `r`. -/
def gate (P : FVec Ideal ⟨2, ![17408, 10240]⟩ .bf16) (r : Fin 17408) (n : Fin 10240) : EReal := Ideal.logistic (P (ix2 r n))

/-- The gated sum of the branches at row `r` and column `n`. -/
def merge (A : FVec Ideal (Lat 768) .bf16) (B C : FVec Ideal (Lat 640) .bf16) (A' : FVec Ideal (Ctx 768) .bf16) (B' C' : FVec Ideal (Ctx 640) .bf16)
    (P : FVec Ideal ⟨2, ![17408, 10240]⟩ .bf16) (U : FVec Ideal ⟨2, ![768, 2048]⟩ .bf16) (V W : FVec Ideal ⟨2, ![640, 2048]⟩ .bf16)
    (r : Fin 17408) (n : Fin 2048) : EReal :=
  gate P r ⟨4096 + n, by omega⟩ * branch A A' U r n + gate P r ⟨6144 + n, by omega⟩ * branch B B' V r n
    + gate P r ⟨8192 + n, by omega⟩ * branch C C' W r n

/-- The array of gated sums. -/
def merged (A : FVec Ideal (Lat 768) .bf16) (B C : FVec Ideal (Lat 640) .bf16) (A' : FVec Ideal (Ctx 768) .bf16) (B' C' : FVec Ideal (Ctx 640) .bf16)
    (P : FVec Ideal ⟨2, ![17408, 10240]⟩ .bf16) (U : FVec Ideal ⟨2, ![768, 2048]⟩ .bf16) (V W : FVec Ideal ⟨2, ![640, 2048]⟩ .bf16) :
    FVec Ideal ⟨2, ![17408, 2048]⟩ .bf16 := fun i => merge A B C A' B' C' P U V W (i 0) (i 1)

theorem merged_at (A : FVec Ideal (Lat 768) .bf16) (B C : FVec Ideal (Lat 640) .bf16) (A' : FVec Ideal (Ctx 768) .bf16) (B' C' : FVec Ideal (Ctx 640) .bf16)
    (P : FVec Ideal ⟨2, ![17408, 10240]⟩ .bf16) (U : FVec Ideal ⟨2, ![768, 2048]⟩ .bf16) (V W : FVec Ideal ⟨2, ![640, 2048]⟩ .bf16)
    (i : (⟨2, ![17408, 2048]⟩ : Shape).Idx) (r : Fin 17408) (n : Fin 2048) (h0 : (i 0).val = r.val) (h1 : (i 1).val = n.val) :
    merged A B C A' B' C' P U V W i = merge A B C A' B' C' P U V W r n := by
  have e0 : i 0 = r := Fin.ext h0
  have e1 : i 1 = n := Fin.ext h1
  unfold merged
  exact congrArg₂ (merge A B C A' B' C' P U V W) e0 e1

end Cert.Gate
end
-- ==== Proof.Merge.lean ====
/- What the branch merge's grid leaves: thirty-two tiles of latent rows and two of context rows, each the gated sum of its branches. -/
module

public import proofs.«01_k».proof.Proof.Gen.MergeIdeal.Value
public import proofs.«01_k».proof.Proof.Gate

@[expose] public section

set_option maxRecDepth 16384

noncomputable section

namespace Cert.MergeIdeal.Value

open Cert.MergeIdeal Cert.MergeIdeal.Gen Cert.MergeIdeal.Facts Idealize.ShloMosaic Idealize.ShloMosaic.TcCoe Idealize.SL.Sem
open Idealize.ShloMosaic.Pipeline (Dat)
open Cert.Stream Cert.Gate

variable (m : (ℓ : Loc nD τ sig) → Buf (Elt Ideal) ℓ)

/-- One tile's gated sum, from its three tiles of heads, their gates and their weights. -/
theorem pay_at (A : FVec Ideal S512x768 .bf16) (P : FVec Ideal S512x2048 .bf16) (U : FVec Ideal S768x2048 .bf16) (B : FVec Ideal S512x640 .bf16)
    (Q : FVec Ideal S512x2048 .bf16) (V : FVec Ideal S640x2048 .bf16) (C : FVec Ideal S512x640 .bf16) (R : FVec Ideal S512x2048 .bf16) (W : FVec Ideal S640x2048 .bf16)
    (r : Fin 512) (e : Fin 2048) :
    (k0_pay1 (F := Ideal) A P U B Q V C R W (ix2 r e) : EReal) = Ideal.logistic (P (ix2 r e)) * ∑ x : Fin 768, A (ix2 r x) * U (ix2 x e)
      + Ideal.logistic (Q (ix2 r e)) * ∑ x : Fin 640, B (ix2 r x) * V (ix2 x e) + Ideal.logistic (R (ix2 r e)) * ∑ x : Fin 640, C (ix2 r x) * W (ix2 x e) := by
  pointwise [k0_pay1]

/-- The grid: point `t` is tile `t` of rows. -/
theorem idx : ∀ t : Fin cfg0.N, win0_0.index t = ![min t.val 31, 0] ∧ win0_1.index t = ![min t.val 31, 0] ∧ win0_2.index t = ![min t.val 31, 0]
    ∧ win0_3.index t = ![t.val - 32, 0] ∧ win0_4.index t = ![t.val - 32, 0] ∧ win0_5.index t = ![t.val - 32, 0]
    ∧ win0_6.index t = ![t.val, 2] ∧ win0_7.index t = ![t.val, 3] ∧ win0_8.index t = ![t.val, 4]
    ∧ win0_9.index t = ![0, 0] ∧ win0_10.index t = ![0, 0] ∧ win0_11.index t = ![0, 0] ∧ win0_12.index t = ![t.val, 0] :=
  (by decide +kernel : ∀ t : Fin grid0.N, _)

theorem lt34 (t : Fin cfg0.N) : t.val < 34 := lt_of_lt_of_eq t.isLt (by decide +kernel)

theorem x0_at (c : Dev nD) (t : Fin cfg0.N) (h : t.val < 32) (r : Fin 512) (e : Fin 768) :
    (iblk m c 0 t : FVec Ideal S512x768 .bf16) (ix2 r e) = m ((c : Thread nD τ).loc main_arg0) (ix2 ⟨512 * t.val + r, by omega⟩ e) := by
  blk_point [iblk, V, idx t]

theorem x1_at (c : Dev nD) (t : Fin cfg0.N) (h : t.val < 32) (r : Fin 512) (e : Fin 640) :
    (iblk m c 1 t : FVec Ideal S512x640 .bf16) (ix2 r e) = m ((c : Thread nD τ).loc main_arg1) (ix2 ⟨512 * t.val + r, by omega⟩ e) := by
  blk_point [iblk, V, idx t]

theorem x2_at (c : Dev nD) (t : Fin cfg0.N) (h : t.val < 32) (r : Fin 512) (e : Fin 640) :
    (iblk m c 2 t : FVec Ideal S512x640 .bf16) (ix2 r e) = m ((c : Thread nD τ).loc main_arg2) (ix2 ⟨512 * t.val + r, by omega⟩ e) := by
  blk_point [iblk, V, idx t]

theorem x3_at (c : Dev nD) (t : Fin cfg0.N) (h : 32 ≤ t.val) (r : Fin 512) (e : Fin 768) :
    (iblk m c 3 t : FVec Ideal S512x768 .bf16) (ix2 r e) = m ((c : Thread nD τ).loc main_arg3) (ix2 ⟨512 * (t.val - 32) + r, by have := lt34 t; omega⟩ e) := by
  have := lt34 t
  blk_point [iblk, V, idx t]

theorem x4_at (c : Dev nD) (t : Fin cfg0.N) (h : 32 ≤ t.val) (r : Fin 512) (e : Fin 640) :
    (iblk m c 4 t : FVec Ideal S512x640 .bf16) (ix2 r e) = m ((c : Thread nD τ).loc main_arg4) (ix2 ⟨512 * (t.val - 32) + r, by have := lt34 t; omega⟩ e) := by
  have := lt34 t
  blk_point [iblk, V, idx t]

theorem x5_at (c : Dev nD) (t : Fin cfg0.N) (h : 32 ≤ t.val) (r : Fin 512) (e : Fin 640) :
    (iblk m c 5 t : FVec Ideal S512x640 .bf16) (ix2 r e) = m ((c : Thread nD τ).loc main_arg5) (ix2 ⟨512 * (t.val - 32) + r, by have := lt34 t; omega⟩ e) := by
  have := lt34 t
  blk_point [iblk, V, idx t]

theorem x6_at (c : Dev nD) (t : Fin cfg0.N) (r : Fin 512) (e : Fin 2048) :
    (iblk m c 6 t : FVec Ideal S512x2048 .bf16) (ix2 r e) = m ((c : Thread nD τ).loc main_arg6) (ix2 ⟨512 * t.val + r, by have := lt34 t; omega⟩ ⟨4096 + e, by omega⟩) := by
  have := lt34 t
  blk_point [iblk, V, idx t]

theorem x7_at (c : Dev nD) (t : Fin cfg0.N) (r : Fin 512) (e : Fin 2048) :
    (iblk m c 7 t : FVec Ideal S512x2048 .bf16) (ix2 r e) = m ((c : Thread nD τ).loc main_arg6) (ix2 ⟨512 * t.val + r, by have := lt34 t; omega⟩ ⟨6144 + e, by omega⟩) := by
  have := lt34 t
  blk_point [iblk, V, idx t]

theorem x8_at (c : Dev nD) (t : Fin cfg0.N) (r : Fin 512) (e : Fin 2048) :
    (iblk m c 8 t : FVec Ideal S512x2048 .bf16) (ix2 r e) = m ((c : Thread nD τ).loc main_arg6) (ix2 ⟨512 * t.val + r, by have := lt34 t; omega⟩ ⟨8192 + e, by omega⟩) := by
  have := lt34 t
  blk_point [iblk, V, idx t]

theorem x9_at (c : Dev nD) (t : Fin cfg0.N) (r : Fin 768) (e : Fin 2048) :
    (iblk m c 9 t : FVec Ideal S768x2048 .bf16) (ix2 r e) = m ((c : Thread nD τ).loc main_arg7) (ix2 r e) := by
  blk_point [iblk, V, idx t]

theorem x10_at (c : Dev nD) (t : Fin cfg0.N) (r : Fin 640) (e : Fin 2048) :
    (iblk m c 10 t : FVec Ideal S640x2048 .bf16) (ix2 r e) = m ((c : Thread nD τ).loc main_arg8) (ix2 r e) := by
  blk_point [iblk, V, idx t]

theorem x11_at (c : Dev nD) (t : Fin cfg0.N) (r : Fin 640) (e : Fin 2048) :
    (iblk m c 11 t : FVec Ideal S640x2048 .bf16) (ix2 r e) = m ((c : Thread nD τ).loc main_arg9) (ix2 r e) := by
  blk_point [iblk, V, idx t]

/-- The array of gated sums, of the call's arguments. -/
def target (c : Dev nD) : FVec Ideal S17408x2048 .bf16 :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- A tile of branches whose rows are the stream's is the tile of gated sums. -/
theorem tile_at (c : Dev nD) (t : Fin cfg0.N) (A : FVec Ideal S512x768 .bf16) (B C : FVec Ideal S512x640 .bf16) (r : Fin 512) (s : Fin 17408) (n : Fin 2048)
    (hs : s.val = 512 * t.val + r.val)
    (hA : ∀ e, A (ix2 r e) = row (φ := .bf16) (m ((c : Thread nD τ).loc main_arg0)) (m ((c : Thread nD τ).loc main_arg3)) s e)
    (hB : ∀ e, B (ix2 r e) = row (φ := .bf16) (m ((c : Thread nD τ).loc main_arg1)) (m ((c : Thread nD τ).loc main_arg4)) s e)
    (hC : ∀ e, C (ix2 r e) = row (φ := .bf16) (m ((c : Thread nD τ).loc main_arg2)) (m ((c : Thread nD τ).loc main_arg5)) s e) :
    k0_pay1 (F := Ideal) A (iblk m c 6 t) (iblk m c 9 t) B (iblk m c 7 t) (iblk m c 10 t) C (iblk m c 8 t) (iblk m c 11 t) (ix2 r n) = target m c (ix2 s n) := by
  have hr : (⟨512 * t.val + r, by have := lt34 t; omega⟩ : Fin 17408) = s := Fin.ext hs.symm
  refine (pay_at _ _ _ _ _ _ _ _ _ _ _).trans ?_
  unfold target
  rw [merged_at _ _ _ _ _ _ _ _ _ _ _ s n rfl rfl, x6_at, x7_at, x8_at, hr]
  unfold merge gate branch
  refine congrArg₂ (· + ·) (congrArg₂ (· + ·) ?_ ?_) ?_
  · exact congrArg _ (Finset.sum_congr rfl fun e _ => congrArg₂ (· * ·) (hA e) (x9_at m c t e n))
  · exact congrArg _ (Finset.sum_congr rfl fun e _ => congrArg₂ (· * ·) (hB e) (x10_at m c t e n))
  · exact congrArg _ (Finset.sum_congr rfl fun e _ => congrArg₂ (· * ·) (hC e) (x11_at m c t e n))

/-- What point `t` leaves in its block. -/
theorem outs (c : Dev nD) (t : Fin cfg0.N) (r : Fin 512) (s : Fin 17408) (n : Fin 2048) (hs : s.val = 512 * t.val + r.val) :
    outsAt0 m c t.val t.isLt (ix2 r n) = target m c (ix2 s n) := by
  have ht := lt34 t
  by_cases h : t.val < 32
  · rw [outsAt0_A m c t h (by omega)]
    frame_out
    refine tile_at m c t _ _ _ r s n hs ?_ ?_ ?_ <;> intro e
    · exact (x0_at m c t h r e).trans (row_lat _ _ _ _ _ hs).symm
    · exact (x1_at m c t h r e).trans (row_lat _ _ _ _ _ hs).symm
    · exact (x2_at m c t h r e).trans (row_lat _ _ _ _ _ hs).symm
  · rw [outsAt0_B m c t h (by omega)]
    frame_out
    refine tile_at m c t _ _ _ r s n hs ?_ ?_ ?_ <;> intro e
    · exact (x3_at m c t (by omega) r e).trans (row_ctx _ _ _ _ _ (by simp only; omega)).symm
    · exact (x4_at m c t (by omega) r e).trans (row_ctx _ _ _ _ _ (by simp only; omega)).symm
    · exact (x5_at m c t (by omega) r e).trans (row_ctx _ _ _ _ _ (by simp only; omega)).symm

/-- The array the branch merge leaves. -/
theorem final (c : Dev nD) : (dats m 0 c).arrAt 12 cfg0.N = target m c := by
  refine (dats m 0 c).arrAt_eq_of_covers 12 _ (by decide +kernel) fun t hf y => ?_
  have ht := lt34 t
  idx_vars y
  blk_simp
  rw [after0_12]
  refine (outs m c t y0 ⟨512 * t.val + y0.val, by omega⟩ y1 rfl).trans ?_
  refine congrArg (target m c) ?_
  blk_ext [idx t]

end Cert.MergeIdeal.Value
end
-- ==== Proof.RefMerge.lean ====
/- What the reference of the branch merge computes, entry by entry. -/
module

public import proofs.«01_k».proof.Proof.Gen.RefMergeIdeal.Run
public import proofs.«01_k».proof.Proof.Gate

@[expose] public section

set_option maxRecDepth 16384

noncomputable section

namespace Cert.RefMergeIdeal.Value

open Cert.RefMergeIdeal Cert.RefMergeIdeal.Gen Cert.RefMergeIdeal.Facts Idealize.ShloMosaic Idealize.ShloMosaic.TcCoe Idealize.SL.Sem
open Cert.Stream Cert.Gate

/-- The gates of all three branches. -/
def gates (P : FVec Ideal S17408x10240 .bf16) : FVec Ideal S17408x6144 .f32 :=
  Host.divf (broadcastInDim S17408x6144 ![] bcast_S_S17408x6144 (constant S_ .f32 0x3F800000#32))
    (addf (broadcastInDim S17408x6144 ![] bcast_S_S17408x6144 (constant S_ .f32 0x3F800000#32))
      (Host.exp (Host.negf (extf .f32 (extractStridedSlice S17408x6144 ![0, 4096] P slices_S17408x10240_S17408x6144_0_4096) bitsLt_bf16_f32))))

/-- The first branch through its weights, and either of the others. -/
def wide (X : FVec Ideal S16384x768 .bf16) (C : FVec Ideal S1024x768 .bf16) (W : FVec Ideal S768x2048 .bf16) : FVec Ideal S17408x2048 .f32 :=
  Host.dotGeneral dot_S17408x768_S768x2048_S17408x2048_1_0_0_1_n_n none
    (extf .f32 (concatenate S17408x768 0 [⟨S16384x768, X⟩, ⟨S1024x768, C⟩] concatenates_S16384x768_S1024x768_S17408x768_d0) bitsLt_bf16_f32)
    (extf .f32 W bitsLt_bf16_f32)
def narrow (X : FVec Ideal S16384x640 .bf16) (C : FVec Ideal S1024x640 .bf16) (W : FVec Ideal S640x2048 .bf16) : FVec Ideal S17408x2048 .f32 :=
  Host.dotGeneral dot_S17408x640_S640x2048_S17408x2048_1_0_0_1_n_n none
    (extf .f32 (concatenate S17408x640 0 [⟨S16384x640, X⟩, ⟨S1024x640, C⟩] concatenates_S16384x640_S1024x640_S17408x640_d0) bitsLt_bf16_f32)
    (extf .f32 W bitsLt_bf16_f32)

/-- The three gated branches together. -/
def summed (G : FVec Ideal S17408x6144 .f32) (A B C : FVec Ideal S17408x2048 .f32) : FVec Ideal S17408x2048 .bf16 :=
  truncf .bf16 (addf (addf (mulf (extractStridedSlice S17408x2048 ![0, 0] G slices_S17408x6144_S17408x2048_0_0) A)
    (mulf (extractStridedSlice S17408x2048 ![0, 2048] G slices_S17408x6144_S17408x2048_0_2048) B))
    (mulf (extractStridedSlice S17408x2048 ![0, 4096] G slices_S17408x6144_S17408x2048_0_4096) C)) bitsLt_bf16_f32

theorem gates_at (P : FVec Ideal S17408x10240 .bf16) (r : Fin 17408) (n : Fin 6144) (k : Fin 10240) (h : k.val = 4096 + n.val) :
    gates P (ix2 r n) = gate P r k := by
  pointwise [gates]
  exact congrArg (fun z => Ideal.logistic (P (ix2 r z))) (Fin.ext h.symm)

theorem wide_at (X : FVec Ideal S16384x768 .bf16) (C : FVec Ideal S1024x768 .bf16) (W : FVec Ideal S768x2048 .bf16) (r : Fin 17408) (n : Fin 2048) :
    wide X C W (ix2 r n) = branch X C W r n := by
  pointwise [wide]
  rfl

theorem narrow_at (X : FVec Ideal S16384x640 .bf16) (C : FVec Ideal S1024x640 .bf16) (W : FVec Ideal S640x2048 .bf16) (r : Fin 17408) (n : Fin 2048) :
    narrow X C W (ix2 r n) = branch X C W r n := by
  pointwise [narrow]
  rfl

theorem summed_at (G : FVec Ideal S17408x6144 .f32) (A B C : FVec Ideal S17408x2048 .f32) (r : Fin 17408) (n : Fin 2048) :
    (summed G A B C (ix2 r n) : EReal) = G (ix2 r ⟨n, by omega⟩) * A (ix2 r n) + G (ix2 r ⟨2048 + n, by omega⟩) * B (ix2 r n)
      + G (ix2 r ⟨4096 + n, by omega⟩) * C (ix2 r n) := by
  pointwise [summed]

theorem out_at (A : FVec Ideal S16384x768 .bf16) (B C : FVec Ideal S16384x640 .bf16) (A' : FVec Ideal S1024x768 .bf16) (B' C' : FVec Ideal S1024x640 .bf16)
    (P : FVec Ideal S17408x10240 .bf16) (U : FVec Ideal S768x2048 .bf16) (V W : FVec Ideal S640x2048 .bf16) :
    summed (gates P) (wide A A' U) (narrow B B' V) (narrow C C' W) = merged A B C A' B' C' P U V W := by
  funext i
  idx_vars i
  refine (summed_at _ _ _ _ i0 i1).trans ?_
  rw [merged_at _ _ _ _ _ _ _ _ _ _ _ i0 i1 rfl rfl, wide_at, narrow_at, narrow_at, gates_at P i0 _ ⟨4096 + i1, by omega⟩ rfl,
    gates_at P i0 _ ⟨6144 + i1, by omega⟩ (by simp only; omega), gates_at P i0 _ ⟨8192 + i1, by omega⟩ (by simp only; omega)]
  rfl

end Cert.RefMergeIdeal.Value
end
-- ==== Proof.PairMerge.lean ====
/- The branch merge writes what its reference computes. -/
module

public import proofs.«01_k».proof.Defs
public import proofs.«01_k».proof.Proof.Merge
public import proofs.«01_k».proof.Proof.RefMerge

@[expose] public section

set_option maxRecDepth 16384
set_option maxHeartbeats 4000000

noncomputable section

namespace Cert.Pairs

open Idealize.ShloMosaic Idealize.SL.Sem

theorem merge : Cert.algebraic_MergeIdeal_RefMergeIdeal := by
  pair_intro
  · run_from Cert.MergeIdeal.Gen.run_main m g
  · run_from Cert.RefMergeIdeal.Value.run m' g'
    have h4 := (hagree c).2.2.2.2.1
    have h5 := (hagree c).2.2.2.2.2.1
    refine (Cert.RefMergeIdeal.Value.out_at _ _ _ _ _ _ _ _ _ _).trans (Eq.trans ?_ (Cert.MergeIdeal.Value.final (m := m) c).symm)
    unfold Cert.MergeIdeal.Value.target
    rw [h4, h5]

end Cert.Pairs
end
-- ==== Proof.Norm.lean ====
/- The layer's rows after the branches are added to them and normalised, and the same rows modulated. -/
module

public import proofs.«01_k».proof.Proof.Stream

@[expose] public section

noncomputable section

namespace Cert.Norm

open Idealize.ShloMosaic Cert.Stream

abbrev Line : Shape := ⟨2, ![1, 2048]⟩
abbrev Rows : Shape := ⟨2, ![17408, 2048]⟩
abbrev Square : Shape := ⟨2, ![2048, 2048]⟩

/-- The mean of a row. -/
def mean (z : Fin 2048 → EReal) : EReal := Ideal.div (∑ e, z e) (Ideal.ofBits .f32 0x45000000#32)

/-- A row less its mean. -/
def centred (z : Fin 2048 → EReal) (e : Fin 2048) : EReal := z e - mean z

/-- A centred row over its standard deviation, then scaled and shifted. -/
def scaled (w : Fin 2048 → EReal) (g b : Fin 2048 → EReal) (e : Fin 2048) : EReal :=
  w e * Ideal.rsqrt (mean (fun k => w k * w k) + Ideal.ofBits .f32 0x358637BD#32) * g e + b e

/-- The layer's row, weighted, plus its gated branches through the output weights. -/
def added (R : FVec Ideal Rows .bf16) (X : FVec Ideal (Lat 2048) .f32) (C : FVec Ideal (Ctx 2048) .f32) (M : FVec Ideal Mod .f32) (W : FVec Ideal Square .bf16)
    (r : Fin 17408) (e : Fin 2048) : EReal :=
  Ideal.ofBits .f32 0x3FB504F3#32 * row X C r e + M (ix3 (entry r) 2 e) * ∑ k : Fin 2048, R (ix2 r k) * W (ix2 k e)

/-- The normalised row. -/
def normed (R : FVec Ideal Rows .bf16) (X : FVec Ideal (Lat 2048) .f32) (C : FVec Ideal (Ctx 2048) .f32) (M : FVec Ideal Mod .f32) (W : FVec Ideal Square .bf16)
    (G B : FVec Ideal Line .f32) (r : Fin 17408) (e : Fin 2048) : EReal :=
  scaled (centred (added R X C M W r)) (fun k => G (ix2 0 k)) (fun k => B (ix2 0 k)) e

/-- The arrays of normalised rows and of modulated normalised rows. -/
def normal (R : FVec Ideal Rows .bf16) (X : FVec Ideal (Lat 2048) .f32) (C : FVec Ideal (Ctx 2048) .f32) (M : FVec Ideal Mod .f32) (W : FVec Ideal Square .bf16)
    (G B : FVec Ideal Line .f32) : FVec Ideal Rows .f32 := fun i => normed R X C M W G B (i 0) (i 1)
def adapted (R : FVec Ideal Rows .bf16) (X : FVec Ideal (Lat 2048) .f32) (C : FVec Ideal (Ctx 2048) .f32) (M : FVec Ideal Mod .f32) (W : FVec Ideal Square .bf16)
    (G B : FVec Ideal Line .f32) : FVec Ideal Rows .bf16 := fun i => adapt M 4 3 (i 0) (i 1) (normed R X C M W G B (i 0) (i 1))

end Cert.Norm
end
-- ==== Proof.Output.lean ====
/- What the output projection's grid leaves: thirty-two tiles of latent rows and two of context rows, each normalised, and modulated besides. -/
module

public import proofs.«01_k».proof.Proof.Gen.OutputIdeal.Value
public import proofs.«01_k».proof.Proof.Norm
public import Idealize.ShloMosaic.Lib.Pipeline.ReadBack

@[expose] public section

set_option maxRecDepth 16384

noncomputable section

namespace Cert.OutputIdeal.Value

open Cert.OutputIdeal Cert.OutputIdeal.Gen Cert.OutputIdeal.Facts Idealize.ShloMosaic Idealize.ShloMosaic.TcCoe Idealize.SL.Sem
open Idealize.ShloMosaic.Pipeline (Dat)
open Cert.Stream Cert.Norm

variable (m : (ℓ : Loc nD τ sig) → Buf (Elt Ideal) ℓ)

/-- A tile's sum, less its rows' means. -/
theorem centre_at (A : FVec Ideal S1x1x2048 .f32) (R : FVec Ideal S512x2048 .bf16) (W : FVec Ideal S2048x2048 .bf16) (X : FVec Ideal S512x2048 .f32)
    (r : Fin 512) (e : Fin 2048) : k0_pay4 (F := Ideal) A R W X (ix2 r e)
      = centred (fun k => Ideal.ofBits .f32 0x3FB504F3#32 * X (ix2 r k) + A (ix3 0 0 k) * ∑ l : Fin 2048, R (ix2 r l) * W (ix2 l k)) e := by
  unfold centred mean
  pointwise [k0_pay4]

/-- A tile of centred rows normalised. -/
theorem scale_at (G B : FVec Ideal S1x2048 .f32) (w : FVec Ideal S512x2048 .f32) (r : Fin 512) (e : Fin 2048) :
    k0_pay5 (F := Ideal) G B w (ix2 r e) = scaled (fun k => w (ix2 r k)) (fun k => G (ix2 0 k)) (fun k => B (ix2 0 k)) e := by
  unfold scaled mean
  pointwise [k0_pay5]

/-- A normalised tile modulated. -/
theorem adapt_at (S T : FVec Ideal S1x1x2048 .f32) (G B : FVec Ideal S1x2048 .f32) (w : FVec Ideal S512x2048 .f32) (r : Fin 512) (e : Fin 2048) :
    (k0_pay7 (F := Ideal) (k0_pay2 S) (k0_pay3 T) G B w (ix2 r e) : EReal)
      = k0_pay5 (F := Ideal) G B w (ix2 r e) * (Ideal.ofBits .f32 0x3F800000#32 + T (ix3 0 0 e)) + S (ix3 0 0 e) := by
  pointwise [k0_pay7, k0_pay6, k0_pay2, k0_pay3]

/-- The grid: point `t` is tile `t` of rows. -/
theorem idx : ∀ t : Fin cfg0.N, win0_0.index t = ![t.val, 0] ∧ win0_1.index t = ![min t.val 31, 0] ∧ win0_2.index t = ![min (t.val / 8) 4, 0, 0]
    ∧ win0_3.index t = ![t.val - 32, 0] ∧ win0_4.index t = ![0, 0] ∧ win0_5.index t = ![0, 0] ∧ win0_6.index t = ![0, 0]
    ∧ win0_9.index t = ![t.val, 0] ∧ win0_10.index t = ![t.val, 0] :=
  (by decide +kernel : ∀ t : Fin grid0.N, _)

theorem lt34 (t : Fin cfg0.N) : t.val < 34 := lt_of_lt_of_eq t.isLt (by decide +kernel)

theorem x0_at (c : Dev nD) (t : Fin cfg0.N) (r : Fin 512) (e : Fin 2048) :
    (iblk m c 0 t : FVec Ideal S512x2048 .bf16) (ix2 r e) = m ((c : Thread nD τ).loc main_arg0) (ix2 ⟨512 * t.val + r, by have := lt34 t; omega⟩ e) := by
  have := lt34 t
  blk_point [iblk, V, idx t]

theorem x1_at (c : Dev nD) (t : Fin cfg0.N) (h : t.val < 32) (r : Fin 512) (e : Fin 2048) :
    (iblk m c 1 t : FVec Ideal S512x2048 .f32) (ix2 r e) = m ((c : Thread nD τ).loc main_arg1) (ix2 ⟨512 * t.val + r, by omega⟩ e) := by
  blk_point [iblk, V, idx t]

theorem x2_at (c : Dev nD) (t : Fin cfg0.N) (s : Fin 6) (e : Fin 2048) :
    (iblk m c 2 t : FVec Ideal S1x6x2048 .f32) (ix3 0 s e) = m ((c : Thread nD τ).loc main_arg3) (ix3 ⟨min (t.val / 8) 4, by omega⟩ s e) := by
  blk_point [iblk, V, idx t]

theorem x3_at (c : Dev nD) (t : Fin cfg0.N) (h : 32 ≤ t.val) (r : Fin 512) (e : Fin 2048) :
    (iblk m c 3 t : FVec Ideal S512x2048 .f32) (ix2 r e) = m ((c : Thread nD τ).loc main_arg2) (ix2 ⟨512 * (t.val - 32) + r, by have := lt34 t; omega⟩ e) := by
  have := lt34 t
  blk_point [iblk, V, idx t]

theorem x4_at (c : Dev nD) (t : Fin cfg0.N) (r : Fin 2048) (e : Fin 2048) :
    (iblk m c 4 t : FVec Ideal S2048x2048 .bf16) (ix2 r e) = m ((c : Thread nD τ).loc main_arg4) (ix2 r e) := by
  blk_point [iblk, V, idx t]

theorem x5_at (c : Dev nD) (t : Fin cfg0.N) (e : Fin 2048) :
    (iblk m c 5 t : FVec Ideal S1x2048 .f32) (ix2 0 e) = m ((c : Thread nD τ).loc main_arg5) (ix2 0 e) := by
  blk_point [iblk, V, idx t]

theorem x6_at (c : Dev nD) (t : Fin cfg0.N) (e : Fin 2048) :
    (iblk m c 6 t : FVec Ideal S1x2048 .f32) (ix2 0 e) = m ((c : Thread nD τ).loc main_arg6) (ix2 0 e) := by
  blk_point [iblk, V, idx t]

/-- A line of the modulations that point `t` holds. -/
theorem line (c : Dev nD) (t : Fin cfg0.N) (s : Fin 6) (e : Fin 2048) (r : Fin 17408) (hr : r.val / 512 = t.val) :
    (iblk m c 2 t : FVec Ideal S1x6x2048 .f32) (ix3 0 s e) = m ((c : Thread nD τ).loc main_arg3) (ix3 (entry r) s e) := by
  have ht := lt34 t
  refine (x2_at m c t s e).trans (congrArg _ (congrArg (ix3 · s e) (Fin.ext ?_)))
  unfold entry
  simp only
  omega

/-- The arrays of normalised rows and of modulated rows, of the call's arguments. -/
def target (c : Dev nD) : FVec Ideal S17408x2048 .f32 :=
  normal (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
def target' (c : Dev nD) : FVec Ideal S17408x2048 .bf16 :=
  adapted (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A tile of rows of the stream, normalised. -/
theorem tile_at (c : Dev nD) (t : Fin cfg0.N) (A : FVec Ideal S1x1x2048 .f32) (X : FVec Ideal S512x2048 .f32) (r : Fin 512) (s : Fin 17408) (n : Fin 2048)
    (hs : s.val = 512 * t.val + r.val)
    (hA : ∀ e, A (ix3 0 0 e) = (iblk m c 2 t : FVec Ideal S1x6x2048 .f32) (ix3 0 2 e))
    (hX : ∀ e, X (ix2 r e) = row (φ := .f32) (m ((c : Thread nD τ).loc main_arg1)) (m ((c : Thread nD τ).loc main_arg2)) s e) :
    k0_pay5 (F := Ideal) (iblk m c 5 t) (iblk m c 6 t) (k0_pay4 A (iblk m c 0 t) (iblk m c 4 t) X) (ix2 r n) = target m c (ix2 s n) := by
  have hr : (⟨512 * t.val + r, by have := lt34 t; omega⟩ : Fin 17408) = s := Fin.ext hs.symm
  have hz : ∀ k, k0_pay4 (F := Ideal) A (iblk m c 0 t) (iblk m c 4 t) X (ix2 r k)
      = centred (added (m ((c : Thread nD τ).loc main_arg0)) (m ((c : Thread nD τ).loc main_arg1)) (m ((c : Thread nD τ).loc main_arg2))
        (m ((c : Thread nD τ).loc main_arg3)) (m ((c : Thread nD τ).loc main_arg4)) s) k := fun k => by
    rw [centre_at]
    refine congrArg (fun f => centred f k) (funext fun e => ?_)
    unfold added
    rw [hX, hA, line m c t 2 e s (by omega)]
    refine congrArg (fun z : EReal => (_ : EReal) + (_ : EReal) * z) ((Finset.sum_congr rfl fun l _ => ?_))
    rw [x0_at, x4_at, hr]
  rw [scale_at]
  show _ = normed _ _ _ _ _ _ _ s n
  unfold normed
  rw [show (fun k => k0_pay4 (F := Ideal) A (iblk m c 0 t) (iblk m c 4 t) X (ix2 r k)) = _ from funext hz,
    show (fun k => (iblk m c 5 t : FVec Ideal S1x2048 .f32) (ix2 0 k)) = _ from funext (x5_at m c t),
    show (fun k => (iblk m c 6 t : FVec Ideal S1x2048 .f32) (ix2 0 k)) = _ from funext (x6_at m c t)]

/-- The same tile modulated. -/
theorem tile_at' (c : Dev nD) (t : Fin cfg0.N) (A S T : FVec Ideal S1x1x2048 .f32) (X : FVec Ideal S512x2048 .f32) (r : Fin 512) (s : Fin 17408) (n : Fin 2048)
    (hs : s.val = 512 * t.val + r.val)
    (hA : ∀ e, A (ix3 0 0 e) = (iblk m c 2 t : FVec Ideal S1x6x2048 .f32) (ix3 0 2 e))
    (hS : ∀ e, S (ix3 0 0 e) = (iblk m c 2 t : FVec Ideal S1x6x2048 .f32) (ix3 0 3 e))
    (hT : ∀ e, T (ix3 0 0 e) = (iblk m c 2 t : FVec Ideal S1x6x2048 .f32) (ix3 0 4 e))
    (hX : ∀ e, X (ix2 r e) = row (φ := .f32) (m ((c : Thread nD τ).loc main_arg1)) (m ((c : Thread nD τ).loc main_arg2)) s e) :
    k0_pay7 (F := Ideal) (k0_pay2 S) (k0_pay3 T) (iblk m c 5 t) (iblk m c 6 t) (k0_pay4 A (iblk m c 0 t) (iblk m c 4 t) X) (ix2 r n) = target' m c (ix2 s n) := by
  refine (adapt_at _ _ _ _ _ _ _).trans ?_
  rw [tile_at m c t A X r s n hs hA hX, hS, hT, line m c t 3 n s (by omega), line m c t 4 n s (by omega)]
  rfl

/-- What point `t` leaves in its two blocks. -/
theorem outs (c : Dev nD) (t : Fin cfg0.N) (r : Fin 512) (s : Fin 17408) (n : Fin 2048) (hs : s.val = 512 * t.val + r.val) :
    (outsAt0 m c t.val t.isLt).1 (ix2 r n) = target m c (ix2 s n) ∧ (outsAt0 m c t.val t.isLt).2.1 (ix2 r n) = target' m c (ix2 s n) := by
  have ht := lt34 t
  by_cases h : t.val < 32
  · have hX : ∀ e, (iblk m c 1 t : FVec Ideal S512x2048 .f32) (ix2 r e) = row (φ := .f32) (m ((c : Thread nD τ).loc main_arg1)) (m ((c : Thread nD τ).loc main_arg2)) s e :=
      fun e => (x1_at m c t h r e).trans (row_lat _ _ _ _ _ hs).symm
    rw [outsAt0_A m c t h (by omega)]
    refine ⟨?_, ?_⟩ <;> dsimp only <;> frame_out
    · refine tile_at m c t _ _ r s n hs ?_ hX
      all_goals intro e; exact congrArg (iblk m c 2 t) (funext fun a => Fin.ext (by fin_cases a <;> simp [LoadRect.idx, Rect.unit]))
    · refine tile_at' m c t _ _ _ _ r s n hs ?_ ?_ ?_ hX
      all_goals intro e; exact congrArg (iblk m c 2 t) (funext fun a => Fin.ext (by fin_cases a <;> simp [LoadRect.idx, Rect.unit]))
  · have hX : ∀ e, (iblk m c 3 t : FVec Ideal S512x2048 .f32) (ix2 r e) = row (φ := .f32) (m ((c : Thread nD τ).loc main_arg1)) (m ((c : Thread nD τ).loc main_arg2)) s e :=
      fun e => (x3_at m c t (by omega) r e).trans (row_ctx _ _ _ _ _ (by simp only; omega)).symm
    rw [outsAt0_B m c t h (by omega)]
    refine ⟨?_, ?_⟩ <;> dsimp only <;> frame_out
    · refine tile_at m c t _ _ r s n hs ?_ hX
      all_goals intro e; exact congrArg (iblk m c 2 t) (funext fun a => Fin.ext (by fin_cases a <;> simp [LoadRect.idx, Rect.unit]))
    · refine tile_at' m c t _ _ _ _ r s n hs ?_ ?_ ?_ hX
      all_goals intro e; exact congrArg (iblk m c 2 t) (funext fun a => Fin.ext (by fin_cases a <;> simp [LoadRect.idx, Rect.unit]))

/-- The array of normalised rows that the output projection leaves. -/
theorem final (c : Dev nD) : (dats m 0 c).arrAt 9 cfg0.N = target m c := by
  refine (dats m 0 c).arrAt_eq_of_covers 9 _ (by decide +kernel) fun t hf y => ?_
  have ht := lt34 t
  idx_vars y
  blk_simp
  rw [after0_9]
  refine (outs m c t y0 ⟨512 * t.val + y0.val, by omega⟩ y1 rfl).1.trans ?_
  refine congrArg (target m c) ?_
  blk_ext [idx t]

/-- The array of modulated rows that it leaves. -/
theorem final' (c : Dev nD) : (dats m 0 c).arrAt 10 cfg0.N = target' m c := by
  refine (dats m 0 c).arrAt_eq_of_covers 10 _ (by decide +kernel) fun t hf y => ?_
  have ht := lt34 t
  idx_vars y
  blk_simp
  rw [after0_10]
  refine (outs m c t y0 ⟨512 * t.val + y0.val, by omega⟩ y1 rfl).2.trans ?_
  refine congrArg (target' m c) ?_
  blk_ext [idx t]

end Cert.OutputIdeal.Value
end
-- ==== Proof.RefOutput.lean ====
/- What the reference of the output projection computes, entry by entry. -/
module

public import proofs.«01_k».proof.Proof.Gen.RefOutputIdeal.Run
public import proofs.«01_k».proof.Proof.Norm

@[expose] public section

set_option maxRecDepth 16384

noncomputable section

namespace Cert.RefOutputIdeal.Value

open Cert.RefOutputIdeal Cert.RefOutputIdeal.Gen Cert.RefOutputIdeal.Facts Idealize.ShloMosaic Idealize.ShloMosaic.TcCoe Idealize.SL.Sem
open Cert.Stream Cert.Norm

variable (m : (ℓ : Loc nD τ sig) → Buf (Elt Ideal) ℓ)

/-- The branches through the output weights. -/
def through (R : FVec Ideal S17408x2048 .bf16) (W : FVec Ideal S2048x2048 .bf16) : FVec Ideal S17408x2048 .f32 :=
  Host.dotGeneral dot_S17408x2048_S2048x2048_S17408x2048_1_0_0_1_n_n none (extf .f32 R bitsLt_bf16_f32) (extf .f32 W bitsLt_bf16_f32)

/-- The latents weighted, plus their gated branches. -/
def latSum (X : FVec Ideal S16384x2048 .f32) (M : FVec Ideal S8x6x2048 .f32) (Y : FVec Ideal S17408x2048 .f32) : FVec Ideal S4x4096x2048 .f32 :=
  addf (mulf (broadcastInDim S4x4096x2048 ![] bcast_S_S4x4096x2048 (constant S_ .f32 0x3FB504F3#32)) (shapeCast _ X shapeCasts_S16384x2048_S4x4096x2048))
    (mulf (broadcastInDim S4x4096x2048 ![0, 1, 2] bcast_S4x1x2048_S4x4096x2048_0_1_2 (broadcastInDim S4x1x2048 ![0, 2] bcast_S4x2048_S4x1x2048_0_2
        (shapeCast _ (extractStridedSlice S4x1x2048 ![0, 2, 0] M slices_S8x6x2048_S4x1x2048_0_2_0) shapeCasts_S4x1x2048_S4x2048)))
      (shapeCast _ (extractStridedSlice S16384x2048 ![0, 0] Y slices_S17408x2048_S16384x2048_0_0) shapeCasts_S16384x2048_S4x4096x2048))

/-- The mean of each latent row, the rows less their means, and those normalised. -/
def latMean (z : FVec Ideal S4x4096x2048 .f32) : FVec Ideal S4x4096x1 .f32 :=
  Host.divf (broadcastInDim S4x4096x1 ![0, 1] bcast_S4x4096_S4x4096x1_0_1 (Host.reduceAdd z (constant S_ .f32 0x00000000#32) reducesTo_S4x4096x2048_S4x4096_d2 h_S_))
    (broadcastInDim S4x4096x1 ![] bcast_S_S4x4096x1 (constant S_ .f32 0x45000000#32))
def latCentred (z : FVec Ideal S4x4096x2048 .f32) : FVec Ideal S4x4096x2048 .f32 :=
  subf z (broadcastInDim S4x4096x2048 ![0, 1, 2] bcast_S4x4096x1_S4x4096x2048_0_1_2 (latMean z))
def latScaled (w : FVec Ideal S4x4096x2048 .f32) (v : FVec Ideal S4x4096x1 .f32) (G B : FVec Ideal S1x2048 .f32) : FVec Ideal S4x4096x2048 .f32 :=
  addf (mulf (mulf w (broadcastInDim S4x4096x2048 ![0, 1, 2] bcast_S4x4096x1_S4x4096x2048_0_1_2
      (Host.rsqrt (addf v (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 (shapeCast _ G shapeCasts_S1x2048_S2048))))
    (broadcastInDim S4x4096x2048 ![0, 1, 2] bcast_S1x1x2048_S4x4096x2048_0_1_2 (broadcastInDim S1x1x2048 ![2] bcast_S2048_S1x1x2048_2 (shapeCast _ B shapeCasts_S1x2048_S2048)))
def latNorm (z : FVec Ideal S4x4096x2048 .f32) (G B : FVec Ideal S1x2048 .f32) : FVec Ideal S4x4096x2048 .f32 :=
  latScaled (latCentred z) (latMean (mulf (latCentred z) (latCentred z))) G B

/-- Latent rows scaled and shifted by their batch entry's modulations. -/
def latAdapt (x : FVec Ideal S4x4096x2048 .f32) (M : FVec Ideal S8x6x2048 .f32) : FVec Ideal S4x4096x2048 .f32 :=
  addf (mulf x (broadcastInDim S4x4096x2048 ![0, 1, 2] bcast_S4x1x2048_S4x4096x2048_0_1_2
      (addf (broadcastInDim S4x1x2048 ![] bcast_S_S4x1x2048 (constant S_ .f32 0x3F800000#32)) (broadcastInDim S4x1x2048 ![0, 2] bcast_S4x2048_S4x1x2048_0_2
        (shapeCast _ (extractStridedSlice S4x1x2048 ![0, 4, 0] M slices_S8x6x2048_S4x1x2048_0_4_0) shapeCasts_S4x1x2048_S4x2048)))))
    (broadcastInDim S4x4096x2048 ![0, 1, 2] bcast_S4x1x2048_S4x4096x2048_0_1_2 (broadcastInDim S4x1x2048 ![0, 2] bcast_S4x2048_S4x1x2048_0_2
      (shapeCast _ (extractStridedSlice S4x1x2048 ![0, 3, 0] M slices_S8x6x2048_S4x1x2048_0_3_0) shapeCasts_S4x1x2048_S4x2048)))

/-- The contexts weighted, plus their gated branches. -/
def ctxSum (C : FVec Ideal S1024x2048 .f32) (M : FVec Ideal S8x6x2048 .f32) (Y : FVec Ideal S17408x2048 .f32) : FVec Ideal S1024x2048 .f32 :=
  addf (mulf (broadcastInDim S1024x2048 ![] bcast_S_S1024x2048 (constant S_ .f32 0x3FB504F3#32)) C)
    (mulf (broadcastInDim S1024x2048 ![0, 1] bcast_S1x2048_S1024x2048_0_1 (broadcastInDim S1x2048 ![1] bcast_S2048_S1x2048_1
        (shapeCast _ (extractStridedSlice S1x1x2048 ![4, 2, 0] M slices_S8x6x2048_S1x1x2048_4_2_0) shapeCasts_S1x1x2048_S2048)))
      (extractStridedSlice S1024x2048 ![16384, 0] Y slices_S17408x2048_S1024x2048_16384_0))

/-- The mean of each context row, the rows less their means, and those normalised. -/
def ctxMean (z : FVec Ideal S1024x2048 .f32) : FVec Ideal S1024x1 .f32 :=
  Host.divf (broadcastInDim S1024x1 ![0] bcast_S1024_S1024x1_0 (Host.reduceAdd z (constant S_ .f32 0x00000000#32) reducesTo_S1024x2048_S1024_d1 h_S_))
    (broadcastInDim S1024x1 ![] bcast_S_S1024x1 (constant S_ .f32 0x45000000#32))
def ctxCentred (z : FVec Ideal S1024x2048 .f32) : FVec Ideal S1024x2048 .f32 :=
  subf z (broadcastInDim S1024x2048 ![0, 1] bcast_S1024x1_S1024x2048_0_1 (ctxMean z))
def ctxScaled (w : FVec Ideal S1024x2048 .f32) (v : FVec Ideal S1024x1 .f32) (G B : FVec Ideal S1x2048 .f32) : FVec Ideal S1024x2048 .f32 :=
  addf (mulf (mulf w (broadcastInDim S1024x2048 ![0, 1] bcast_S1024x1_S1024x2048_0_1
      (Host.rsqrt (addf v (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 (shapeCast _ G shapeCasts_S1x2048_S2048))))
    (broadcastInDim S1024x2048 ![0, 1] bcast_S1x2048_S1024x2048_0_1 (broadcastInDim S1x2048 ![1] bcast_S2048_S1x2048_1 (shapeCast _ B shapeCasts_S1x2048_S2048)))
def ctxNorm (z : FVec Ideal S1024x2048 .f32) (G B : FVec Ideal S1x2048 .f32) : FVec Ideal S1024x2048 .f32 :=
  ctxScaled (ctxCentred z) (ctxMean (mulf (ctxCentred z) (ctxCentred z))) G B

/-- Context rows scaled and shifted by the fifth row of modulations. -/
def ctxAdapt (x : FVec Ideal S1024x2048 .f32) (M : FVec Ideal S8x6x2048 .f32) : FVec Ideal S1024x2048 .f32 :=
  addf (mulf x (broadcastInDim S1024x2048 ![0, 1] bcast_S1x2048_S1024x2048_0_1 (broadcastInDim S1x2048 ![1] bcast_S2048_S1x2048_1
      (addf (broadcastInDim S2048 ![] bcast_S_S2048 (constant S_ .f32 0x3F800000#32))
        (shapeCast _ (extractStridedSlice S1x1x2048 ![4, 4, 0] M slices_S8x6x2048_S1x1x2048_4_4_0) shapeCasts_S1x1x2048_S2048)))))
    (broadcastInDim S1024x2048 ![0, 1] bcast_S1x2048_S1024x2048_0_1 (broadcastInDim S1x2048 ![1] bcast_S2048_S1x2048_1
      (shapeCast _ (extractStridedSlice S1x1x2048 ![4, 3, 0] M slices_S8x6x2048_S1x1x2048_4_3_0) shapeCasts_S1x1x2048_S2048)))

/-- Latent rows above context rows. -/
def joined (x : FVec Ideal S4x4096x2048 .f32) (y : FVec Ideal S1024x2048 .f32) : FVec Ideal S17408x2048 .f32 :=
  concatenate S17408x2048 0 [⟨S16384x2048, shapeCast _ x shapeCasts_S4x4096x2048_S16384x2048⟩, ⟨S1024x2048, y⟩] concatenates_S16384x2048_S1024x2048_S17408x2048_d0

/-- The two results as staged above. -/
def first (R : FVec Ideal S17408x2048 .bf16) (X : FVec Ideal S16384x2048 .f32) (C : FVec Ideal S1024x2048 .f32) (M : FVec Ideal S8x6x2048 .f32)
    (W : FVec Ideal S2048x2048 .bf16) (G B : FVec Ideal S1x2048 .f32) : FVec Ideal S17408x2048 .f32 :=
  joined (latNorm (latSum X M (through R W)) G B) (ctxNorm (ctxSum C M (through R W)) G B)
def second (R : FVec Ideal S17408x2048 .bf16) (X : FVec Ideal S16384x2048 .f32) (C : FVec Ideal S1024x2048 .f32) (M : FVec Ideal S8x6x2048 .f32)
    (W : FVec Ideal S2048x2048 .bf16) (G B : FVec Ideal S1x2048 .f32) : FVec Ideal S17408x2048 .bf16 :=
  truncf .bf16 (joined (latAdapt (latNorm (latSum X M (through R W)) G B) M) (ctxAdapt (ctxNorm (ctxSum C M (through R W)) G B) M)) bitsLt_bf16_f32

theorem first_eq (c : Dev nD) : res_main_v100 m c = first (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

theorem second_eq (c : Dev nD) : res_main_v103 m c = second (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

theorem through_at (R : FVec Ideal S17408x2048 .bf16) (W : FVec Ideal S2048x2048 .bf16) (r : Fin 17408) (e : Fin 2048) :
    through R W (ix2 r e) = ∑ k : Fin 2048, R (ix2 r k) * W (ix2 k e) := by
  pointwise [through]

theorem latSum_at (X : FVec Ideal S16384x2048 .f32) (M : FVec Ideal S8x6x2048 .f32) (Y : FVec Ideal S17408x2048 .f32) (b : Fin 4) (s : Fin 4096) (e : Fin 2048) :
    latSum X M Y (ix3 b s e) = Ideal.ofBits .f32 0x3FB504F3#32 * X (ix2 ⟨b * 4096 + s, by omega⟩ e) + M (ix3 ⟨b, by omega⟩ 2 e) * Y (ix2 ⟨b * 4096 + s, by omega⟩ e) := by
  pointwise [latSum]

theorem ctxSum_at (C : FVec Ideal S1024x2048 .f32) (M : FVec Ideal S8x6x2048 .f32) (Y : FVec Ideal S17408x2048 .f32) (s : Fin 1024) (e : Fin 2048) :
    ctxSum C M Y (ix2 s e) = Ideal.ofBits .f32 0x3FB504F3#32 * C (ix2 s e) + M (ix3 4 2 e) * Y (ix2 ⟨16384 + s, by omega⟩ e) := by
  pointwise [ctxSum]

theorem latMean_at (z : FVec Ideal S4x4096x2048 .f32) (b : Fin 4) (s : Fin 4096) : latMean z (ix3 b s 0) = mean (fun e => z (ix3 b s e)) := by
  unfold mean
  pointwise [latMean]

theorem ctxMean_at (z : FVec Ideal S1024x2048 .f32) (s : Fin 1024) : ctxMean z (ix2 s 0) = mean (fun e => z (ix2 s e)) := by
  unfold mean
  pointwise [ctxMean]

theorem latCentred_at (z : FVec Ideal S4x4096x2048 .f32) (b : Fin 4) (s : Fin 4096) (e : Fin 2048) :
    latCentred z (ix3 b s e) = z (ix3 b s e) - latMean z (ix3 b s 0) := by
  pointwise [latCentred]

theorem ctxCentred_at (z : FVec Ideal S1024x2048 .f32) (s : Fin 1024) (e : Fin 2048) : ctxCentred z (ix2 s e) = z (ix2 s e) - ctxMean z (ix2 s 0) := by
  pointwise [ctxCentred]

theorem latScaled_at (w : FVec Ideal S4x4096x2048 .f32) (v : FVec Ideal S4x4096x1 .f32) (G B : FVec Ideal S1x2048 .f32) (b : Fin 4) (s : Fin 4096) (e : Fin 2048) :
    latScaled w v G B (ix3 b s e) = w (ix3 b s e) * Ideal.rsqrt (v (ix3 b s 0) + Ideal.ofBits .f32 0x358637BD#32) * G (ix2 0 e) + B (ix2 0 e) := by
  pointwise [latScaled]

theorem ctxScaled_at (w : FVec Ideal S1024x2048 .f32) (v : FVec Ideal S1024x1 .f32) (G B : FVec Ideal S1x2048 .f32) (s : Fin 1024) (e : Fin 2048) :
    ctxScaled w v G B (ix2 s e) = w (ix2 s e) * Ideal.rsqrt (v (ix2 s 0) + Ideal.ofBits .f32 0x358637BD#32) * G (ix2 0 e) + B (ix2 0 e) := by
  pointwise [ctxScaled]

theorem latAdapt_at (x : FVec Ideal S4x4096x2048 .f32) (M : FVec Ideal S8x6x2048 .f32) (b : Fin 4) (s : Fin 4096) (e : Fin 2048) :
    latAdapt x M (ix3 b s e) = x (ix3 b s e) * (Ideal.ofBits .f32 0x3F800000#32 + M (ix3 ⟨b, by omega⟩ 4 e)) + M (ix3 ⟨b, by omega⟩ 3 e) := by
  pointwise [latAdapt]

theorem ctxAdapt_at (x : FVec Ideal S1024x2048 .f32) (M : FVec Ideal S8x6x2048 .f32) (s : Fin 1024) (e : Fin 2048) :
    ctxAdapt x M (ix2 s e) = x (ix2 s e) * (Ideal.ofBits .f32 0x3F800000#32 + M (ix3 4 4 e)) + M (ix3 4 3 e) := by
  pointwise [ctxAdapt]

theorem joined_at (x : FVec Ideal S4x4096x2048 .f32) (y : FVec Ideal S1024x2048 .f32) (r : Fin 17408) (e : Fin 2048) :
    joined x y (ix2 r e) = if h : r.val < 16384 then x (ix3 ⟨r / 4096, by omega⟩ ⟨r % 4096, by omega⟩ e) else y (ix2 ⟨r - 16384, by omega⟩ e) := by
  pointwise [joined]

/-- A latent row normalised: the row function's value on that row. -/
theorem latNorm_at (z : FVec Ideal S4x4096x2048 .f32) (G B : FVec Ideal S1x2048 .f32) (b : Fin 4) (s : Fin 4096) (e : Fin 2048) :
    latNorm z G B (ix3 b s e) = scaled (centred (fun k => z (ix3 b s k))) (fun k => G (ix2 0 k)) (fun k => B (ix2 0 k)) e := by
  have hc : ∀ k, latCentred z (ix3 b s k) = centred (fun k => z (ix3 b s k)) k := fun k => by rw [latCentred_at, latMean_at]; rfl
  unfold latNorm scaled
  rw [latScaled_at, latMean_at, hc]
  exact congrArg (fun f => centred (fun k => z (ix3 b s k)) e * Ideal.rsqrt (mean f + Ideal.ofBits .f32 0x358637BD#32) * G (ix2 0 e) + B (ix2 0 e))
    (funext fun k => congrArg₂ (· * ·) (hc k) (hc k))

/-- A context row normalised. -/
theorem ctxNorm_at (z : FVec Ideal S1024x2048 .f32) (G B : FVec Ideal S1x2048 .f32) (s : Fin 1024) (e : Fin 2048) :
    ctxNorm z G B (ix2 s e) = scaled (centred (fun k => z (ix2 s k))) (fun k => G (ix2 0 k)) (fun k => B (ix2 0 k)) e := by
  have hc : ∀ k, ctxCentred z (ix2 s k) = centred (fun k => z (ix2 s k)) k := fun k => by rw [ctxCentred_at, ctxMean_at]; rfl
  unfold ctxNorm scaled
  rw [ctxScaled_at, ctxMean_at, hc]
  exact congrArg (fun f => centred (fun k => z (ix2 s k)) e * Ideal.rsqrt (mean f + Ideal.ofBits .f32 0x358637BD#32) * G (ix2 0 e) + B (ix2 0 e))
    (funext fun k => congrArg₂ (· * ·) (hc k) (hc k))

variable (R : FVec Ideal S17408x2048 .bf16) (X : FVec Ideal S16384x2048 .f32) (C : FVec Ideal S1024x2048 .f32) (M : FVec Ideal S8x6x2048 .f32)
  (W : FVec Ideal S2048x2048 .bf16) (G B : FVec Ideal S1x2048 .f32)

/-- A latent row of the sum, and a context row of it. -/
theorem lat_added (r : Fin 17408) (h : r.val < 16384) (e : Fin 2048) :
    latSum X M (through R W) (ix3 ⟨r / 4096, by omega⟩ ⟨r % 4096, by omega⟩ e) = added R X C M W r e := by
  rw [latSum_at]
  unfold added
  rw [row_lat X C r ⟨r, h⟩ e rfl]
  have h1 : (⟨r / 4096 * 4096 + r % 4096, by omega⟩ : Fin 16384) = ⟨r, h⟩ := Fin.ext (Nat.div_add_mod' r.val 4096)
  have h2 : (⟨r / 4096 * 4096 + r % 4096, by omega⟩ : Fin 17408) = r := Fin.ext (Nat.div_add_mod' r.val 4096)
  simp only [h1, h2, through_at]
  rfl

theorem ctx_added (r : Fin 17408) (h : ¬ r.val < 16384) (e : Fin 2048) :
    ctxSum C M (through R W) (ix2 ⟨r - 16384, by omega⟩ e) = added R X C M W r e := by
  rw [ctxSum_at]
  unfold added
  rw [row_ctx X C r ⟨r - 16384, by omega⟩ e (by simp only; omega)]
  have h1 : (⟨16384 + (r - 16384), by omega⟩ : Fin 17408) = r := Fin.ext (by simp only; omega)
  have h4 : entry r = 4 := Fin.ext (show r.val / 4096 = 4 by omega)
  simp only [h1, h4, through_at]

theorem lat_normed (r : Fin 17408) (h : r.val < 16384) (e : Fin 2048) :
    latNorm (latSum X M (through R W)) G B (ix3 ⟨r / 4096, by omega⟩ ⟨r % 4096, by omega⟩ e) = normed R X C M W G B r e := by
  rw [latNorm_at]
  exact congrArg (fun f => scaled (centred f) _ _ e) (funext fun k => lat_added R X C M W r h k)

theorem ctx_normed (r : Fin 17408) (h : ¬ r.val < 16384) (e : Fin 2048) :
    ctxNorm (ctxSum C M (through R W)) G B (ix2 ⟨r - 16384, by omega⟩ e) = normed R X C M W G B r e := by
  rw [ctxNorm_at]
  exact congrArg (fun f => scaled (centred f) _ _ e) (funext fun k => ctx_added R X C M W r h k)

/-- The first result. -/
theorem first_at : first R X C M W G B = normal R X C M W G B := by
  funext i
  idx_vars i
  unfold first
  rw [joined_at]
  show _ = normed R X C M W G B i0 i1
  split
  · next h => exact lat_normed R X C M W G B i0 h i1
  · next h => exact ctx_normed R X C M W G B i0 h i1

/-- The second result. -/
theorem second_at : second R X C M W G B = adapted R X C M W G B := by
  funext i
  idx_vars i
  show joined _ _ (ix2 i0 i1) = adapt M 4 3 i0 i1 (normed R X C M W G B i0 i1)
  rw [joined_at]
  split
  · next h => rw [latAdapt_at, lat_normed R X C M W G B i0 h i1]; rfl
  · next h =>
    have h4 : entry i0 = 4 := Fin.ext (show i0.val / 4096 = 4 by omega)
    rw [ctxAdapt_at, ctx_normed R X C M W G B i0 h i1]
    unfold adapt
    rw [h4]

end Cert.RefOutputIdeal.Value
end
-- ==== Proof.PairOutput.lean ====
/- The output projection writes what its reference computes. -/
module

public import proofs.«01_k».proof.Defs
public import proofs.«01_k».proof.Proof.Output
public import proofs.«01_k».proof.Proof.RefOutput

@[expose] public section

set_option maxRecDepth 16384
set_option maxHeartbeats 4000000

noncomputable section

namespace Cert.Pairs

open Idealize.ShloMosaic Idealize.SL.Sem

theorem output : Cert.algebraic_OutputIdeal_RefOutputIdeal := by
  pair_intro
  · run_from Cert.OutputIdeal.Gen.run_main m g
  · run_from Cert.RefOutputIdeal.Value.run m' g'
    · have h0 := (hagree c).1
      have h1 := (hagree c).2.1
      have h2 := (hagree c).2.2.1
      have h3 := (hagree c).2.2.2.1
      have h4 := (hagree c).2.2.2.2.1
      have h5 := (hagree c).2.2.2.2.2.1
      have h6 := (hagree c).2.2.2.2.2.2.1
      refine (Cert.RefOutputIdeal.Value.first_eq (m := m') c).trans ((Cert.RefOutputIdeal.Value.first_at _ _ _ _ _ _ _).trans (Eq.trans ?_ (Cert.OutputIdeal.Value.final (m := m) c).symm))
      unfold Cert.OutputIdeal.Value.target
      rw [h0, h1, h2, h3, h4, h5, h6]
    · have h0 := (hagree c).1
      have h1 := (hagree c).2.1
      have h2 := (hagree c).2.2.1
      have h3 := (hagree c).2.2.2.1
      have h4 := (hagree c).2.2.2.2.1
      have h5 := (hagree c).2.2.2.2.2.1
      have h6 := (hagree c).2.2.2.2.2.2.1
      refine (Cert.RefOutputIdeal.Value.second_eq (m := m') c).trans ((Cert.RefOutputIdeal.Value.second_at _ _ _ _ _ _ _).trans (Eq.trans ?_ (Cert.OutputIdeal.Value.final' (m := m) c).symm))
      unfold Cert.OutputIdeal.Value.target'
      rw [h0, h1, h2, h3, h4, h5, h6]

end Cert.Pairs
end
-- ==== Proof.Rope.lean ====
/- Queries and keys: rows normalised head by head, turned by their position's angles, and the low-rank products. -/
module

public import Idealize.ShloMosaic.Lib.Pipeline.ValueKit

@[expose] public section

noncomputable section

namespace Cert.Rope

open Idealize.ShloMosaic

abbrev Wide : Shape := ⟨2, ![17408, 10240]⟩
abbrev Rows (n : ℕ) : Shape := ⟨2, ![17408, n]⟩
abbrev Tab (n : ℕ) : Shape := ⟨2, ![4096, n]⟩
abbrev Line (n : ℕ) : Shape := ⟨2, ![1, n]⟩

/-- A row over the root of its mean square, then scaled; `d` is the number of its entries as a single. -/
def unit {n : ℕ} (d : BitVec 32) (x g : Fin n → EReal) (e : Fin n) : EReal :=
  x e * Ideal.rsqrt (Ideal.div (∑ k, x k * x k) (Ideal.ofBits .f32 d) + Ideal.ofBits .f32 0x358637BD#32) * g e

/-- A head with each pair of its quarters turned by a right angle. -/
def quarter (y : Fin 128 → EReal) (j : Fin 128) : EReal :=
  if h : j.val / 32 % 2 = 0 then -y ⟨j.val + 32, by omega⟩ else y ⟨j.val - 32, by omega⟩

/-- Entry `j` of the head that starts at column `o`, turned by the angles of the row's position; the contexts, from row 16384 on, are not turned. -/
def head (P : FVec Ideal Wide .bf16) (C S : FVec Ideal (Tab 128) .f32) (G : FVec Ideal (Line 128) .f32) (r : Fin 17408) (o : ℕ) (ho : o + 128 ≤ 10240) (j : Fin 128) : EReal :=
  let y := unit 0x43000000#32 (fun e : Fin 128 => P (ix2 r ⟨o + e, by omega⟩)) (fun e => G (ix2 0 e))
  if r.val < 16384 then y j * C (ix2 ⟨r.val % 4096, by omega⟩ j) + quarter y j * S (ix2 ⟨r.val % 4096, by omega⟩ j) else y j

/-- The first attention's queries and keys. -/
def queriesA (P : FVec Ideal Wide .bf16) (C S : FVec Ideal (Tab 128) .f32) (G : FVec Ideal (Line 128) .f32) : FVec Ideal (Rows 768) .bf16 :=
  fun i => head P C S G (i 0) ((i 1).val / 128 * 128) (by have : (i 1).val < 768 := (i 1).isLt; omega) ⟨(i 1).val % 128, by omega⟩ * Ideal.ofBits .f32 0x3E0293EE#32
def keysA (P : FVec Ideal Wide .bf16) (C S : FVec Ideal (Tab 128) .f32) (G : FVec Ideal (Line 128) .f32) : FVec Ideal (Rows 256) .bf16 :=
  fun i => head P C S G (i 0) (768 + (i 1).val / 128 * 128) (by have : (i 1).val < 256 := (i 1).isLt; omega) ⟨(i 1).val % 128, by omega⟩

/-- A pair of numbers turned by angle `j` of row `r`'s position. -/
def turn (C S : FVec Ideal (Tab 64) .f32) (r : Fin 17408) (j : Fin 64) (a b : EReal) : EReal :=
  if r.val < 16384 then a * C (ix2 ⟨r.val % 4096, by omega⟩ j) + b * S (ix2 ⟨r.val % 4096, by omega⟩ j) else a

/-- Column `n` of the normalised latent queries' product, and of the normalised latent keys'. -/
def prodQ (P : FVec Ideal Wide .bf16) (G : FVec Ideal (Line 512) .f32) (W : FVec Ideal ⟨2, ![512, 1920]⟩ .bf16) (r : Fin 17408) (n : Fin 1920) : EReal :=
  ∑ k : Fin 512, unit 0x44000000#32 (fun e : Fin 512 => P (ix2 r ⟨1024 + e, by omega⟩)) (fun e => G (ix2 0 e)) k * W (ix2 k n)
def prodK (P : FVec Ideal Wide .bf16) (G : FVec Ideal (Line 256) .f32) (W : FVec Ideal ⟨2, ![256, 1280]⟩ .bf16) (r : Fin 17408) (n : Fin 1280) : EReal :=
  ∑ k : Fin 256, unit 0x43800000#32 (fun e : Fin 256 => P (ix2 r ⟨1536 + e, by omega⟩)) (fun e => G (ix2 0 e)) k * W (ix2 k n)

/-- Entry `j` of the second attention's query head `h`: its first 128 entries straight from the product, its last turned. -/
def queryB (P : FVec Ideal Wide .bf16) (C S : FVec Ideal (Tab 64) .f32) (G : FVec Ideal (Line 512) .f32) (W : FVec Ideal ⟨2, ![512, 1920]⟩ .bf16)
    (r : Fin 17408) (h : Fin 5) (j : Fin 256) : EReal :=
  if c : j.val < 128 then prodQ P G W r ⟨h * 128 + j, by omega⟩
  else turn C S r ⟨j % 64, by omega⟩ (prodQ P G W r ⟨640 + (h * 128 + (j - 128)), by omega⟩) (prodQ P G W r ⟨1280 + (h * 128 + (j - 128)), by omega⟩)

/-- Entry `j` of the second attention's key head `h`: 128 from the product, 64 turned and common to the heads, and zeros. -/
def keyB (P : FVec Ideal Wide .bf16) (C S : FVec Ideal (Tab 64) .f32) (G : FVec Ideal (Line 256) .f32) (W : FVec Ideal ⟨2, ![256, 1280]⟩ .bf16)
    (r : Fin 17408) (h : Fin 5) (j : Fin 256) : EReal :=
  if c : j.val < 128 then prodK P G W r ⟨h * 128 + j, by omega⟩
  else if d : j.val < 192 then turn C S r ⟨j - 128, by omega⟩ (P (ix2 r ⟨1792 + (j - 128), by omega⟩)) (P (ix2 r ⟨1856 + (j - 128), by omega⟩))
  else 0

/-- The second attention's queries, keys and values. -/
def queriesB (P : FVec Ideal Wide .bf16) (C S : FVec Ideal (Tab 64) .f32) (G : FVec Ideal (Line 512) .f32) (W : FVec Ideal ⟨2, ![512, 1920]⟩ .bf16) : FVec Ideal (Rows 1280) .bf16 :=
  fun i => queryB P C S G W (i 0) ⟨(i 1).val / 256, by have : (i 1).val < 1280 := (i 1).isLt; omega⟩ ⟨(i 1).val % 256, by omega⟩ * Ideal.ofBits .f32 0x3DD53B95#32
def keysB (P : FVec Ideal Wide .bf16) (C S : FVec Ideal (Tab 64) .f32) (G : FVec Ideal (Line 256) .f32) (W : FVec Ideal ⟨2, ![256, 1280]⟩ .bf16) : FVec Ideal (Rows 1280) .bf16 :=
  fun i => keyB P C S G W (i 0) ⟨(i 1).val / 256, by have : (i 1).val < 1280 := (i 1).isLt; omega⟩ ⟨(i 1).val % 256, by omega⟩
def valuesB (P : FVec Ideal Wide .bf16) (G : FVec Ideal (Line 256) .f32) (W : FVec Ideal ⟨2, ![256, 1280]⟩ .bf16) : FVec Ideal (Rows 640) .bf16 :=
  fun i => prodK P G W (i 0) ⟨640 + (i 1).val, by have : (i 1).val < 640 := (i 1).isLt; omega⟩

end Cert.Rope
end
-- ==== Proof.PrepTile.lean ====
/- What one tile of rows becomes in the query and key preparation, entry by entry. -/
module

public import proofs.«01_k».proof.Proof.Gen.PrepIdeal.Skeleton
public import proofs.«01_k».proof.Proof.Rope

@[expose] public section

set_option maxRecDepth 16384

noncomputable section

namespace Cert.PrepIdeal.Value

open Cert.PrepIdeal Cert.PrepIdeal.Gen Cert.PrepIdeal.Facts Idealize.ShloMosaic Idealize.ShloMosaic.TcCoe Idealize.SL.Sem
open Cert.Rope

/-- A head normalised. -/
theorem unit_at (X : FVec Ideal S512x128 .bf16) (G : FVec Ideal S1x128 .f32) (r : Fin 512) (e : Fin 128) :
    k0_pay11 (F := Ideal) X G (ix2 r e) = unit 0x43000000#32 (fun k => (X (ix2 r k) : EReal)) (fun k => G (ix2 0 k)) e := by
  unfold unit
  pointwise [k0_pay11]

/-- A quarter of the head's columns up, and down, around its ends. -/
theorem shift_up (Y : FVec Ideal S512x128 .f32) (r : Fin 512) (e : Fin 128) :
    dynamicRotate 1 96#32 none Y rotates_S512x128_d1 (ix2 r e) = Y (ix2 r ⟨(e + 32) % 128, by omega⟩) := by
  pointwise []
  exact congrArg (fun k => Y (ix2 r k)) (Fin.ext (by simp only; omega))

theorem shift_down (Y : FVec Ideal S512x128 .f32) (r : Fin 512) (e : Fin 128) :
    dynamicRotate 1 32#32 none Y rotates_S512x128_d1 (ix2 r e) = Y (ix2 r ⟨(e + 96) % 128, by omega⟩) := by
  pointwise []
  exact congrArg (fun k => Y (ix2 r k)) (Fin.ext (by simp only; omega))

/-- The even quarters' columns. -/
theorem mask_at (r : Fin 512) (e : Fin 128) : k0_pay6 (ix2 r e) = if e.val / 32 % 2 = 0 then 1#1 else 0#1 := by
  pointwise [k0_pay6]
  revert e
  decide +kernel

/-- A head normalised and turned by a tile of angles' cosines and signed sines. -/
def tileHead (C S : FVec Ideal S512x128 .f32) (X : FVec Ideal S512x128 .bf16) (G : FVec Ideal S1x128 .f32) : FVec Ideal S512x128 .f32 :=
  addf (k0_pay13 (k0_pay4 C) X G) (mulf (k0_pay12 k0_pay6 X G) (k0_pay5 S))

theorem tileHead_at (C S : FVec Ideal S512x128 .f32) (X : FVec Ideal S512x128 .bf16) (G : FVec Ideal S1x128 .f32) (r : Fin 512) (e : Fin 128) (y : Fin 128 → EReal)
    (hy : y = unit 0x43000000#32 (fun k => (X (ix2 r k) : EReal)) (fun k => G (ix2 0 k))) :
    tileHead C S X G (ix2 r e) = y e * C (ix2 r e)
      + (if h : e.val / 32 % 2 = 0 then y ⟨e.val + 32, by omega⟩ else y ⟨e.val - 32, by omega⟩) * S (ix2 r e) := by
  subst hy
  have h0 : k0_pay12 (F := Ideal) k0_pay6 X G (ix2 r e) = (if h : e.val / 32 % 2 = 0 then unit 0x43000000#32 (fun k => (X (ix2 r k) : EReal)) (fun k => G (ix2 0 k)) ⟨e.val + 32, by omega⟩
      else unit 0x43000000#32 (fun k => (X (ix2 r k) : EReal)) (fun k => G (ix2 0 k)) ⟨e.val - 32, by omega⟩) := by
    refine Eq.trans (b := Scalar.select (k0_pay6 (ix2 r e)) (dynamicRotate 1 96#32 none (k0_pay11 (F := Ideal) X G) rotates_S512x128_d1 (ix2 r e))
      (dynamicRotate 1 32#32 none (k0_pay11 (F := Ideal) X G) rotates_S512x128_d1 (ix2 r e))) rfl ?_
    rw [mask_at, shift_up, shift_down, unit_at, unit_at]
    split
    · refine Eq.trans (b := unit _ _ _ ⟨(e.val + 32) % 128, _⟩) rfl (congrArg (unit _ _ _) (Fin.ext ?_))
      have := e.isLt
      show (e.val + 32) % 128 = e.val + 32
      omega
    · refine Eq.trans (b := unit _ _ _ ⟨(e.val + 96) % 128, _⟩) rfl (congrArg (unit _ _ _) (Fin.ext ?_))
      have := e.isLt
      show (e.val + 96) % 128 = e.val - 32
      omega
  rw [← h0, ← unit_at]
  pointwise [tileHead, k0_pay13, k0_pay4, k0_pay5]

theorem scaled_eq (C S : FVec Ideal S512x128 .f32) (X : FVec Ideal S512x128 .bf16) (G : FVec Ideal S1x128 .f32) :
    k0_pay7 (F := Ideal) C S X G = truncf .bf16 (mulf (tileHead C S X G) (broadcast S512x128 (Scalar.ofBits .f32 0x3E0293EE#32))) bitsLt_bf16_f32 := rfl

theorem product_at (X : FVec Ideal S512x512 .bf16) (G : FVec Ideal S1x512 .f32) (W : FVec Ideal S512x1920 .bf16) (r : Fin 512) (n : Fin 1920) :
    k0_pay26 (F := Ideal) X G W (ix2 r n) = ∑ k : Fin 512, unit 0x44000000#32 (fun e => (X (ix2 r e) : EReal)) (fun e => G (ix2 0 e)) k * W (ix2 k n) := by
  unfold unit
  pointwise [k0_pay26]

theorem product2_at (X : FVec Ideal S512x256 .bf16) (G : FVec Ideal S1x256 .f32) (W : FVec Ideal S256x1280 .bf16) (r : Fin 512) (n : Fin 1280) :
    k0_pay30 (F := Ideal) (k0_pay27 X) (k0_pay28 X) k0_pay29 G W (ix2 r n) = ∑ k : Fin 256, unit 0x43800000#32 (fun e => (X (ix2 r e) : EReal)) (fun e => G (ix2 0 e)) k * W (ix2 k n) := by
  unfold unit
  pointwise [k0_pay30, k0_pay27, k0_pay28, k0_pay29]

theorem pair_at (C S : FVec Ideal S512x128 .f32) (X : FVec Ideal S512x128 .bf16) (r : Fin 512) (e : Fin 128) :
    k0_pay31 (F := Ideal) C S X (ix2 r e) = if h : e.val < 64 then (X (ix2 r e) : EReal) * C (ix2 r e) + X (ix2 r ⟨e + 64, by omega⟩) * S (ix2 r ⟨e + 64, by omega⟩) else 0 := by
  have hlt : ∀ e : Fin 128, IntOp.cmpi CmpIPredicate.slt (BitVec.ofNat 32 e.val) 64#32 = if e.val < 64 then 1#1 else 0#1 := by decide +kernel
  pointwise [k0_pay31]
  have h2 := hlt ⟨(e.val + 128 - 64) % 128, by omega⟩
  rw [hlt e, h2]
  by_cases h : e.val < 64
  · have e1 : (⟨(e.val + 128 - 64) % 128, by omega⟩ : Fin 128) = ⟨e + 64, by omega⟩ := Fin.ext (by simp only; omega)
    rw [if_pos h, dif_pos h, if_neg (by simp only; omega), e1]
    rfl
  · rw [if_neg h, dif_neg h]
    rfl

end Cert.PrepIdeal.Value
end
-- ==== Proof.Prep.lean ====
/- The query and key preparation, tile by tile, as the grid of thirty-four tiles leaves it. -/
module

public import proofs.«01_k».proof.Proof.Gen.PrepIdeal.Value
public import proofs.«01_k».proof.Proof.PrepTile

@[expose] public section

set_option maxRecDepth 16384

noncomputable section

namespace Cert.PrepIdeal.Value

open Cert.PrepIdeal Cert.PrepIdeal.Gen Cert.PrepIdeal.Facts Idealize.ShloMosaic Idealize.ShloMosaic.TcCoe Idealize.SL.Sem
open Idealize.ShloMosaic.Pipeline (Dat)
open Cert.Rope

variable (m : (ℓ : Loc nD τ sig) → Buf (Elt Ideal) ℓ)

/-- The grid: point `t` is tile `t` of rows; its angles are those of tile `t % 8` of a batch entry, or none. -/
theorem idx : ∀ t : Fin cfg0.N, win0_0.index t = ![t.val, 0]
    ∧ win0_1.index t = ![if t.val < 32 then t.val % 8 else 8, 0] ∧ win0_2.index t = ![if t.val < 32 then t.val % 8 else 8, 0]
    ∧ win0_3.index t = ![0, 0] ∧ win0_4.index t = ![0, 0]
    ∧ win0_5.index t = ![t.val, 2] ∧ win0_6.index t = ![t.val, 6] ∧ win0_7.index t = ![t.val, 14]
    ∧ win0_8.index t = ![if t.val < 32 then t.val % 8 else 8, 0] ∧ win0_9.index t = ![if t.val < 32 then t.val % 8 else 8, 0]
    ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ win0_17.index t = ![t.val, 0]
    ∧ win0_18.index t = ![t.val, 0] :=
  (by decide +kernel : ∀ t : Fin grid0.N, _)

theorem lt34 (t : Fin cfg0.N) : t.val < 34 := lt_of_lt_of_eq t.isLt (by decide +kernel)

/-- The arguments. -/
abbrev argP (c : Dev nD) : FVec Ideal Wide .bf16 := m ((c : Thread nD τ).loc main_arg0)
abbrev cosA (c : Dev nD) : FVec Ideal (Tab 128) .f32 := m ((c : Thread nD τ).loc main_arg1)
abbrev sinA (c : Dev nD) : FVec Ideal (Tab 128) .f32 := m ((c : Thread nD τ).loc main_arg2)
abbrev cosB (c : Dev nD) : FVec Ideal (Tab 64) .f32 := m ((c : Thread nD τ).loc main_arg3)
abbrev sinB (c : Dev nD) : FVec Ideal (Tab 64) .f32 := m ((c : Thread nD τ).loc main_arg4)
abbrev gQa (c : Dev nD) : FVec Ideal (Line 128) .f32 := m ((c : Thread nD τ).loc main_arg5)
abbrev gKa (c : Dev nD) : FVec Ideal (Line 128) .f32 := m ((c : Thread nD τ).loc main_arg6)
abbrev gQb (c : Dev nD) : FVec Ideal (Line 512) .f32 := m ((c : Thread nD τ).loc main_arg7)
abbrev gKb (c : Dev nD) : FVec Ideal (Line 256) .f32 := m ((c : Thread nD τ).loc main_arg8)
abbrev wQ (c : Dev nD) : FVec Ideal ⟨2, ![512, 1920]⟩ .bf16 := m ((c : Thread nD τ).loc main_arg9)
abbrev wK (c : Dev nD) : FVec Ideal ⟨2, ![256, 1280]⟩ .bf16 := m ((c : Thread nD τ).loc main_arg10)

theorem x0_at (c : Dev nD) (t : Fin cfg0.N) (r : Fin 512) (e : Fin 1024) :
    (iblk m c 0 t : FVec Ideal S512x1024 .bf16) (ix2 r e) = argP m c (ix2 ⟨512 * t.val + r, by have := lt34 t; omega⟩ ⟨e, by omega⟩) := by
  have := lt34 t
  unfold argP
  rw [← V_main_arg0 m c]
  blk_point [iblk, idx t]

theorem x5_at (c : Dev nD) (t : Fin cfg0.N) (r : Fin 512) (e : Fin 512) :
    (iblk m c 5 t : FVec Ideal S512x512 .bf16) (ix2 r e) = argP m c (ix2 ⟨512 * t.val + r, by have := lt34 t; omega⟩ ⟨1024 + e, by omega⟩) := by
  have := lt34 t
  unfold argP
  rw [← V_main_arg0 m c]
  blk_point [iblk, idx t]

theorem x6_at (c : Dev nD) (t : Fin cfg0.N) (r : Fin 512) (e : Fin 256) :
    (iblk m c 6 t : FVec Ideal S512x256 .bf16) (ix2 r e) = argP m c (ix2 ⟨512 * t.val + r, by have := lt34 t; omega⟩ ⟨1536 + e, by omega⟩) := by
  have := lt34 t
  unfold argP
  rw [← V_main_arg0 m c]
  blk_point [iblk, idx t]

theorem x7_at (c : Dev nD) (t : Fin cfg0.N) (r : Fin 512) (e : Fin 128) :
    (iblk m c 7 t : FVec Ideal S512x128 .bf16) (ix2 r e) = argP m c (ix2 ⟨512 * t.val + r, by have := lt34 t; omega⟩ ⟨1792 + e, by omega⟩) := by
  have := lt34 t
  unfold argP
  rw [← V_main_arg0 m c]
  blk_point [iblk, idx t]

theorem x3_at (c : Dev nD) (t : Fin cfg0.N) (e : Fin 128) :
    (iblk m c 3 t : FVec Ideal S1x128 .f32) (ix2 0 e) = gQa m c (ix2 0 e) := by
  unfold gQa
  rw [← V_main_arg5 m c]
  blk_point [iblk, idx t]

theorem x4_at (c : Dev nD) (t : Fin cfg0.N) (e : Fin 128) :
    (iblk m c 4 t : FVec Ideal S1x128 .f32) (ix2 0 e) = gKa m c (ix2 0 e) := by
  unfold gKa
  rw [← V_main_arg6 m c]
  blk_point [iblk, idx t]

theorem x10_at (c : Dev nD) (t : Fin cfg0.N) (e : Fin 512) :
    (iblk m c 10 t : FVec Ideal S1x512 .f32) (ix2 0 e) = gQb m c (ix2 0 e) := by
  unfold gQb
  rw [← V_main_arg7 m c]
  blk_point [iblk, idx t]

theorem x11_at (c : Dev nD) (t : Fin cfg0.N) (e : Fin 256) :
    (iblk m c 11 t : FVec Ideal S1x256 .f32) (ix2 0 e) = gKb m c (ix2 0 e) := by
  unfold gKb
  rw [← V_main_arg8 m c]
  blk_point [iblk, idx t]

theorem x12_at (c : Dev nD) (t : Fin cfg0.N) (k : Fin 512) (n : Fin 1920) :
    (iblk m c 12 t : FVec Ideal S512x1920 .bf16) (ix2 k n) = wQ m c (ix2 k n) := by
  unfold wQ
  rw [← V_main_arg9 m c]
  blk_point [iblk, idx t]

theorem x13_at (c : Dev nD) (t : Fin cfg0.N) (k : Fin 256) (n : Fin 1280) :
    (iblk m c 13 t : FVec Ideal S256x1280 .bf16) (ix2 k n) = wK m c (ix2 k n) := by
  unfold wK
  rw [← V_main_arg10 m c]
  blk_point [iblk, idx t]

/-- The row of the angles' tables that goes with row `r` of tile `t`. -/
def place (t : Fin cfg0.N) (r : Fin 512) : Fin 4608 := ⟨512 * (if t.val < 32 then t.val % 8 else 8) + r, by split <;> omega⟩

theorem place_dite {α : Type} (t : Fin cfg0.N) (r : Fin 512) (s : Fin 17408) (hs : s.val = 512 * t.val + r.val) (f : Fin 4096 → α) (z : α) :
    (if h : (place t r).val < 4096 then f ⟨place t r, h⟩ else z) = if s.val < 16384 then f ⟨s.val % 4096, by omega⟩ else z := by
  have hp : (place t r).val = 512 * (if t.val < 32 then t.val % 8 else 8) + r.val := rfl
  by_cases h : s.val < 16384
  · have ht : t.val < 32 := by omega
    rw [if_pos ht] at hp
    rw [dif_pos (by omega), if_pos h]
    exact congrArg f (Fin.ext (by simp only; omega))
  · have ht : ¬ t.val < 32 := by omega
    rw [if_neg ht] at hp
    rw [dif_neg (by omega), if_neg h]

theorem x1_blk (c : Dev nD) (t : Fin cfg0.N) (r : Fin 512) (e : Fin 128) :
    (iblk m c 1 t : FVec Ideal S512x128 .f32) (ix2 r e) = (V m c main_v2 : FVec Ideal S4608x128 .f32) (ix2 (place t r) e) := by
  have := lt34 t
  unfold place
  blk_point [iblk, idx t]

theorem x2_blk (c : Dev nD) (t : Fin cfg0.N) (r : Fin 512) (e : Fin 128) :
    (iblk m c 2 t : FVec Ideal S512x128 .f32) (ix2 r e) = (V m c main_v7 : FVec Ideal S4608x128 .f32) (ix2 (place t r) e) := by
  have := lt34 t
  unfold place
  blk_point [iblk, idx t]

theorem x8_blk (c : Dev nD) (t : Fin cfg0.N) (r : Fin 512) (e : Fin 128) :
    (iblk m c 8 t : FVec Ideal S512x128 .f32) (ix2 r e) = (V m c main_v13 : FVec Ideal S4608x128 .f32) (ix2 (place t r) e) := by
  have := lt34 t
  unfold place
  blk_point [iblk, idx t]

theorem x9_blk (c : Dev nD) (t : Fin cfg0.N) (r : Fin 512) (e : Fin 128) :
    (iblk m c 9 t : FVec Ideal S512x128 .f32) (ix2 r e) = (V m c main_v16 : FVec Ideal S4608x128 .f32) (ix2 (place t r) e) := by
  have := lt34 t
  unfold place
  blk_point [iblk, idx t]

/-- The signs that the host puts on the sines. -/
theorem sign_at (e : Fin 128) : Ideal.ofBits .f32 (lit0 e) = if e.val / 32 % 2 = 0 then (-1 : EReal) else 1 := by
  have h1 : Ideal.ofBits .f32 0xBF800000#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  have h2 : ∀ e : Fin 128, lit0 e = if e.val / 32 % 2 = 0 then 0xBF800000#32 else 0x3F800000#32 := by decide +kernel
  rw [h2 e]
  split
  · exact h1
  · exact Ideal.ofBits_one_f32

theorem v2_at (c : Dev nD) (j : Fin 4608) (e : Fin 128) :
    (V m c main_v2 : FVec Ideal S4608x128 .f32) (ix2 j e) = if h : j.val < 4096 then cosA m c (ix2 ⟨j, h⟩ e) else (1 : EReal) := by
  have h0 : (V m c main_v2 : FVec Ideal S4608x128 .f32) = concatenate S4608x128 0 [⟨S4096x128, m ((c : Thread nD τ).loc main_arg1)⟩, ⟨S512x128, broadcastInDim S512x128 ![] bcast_S_S512x128 (constant (F := Ideal) S_ .f32 0x3F800000#32)⟩] concatenates_S4096x128_S512x128_S4608x128_d0 := rfl
  rw [h0]
  pointwise []

theorem v7_at (c : Dev nD) (j : Fin 4608) (e : Fin 128) :
    (V m c main_v7 : FVec Ideal S4608x128 .f32) (ix2 j e) = if h : j.val < 4096 then sinA m c (ix2 ⟨j, h⟩ e) * Ideal.ofBits .f32 (lit0 e) else (0 : EReal) := by
  have h0 : (V m c main_v7 : FVec Ideal S4608x128 .f32) = concatenate S4608x128 0 [⟨S4096x128, mulf (m ((c : Thread nD τ).loc main_arg2)) (broadcastInDim S4096x128 ![0, 1] bcast_S1x128_S4096x128_0_1 (broadcastInDim S1x128 ![1] bcast_S128_S1x128_1 (fun i => FloatOps.ofBits (F := Ideal) .f32 (lit0 (S128.rowMajor i)))))⟩, ⟨S512x128, broadcastInDim S512x128 ![] bcast_S_S512x128 (constant (F := Ideal) S_ .f32 0x00000000#32)⟩] concatenates_S4096x128_S512x128_S4608x128_d0 := rfl
  rw [h0]
  have hr : S128.rowMajor (ix1 e) = e := Fin.ext (Shape.rowMajor_val_one _)
  pointwise []
  rw [hr]

theorem v13_at (c : Dev nD) (j : Fin 4608) (e : Fin 128) :
    (V m c main_v13 : FVec Ideal S4608x128 .f32) (ix2 j e) = if h : j.val < 4096 then cosB m c (ix2 ⟨j, h⟩ ⟨e % 64, by omega⟩) else (1 : EReal) := by
  have h0 : (V m c main_v13 : FVec Ideal S4608x128 .f32) = shapeCast _ (broadcastInDim S1x4608x2x64 ![0, 1, 2, 3] bcast_S1x4608x1x64_S1x4608x2x64_0_1_2_3 (shapeCast _ (concatenate S4608x64 0 [⟨S4096x64, m ((c : Thread nD τ).loc main_arg3)⟩, ⟨S512x64, broadcastInDim S512x64 ![] bcast_S_S512x64 (constant (F := Ideal) S_ .f32 0x3F800000#32)⟩] concatenates_S4096x64_S512x64_S4608x64_d0) shapeCasts_S4608x64_S1x4608x1x64)) shapeCasts_S1x4608x2x64_S4608x128 := rfl
  rw [h0]
  pointwise []

theorem v16_at (c : Dev nD) (j : Fin 4608) (e : Fin 128) :
    (V m c main_v16 : FVec Ideal S4608x128 .f32) (ix2 j e) = if h : j.val < 4096 then sinB m c (ix2 ⟨j, h⟩ ⟨e % 64, by omega⟩) else (0 : EReal) := by
  have h0 : (V m c main_v16 : FVec Ideal S4608x128 .f32) = shapeCast _ (broadcastInDim S1x4608x2x64 ![0, 1, 2, 3] bcast_S1x4608x1x64_S1x4608x2x64_0_1_2_3 (shapeCast _ (concatenate S4608x64 0 [⟨S4096x64, m ((c : Thread nD τ).loc main_arg4)⟩, ⟨S512x64, broadcastInDim S512x64 ![] bcast_S_S512x64 (constant (F := Ideal) S_ .f32 0x00000000#32)⟩] concatenates_S4096x64_S512x64_S4608x64_d0) shapeCasts_S4608x64_S1x4608x1x64)) shapeCasts_S1x4608x2x64_S4608x128 := rfl
  rw [h0]
  pointwise []

/-- The tables' blocks: the angles of a latent row's position; for a context row a cosine of one and a sine of nought. -/
theorem x1_at (c : Dev nD) (t : Fin cfg0.N) (r : Fin 512) (e : Fin 128) (s : Fin 17408) (hs : s.val = 512 * t.val + r.val) :
    (iblk m c 1 t : FVec Ideal S512x128 .f32) (ix2 r e) = if s.val < 16384 then cosA m c (ix2 ⟨s.val % 4096, by omega⟩ e) else (1 : EReal) := by
  rw [x1_blk, v2_at]
  exact place_dite t r s hs (fun k => cosA m c (ix2 k e)) _

theorem x2_at (c : Dev nD) (t : Fin cfg0.N) (r : Fin 512) (e : Fin 128) (s : Fin 17408) (hs : s.val = 512 * t.val + r.val) :
    (iblk m c 2 t : FVec Ideal S512x128 .f32) (ix2 r e) = if s.val < 16384 then sinA m c (ix2 ⟨s.val % 4096, by omega⟩ e) * Ideal.ofBits .f32 (lit0 e) else (0 : EReal) := by
  rw [x2_blk, v7_at]
  exact place_dite t r s hs (fun k => sinA m c (ix2 k e) * Ideal.ofBits .f32 (lit0 e)) _

theorem x8_at (c : Dev nD) (t : Fin cfg0.N) (r : Fin 512) (e : Fin 128) (s : Fin 17408) (hs : s.val = 512 * t.val + r.val) :
    (iblk m c 8 t : FVec Ideal S512x128 .f32) (ix2 r e) = if s.val < 16384 then cosB m c (ix2 ⟨s.val % 4096, by omega⟩ ⟨e % 64, by omega⟩) else (1 : EReal) := by
  rw [x8_blk, v13_at]
  exact place_dite t r s hs (fun k => cosB m c (ix2 k ⟨e % 64, by omega⟩)) _

theorem x9_at (c : Dev nD) (t : Fin cfg0.N) (r : Fin 512) (e : Fin 128) (s : Fin 17408) (hs : s.val = 512 * t.val + r.val) :
    (iblk m c 9 t : FVec Ideal S512x128 .f32) (ix2 r e) = if s.val < 16384 then sinB m c (ix2 ⟨s.val % 4096, by omega⟩ ⟨e % 64, by omega⟩) else (0 : EReal) := by
  rw [x9_blk, v16_at]
  exact place_dite t r s hs (fun k => sinB m c (ix2 k ⟨e % 64, by omega⟩)) _

/-- A tile's turned head is that head of its rows. -/
theorem head_at (c : Dev nD) (t : Fin cfg0.N) (C S : FVec Ideal S512x128 .f32) (X : FVec Ideal S512x128 .bf16) (G : FVec Ideal S1x128 .f32) (g : FVec Ideal (Line 128) .f32)
    (r : Fin 512) (e : Fin 128) (s : Fin 17408) (hs : s.val = 512 * t.val + r.val) (o : ℕ) (ho : o + 128 ≤ 10240)
    (hC : C (ix2 r e) = (iblk m c 1 t : FVec Ideal S512x128 .f32) (ix2 r e)) (hS : S (ix2 r e) = (iblk m c 2 t : FVec Ideal S512x128 .f32) (ix2 r e))
    (hX : ∀ k : Fin 128, X (ix2 r k) = argP m c (ix2 s ⟨o + k, by omega⟩)) (hG : ∀ k : Fin 128, G (ix2 0 k) = g (ix2 0 k)) :
    tileHead C S X G (ix2 r e) = head (argP m c) (cosA m c) (sinA m c) g s o ho e := by
  rw [tileHead_at C S X G r e (unit 0x43000000#32 (fun k : Fin 128 => argP m c (ix2 s ⟨o + k, by omega⟩)) (fun k => g (ix2 0 k)))
    (by rw [funext hX, funext hG]), hC, hS, x1_at m c t r e s hs, x2_at m c t r e s hs]
  unfold head quarter
  simp only
  by_cases h : s.val < 16384
  · rw [if_pos h, if_pos h, if_pos h, sign_at]
    by_cases k : e.val / 32 % 2 = 0
    · rw [dif_pos k, if_pos k, dif_pos k, mul_neg, mul_one, mul_neg, neg_mul]
    · rw [dif_neg k, if_neg k, dif_neg k, mul_one]
  · rw [if_neg h, if_neg h, if_neg h, mul_one, mul_zero, add_zero]

/-- A load of 128 columns of a block of rows, and of a whole block. -/
theorem ld_at (X : Vec Ideal S512x1024 .bf16) (o : ℕ) (inb : ∀ a, (![0, o] : Fin 2 → ℕ) a + S512x128.size a ≤ S512x1024.size a) (r : Fin 512) (k : Fin 128) (ho : o + 128 ≤ 1024) :
    (View.ld X (Rect.unit (s := S512x1024) ![0, o] S512x128.size inb) : Vec Ideal S512x128 .bf16) (ix2 r k) = X (ix2 r ⟨o + k, by omega⟩) :=
  congrArg X (funext fun a => Fin.ext (by fin_cases a <;> simp [LoadRect.idx, Rect.unit]))

theorem ld_all {n k : ℕ} {φ : EltTy} (X : Vec Ideal ⟨2, ![n, k]⟩ φ) (inb : ∀ a, (![0, 0] : Fin 2 → ℕ) a + (![n, k] : Fin 2 → ℕ) a ≤ (⟨2, ![n, k]⟩ : Shape).size a) (r : Fin n) (e : Fin k) :
    (View.ld X (Rect.unit (s := ⟨2, ![n, k]⟩) ![0, 0] ![n, k] inb) : Vec Ideal ⟨2, ![n, k]⟩ φ) (ix2 r e) = X (ix2 r e) :=
  congrArg X (funext fun a => Fin.ext (by fin_cases a <;> simp [LoadRect.idx, Rect.unit]))

/-- The head that a tile's piece holds, turned. -/
theorem piece_at (c : Dev nD) (t : Fin cfg0.N) (G : FVec Ideal S1x128 .f32) (g : FVec Ideal (Line 128) .f32) (hG : ∀ k : Fin 128, G (ix2 0 k) = g (ix2 0 k))
    (o : ℕ) (inb : ∀ a, (![0, o] : Fin 2 → ℕ) a + S512x128.size a ≤ S512x1024.size a) (ho : o + 128 ≤ 1024) (r : Fin 512) (s : Fin 17408) (e : Fin 128) (hs : s.val = 512 * t.val + r.val) :
    tileHead (View.ld (iblk m c 1 t) r0_0) (View.ld (iblk m c 2 t) r0_0) (View.ld (iblk m c 0 t) (Rect.unit (s := S512x1024) ![0, o] S512x128.size inb)) G (ix2 r e)
      = head (argP m c) (cosA m c) (sinA m c) g s o (by omega) e := by
  refine head_at m c t _ _ _ _ g r e s hs o (by omega) (ld_all (n := 512) (k := 128) _ _ r e) (ld_all (n := 512) (k := 128) _ _ r e) (fun k => ?_) hG
  refine (ld_at _ o inb r k ho).trans ((x0_at m c t r _).trans ?_)
  exact congrArg (argP m c) (congrArg₂ ix2 (Fin.ext hs.symm) rfl)

theorem queryA_piece (c : Dev nD) (t : Fin cfg0.N) (o : ℕ) (inb : ∀ a, (![0, o] : Fin 2 → ℕ) a + S512x128.size a ≤ S512x1024.size a) (ho : o + 128 ≤ 1024) (hd : o % 128 = 0)
    (r : Fin 512) (s : Fin 17408) (n : Fin 768) (x : S512x128.Idx) (hs : s.val = 512 * t.val + r.val) (h0 : r.val = (x 0).val) (h1 : n.val = o + (x 1).val) :
    k0_pay7 (View.ld (iblk m c 1 t) r0_0) (View.ld (iblk m c 2 t) r0_0) (View.ld (iblk m c 0 t) (Rect.unit (s := S512x1024) ![0, o] S512x128.size inb)) (View.ld (iblk m c 3 t) r0_2) x
      = queriesA (argP m c) (cosA m c) (sinA m c) (gQa m c) (ix2 s n) := by
  idx_vars x
  obtain rfl : r = x0 := Fin.ext h0
  have h1' : n.val = o + x1.val := h1
  have hx : x1.val < 128 := x1.isLt
  have ho' : n.val / 128 * 128 = o := by omega
  have he : (⟨n.val % 128, by omega⟩ : Fin 128) = x1 := Fin.ext (by simp only; omega)
  refine (congrArg (· * Ideal.ofBits .f32 0x3E0293EE#32) (piece_at m c t (View.ld (iblk m c 3 t) r0_2) (gQa m c)
    (fun k => (ld_all (n := 1) (k := 128) _ _ 0 k).trans (x3_at m c t k)) o inb ho r s x1 hs)).trans ?_
  unfold queriesA
  subst ho'
  rw [← he]
  rfl

theorem out14 (c : Dev nD) (t : Fin cfg0.N) (r : Fin 512) (s : Fin 17408) (n : Fin 768) (hs : s.val = 512 * t.val + r.val) :
    out0_14 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r n) = queriesA (argP m c) (cosA m c) (sinA m c) (gQa m c) (ix2 s n) := by
  unfold_out out0_14
  canon_tiles x h
  · exact Eq.trans rfl (queryA_piece m c t 640 _ (by decide) (by decide) r s n x hs h0 h1)
  · exact Eq.trans rfl (queryA_piece m c t 512 _ (by decide) (by decide) r s n x hs h0 h1)
  · exact Eq.trans rfl (queryA_piece m c t 384 _ (by decide) (by decide) r s n x hs h0 h1)
  · exact Eq.trans rfl (queryA_piece m c t 256 _ (by decide) (by decide) r s n x hs h0 h1)
  · exact Eq.trans rfl (queryA_piece m c t 128 _ (by decide) (by decide) r s n x hs h0 h1)
  · exact Eq.trans rfl (queryA_piece m c t 0 _ (by decide) (by decide) r s n x hs h0 (h1.trans (Nat.zero_add _).symm))

theorem keyA_piece (c : Dev nD) (t : Fin cfg0.N) (o : ℕ) (inb : ∀ a, (![0, 768 + o] : Fin 2 → ℕ) a + S512x128.size a ≤ S512x1024.size a) (ho : 768 + o + 128 ≤ 1024) (hd : o % 128 = 0)
    (r : Fin 512) (s : Fin 17408) (n : Fin 256) (x : S512x128.Idx) (hs : s.val = 512 * t.val + r.val) (h0 : r.val = (x 0).val) (h1 : n.val = o + (x 1).val) :
    tileHead (View.ld (iblk m c 1 t) r0_0) (View.ld (iblk m c 2 t) r0_0) (View.ld (iblk m c 0 t) (Rect.unit (s := S512x1024) ![0, 768 + o] S512x128.size inb)) (View.ld (iblk m c 4 t) r0_2) x
      = keysA (argP m c) (cosA m c) (sinA m c) (gKa m c) (ix2 s n) := by
  idx_vars x
  obtain rfl : r = x0 := Fin.ext h0
  have h1' : n.val = o + x1.val := h1
  have hx : x1.val < 128 := x1.isLt
  have ho' : n.val / 128 * 128 = o := by omega
  have he : (⟨n.val % 128, by omega⟩ : Fin 128) = x1 := Fin.ext (by simp only; omega)
  refine (piece_at m c t (View.ld (iblk m c 4 t) r0_2) (gKa m c)
    (fun k => (ld_all (n := 1) (k := 128) _ _ 0 k).trans (x4_at m c t k)) (768 + o) inb ho r s x1 hs).trans ?_
  unfold keysA
  subst ho'
  rw [← he]
  rfl

theorem out15 (c : Dev nD) (t : Fin cfg0.N) (r : Fin 512) (s : Fin 17408) (n : Fin 256) (hs : s.val = 512 * t.val + r.val) :
    out0_15 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r n) = keysA (argP m c) (cosA m c) (sinA m c) (gKa m c) (ix2 s n) := by
  unfold_out out0_15
  canon_tiles x h
  · exact Eq.trans rfl (keyA_piece m c t 128 _ (by decide) (by decide) r s n x hs h0 h1)
  · exact Eq.trans rfl (keyA_piece m c t 0 _ (by decide) (by decide) r s n x hs h0 (h1.trans (Nat.zero_add _).symm))

end Cert.PrepIdeal.Value
end
-- ==== Proof.PrepB.lean ====
/- The second attention's queries, keys and values, tile by tile. -/
module

public import proofs.«01_k».proof.Proof.Prep

@[expose] public section

set_option maxRecDepth 16384

noncomputable section

namespace Cert.PrepIdeal.Value

open Cert.PrepIdeal Cert.PrepIdeal.Gen Cert.PrepIdeal.Facts Idealize.ShloMosaic Idealize.ShloMosaic.TcCoe Idealize.SL.Sem
open Cert.Rope

variable (m : (ℓ : Loc nD τ sig) → Buf (Elt Ideal) ℓ)

/-- A tile's products are those of its rows. -/
def tileQ (c : Dev nD) (t : Fin cfg0.N) : FVec Ideal S512x1920 .f32 := k0_pay26 (View.ld (iblk m c 5 t) r0_18) (View.ld (iblk m c 10 t) r0_19) (View.ld (iblk m c 12 t) r0_20)
def tileK (c : Dev nD) (t : Fin cfg0.N) : FVec Ideal S512x1280 .f32 :=
  k0_pay30 (k0_pay27 (View.ld (iblk m c 6 t) r0_21)) (k0_pay28 (View.ld (iblk m c 6 t) r0_21)) k0_pay29 (View.ld (iblk m c 11 t) r0_22) (View.ld (iblk m c 13 t) r0_23)

theorem tileQ_at (c : Dev nD) (t : Fin cfg0.N) (r : Fin 512) (s : Fin 17408) (hs : s.val = 512 * t.val + r.val) (n : Fin 1920) :
    tileQ m c t (ix2 r n) = prodQ (argP m c) (gQb m c) (wQ m c) s n := by
  have hX : ∀ k : Fin 512, ((View.ld (iblk m c 5 t) r0_18 : Vec Ideal S512x512 .bf16) (ix2 r k) : EReal) = argP m c (ix2 s ⟨1024 + k, by omega⟩) := fun k =>
    (ld_all (n := 512) (k := 512) _ _ r k).trans ((x5_at m c t r k).trans (congrArg (argP m c) (congrArg₂ ix2 (Fin.ext hs.symm) rfl)))
  have hG : ∀ k : Fin 512, ((View.ld (iblk m c 10 t) r0_19 : Vec Ideal S1x512 .f32) (ix2 0 k) : EReal) = gQb m c (ix2 0 k) := fun k =>
    (ld_all (n := 1) (k := 512) _ _ 0 k).trans (x10_at m c t k)
  have hW : ∀ k : Fin 512, ((View.ld (iblk m c 12 t) r0_20 : Vec Ideal S512x1920 .bf16) (ix2 k n) : EReal) = wQ m c (ix2 k n) := fun k =>
    (ld_all (n := 512) (k := 1920) _ _ k n).trans (x12_at m c t k n)
  refine (product_at _ _ _ r n).trans ?_
  unfold prodQ
  refine Finset.sum_congr rfl fun k _ => ?_
  exact congrArg₂ (· * ·) (congrFun (congrArg₂ (unit _) (funext hX) (funext hG)) k) (hW k)

theorem tileK_at (c : Dev nD) (t : Fin cfg0.N) (r : Fin 512) (s : Fin 17408) (hs : s.val = 512 * t.val + r.val) (n : Fin 1280) :
    tileK m c t (ix2 r n) = prodK (argP m c) (gKb m c) (wK m c) s n := by
  have hX : ∀ k : Fin 256, ((View.ld (iblk m c 6 t) r0_21 : Vec Ideal S512x256 .bf16) (ix2 r k) : EReal) = argP m c (ix2 s ⟨1536 + k, by omega⟩) := fun k =>
    (ld_all (n := 512) (k := 256) _ _ r k).trans ((x6_at m c t r k).trans (congrArg (argP m c) (congrArg₂ ix2 (Fin.ext hs.symm) rfl)))
  have hG : ∀ k : Fin 256, ((View.ld (iblk m c 11 t) r0_22 : Vec Ideal S1x256 .f32) (ix2 0 k) : EReal) = gKb m c (ix2 0 k) := fun k =>
    (ld_all (n := 1) (k := 256) _ _ 0 k).trans (x11_at m c t k)
  have hW : ∀ k : Fin 256, ((View.ld (iblk m c 13 t) r0_23 : Vec Ideal S256x1280 .bf16) (ix2 k n) : EReal) = wK m c (ix2 k n) := fun k =>
    (ld_all (n := 256) (k := 1280) _ _ k n).trans (x13_at m c t k n)
  refine (product2_at _ _ _ r n).trans ?_
  unfold prodK
  refine Finset.sum_congr rfl fun k _ => ?_
  exact congrArg₂ (· * ·) (congrFun (congrArg₂ (unit _) (funext hX) (funext hG)) k) (hW k)

/-- The tables of a tile, as loaded. -/
theorem cos_at (c : Dev nD) (t : Fin cfg0.N) (r : Fin 512) (s : Fin 17408) (hs : s.val = 512 * t.val + r.val) (e : Fin 128) :
    (k0_pay24 (F := Ideal) (View.ld (iblk m c 8 t) r0_0)) (ix2 r e) = if s.val < 16384 then cosB m c (ix2 ⟨s.val % 4096, by omega⟩ ⟨e % 64, by omega⟩) else (1 : EReal) := by
  refine Eq.trans ?_ ((ld_all (n := 512) (k := 128) (iblk m c 8 t) (by decide) r e).trans (x8_at m c t r e s hs))
  pointwise [k0_pay24]

theorem sin_at (c : Dev nD) (t : Fin cfg0.N) (r : Fin 512) (s : Fin 17408) (hs : s.val = 512 * t.val + r.val) (e : Fin 128) :
    (k0_pay25 (F := Ideal) (View.ld (iblk m c 9 t) r0_0)) (ix2 r e) = if s.val < 16384 then sinB m c (ix2 ⟨s.val % 4096, by omega⟩ ⟨e % 64, by omega⟩) else (0 : EReal) := by
  refine Eq.trans ?_ ((ld_all (n := 512) (k := 128) (iblk m c 9 t) (by decide) r e).trans (x9_at m c t r e s hs))
  pointwise [k0_pay25]

/-- A pair times the tables' entries is the pair turned. -/
theorem turn_eq (C S : FVec Ideal (Tab 64) .f32) (s : Fin 17408) (j : Fin 64) (a b : EReal) :
    a * (if s.val < 16384 then C (ix2 ⟨s.val % 4096, by omega⟩ j) else (1 : EReal)) + b * (if s.val < 16384 then S (ix2 ⟨s.val % 4096, by omega⟩ j) else (0 : EReal)) = turn C S s j a b := by
  unfold turn
  split
  · rfl
  · rw [mul_one, mul_zero, add_zero]

theorem queriesB_at (P : FVec Ideal Wide .bf16) (C S : FVec Ideal (Tab 64) .f32) (G : FVec Ideal (Line 512) .f32) (W : FVec Ideal ⟨2, ![512, 1920]⟩ .bf16)
    (s : Fin 17408) (n : Fin 1280) (h : Fin 5) (j : Fin 256) (hn : n.val = h.val * 256 + j.val) : queriesB P C S G W (ix2 s n) = queryB P C S G W s h j * Ideal.ofBits .f32 0x3DD53B95#32 :=
  congrArg₂ (fun a b => queryB P C S G W s a b * Ideal.ofBits .f32 0x3DD53B95#32) (Fin.ext (show n.val / 256 = _ by omega)) (Fin.ext (show n.val % 256 = _ by omega))

theorem keysB_at (P : FVec Ideal Wide .bf16) (C S : FVec Ideal (Tab 64) .f32) (G : FVec Ideal (Line 256) .f32) (W : FVec Ideal ⟨2, ![256, 1280]⟩ .bf16)
    (s : Fin 17408) (n : Fin 1280) (h : Fin 5) (j : Fin 256) (hn : n.val = h.val * 256 + j.val) : keysB P C S G W (ix2 s n) = keyB P C S G W s h j :=
  congrArg₂ (fun a b => keyB P C S G W s a b) (Fin.ext (show n.val / 256 = _ by omega)) (Fin.ext (show n.val % 256 = _ by omega))

/-- A query head's first half. -/
theorem query_left (c : Dev nD) (t : Fin cfg0.N) (o : ℕ) (hsl : S512x1920.Slices ![0, o] S512x128) (h : Fin 5) (ho : o = h.val * 128)
    (r : Fin 512) (s : Fin 17408) (n : Fin 1280) (x : S512x128.Idx) (hs : s.val = 512 * t.val + r.val) (h0 : r.val = (x 0).val) (h1 : n.val = h.val * 256 + (x 1).val) :
    (truncf .bf16 (mulf (extractStridedSlice S512x128 ![0, o] (tileQ m c t) hsl) (broadcast S512x128 (Scalar.ofBits .f32 0x3DD53B95#32))) bitsLt_bf16_f32 : FVec Ideal S512x128 .bf16) x
      = queriesB (argP m c) (cosB m c) (sinB m c) (gQb m c) (wQ m c) (ix2 s n) := by
  idx_vars x
  obtain rfl : r = x0 := Fin.ext h0
  have hx : x1.val < 128 := x1.isLt
  subst ho
  rw [queriesB_at _ _ _ _ _ s n h ⟨x1, by omega⟩ h1]
  unfold queryB
  rw [dif_pos hx, ← tileQ_at m c t r s hs]
  pointwise []

/-- A query head's second half. -/
theorem query_right (c : Dev nD) (t : Fin cfg0.N) (o p : ℕ) (hsl : S512x1920.Slices ![0, o] S512x128) (hsl' : S512x1920.Slices ![0, p] S512x128) (h : Fin 5)
    (ho : o = 640 + h.val * 128) (hp : p = 1280 + h.val * 128)
    (r : Fin 512) (s : Fin 17408) (n : Fin 1280) (x : S512x128.Idx) (hs : s.val = 512 * t.val + r.val) (h0 : r.val = (x 0).val) (h1 : n.val = h.val * 256 + 128 + (x 1).val) :
    (truncf .bf16 (mulf (addf (mulf (extractStridedSlice S512x128 ![0, o] (tileQ m c t) hsl) (k0_pay24 (F := Ideal) (View.ld (iblk m c 8 t) r0_0)))
        (mulf (extractStridedSlice S512x128 ![0, p] (tileQ m c t) hsl') (k0_pay25 (F := Ideal) (View.ld (iblk m c 9 t) r0_0)))) (broadcast S512x128 (Scalar.ofBits .f32 0x3DD53B95#32))) bitsLt_bf16_f32
        : FVec Ideal S512x128 .bf16) x
      = queriesB (argP m c) (cosB m c) (sinB m c) (gQb m c) (wQ m c) (ix2 s n) := by
  idx_vars x
  obtain rfl : r = x0 := Fin.ext h0
  have hx : x1.val < 128 := x1.isLt
  have h1' : n.val = h.val * 256 + 128 + x1.val := h1
  subst ho hp
  rw [queriesB_at _ _ _ _ _ s n h ⟨128 + x1, by omega⟩ (by simp only; omega)]
  unfold queryB
  have hj : (⟨(128 + x1.val) % 64, by omega⟩ : Fin 64) = ⟨x1.val % 64, by omega⟩ := Fin.ext (by simp only; omega)
  rw [dif_neg (by simp only; omega), hj, ← turn_eq, ← tileQ_at m c t r s hs, ← tileQ_at m c t r s hs, ← cos_at m c t r s hs x1, ← sin_at m c t r s hs x1]
  have e1 : (⟨640 + (h.val * 128 + (128 + x1.val - 128)), by omega⟩ : Fin 1920) = ⟨640 + h.val * 128 + x1.val, by omega⟩ := Fin.ext (by simp only; omega)
  have e2 : (⟨1280 + (h.val * 128 + (128 + x1.val - 128)), by omega⟩ : Fin 1920) = ⟨1280 + h.val * 128 + x1.val, by omega⟩ := Fin.ext (by simp only; omega)
  rw [e1, e2]
  pointwise []

theorem out16 (c : Dev nD) (t : Fin cfg0.N) (r : Fin 512) (s : Fin 17408) (n : Fin 1280) (hs : s.val = 512 * t.val + r.val) :
    out0_16 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r n) = queriesB (argP m c) (cosB m c) (sinB m c) (gQb m c) (wQ m c) (ix2 s n) := by
  unfold_out out0_16
  canon_tiles x h
  · exact Eq.trans rfl (query_right m c t 1152 1792 (by decide) (by decide) 4 rfl rfl r s n x hs h0 h1)
  · exact Eq.trans rfl (query_left m c t 512 (by decide) 4 rfl r s n x hs h0 h1)
  · exact Eq.trans rfl (query_right m c t 1024 1664 (by decide) (by decide) 3 rfl rfl r s n x hs h0 h1)
  · exact Eq.trans rfl (query_left m c t 384 (by decide) 3 rfl r s n x hs h0 h1)
  · exact Eq.trans rfl (query_right m c t 896 1536 (by decide) (by decide) 2 rfl rfl r s n x hs h0 h1)
  · exact Eq.trans rfl (query_left m c t 256 (by decide) 2 rfl r s n x hs h0 h1)
  · exact Eq.trans rfl (query_right m c t 768 1408 (by decide) (by decide) 1 rfl rfl r s n x hs h0 h1)
  · exact Eq.trans rfl (query_left m c t 128 (by decide) 1 rfl r s n x hs h0 h1)
  · exact Eq.trans rfl (query_right m c t 640 1280 (by decide) (by decide) 0 rfl rfl r s n x hs h0 h1)
  · exact Eq.trans rfl (query_left m c t 0 (by decide) 0 rfl r s n x hs h0 (h1.trans (Nat.zero_add _).symm))

/-- A key head's first half. -/
theorem key_left (c : Dev nD) (t : Fin cfg0.N) (o : ℕ) (hsl : S512x1280.Slices ![0, o] S512x128) (h : Fin 5) (ho : o = h.val * 128)
    (r : Fin 512) (s : Fin 17408) (n : Fin 1280) (x : S512x128.Idx) (hs : s.val = 512 * t.val + r.val) (h0 : r.val = (x 0).val) (h1 : n.val = h.val * 256 + (x 1).val) :
    (truncf .bf16 (extractStridedSlice S512x128 ![0, o] (tileK m c t) hsl) bitsLt_bf16_f32 : FVec Ideal S512x128 .bf16) x
      = keysB (argP m c) (cosB m c) (sinB m c) (gKb m c) (wK m c) (ix2 s n) := by
  idx_vars x
  obtain rfl : r = x0 := Fin.ext h0
  have hx : x1.val < 128 := x1.isLt
  subst ho
  rw [keysB_at _ _ _ _ _ s n h ⟨x1, by omega⟩ h1]
  unfold keyB
  rw [dif_pos hx, ← tileK_at m c t r s hs]
  pointwise []

/-- A key head's second half. -/
theorem key_right (c : Dev nD) (t : Fin cfg0.N) (h : Fin 5)
    (r : Fin 512) (s : Fin 17408) (n : Fin 1280) (x : S512x128.Idx) (hs : s.val = 512 * t.val + r.val) (h0 : r.val = (x 0).val) (h1 : n.val = h.val * 256 + 128 + (x 1).val) :
    k0_pay31 (F := Ideal) (k0_pay24 (F := Ideal) (View.ld (iblk m c 8 t) r0_0)) (k0_pay25 (F := Ideal) (View.ld (iblk m c 9 t) r0_0)) (View.ld (iblk m c 7 t) r0_0) x
      = keysB (argP m c) (cosB m c) (sinB m c) (gKb m c) (wK m c) (ix2 s n) := by
  idx_vars x
  obtain rfl : r = x0 := Fin.ext h0
  have hx : x1.val < 128 := x1.isLt
  have h1' : n.val = h.val * 256 + 128 + x1.val := h1
  have hX : ∀ k : Fin 128, ((View.ld (iblk m c 7 t) r0_0 : Vec Ideal S512x128 .bf16) (ix2 r k) : EReal) = argP m c (ix2 s ⟨1792 + k, by omega⟩) := fun k =>
    (ld_all (n := 512) (k := 128) _ _ r k).trans ((x7_at m c t r k).trans (congrArg (argP m c) (congrArg₂ ix2 (Fin.ext hs.symm) rfl)))
  refine (pair_at _ _ _ r x1).trans ?_
  rw [keysB_at _ _ _ _ _ s n h ⟨128 + x1, by omega⟩ (by simp only; omega)]
  by_cases k : x1.val < 64
  · have hj : (⟨x1.val % 64, by omega⟩ : Fin 64) = ⟨128 + x1.val - 128, by omega⟩ := Fin.ext (by simp only; omega)
    have hj' : (⟨(x1.val + 64) % 64, by omega⟩ : Fin 64) = ⟨128 + x1.val - 128, by omega⟩ := Fin.ext (by simp only; omega)
    have e1 : (⟨1792 + x1.val, by omega⟩ : Fin 10240) = ⟨1792 + (128 + x1.val - 128), by omega⟩ := Fin.ext (by simp only; omega)
    have e2 : (⟨1792 + (x1.val + 64), by omega⟩ : Fin 10240) = ⟨1856 + (128 + x1.val - 128), by omega⟩ := Fin.ext (by simp only; omega)
    rw [dif_pos k, hX, hX, cos_at m c t r s hs, sin_at m c t r s hs]
    unfold keyB
    rw [dif_neg (by simp only; omega), dif_pos (by simp only; omega), ← turn_eq]
    simp only [hj, hj', e1, e2]
  · rw [dif_neg k]
    unfold keyB
    rw [dif_neg (by simp only; omega), dif_neg (by simp only; omega)]

theorem out17 (c : Dev nD) (t : Fin cfg0.N) (r : Fin 512) (s : Fin 17408) (n : Fin 1280) (hs : s.val = 512 * t.val + r.val) :
    out0_17 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r n) = keysB (argP m c) (cosB m c) (sinB m c) (gKb m c) (wK m c) (ix2 s n) := by
  unfold_out out0_17
  canon_tiles x h
  · exact Eq.trans rfl (key_right m c t 4 r s n x hs h0 h1)
  · exact Eq.trans rfl (key_left m c t 512 (by decide) 4 rfl r s n x hs h0 h1)
  · exact Eq.trans rfl (key_right m c t 3 r s n x hs h0 h1)
  · exact Eq.trans rfl (key_left m c t 384 (by decide) 3 rfl r s n x hs h0 h1)
  · exact Eq.trans rfl (key_right m c t 2 r s n x hs h0 h1)
  · exact Eq.trans rfl (key_left m c t 256 (by decide) 2 rfl r s n x hs h0 h1)
  · exact Eq.trans rfl (key_right m c t 1 r s n x hs h0 h1)
  · exact Eq.trans rfl (key_left m c t 128 (by decide) 1 rfl r s n x hs h0 h1)
  · exact Eq.trans rfl (key_right m c t 0 r s n x hs h0 h1)
  · exact Eq.trans rfl (key_left m c t 0 (by decide) 0 rfl r s n x hs h0 (h1.trans (Nat.zero_add _).symm))

theorem right_at (v : FVec Ideal S512x1280 .f32) (r : Fin 512) (n : Fin 640) : k0_pay3 (F := Ideal) v (ix2 r n) = v (ix2 r ⟨640 + n, by omega⟩) := by
  pointwise [k0_pay3]

theorem out18 (c : Dev nD) (t : Fin cfg0.N) (r : Fin 512) (s : Fin 17408) (n : Fin 640) (hs : s.val = 512 * t.val + r.val) :
    out0_18 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 r n) = valuesB (argP m c) (gKb m c) (wK m c) (ix2 s n) := by
  unfold_out out0_18
  canon_tiles x h
  idx_vars x
  obtain rfl : r = x0 := Fin.ext h0
  obtain rfl : n = x1 := Fin.ext h1
  exact (right_at _ r n).trans (tileK_at m c t r s hs _)

end Cert.PrepIdeal.Value
end
-- ==== Proof.PrepFinal.lean ====
/- The arrays that the query and key preparation leaves. -/
module

public import proofs.«01_k».proof.Proof.PrepB

@[expose] public section

set_option maxRecDepth 16384

noncomputable section

namespace Cert.PrepIdeal.Value

open Cert.PrepIdeal Cert.PrepIdeal.Gen Cert.PrepIdeal.Facts Idealize.ShloMosaic Idealize.ShloMosaic.TcCoe Idealize.SL.Sem
open Idealize.ShloMosaic.Pipeline (Dat)
open Cert.Rope

variable (m : (ℓ : Loc nD τ sig) → Buf (Elt Ideal) ℓ)

theorem final14 (c : Dev nD) : (dats m 0 c).arrAt 14 cfg0.N = (queriesA (argP m c) (cosA m c) (sinA m c) (gQa m c) : FVec Ideal (Rows 768) .bf16) := by
  refine (dats m 0 c).arrAt_eq_of_covers 14 _ (by decide +kernel) fun t hf y => ?_
  have ht := lt34 t
  idx_vars y
  blk_simp
  rw [after0_14]
  refine (out14 m c t y0 ⟨512 * t.val + y0.val, by omega⟩ y1 rfl).trans ?_
  refine congrArg (queriesA (argP m c) (cosA m c) (sinA m c) (gQa m c)) ?_
  blk_ext [idx t]

theorem final15 (c : Dev nD) : (dats m 0 c).arrAt 15 cfg0.N = (keysA (argP m c) (cosA m c) (sinA m c) (gKa m c) : FVec Ideal (Rows 256) .bf16) := by
  refine (dats m 0 c).arrAt_eq_of_covers 15 _ (by decide +kernel) fun t hf y => ?_
  have ht := lt34 t
  idx_vars y
  blk_simp
  rw [after0_15]
  refine (out15 m c t y0 ⟨512 * t.val + y0.val, by omega⟩ y1 rfl).trans ?_
  refine congrArg (keysA (argP m c) (cosA m c) (sinA m c) (gKa m c)) ?_
  blk_ext [idx t]

theorem final16 (c : Dev nD) : (dats m 0 c).arrAt 16 cfg0.N = (queriesB (argP m c) (cosB m c) (sinB m c) (gQb m c) (wQ m c) : FVec Ideal (Rows 1280) .bf16) := by
  refine (dats m 0 c).arrAt_eq_of_covers 16 _ (by decide +kernel) fun t hf y => ?_
  have ht := lt34 t
  idx_vars y
  blk_simp
  rw [after0_16]
  refine (out16 m c t y0 ⟨512 * t.val + y0.val, by omega⟩ y1 rfl).trans ?_
  refine congrArg (queriesB (argP m c) (cosB m c) (sinB m c) (gQb m c) (wQ m c)) ?_
  blk_ext [idx t]

theorem final17 (c : Dev nD) : (dats m 0 c).arrAt 17 cfg0.N = (keysB (argP m c) (cosB m c) (sinB m c) (gKb m c) (wK m c) : FVec Ideal (Rows 1280) .bf16) := by
  refine (dats m 0 c).arrAt_eq_of_covers 17 _ (by decide +kernel) fun t hf y => ?_
  have ht := lt34 t
  idx_vars y
  blk_simp
  rw [after0_17]
  refine (out17 m c t y0 ⟨512 * t.val + y0.val, by omega⟩ y1 rfl).trans ?_
  refine congrArg (keysB (argP m c) (cosB m c) (sinB m c) (gKb m c) (wK m c)) ?_
  blk_ext [idx t]

theorem final18 (c : Dev nD) : (dats m 0 c).arrAt 18 cfg0.N = (valuesB (argP m c) (gKb m c) (wK m c) : FVec Ideal (Rows 640) .bf16) := by
  refine (dats m 0 c).arrAt_eq_of_covers 18 _ (by decide +kernel) fun t hf y => ?_
  have ht := lt34 t
  idx_vars y
  blk_simp
  rw [after0_18]
  refine (out18 m c t y0 ⟨512 * t.val + y0.val, by omega⟩ y1 rfl).trans ?_
  refine congrArg (valuesB (argP m c) (gKb m c) (wK m c)) ?_
  blk_ext [idx t]

end Cert.PrepIdeal.Value
end
-- ==== Proof.RopeHead.lean ====
/- A head turned, from its normalised entries. -/
module

public import proofs.«01_k».proof.Proof.Rope

@[expose] public section

noncomputable section

namespace Cert.Rope

open Idealize.ShloMosaic

theorem head_eq (P : FVec Ideal Wide .bf16) (C S : FVec Ideal (Tab 128) .f32) (G : FVec Ideal (Line 128) .f32) (r : Fin 17408) (o : ℕ) (ho : o + 128 ≤ 10240) (j : Fin 128) (y : Fin 128 → EReal)
    (hy : ∀ k, y k = unit 0x43000000#32 (fun e : Fin 128 => P (ix2 r ⟨o + e, by omega⟩)) (fun e => G (ix2 0 e)) k) :
    head P C S G r o ho j = if r.val < 16384 then y j * C (ix2 ⟨r.val % 4096, by omega⟩ j) + quarter y j * S (ix2 ⟨r.val % 4096, by omega⟩ j) else y j := by
  obtain rfl : y = _ := funext hy
  rfl

theorem quarter_eq (y : Fin 128 → EReal) (j : Fin 128) : quarter y j = if h : j.val / 32 % 2 < 1 then -y ⟨j / 64 * 64 + 32 + j % 32, by omega⟩ else y ⟨j / 64 * 64 + j % 32, by omega⟩ := by
  unfold quarter
  by_cases h : j.val / 32 % 2 = 0
  · rw [dif_pos h, dif_pos (by omega)]
    exact congrArg (fun k => -y k) (Fin.ext (by show j.val + 32 = j.val / 64 * 64 + 32 + j.val % 32; omega))
  · rw [dif_neg h, dif_neg (by omega)]
    exact congrArg y (Fin.ext (by show j.val - 32 = j.val / 64 * 64 + j.val % 32; omega))

end Cert.Rope
end
-- ==== Proof.RefPrep.lean ====
/- What the preparation's reference computes for the second attention, entry by entry. -/
module

public import proofs.«01_k».proof.Proof.Gen.RefPrepIdeal.Run
public import proofs.«01_k».proof.Proof.RopeHead

@[expose] public section

set_option maxRecDepth 16384

noncomputable section

namespace Cert.RefPrepIdeal.Value

open Cert.RefPrepIdeal Cert.RefPrepIdeal.Gen Cert.RefPrepIdeal.Facts Idealize.ShloMosaic Idealize.ShloMosaic.TcCoe Idealize.SL.Sem
open Cert.Rope

/-- The latents' product, its rows normalised first. -/
def normQ (Y : FVec Ideal S17408x512 .f32) (G : FVec Ideal S1x512 .f32) : FVec Ideal S17408x512 .f32 :=
  mulf (mulf Y (broadcastInDim S17408x512 ![0, 1] bcast_S17408x1_S17408x512_0_1 (Host.rsqrt (addf (Host.divf (broadcastInDim S17408x1 ![0] bcast_S17408_S17408x1_0 (Host.reduceAdd (mulf Y Y) (constant S_ .f32 0x00000000#32) reducesTo_S17408x512_S17408_d1 h_S_)) (broadcastInDim S17408x1 ![] bcast_S_S17408x1 (constant S_ .f32 0x44000000#32))) (broadcastInDim S17408x1 ![] bcast_S_S17408x1 (constant S_ .f32 0x358637BD#32))))))
    (broadcastInDim S17408x512 ![0, 1] bcast_S1x512_S17408x512_0_1 (broadcastInDim S1x512 ![1] bcast_S512_S1x512_1 (shapeCast _ G shapeCasts_S1x512_S512)))
def normK (Y : FVec Ideal S17408x256 .f32) (G : FVec Ideal S1x256 .f32) : FVec Ideal S17408x256 .f32 :=
  mulf (mulf Y (broadcastInDim S17408x256 ![0, 1] bcast_S17408x1_S17408x256_0_1 (Host.rsqrt (addf (Host.divf (broadcastInDim S17408x1 ![0] bcast_S17408_S17408x1_0 (Host.reduceAdd (mulf Y Y) (constant S_ .f32 0x00000000#32) reducesTo_S17408x256_S17408_d1 h_S_)) (broadcastInDim S17408x1 ![] bcast_S_S17408x1 (constant S_ .f32 0x43800000#32))) (broadcastInDim S17408x1 ![] bcast_S_S17408x1 (constant S_ .f32 0x358637BD#32))))))
    (broadcastInDim S17408x256 ![0, 1] bcast_S1x256_S17408x256_0_1 (broadcastInDim S1x256 ![1] bcast_S256_S1x256_1 (shapeCast _ G shapeCasts_S1x256_S256)))
def colsQ (P : FVec Ideal S17408x10240 .bf16) : FVec Ideal S17408x512 .f32 := extractStridedSlice S17408x512 ![0, 1024] (extf .f32 P bitsLt_bf16_f32) slices_S17408x10240_S17408x512_0_1024
def colsK (P : FVec Ideal S17408x10240 .bf16) : FVec Ideal S17408x256 .f32 := extractStridedSlice S17408x256 ![0, 1536] (extf .f32 P bitsLt_bf16_f32) slices_S17408x10240_S17408x256_0_1536
def mulQ (P : FVec Ideal S17408x10240 .bf16) (G : FVec Ideal S1x512 .f32) (W : FVec Ideal S512x1920 .bf16) : FVec Ideal S17408x1920 .f32 :=
  Host.dotGeneral dot_S17408x512_S512x1920_S17408x1920_1_0_0_1_n_n none (normQ (colsQ P) G) (extf .f32 W bitsLt_bf16_f32)
def mulK (P : FVec Ideal S17408x10240 .bf16) (G : FVec Ideal S1x256 .f32) (W : FVec Ideal S256x1280 .bf16) : FVec Ideal S17408x1280 .f32 :=
  Host.dotGeneral dot_S17408x256_S256x1280_S17408x1280_1_0_0_1_n_n none (normK (colsK P) G) (extf .f32 W bitsLt_bf16_f32)

theorem normQ_at (Y : FVec Ideal S17408x512 .f32) (G : FVec Ideal S1x512 .f32) (r : Fin 17408) (e : Fin 512) :
    normQ Y G (ix2 r e) = unit 0x44000000#32 (fun k : Fin 512 => Y (ix2 r k)) (fun k => G (ix2 0 k)) e := by
  unfold unit
  pointwise [normQ]
theorem normK_at (Y : FVec Ideal S17408x256 .f32) (G : FVec Ideal S1x256 .f32) (r : Fin 17408) (e : Fin 256) :
    normK Y G (ix2 r e) = unit 0x43800000#32 (fun k : Fin 256 => Y (ix2 r k)) (fun k => G (ix2 0 k)) e := by
  unfold unit
  pointwise [normK]
theorem colsQ_at (P : FVec Ideal S17408x10240 .bf16) (r : Fin 17408) (e : Fin 512) : colsQ P (ix2 r e) = P (ix2 r ⟨1024 + e, by omega⟩) := by
  pointwise [colsQ]
theorem colsK_at (P : FVec Ideal S17408x10240 .bf16) (r : Fin 17408) (e : Fin 256) : colsK P (ix2 r e) = P (ix2 r ⟨1536 + e, by omega⟩) := by
  pointwise [colsK]

theorem mulQ_at (P : FVec Ideal S17408x10240 .bf16) (G : FVec Ideal S1x512 .f32) (W : FVec Ideal S512x1920 .bf16) (r : Fin 17408) (n : Fin 1920) :
    mulQ P G W (ix2 r n) = prodQ P G W r n := by
  have hn : ∀ k : Fin 512, normQ (colsQ P) G (ix2 r k) = unit 0x44000000#32 (fun e : Fin 512 => P (ix2 r ⟨1024 + e, by omega⟩)) (fun e => G (ix2 0 e)) k := fun k =>
    (normQ_at _ G r k).trans (congrFun (congrArg (fun f => unit _ f _) (funext fun e => colsQ_at P r e)) k)
  unfold prodQ
  simp only [← hn]
  unfold mulQ
  generalize normQ (colsQ P) G = Z
  pointwise []
theorem mulK_at (P : FVec Ideal S17408x10240 .bf16) (G : FVec Ideal S1x256 .f32) (W : FVec Ideal S256x1280 .bf16) (r : Fin 17408) (n : Fin 1280) :
    mulK P G W (ix2 r n) = prodK P G W r n := by
  have hn : ∀ k : Fin 256, normK (colsK P) G (ix2 r k) = unit 0x43800000#32 (fun e : Fin 256 => P (ix2 r ⟨1536 + e, by omega⟩)) (fun e => G (ix2 0 e)) k := fun k =>
    (normK_at _ G r k).trans (congrFun (congrArg (fun f => unit _ f _) (funext fun e => colsK_at P r e)) k)
  unfold prodK
  simp only [← hn]
  unfold mulK
  generalize normK (colsK P) G = Z
  pointwise []

/-- The values: the product's last columns. -/
def vb (P : FVec Ideal S17408x10240 .bf16) (G : FVec Ideal S1x256 .f32) (W : FVec Ideal S256x1280 .bf16) : FVec Ideal S17408x640 .bf16 :=
  truncf .bf16 (extractStridedSlice S17408x640 ![0, 640] (mulK P G W) slices_S17408x1280_S17408x640_0_640) bitsLt_bf16_f32

theorem vb_at (P : FVec Ideal S17408x10240 .bf16) (G : FVec Ideal S1x256 .f32) (W : FVec Ideal S256x1280 .bf16) : vb P G W = valuesB P G W := by
  funext i
  idx_vars i
  have hi : i1.val < 640 := i1.isLt
  have hv : (vb P G W (ix2 i0 i1) : EReal) = mulK P G W (ix2 i0 ⟨640 + i1, by omega⟩) := by
    unfold vb
    generalize mulK P G W = Z
    pointwise []
  exact hv.trans (mulK_at P G W i0 ⟨640 + i1, by omega⟩)

/-- The queries' tables, twice side by side, over images and heads. -/
def twice (C : FVec Ideal S4096x64 .f32) : FVec Ideal S4096x128 .f32 :=
  shapeCast _ (broadcastInDim S1x4096x2x64 ![0, 1, 2, 3] bcast_S1x4096x1x64_S1x4096x2x64_0_1_2_3 (shapeCast _ C shapeCasts_S4096x64_S1x4096x1x64)) shapeCasts_S1x4096x2x64_S4096x128
def spread (C : FVec Ideal S4096x128 .f32) : FVec Ideal S4x4096x5x128 .f32 :=
  broadcastInDim S4x4096x5x128 ![0, 1, 2, 3] bcast_S1x4096x1x128_S4x4096x5x128_0_1_2_3 (broadcastInDim S1x4096x1x128 ![1, 2, 3] bcast_S4096x1x128_S1x4096x1x128_1_2_3 (broadcastInDim S4096x1x128 ![0, 2] bcast_S4096x128_S4096x1x128_0_2 C))

/-- A head's columns of the product, and the latents' by image and position. -/
def partA (Z : FVec Ideal S17408x1920 .f32) : FVec Ideal S17408x5x128 .f32 := shapeCast _ (extractStridedSlice S17408x640 ![0, 0] Z slices_S17408x1920_S17408x640_0_0) shapeCasts_S17408x640_S17408x5x128
def partB (Z : FVec Ideal S17408x1920 .f32) : FVec Ideal S17408x5x128 .f32 := shapeCast _ (extractStridedSlice S17408x640 ![0, 640] Z slices_S17408x1920_S17408x640_0_640) shapeCasts_S17408x640_S17408x5x128
def partC (Z : FVec Ideal S17408x1920 .f32) : FVec Ideal S17408x5x128 .f32 := shapeCast _ (extractStridedSlice S17408x640 ![0, 1280] Z slices_S17408x1920_S17408x640_0_1280) shapeCasts_S17408x640_S17408x5x128
def lats (Z : FVec Ideal S17408x5x128 .f32) : FVec Ideal S4x4096x5x128 .f32 := shapeCast _ (extractStridedSlice S16384x5x128 ![0, 0, 0] Z slices_S17408x5x128_S16384x5x128_0_0_0) shapeCasts_S16384x5x128_S4x4096x5x128

/-- The latents turned, then the contexts. -/
def turnedB (A B : FVec Ideal S4x4096x5x128 .f32) (C S : FVec Ideal S4x4096x5x128 .f32) : FVec Ideal S16384x5x128 .f32 :=
  shapeCast _ (addf (mulf A C) (mulf B S)) shapeCasts_S4x4096x5x128_S16384x5x128
def joinB (T : FVec Ideal S16384x5x128 .f32) (Z : FVec Ideal S17408x5x128 .f32) : FVec Ideal S17408x5x128 .f32 :=
  concatenate S17408x5x128 0 [⟨S16384x5x128, T⟩, ⟨S1024x5x128, (extractStridedSlice S1024x5x128 ![16384, 0, 0] Z slices_S17408x5x128_S1024x5x128_16384_0_0)⟩] concatenates_S16384x5x128_S1024x5x128_S17408x5x128_d0
def beside (A B : FVec Ideal S17408x5x128 .f32) : FVec Ideal S17408x5x256 .f32 :=
  concatenate S17408x5x256 2 [⟨S17408x5x128, A⟩, ⟨S17408x5x128, B⟩] concatenates_S17408x5x128_S17408x5x128_S17408x5x256_d2

def rightQ (Z : FVec Ideal S17408x1920 .f32) (C S : FVec Ideal S4096x64 .f32) : FVec Ideal S17408x5x128 .f32 :=
  joinB (turnedB (lats (partB Z)) (lats (partC Z)) (spread (twice C)) (spread (twice S))) (partB Z)

/-- The queries. -/
def qb (P : FVec Ideal S17408x10240 .bf16) (C S : FVec Ideal S4096x64 .f32) (G : FVec Ideal S1x512 .f32) (W : FVec Ideal S512x1920 .bf16) : FVec Ideal S17408x1280 .bf16 :=
  truncf .bf16 (shapeCast _ (mulf (beside (partA (mulQ P G W)) (rightQ (mulQ P G W) C S)) (broadcastInDim S17408x5x256 ![] bcast_S_S17408x5x256 (constant S_ .f32 0x3DD53B95#32))) shapeCasts_S17408x5x256_S17408x1280) bitsLt_bf16_f32

theorem twice_at (C : FVec Ideal S4096x64 .f32) (s : Fin 4096) (e : Fin 128) : twice C (ix2 s e) = C (ix2 s ⟨e % 64, by omega⟩) := by
  pointwise [twice]
theorem spread_at (C : FVec Ideal S4096x128 .f32) (b : Fin 4) (s : Fin 4096) (h : Fin 5) (e : Fin 128) : spread C (ix4 b s h e) = C (ix2 s e) := by
  pointwise [spread]
theorem partA_at (Z : FVec Ideal S17408x1920 .f32) (r : Fin 17408) (h : Fin 5) (e : Fin 128) : partA Z (ix3 r h e) = Z (ix2 r ⟨h * 128 + e, by omega⟩) := by
  pointwise [partA]
theorem partB_at (Z : FVec Ideal S17408x1920 .f32) (r : Fin 17408) (h : Fin 5) (e : Fin 128) : partB Z (ix3 r h e) = Z (ix2 r ⟨640 + (h * 128 + e), by omega⟩) := by
  pointwise [partB]
theorem partC_at (Z : FVec Ideal S17408x1920 .f32) (r : Fin 17408) (h : Fin 5) (e : Fin 128) : partC Z (ix3 r h e) = Z (ix2 r ⟨1280 + (h * 128 + e), by omega⟩) := by
  pointwise [partC]
theorem lats_at (Z : FVec Ideal S17408x5x128 .f32) (b : Fin 4) (s : Fin 4096) (h : Fin 5) (e : Fin 128) :
    lats Z (ix4 b s h e) = Z (ix3 ⟨b * 4096 + s, by omega⟩ h e) := by
  pointwise [lats]
theorem flatB_at (L : FVec Ideal S4x4096x5x128 .f32) (r : Fin 16384) (h : Fin 5) (e : Fin 128) :
    shapeCast S16384x5x128 L shapeCasts_S4x4096x5x128_S16384x5x128 (ix3 r h e) = L (ix4 ⟨r / 4096, by omega⟩ ⟨r % 4096, by omega⟩ h e) := by
  pointwise []
theorem turnedB_at (A B C S : FVec Ideal S4x4096x5x128 .f32) (r : Fin 16384) (h : Fin 5) (e : Fin 128) :
    turnedB A B C S (ix3 r h e) = A (ix4 ⟨r / 4096, by omega⟩ ⟨r % 4096, by omega⟩ h e) * C (ix4 ⟨r / 4096, by omega⟩ ⟨r % 4096, by omega⟩ h e)
      + B (ix4 ⟨r / 4096, by omega⟩ ⟨r % 4096, by omega⟩ h e) * S (ix4 ⟨r / 4096, by omega⟩ ⟨r % 4096, by omega⟩ h e) := by
  have hs : ∀ (X Y Z W : FVec Ideal S4x4096x5x128 .f32) (i : S4x4096x5x128.Idx), addf (mulf X Y) (mulf Z W) i = X i * Y i + Z i * W i := fun _ _ _ _ _ => rfl
  unfold turnedB
  rw [flatB_at, hs]
theorem joinB_at (T : FVec Ideal S16384x5x128 .f32) (Z : FVec Ideal S17408x5x128 .f32) (r : Fin 17408) (h : Fin 5) (e : Fin 128) :
    joinB T Z (ix3 r h e) = if hr : r.val < 16384 then T (ix3 ⟨r, hr⟩ h e) else Z (ix3 r h e) := by
  have hz : ∀ hr : ¬ r.val < 16384, Z (ix3 r h e) = Z (ix3 ⟨16384 + (r - 16384), by omega⟩ h e) := fun hr =>
    congrArg (fun q => Z (ix3 q h e)) (Fin.ext (by show r.val = 16384 + (r.val - 16384); omega))
  by_cases hr : r.val < 16384
  · rw [dif_pos hr]
    pointwise [joinB]
    rw [dif_pos hr]
  · rw [dif_neg hr, hz hr]
    pointwise [joinB]
    rw [dif_neg hr]
theorem beside_at (A B : FVec Ideal S17408x5x128 .f32) (r : Fin 17408) (h : Fin 5) (e : Fin 256) :
    beside A B (ix3 r h e) = if c : e.val < 128 then A (ix3 r h ⟨e, c⟩) else B (ix3 r h ⟨e - 128, by omega⟩) := by
  pointwise [beside]

theorem rightQ_at (Z : FVec Ideal S17408x1920 .f32) (C S : FVec Ideal S4096x64 .f32) (r : Fin 17408) (h : Fin 5) (e : Fin 128) :
    rightQ Z C S (ix3 r h e) = turn C S r ⟨e % 64, by omega⟩ (Z (ix2 r ⟨640 + (h * 128 + e), by omega⟩)) (Z (ix2 r ⟨1280 + (h * 128 + e), by omega⟩)) := by
  unfold rightQ turn
  rw [joinB_at, partB_at]
  by_cases hr : r.val < 16384
  · rw [dif_pos hr, if_pos hr, turnedB_at, spread_at, spread_at, twice_at, twice_at, lats_at, lats_at, partB_at, partC_at]
    have hrow : (⟨r / 4096 * 4096 + r % 4096, by omega⟩ : Fin 17408) = r := Fin.ext (Nat.div_add_mod' r.val 4096)
    simp only [hrow]
  · rw [dif_neg hr, if_neg hr]

theorem flat_at (Z : FVec Ideal S17408x5x256 .f32) (r : Fin 17408) (n : Fin 1280) :
    shapeCast S17408x1280 Z shapeCasts_S17408x5x256_S17408x1280 (ix2 r n) = Z (ix3 r ⟨n / 256, by omega⟩ ⟨n % 256, by omega⟩) := by
  pointwise []

theorem qb_at (P : FVec Ideal S17408x10240 .bf16) (C S : FVec Ideal S4096x64 .f32) (G : FVec Ideal S1x512 .f32) (W : FVec Ideal S512x1920 .bf16) : qb P C S G W = queriesB P C S G W := by
  funext i
  idx_vars i
  have hi : i1.val < 1280 := i1.isLt
  have hq : (qb P C S G W (ix2 i0 i1) : EReal) = beside (partA (mulQ P G W)) (rightQ (mulQ P G W) C S) (ix3 i0 ⟨i1 / 256, by omega⟩ ⟨i1 % 256, by omega⟩) * Ideal.ofBits .f32 0x3DD53B95#32 := by
    unfold qb
    generalize beside (partA (mulQ P G W)) (rightQ (mulQ P G W) C S) = Z
    pointwise []
  refine hq.trans ?_
  have hb : ∀ (h : Fin 5) (e : Fin 256), beside (partA (mulQ P G W)) (rightQ (mulQ P G W) C S) (ix3 i0 h e) = queryB P C S G W i0 h e := fun h e => by
    unfold queryB
    rw [beside_at]
    by_cases c : e.val < 128
    · rw [dif_pos c, dif_pos c, partA_at, mulQ_at]
    · rw [dif_neg c, dif_neg c, rightQ_at, mulQ_at, mulQ_at]
      exact congrArg (fun j => turn C S i0 j _ _) (Fin.ext (by show (e.val - 128) % 64 = e.val % 64; omega))
  exact congrArg (· * _) (hb _ _)

/-- The keys' columns: from the product, and the pair to turn. -/
def partK (Z : FVec Ideal S17408x1280 .f32) : FVec Ideal S17408x5x128 .f32 := shapeCast _ (extractStridedSlice S17408x640 ![0, 0] Z slices_S17408x1280_S17408x640_0_0) shapeCasts_S17408x640_S17408x5x128
def pairA (P : FVec Ideal S17408x10240 .bf16) : FVec Ideal S17408x1x64 .f32 := shapeCast _ (extractStridedSlice S17408x64 ![0, 1792] (extf .f32 P bitsLt_bf16_f32) slices_S17408x10240_S17408x64_0_1792) shapeCasts_S17408x64_S17408x1x64
def pairB (P : FVec Ideal S17408x10240 .bf16) : FVec Ideal S17408x1x64 .f32 := shapeCast _ (extractStridedSlice S17408x64 ![0, 1856] (extf .f32 P bitsLt_bf16_f32) slices_S17408x10240_S17408x64_0_1856) shapeCasts_S17408x64_S17408x1x64
def latsK (Z : FVec Ideal S17408x1x64 .f32) : FVec Ideal S4x4096x1x64 .f32 := shapeCast _ (extractStridedSlice S16384x1x64 ![0, 0, 0] Z slices_S17408x1x64_S16384x1x64_0_0_0) shapeCasts_S16384x1x64_S4x4096x1x64
def spreadK (C : FVec Ideal S4096x64 .f32) : FVec Ideal S4x4096x1x64 .f32 :=
  broadcastInDim S4x4096x1x64 ![0, 1, 2, 3] bcast_S1x4096x1x64_S4x4096x1x64_0_1_2_3 (broadcastInDim S1x4096x1x64 ![1, 2, 3] bcast_S4096x1x64_S1x4096x1x64_1_2_3 (broadcastInDim S4096x1x64 ![0, 2] bcast_S4096x64_S4096x1x64_0_2
    (shapeCast _ (broadcastInDim S1x4096x1x64 ![0, 1, 2, 3] bcast_S1x4096x1x64_S1x4096x1x64_0_1_2_3 (shapeCast _ C shapeCasts_S4096x64_S1x4096x1x64)) shapeCasts_S1x4096x1x64_S4096x64)))
def turnedK (A B C S : FVec Ideal S4x4096x1x64 .f32) : FVec Ideal S16384x1x64 .f32 := shapeCast _ (addf (mulf A C) (mulf B S)) shapeCasts_S4x4096x1x64_S16384x1x64
def joinK (T : FVec Ideal S16384x1x64 .f32) (Z : FVec Ideal S17408x1x64 .f32) : FVec Ideal S17408x1x64 .f32 :=
  concatenate S17408x1x64 0 [⟨S16384x1x64, T⟩, ⟨S1024x1x64, (extractStridedSlice S1024x1x64 ![16384, 0, 0] Z slices_S17408x1x64_S1024x1x64_16384_0_0)⟩] concatenates_S16384x1x64_S1024x1x64_S17408x1x64_d0
def padK (Z : FVec Ideal S17408x1x64 .f32) : FVec Ideal S17408x5x128 .f32 :=
  broadcastInDim S17408x5x128 ![0, 1, 2] bcast_S17408x1x128_S17408x5x128_0_1_2 (concatenate S17408x1x128 2 [⟨S17408x1x64, Z⟩, ⟨S17408x1x64, (broadcastInDim S17408x1x64 ![] bcast_S_S17408x1x64 (constant S_ .f32 0x00000000#32))⟩] concatenates_S17408x1x64_S17408x1x64_S17408x1x128_d2)
def rightK (P : FVec Ideal S17408x10240 .bf16) (C S : FVec Ideal S4096x64 .f32) : FVec Ideal S17408x1x64 .f32 :=
  joinK (turnedK (latsK (pairA P)) (latsK (pairB P)) (spreadK C) (spreadK S)) (pairA P)

/-- The keys. -/
def kb (P : FVec Ideal S17408x10240 .bf16) (C S : FVec Ideal S4096x64 .f32) (G : FVec Ideal S1x256 .f32) (W : FVec Ideal S256x1280 .bf16) : FVec Ideal S17408x1280 .bf16 :=
  truncf .bf16 (shapeCast _ (beside (partK (mulK P G W)) (padK (rightK P C S))) shapeCasts_S17408x5x256_S17408x1280) bitsLt_bf16_f32

theorem partK_at (Z : FVec Ideal S17408x1280 .f32) (r : Fin 17408) (h : Fin 5) (e : Fin 128) : partK Z (ix3 r h e) = Z (ix2 r ⟨h * 128 + e, by omega⟩) := by
  pointwise [partK]
theorem pairA_at (P : FVec Ideal S17408x10240 .bf16) (r : Fin 17408) (e : Fin 64) : pairA P (ix3 r 0 e) = P (ix2 r ⟨1792 + e, by omega⟩) := by
  pointwise [pairA]
theorem pairB_at (P : FVec Ideal S17408x10240 .bf16) (r : Fin 17408) (e : Fin 64) : pairB P (ix3 r 0 e) = P (ix2 r ⟨1856 + e, by omega⟩) := by
  pointwise [pairB]
theorem latsK_at (Z : FVec Ideal S17408x1x64 .f32) (b : Fin 4) (s : Fin 4096) (e : Fin 64) : latsK Z (ix4 b s 0 e) = Z (ix3 ⟨b * 4096 + s, by omega⟩ 0 e) := by
  pointwise [latsK]
theorem spreadK_at (C : FVec Ideal S4096x64 .f32) (b : Fin 4) (s : Fin 4096) (e : Fin 64) : spreadK C (ix4 b s 0 e) = C (ix2 s e) := by
  pointwise [spreadK]
theorem flatK_at (L : FVec Ideal S4x4096x1x64 .f32) (r : Fin 16384) (e : Fin 64) :
    shapeCast S16384x1x64 L shapeCasts_S4x4096x1x64_S16384x1x64 (ix3 r 0 e) = L (ix4 ⟨r / 4096, by omega⟩ ⟨r % 4096, by omega⟩ 0 e) := by
  pointwise []
theorem turnedK_at (A B C S : FVec Ideal S4x4096x1x64 .f32) (r : Fin 16384) (e : Fin 64) :
    turnedK A B C S (ix3 r 0 e) = A (ix4 ⟨r / 4096, by omega⟩ ⟨r % 4096, by omega⟩ 0 e) * C (ix4 ⟨r / 4096, by omega⟩ ⟨r % 4096, by omega⟩ 0 e)
      + B (ix4 ⟨r / 4096, by omega⟩ ⟨r % 4096, by omega⟩ 0 e) * S (ix4 ⟨r / 4096, by omega⟩ ⟨r % 4096, by omega⟩ 0 e) := by
  have hs : ∀ (X Y Z W : FVec Ideal S4x4096x1x64 .f32) (i : S4x4096x1x64.Idx), addf (mulf X Y) (mulf Z W) i = X i * Y i + Z i * W i := fun _ _ _ _ _ => rfl
  unfold turnedK
  rw [flatK_at, hs]
theorem joinK_at (T : FVec Ideal S16384x1x64 .f32) (Z : FVec Ideal S17408x1x64 .f32) (r : Fin 17408) (e : Fin 64) :
    joinK T Z (ix3 r 0 e) = if hr : r.val < 16384 then T (ix3 ⟨r, hr⟩ 0 e) else Z (ix3 r 0 e) := by
  have hz : ∀ hr : ¬ r.val < 16384, Z (ix3 r 0 e) = Z (ix3 ⟨16384 + (r - 16384), by omega⟩ 0 e) := fun hr =>
    congrArg (fun q => Z (ix3 q 0 e)) (Fin.ext (by show r.val = 16384 + (r.val - 16384); omega))
  by_cases hr : r.val < 16384
  · rw [dif_pos hr]
    pointwise [joinK]
    rw [dif_pos hr]
  · rw [dif_neg hr, hz hr]
    pointwise [joinK]
    rw [dif_neg hr]
theorem padK_at (Z : FVec Ideal S17408x1x64 .f32) (r : Fin 17408) (h : Fin 5) (e : Fin 128) :
    padK Z (ix3 r h e) = if c : e.val < 64 then Z (ix3 r 0 ⟨e, c⟩) else 0 := by
  pointwise [padK]
theorem rightK_at (P : FVec Ideal S17408x10240 .bf16) (C S : FVec Ideal S4096x64 .f32) (r : Fin 17408) (e : Fin 64) :
    rightK P C S (ix3 r 0 e) = turn C S r e (P (ix2 r ⟨1792 + e, by omega⟩)) (P (ix2 r ⟨1856 + e, by omega⟩)) := by
  unfold rightK turn
  rw [joinK_at, pairA_at]
  by_cases hr : r.val < 16384
  · rw [dif_pos hr, if_pos hr, turnedK_at, spreadK_at, spreadK_at, latsK_at, latsK_at, pairA_at, pairB_at]
    have hrow : (⟨r / 4096 * 4096 + r % 4096, by omega⟩ : Fin 17408) = r := Fin.ext (Nat.div_add_mod' r.val 4096)
    simp only [hrow]
  · rw [dif_neg hr, if_neg hr]

theorem kb_at (P : FVec Ideal S17408x10240 .bf16) (C S : FVec Ideal S4096x64 .f32) (G : FVec Ideal S1x256 .f32) (W : FVec Ideal S256x1280 .bf16) : kb P C S G W = keysB P C S G W := by
  funext i
  idx_vars i
  have hi : i1.val < 1280 := i1.isLt
  have hq : (kb P C S G W (ix2 i0 i1) : EReal) = beside (partK (mulK P G W)) (padK (rightK P C S)) (ix3 i0 ⟨i1 / 256, by omega⟩ ⟨i1 % 256, by omega⟩) := by
    unfold kb
    generalize beside (partK (mulK P G W)) (padK (rightK P C S)) = Z
    pointwise []
  refine hq.trans ?_
  have hb : ∀ (h : Fin 5) (e : Fin 256), beside (partK (mulK P G W)) (padK (rightK P C S)) (ix3 i0 h e) = keyB P C S G W i0 h e := fun h e => by
    unfold keyB
    rw [beside_at]
    by_cases c : e.val < 128
    · rw [dif_pos c, dif_pos c, partK_at, mulK_at]
    · rw [dif_neg c, dif_neg c, padK_at]
      by_cases d : e.val < 192
      · have d' : e.val - 128 < 64 := by omega
        rw [dif_pos d']
        rw [dif_pos d, rightK_at]
      · have d' : ¬ e.val - 128 < 64 := by omega
        rw [dif_neg d']
        rw [dif_neg d]
  exact hb _ _

end Cert.RefPrepIdeal.Value
end
-- ==== Proof.RefPrepQ.lean ====
/- What the preparation's reference computes for the first attention, entry by entry. -/
module

public import proofs.«01_k».proof.Proof.Gen.RefPrepIdeal.Run
public import proofs.«01_k».proof.Proof.RopeHead

@[expose] public section

set_option maxRecDepth 16384

noncomputable section

namespace Cert.RefPrepIdeal.Value

open Cert.RefPrepIdeal Cert.RefPrepIdeal.Gen Cert.RefPrepIdeal.Facts Idealize.ShloMosaic Idealize.ShloMosaic.TcCoe Idealize.SL.Sem
open Cert.Rope

/-- The six query heads of every row. -/
def heads6 (P : FVec Ideal S17408x10240 .bf16) : FVec Ideal S17408x6x128 .f32 :=
  shapeCast _ (extractStridedSlice S17408x768 ![0, 0] (extf .f32 P bitsLt_bf16_f32) slices_S17408x10240_S17408x768_0_0) shapeCasts_S17408x768_S17408x6x128

theorem heads6_at (P : FVec Ideal S17408x10240 .bf16) (r : Fin 17408) (h : Fin 6) (e : Fin 128) :
    heads6 P (ix3 r h e) = P (ix2 r ⟨0 + (h * 128 + e), by omega⟩) := by
  pointwise [heads6]

/-- The six query heads of every row, each normalised. -/
def normed6 (Y : FVec Ideal S17408x6x128 .f32) (G : FVec Ideal S1x128 .f32) : FVec Ideal S17408x6x128 .f32 :=
  mulf (mulf Y (broadcastInDim S17408x6x128 ![0, 1, 2] bcast_S17408x6x1_S17408x6x128_0_1_2 (Host.rsqrt (addf (Host.divf (broadcastInDim S17408x6x1 ![0, 1] bcast_S17408x6_S17408x6x1_0_1
      (Host.reduceAdd (mulf Y Y) (constant S_ .f32 0x00000000#32) reducesTo_S17408x6x128_S17408x6_d2 h_S_)) (broadcastInDim S17408x6x1 ![] bcast_S_S17408x6x1 (constant S_ .f32 0x43000000#32)))
      (broadcastInDim S17408x6x1 ![] bcast_S_S17408x6x1 (constant S_ .f32 0x358637BD#32))))))
    (broadcastInDim S17408x6x128 ![0, 1, 2] bcast_S1x1x128_S17408x6x128_0_1_2 (broadcastInDim S1x1x128 ![2] bcast_S128_S1x1x128_2 (shapeCast _ G shapeCasts_S1x128_S128)))

def units6 (P : FVec Ideal S17408x10240 .bf16) (G : FVec Ideal S1x128 .f32) : FVec Ideal S17408x6x128 .f32 := normed6 (heads6 P) G

/-- The latents' heads, by image and position. -/
def lats6 (Z : FVec Ideal S17408x6x128 .f32) : FVec Ideal S4x4096x6x128 .f32 :=
  shapeCast _ (extractStridedSlice S16384x6x128 ![0, 0, 0] Z slices_S17408x6x128_S16384x6x128_0_0_0) shapeCasts_S16384x6x128_S4x4096x6x128

/-- Their quarters, one of each pair at a time, and the pairs turned by a right angle. -/
def split6 (L : FVec Ideal S4x4096x6x128 .f32) : FVec Ideal S4x4096x6x2x2x32 .f32 := shapeCast _ L shapeCasts_S4x4096x6x128_S4x4096x6x2x2x32
def second6 (L : FVec Ideal S4x4096x6x2x2x32 .f32) : FVec Ideal S4x4096x6x2x1x32 .f32 :=
  broadcastInDim S4x4096x6x2x1x32 ![0, 1, 2, 3, 5] bcast_S4x4096x6x2x32_S4x4096x6x2x1x32_0_1_2_3_5
    (Host.negf (shapeCast _ (extractStridedSlice S4x4096x6x2x1x32 ![0, 0, 0, 0, 1, 0] L slices_S4x4096x6x2x2x32_S4x4096x6x2x1x32_0_0_0_0_1_0) shapeCasts_S4x4096x6x2x1x32_S4x4096x6x2x32))
def first6 (L : FVec Ideal S4x4096x6x2x2x32 .f32) : FVec Ideal S4x4096x6x2x1x32 .f32 :=
  broadcastInDim S4x4096x6x2x1x32 ![0, 1, 2, 3, 5] bcast_S4x4096x6x2x32_S4x4096x6x2x1x32_0_1_2_3_5
    (shapeCast _ (extractStridedSlice S4x4096x6x2x1x32 ![0, 0, 0, 0, 0, 0] L slices_S4x4096x6x2x2x32_S4x4096x6x2x1x32_0_0_0_0_0_0) shapeCasts_S4x4096x6x2x1x32_S4x4096x6x2x32)
def swap6 (L : FVec Ideal S4x4096x6x128 .f32) : FVec Ideal S4x4096x6x128 .f32 :=
  shapeCast _ (concatenate S4x4096x6x2x2x32 4 [⟨S4x4096x6x2x1x32, second6 (split6 L)⟩, ⟨S4x4096x6x2x1x32, first6 (split6 L)⟩]
    concatenates_S4x4096x6x2x1x32_S4x4096x6x2x1x32_S4x4096x6x2x2x32_d4) shapeCasts_S4x4096x6x2x2x32_S4x4096x6x128

/-- A table of angles, over images and heads. -/
def table6 (C : FVec Ideal S4096x128 .f32) : FVec Ideal S4x4096x6x128 .f32 :=
  broadcastInDim S4x4096x6x128 ![0, 1, 2, 3] bcast_S1x4096x1x128_S4x4096x6x128_0_1_2_3 (broadcastInDim S1x4096x1x128 ![1, 2, 3] bcast_S4096x1x128_S1x4096x1x128_1_2_3 (broadcastInDim S4096x1x128 ![0, 2] bcast_S4096x128_S4096x1x128_0_2 C))

/-- The latents turned, the contexts as they are. -/
def turned6 (L : FVec Ideal S4x4096x6x128 .f32) (C S : FVec Ideal S4096x128 .f32) : FVec Ideal S16384x6x128 .f32 :=
  shapeCast _ (addf (mulf L (table6 C)) (mulf (swap6 L) (table6 S))) shapeCasts_S4x4096x6x128_S16384x6x128
def join6 (T : FVec Ideal S16384x6x128 .f32) (Z : FVec Ideal S17408x6x128 .f32) : FVec Ideal S17408x6x128 .f32 :=
  concatenate S17408x6x128 0 [⟨S16384x6x128, T⟩, ⟨S1024x6x128, (extractStridedSlice S1024x6x128 ![16384, 0, 0] Z slices_S17408x6x128_S1024x6x128_16384_0_0)⟩]
    concatenates_S16384x6x128_S1024x6x128_S17408x6x128_d0
def whole6 (Z : FVec Ideal S17408x6x128 .f32) (C S : FVec Ideal S4096x128 .f32) : FVec Ideal S17408x6x128 .f32 :=
  join6 (turned6 (lats6 Z) C S) Z

theorem normed6_at (Y : FVec Ideal S17408x6x128 .f32) (G : FVec Ideal S1x128 .f32) (r : Fin 17408) (h : Fin 6) (e : Fin 128) :
    normed6 Y G (ix3 r h e) = unit 0x43000000#32 (fun k : Fin 128 => Y (ix3 r h k)) (fun k => G (ix2 0 k)) e := by
  unfold unit
  pointwise [normed6]

theorem units6_at (P : FVec Ideal S17408x10240 .bf16) (G : FVec Ideal S1x128 .f32) (r : Fin 17408) (h : Fin 6) (e : Fin 128) :
    units6 P G (ix3 r h e) = unit 0x43000000#32 (fun k : Fin 128 => P (ix2 r ⟨0 + (h * 128 + k), by omega⟩)) (fun k => G (ix2 0 k)) e :=
  (normed6_at _ G r h e).trans (congrFun (congrArg (fun f => unit _ f _) (funext fun k => heads6_at P r h k)) e)

theorem lats6_at (Z : FVec Ideal S17408x6x128 .f32) (b : Fin 4) (s : Fin 4096) (h : Fin 6) (e : Fin 128) :
    lats6 Z (ix4 b s h e) = Z (ix3 ⟨b * 4096 + s, by omega⟩ h e) := by
  pointwise [lats6]

theorem swap6_at (L : FVec Ideal S4x4096x6x128 .f32) (b : Fin 4) (s : Fin 4096) (h : Fin 6) (e : Fin 128) :
    swap6 L (ix4 b s h e) = quarter (fun k => L (ix4 b s h k)) e := by
  rw [quarter_eq]
  pointwise [swap6, second6, first6, split6]

theorem table6_at (C : FVec Ideal S4096x128 .f32) (b : Fin 4) (s : Fin 4096) (h : Fin 6) (e : Fin 128) :
    table6 C (ix4 b s h e) = C (ix2 s e) := by
  pointwise [table6]

theorem flat6_at (L : FVec Ideal S4x4096x6x128 .f32) (r : Fin 16384) (h : Fin 6) (e : Fin 128) :
    shapeCast S16384x6x128 L shapeCasts_S4x4096x6x128_S16384x6x128 (ix3 r h e) = L (ix4 ⟨r / 4096, by omega⟩ ⟨r % 4096, by omega⟩ h e) := by
  pointwise []

theorem turned6_at (L : FVec Ideal S4x4096x6x128 .f32) (C S : FVec Ideal S4096x128 .f32) (r : Fin 16384) (h : Fin 6) (e : Fin 128) :
    turned6 L C S (ix3 r h e) = L (ix4 ⟨r / 4096, by omega⟩ ⟨r % 4096, by omega⟩ h e) * C (ix2 ⟨r % 4096, by omega⟩ e)
      + quarter (fun k => L (ix4 ⟨r / 4096, by omega⟩ ⟨r % 4096, by omega⟩ h k)) e * S (ix2 ⟨r % 4096, by omega⟩ e) := by
  have hs : ∀ (X Y Z W : FVec Ideal S4x4096x6x128 .f32) (i : S4x4096x6x128.Idx), addf (mulf X Y) (mulf Z W) i = X i * Y i + Z i * W i := fun _ _ _ _ _ => rfl
  unfold turned6
  rw [flat6_at, hs, swap6_at, table6_at, table6_at]

theorem join6_at (T : FVec Ideal S16384x6x128 .f32) (Z : FVec Ideal S17408x6x128 .f32) (r : Fin 17408) (h : Fin 6) (e : Fin 128) :
    join6 T Z (ix3 r h e) = if hr : r.val < 16384 then T (ix3 ⟨r, hr⟩ h e) else Z (ix3 r h e) := by
  have hz : ∀ hr : ¬ r.val < 16384, Z (ix3 r h e) = Z (ix3 ⟨16384 + (r - 16384), by omega⟩ h e) := fun hr =>
    congrArg (fun q => Z (ix3 q h e)) (Fin.ext (by show r.val = 16384 + (r.val - 16384); omega))
  by_cases hr : r.val < 16384
  · rw [dif_pos hr]
    pointwise [join6]
    rw [dif_pos hr]
  · rw [dif_neg hr, hz hr]
    pointwise [join6]
    rw [dif_neg hr]

theorem whole6_at (P : FVec Ideal S17408x10240 .bf16) (C S : FVec Ideal S4096x128 .f32) (G : FVec Ideal S1x128 .f32) (r : Fin 17408) (h : Fin 6) (e : Fin 128) :
    whole6 (units6 P G) C S (ix3 r h e) = head P C S G r (0 + h * 128) (by omega) e := by
  have hu : ∀ k : Fin 128, units6 P G (ix3 r h k) = unit 0x43000000#32 (fun e : Fin 128 => P (ix2 r ⟨0 + h * 128 + e, by omega⟩)) (fun e => G (ix2 0 e)) k := fun k => by
    rw [units6_at]
    exact congrFun (congrArg (fun f => unit _ f _) (funext fun i => congrArg P (congrArg (ix2 r) (Fin.ext (Nat.add_assoc _ _ _).symm)))) k
  rw [head_eq P C S G r _ (by omega) e (fun k => units6 P G (ix3 r h k)) hu]
  generalize units6 P G = Z
  unfold whole6
  rw [join6_at]
  by_cases hr : r.val < 16384
  · have hl : ∀ k : Fin 128, lats6 Z (ix4 ⟨r / 4096, by omega⟩ ⟨r % 4096, by omega⟩ h k) = Z (ix3 r h k) := fun k => by
      rw [lats6_at]
      exact congrArg (fun q => Z (ix3 q h k)) (Fin.ext (Nat.div_add_mod' r.val 4096))
    rw [dif_pos hr, if_pos hr]
    refine (turned6_at (lats6 Z) C S ⟨r, hr⟩ h e).trans ?_
    exact congrArg₂ (· + ·) (congrArg (· * _) (hl e)) (congrArg (· * _) (congrFun (congrArg quarter (funext hl)) e))
  · rw [dif_neg hr, if_neg hr]

/-- The queries. -/
def qa (P : FVec Ideal S17408x10240 .bf16) (C S : FVec Ideal S4096x128 .f32) (G : FVec Ideal S1x128 .f32) : FVec Ideal S17408x768 .bf16 :=
  truncf .bf16 (shapeCast _ (mulf (whole6 (units6 P G) C S) (broadcastInDim S17408x6x128 ![] bcast_S_S17408x6x128 (constant S_ .f32 0x3E0293EE#32))) shapeCasts_S17408x6x128_S17408x768) bitsLt_bf16_f32

theorem qa_at (P : FVec Ideal S17408x10240 .bf16) (C S : FVec Ideal S4096x128 .f32) (G : FVec Ideal S1x128 .f32) : qa P C S G = queriesA P C S G := by
  funext i
  idx_vars i
  have hi : i1.val < 768 := i1.isLt
  have hq : (qa P C S G (ix2 i0 i1) : EReal) = whole6 (units6 P G) C S (ix3 i0 ⟨i1 / 128, by omega⟩ ⟨i1 % 128, by omega⟩) * Ideal.ofBits .f32 0x3E0293EE#32 := by
    unfold qa
    generalize whole6 (units6 P G) C S = Z
    pointwise []
  refine hq.trans ?_
  rw [whole6_at]
  refine congrArg (· * _) ?_
  have ho : 0 + i1.val / 128 * 128 = i1.val / 128 * 128 := Nat.zero_add _
  show head P C S G i0 (0 + i1.val / 128 * 128) _ _ = head P C S G i0 (i1.val / 128 * 128) _ _
  simp only [ho]
  rfl

end Cert.RefPrepIdeal.Value
end
-- ==== Proof.RefPrepK.lean ====
/- What the preparation's reference computes for the first attention, entry by entry. -/
module

public import proofs.«01_k».proof.Proof.Gen.RefPrepIdeal.Run
public import proofs.«01_k».proof.Proof.RopeHead

@[expose] public section

set_option maxRecDepth 16384

noncomputable section

namespace Cert.RefPrepIdeal.Value

open Cert.RefPrepIdeal Cert.RefPrepIdeal.Gen Cert.RefPrepIdeal.Facts Idealize.ShloMosaic Idealize.ShloMosaic.TcCoe Idealize.SL.Sem
open Cert.Rope

/-- The two key heads of every row. -/
def heads2 (P : FVec Ideal S17408x10240 .bf16) : FVec Ideal S17408x2x128 .f32 :=
  shapeCast _ (extractStridedSlice S17408x256 ![0, 768] (extf .f32 P bitsLt_bf16_f32) slices_S17408x10240_S17408x256_0_768) shapeCasts_S17408x256_S17408x2x128

theorem heads2_at (P : FVec Ideal S17408x10240 .bf16) (r : Fin 17408) (h : Fin 2) (e : Fin 128) :
    heads2 P (ix3 r h e) = P (ix2 r ⟨768 + (h * 128 + e), by omega⟩) := by
  pointwise [heads2]

/-- The two key heads of every row, each normalised. -/
def normed2 (Y : FVec Ideal S17408x2x128 .f32) (G : FVec Ideal S1x128 .f32) : FVec Ideal S17408x2x128 .f32 :=
  mulf (mulf Y (broadcastInDim S17408x2x128 ![0, 1, 2] bcast_S17408x2x1_S17408x2x128_0_1_2 (Host.rsqrt (addf (Host.divf (broadcastInDim S17408x2x1 ![0, 1] bcast_S17408x2_S17408x2x1_0_1
      (Host.reduceAdd (mulf Y Y) (constant S_ .f32 0x00000000#32) reducesTo_S17408x2x128_S17408x2_d2 h_S_)) (broadcastInDim S17408x2x1 ![] bcast_S_S17408x2x1 (constant S_ .f32 0x43000000#32)))
      (broadcastInDim S17408x2x1 ![] bcast_S_S17408x2x1 (constant S_ .f32 0x358637BD#32))))))
    (broadcastInDim S17408x2x128 ![0, 1, 2] bcast_S1x1x128_S17408x2x128_0_1_2 (broadcastInDim S1x1x128 ![2] bcast_S128_S1x1x128_2 (shapeCast _ G shapeCasts_S1x128_S128)))

def units2 (P : FVec Ideal S17408x10240 .bf16) (G : FVec Ideal S1x128 .f32) : FVec Ideal S17408x2x128 .f32 := normed2 (heads2 P) G

/-- The latents' heads, by image and position. -/
def lats2 (Z : FVec Ideal S17408x2x128 .f32) : FVec Ideal S4x4096x2x128 .f32 :=
  shapeCast _ (extractStridedSlice S16384x2x128 ![0, 0, 0] Z slices_S17408x2x128_S16384x2x128_0_0_0) shapeCasts_S16384x2x128_S4x4096x2x128

/-- Their quarters, one of each pair at a time, and the pairs turned by a right angle. -/
def split2 (L : FVec Ideal S4x4096x2x128 .f32) : FVec Ideal S4x4096x2x2x2x32 .f32 := shapeCast _ L shapeCasts_S4x4096x2x128_S4x4096x2x2x2x32
def second2 (L : FVec Ideal S4x4096x2x2x2x32 .f32) : FVec Ideal S4x4096x2x2x1x32 .f32 :=
  broadcastInDim S4x4096x2x2x1x32 ![0, 1, 2, 3, 5] bcast_S4x4096x2x2x32_S4x4096x2x2x1x32_0_1_2_3_5
    (Host.negf (shapeCast _ (extractStridedSlice S4x4096x2x2x1x32 ![0, 0, 0, 0, 1, 0] L slices_S4x4096x2x2x2x32_S4x4096x2x2x1x32_0_0_0_0_1_0) shapeCasts_S4x4096x2x2x1x32_S4x4096x2x2x32))
def first2 (L : FVec Ideal S4x4096x2x2x2x32 .f32) : FVec Ideal S4x4096x2x2x1x32 .f32 :=
  broadcastInDim S4x4096x2x2x1x32 ![0, 1, 2, 3, 5] bcast_S4x4096x2x2x32_S4x4096x2x2x1x32_0_1_2_3_5
    (shapeCast _ (extractStridedSlice S4x4096x2x2x1x32 ![0, 0, 0, 0, 0, 0] L slices_S4x4096x2x2x2x32_S4x4096x2x2x1x32_0_0_0_0_0_0) shapeCasts_S4x4096x2x2x1x32_S4x4096x2x2x32)
def swap2 (L : FVec Ideal S4x4096x2x128 .f32) : FVec Ideal S4x4096x2x128 .f32 :=
  shapeCast _ (concatenate S4x4096x2x2x2x32 4 [⟨S4x4096x2x2x1x32, second2 (split2 L)⟩, ⟨S4x4096x2x2x1x32, first2 (split2 L)⟩]
    concatenates_S4x4096x2x2x1x32_S4x4096x2x2x1x32_S4x4096x2x2x2x32_d4) shapeCasts_S4x4096x2x2x2x32_S4x4096x2x128

/-- A table of angles, over images and heads. -/
def table2 (C : FVec Ideal S4096x128 .f32) : FVec Ideal S4x4096x2x128 .f32 :=
  broadcastInDim S4x4096x2x128 ![0, 1, 2, 3] bcast_S1x4096x1x128_S4x4096x2x128_0_1_2_3 (broadcastInDim S1x4096x1x128 ![1, 2, 3] bcast_S4096x1x128_S1x4096x1x128_1_2_3 (broadcastInDim S4096x1x128 ![0, 2] bcast_S4096x128_S4096x1x128_0_2 C))

/-- The latents turned, the contexts as they are. -/
def turned2 (L : FVec Ideal S4x4096x2x128 .f32) (C S : FVec Ideal S4096x128 .f32) : FVec Ideal S16384x2x128 .f32 :=
  shapeCast _ (addf (mulf L (table2 C)) (mulf (swap2 L) (table2 S))) shapeCasts_S4x4096x2x128_S16384x2x128
def join2 (T : FVec Ideal S16384x2x128 .f32) (Z : FVec Ideal S17408x2x128 .f32) : FVec Ideal S17408x2x128 .f32 :=
  concatenate S17408x2x128 0 [⟨S16384x2x128, T⟩, ⟨S1024x2x128, (extractStridedSlice S1024x2x128 ![16384, 0, 0] Z slices_S17408x2x128_S1024x2x128_16384_0_0)⟩]
    concatenates_S16384x2x128_S1024x2x128_S17408x2x128_d0
def whole2 (Z : FVec Ideal S17408x2x128 .f32) (C S : FVec Ideal S4096x128 .f32) : FVec Ideal S17408x2x128 .f32 :=
  join2 (turned2 (lats2 Z) C S) Z

theorem normed2_at (Y : FVec Ideal S17408x2x128 .f32) (G : FVec Ideal S1x128 .f32) (r : Fin 17408) (h : Fin 2) (e : Fin 128) :
    normed2 Y G (ix3 r h e) = unit 0x43000000#32 (fun k : Fin 128 => Y (ix3 r h k)) (fun k => G (ix2 0 k)) e := by
  unfold unit
  pointwise [normed2]

theorem units2_at (P : FVec Ideal S17408x10240 .bf16) (G : FVec Ideal S1x128 .f32) (r : Fin 17408) (h : Fin 2) (e : Fin 128) :
    units2 P G (ix3 r h e) = unit 0x43000000#32 (fun k : Fin 128 => P (ix2 r ⟨768 + (h * 128 + k), by omega⟩)) (fun k => G (ix2 0 k)) e :=
  (normed2_at _ G r h e).trans (congrFun (congrArg (fun f => unit _ f _) (funext fun k => heads2_at P r h k)) e)

theorem lats2_at (Z : FVec Ideal S17408x2x128 .f32) (b : Fin 4) (s : Fin 4096) (h : Fin 2) (e : Fin 128) :
    lats2 Z (ix4 b s h e) = Z (ix3 ⟨b * 4096 + s, by omega⟩ h e) := by
  pointwise [lats2]

theorem swap2_at (L : FVec Ideal S4x4096x2x128 .f32) (b : Fin 4) (s : Fin 4096) (h : Fin 2) (e : Fin 128) :
    swap2 L (ix4 b s h e) = quarter (fun k => L (ix4 b s h k)) e := by
  rw [quarter_eq]
  pointwise [swap2, second2, first2, split2]

theorem table2_at (C : FVec Ideal S4096x128 .f32) (b : Fin 4) (s : Fin 4096) (h : Fin 2) (e : Fin 128) :
    table2 C (ix4 b s h e) = C (ix2 s e) := by
  pointwise [table2]

theorem flat2_at (L : FVec Ideal S4x4096x2x128 .f32) (r : Fin 16384) (h : Fin 2) (e : Fin 128) :
    shapeCast S16384x2x128 L shapeCasts_S4x4096x2x128_S16384x2x128 (ix3 r h e) = L (ix4 ⟨r / 4096, by omega⟩ ⟨r % 4096, by omega⟩ h e) := by
  pointwise []

theorem turned2_at (L : FVec Ideal S4x4096x2x128 .f32) (C S : FVec Ideal S4096x128 .f32) (r : Fin 16384) (h : Fin 2) (e : Fin 128) :
    turned2 L C S (ix3 r h e) = L (ix4 ⟨r / 4096, by omega⟩ ⟨r % 4096, by omega⟩ h e) * C (ix2 ⟨r % 4096, by omega⟩ e)
      + quarter (fun k => L (ix4 ⟨r / 4096, by omega⟩ ⟨r % 4096, by omega⟩ h k)) e * S (ix2 ⟨r % 4096, by omega⟩ e) := by
  have hs : ∀ (X Y Z W : FVec Ideal S4x4096x2x128 .f32) (i : S4x4096x2x128.Idx), addf (mulf X Y) (mulf Z W) i = X i * Y i + Z i * W i := fun _ _ _ _ _ => rfl
  unfold turned2
  rw [flat2_at, hs, swap2_at, table2_at, table2_at]

theorem join2_at (T : FVec Ideal S16384x2x128 .f32) (Z : FVec Ideal S17408x2x128 .f32) (r : Fin 17408) (h : Fin 2) (e : Fin 128) :
    join2 T Z (ix3 r h e) = if hr : r.val < 16384 then T (ix3 ⟨r, hr⟩ h e) else Z (ix3 r h e) := by
  have hz : ∀ hr : ¬ r.val < 16384, Z (ix3 r h e) = Z (ix3 ⟨16384 + (r - 16384), by omega⟩ h e) := fun hr =>
    congrArg (fun q => Z (ix3 q h e)) (Fin.ext (by show r.val = 16384 + (r.val - 16384); omega))
  by_cases hr : r.val < 16384
  · rw [dif_pos hr]
    pointwise [join2]
    rw [dif_pos hr]
  · rw [dif_neg hr, hz hr]
    pointwise [join2]
    rw [dif_neg hr]

theorem whole2_at (P : FVec Ideal S17408x10240 .bf16) (C S : FVec Ideal S4096x128 .f32) (G : FVec Ideal S1x128 .f32) (r : Fin 17408) (h : Fin 2) (e : Fin 128) :
    whole2 (units2 P G) C S (ix3 r h e) = head P C S G r (768 + h * 128) (by omega) e := by
  have hu : ∀ k : Fin 128, units2 P G (ix3 r h k) = unit 0x43000000#32 (fun e : Fin 128 => P (ix2 r ⟨768 + h * 128 + e, by omega⟩)) (fun e => G (ix2 0 e)) k := fun k => by
    rw [units2_at]
    exact congrFun (congrArg (fun f => unit _ f _) (funext fun i => congrArg P (congrArg (ix2 r) (Fin.ext (Nat.add_assoc _ _ _).symm)))) k
  rw [head_eq P C S G r _ (by omega) e (fun k => units2 P G (ix3 r h k)) hu]
  generalize units2 P G = Z
  unfold whole2
  rw [join2_at]
  by_cases hr : r.val < 16384
  · have hl : ∀ k : Fin 128, lats2 Z (ix4 ⟨r / 4096, by omega⟩ ⟨r % 4096, by omega⟩ h k) = Z (ix3 r h k) := fun k => by
      rw [lats2_at]
      exact congrArg (fun q => Z (ix3 q h k)) (Fin.ext (Nat.div_add_mod' r.val 4096))
    rw [dif_pos hr, if_pos hr]
    refine (turned2_at (lats2 Z) C S ⟨r, hr⟩ h e).trans ?_
    exact congrArg₂ (· + ·) (congrArg (· * _) (hl e)) (congrArg (· * _) (congrFun (congrArg quarter (funext hl)) e))
  · rw [dif_neg hr, if_neg hr]

/-- The keys. -/
def ka (P : FVec Ideal S17408x10240 .bf16) (C S : FVec Ideal S4096x128 .f32) (G : FVec Ideal S1x128 .f32) : FVec Ideal S17408x256 .bf16 :=
  truncf .bf16 (shapeCast _ (whole2 (units2 P G) C S) shapeCasts_S17408x2x128_S17408x256) bitsLt_bf16_f32

theorem ka_at (P : FVec Ideal S17408x10240 .bf16) (C S : FVec Ideal S4096x128 .f32) (G : FVec Ideal S1x128 .f32) : ka P C S G = keysA P C S G := by
  funext i
  idx_vars i
  have hi : i1.val < 256 := i1.isLt
  have hq : (ka P C S G (ix2 i0 i1) : EReal) = whole2 (units2 P G) C S (ix3 i0 ⟨i1 / 128, by omega⟩ ⟨i1 % 128, by omega⟩) := by
    unfold ka
    generalize whole2 (units2 P G) C S = Z
    pointwise []
  exact hq.trans (whole2_at P C S G i0 ⟨i1 / 128, by omega⟩ ⟨i1 % 128, by omega⟩)

end Cert.RefPrepIdeal.Value
end
-- ==== Proof.PairPrep.lean ====
/- The preparation of queries and keys writes what its reference computes, result by result. -/
module

public import proofs.«01_k».proof.Defs
public import proofs.«01_k».proof.Proof.PrepFinal
public import proofs.«01_k».proof.Proof.RefPrep
public import proofs.«01_k».proof.Proof.RefPrepQ
public import proofs.«01_k».proof.Proof.RefPrepK

@[expose] public section

set_option maxRecDepth 16384
set_option maxHeartbeats 4000000

noncomputable section

namespace Cert.Pairs

open Idealize.ShloMosaic Idealize.SL.Sem

theorem prep : Cert.algebraic_PrepIdeal_RefPrepIdeal := by
  pair_intro
  · run_from Cert.PrepIdeal.Gen.run_main m g
    · exact hc.1 16
    · exact hc.1 17
    · exact hc.1 18
  · run_from Cert.RefPrepIdeal.Value.run m' g'
    · have h0 := (hagree c).1
      have h1 := (hagree c).2.1
      have h2 := (hagree c).2.2.1
      have h5 := (hagree c).2.2.2.2.2.1
      refine Eq.trans (b := Cert.RefPrepIdeal.Value.qa (m' ((c.tc : Thread Cert.RefPrepIdeal.nD Cert.RefPrepIdeal.τ).loc Cert.RefPrepIdeal.main_arg0)) (m' ((c.tc : Thread Cert.RefPrepIdeal.nD Cert.RefPrepIdeal.τ).loc Cert.RefPrepIdeal.main_arg1)) (m' ((c.tc : Thread Cert.RefPrepIdeal.nD Cert.RefPrepIdeal.τ).loc Cert.RefPrepIdeal.main_arg2)) (m' ((c.tc : Thread Cert.RefPrepIdeal.nD Cert.RefPrepIdeal.τ).loc Cert.RefPrepIdeal.main_arg5))) rfl ((Cert.RefPrepIdeal.Value.qa_at _ _ _ _).trans (Eq.trans ?_ (Cert.PrepIdeal.Value.final14 (m := m) c).symm))
      unfold Cert.PrepIdeal.Value.argP Cert.PrepIdeal.Value.cosA Cert.PrepIdeal.Value.sinA Cert.PrepIdeal.Value.gQa
      rw [h0, h1, h2, h5]
    · have h0 := (hagree c).1
      have h1 := (hagree c).2.1
      have h2 := (hagree c).2.2.1
      have h6 := (hagree c).2.2.2.2.2.2.1
      refine Eq.trans (b := Cert.RefPrepIdeal.Value.ka (m' ((c.tc : Thread Cert.RefPrepIdeal.nD Cert.RefPrepIdeal.τ).loc Cert.RefPrepIdeal.main_arg0)) (m' ((c.tc : Thread Cert.RefPrepIdeal.nD Cert.RefPrepIdeal.τ).loc Cert.RefPrepIdeal.main_arg1)) (m' ((c.tc : Thread Cert.RefPrepIdeal.nD Cert.RefPrepIdeal.τ).loc Cert.RefPrepIdeal.main_arg2)) (m' ((c.tc : Thread Cert.RefPrepIdeal.nD Cert.RefPrepIdeal.τ).loc Cert.RefPrepIdeal.main_arg6))) rfl ((Cert.RefPrepIdeal.Value.ka_at _ _ _ _).trans (Eq.trans ?_ (Cert.PrepIdeal.Value.final15 (m := m) c).symm))
      unfold Cert.PrepIdeal.Value.argP Cert.PrepIdeal.Value.cosA Cert.PrepIdeal.Value.sinA Cert.PrepIdeal.Value.gKa
      rw [h0, h1, h2, h6]
    · have h0 := (hagree c).1
      have h3 := (hagree c).2.2.2.1
      have h4 := (hagree c).2.2.2.2.1
      have h7 := (hagree c).2.2.2.2.2.2.2.1
      have h9 := (hagree c).2.2.2.2.2.2.2.2.2.1
      refine Eq.trans (b := Cert.RefPrepIdeal.Value.qb (m' ((c.tc : Thread Cert.RefPrepIdeal.nD Cert.RefPrepIdeal.τ).loc Cert.RefPrepIdeal.main_arg0)) (m' ((c.tc : Thread Cert.RefPrepIdeal.nD Cert.RefPrepIdeal.τ).loc Cert.RefPrepIdeal.main_arg3)) (m' ((c.tc : Thread Cert.RefPrepIdeal.nD Cert.RefPrepIdeal.τ).loc Cert.RefPrepIdeal.main_arg4)) (m' ((c.tc : Thread Cert.RefPrepIdeal.nD Cert.RefPrepIdeal.τ).loc Cert.RefPrepIdeal.main_arg7)) (m' ((c.tc : Thread Cert.RefPrepIdeal.nD Cert.RefPrepIdeal.τ).loc Cert.RefPrepIdeal.main_arg9))) rfl ((Cert.RefPrepIdeal.Value.qb_at _ _ _ _ _).trans (Eq.trans ?_ (Cert.PrepIdeal.Value.final16 (m := m) c).symm))
      unfold Cert.PrepIdeal.Value.argP Cert.PrepIdeal.Value.cosB Cert.PrepIdeal.Value.sinB Cert.PrepIdeal.Value.gQb Cert.PrepIdeal.Value.wQ
      rw [h0, h3, h4, h7, h9]
    · have h0 := (hagree c).1
      have h3 := (hagree c).2.2.2.1
      have h4 := (hagree c).2.2.2.2.1
      have h8 := (hagree c).2.2.2.2.2.2.2.2.1
      have h10 := (hagree c).2.2.2.2.2.2.2.2.2.2
      refine Eq.trans (b := Cert.RefPrepIdeal.Value.kb (m' ((c.tc : Thread Cert.RefPrepIdeal.nD Cert.RefPrepIdeal.τ).loc Cert.RefPrepIdeal.main_arg0)) (m' ((c.tc : Thread Cert.RefPrepIdeal.nD Cert.RefPrepIdeal.τ).loc Cert.RefPrepIdeal.main_arg3)) (m' ((c.tc : Thread Cert.RefPrepIdeal.nD Cert.RefPrepIdeal.τ).loc Cert.RefPrepIdeal.main_arg4)) (m' ((c.tc : Thread Cert.RefPrepIdeal.nD Cert.RefPrepIdeal.τ).loc Cert.RefPrepIdeal.main_arg8)) (m' ((c.tc : Thread Cert.RefPrepIdeal.nD Cert.RefPrepIdeal.τ).loc Cert.RefPrepIdeal.main_arg10))) rfl ((Cert.RefPrepIdeal.Value.kb_at _ _ _ _ _).trans (Eq.trans ?_ (Cert.PrepIdeal.Value.final17 (m := m) c).symm))
      unfold Cert.PrepIdeal.Value.argP Cert.PrepIdeal.Value.cosB Cert.PrepIdeal.Value.sinB Cert.PrepIdeal.Value.gKb Cert.PrepIdeal.Value.wK
      rw [h0, h3, h4, h8, h10]
    · have h0 := (hagree c).1
      have h8 := (hagree c).2.2.2.2.2.2.2.2.1
      have h10 := (hagree c).2.2.2.2.2.2.2.2.2.2
      refine Eq.trans (b := Cert.RefPrepIdeal.Value.vb (m' ((c.tc : Thread Cert.RefPrepIdeal.nD Cert.RefPrepIdeal.τ).loc Cert.RefPrepIdeal.main_arg0)) (m' ((c.tc : Thread Cert.RefPrepIdeal.nD Cert.RefPrepIdeal.τ).loc Cert.RefPrepIdeal.main_arg8)) (m' ((c.tc : Thread Cert.RefPrepIdeal.nD Cert.RefPrepIdeal.τ).loc Cert.RefPrepIdeal.main_arg10))) rfl ((Cert.RefPrepIdeal.Value.vb_at _ _ _).trans (Eq.trans ?_ (Cert.PrepIdeal.Value.final18 (m := m) c).symm))
      unfold Cert.PrepIdeal.Value.argP Cert.PrepIdeal.Value.gKb Cert.PrepIdeal.Value.wK
      rw [h0, h8, h10]

end Cert.Pairs
end
-- ==== Proof.Context.lean ====
/- Attention over a batch entry's context rows, row by row: what the three context attention calls and their references compute. -/
module

public import proofs.«01_k».proof.Proof.Heads

@[expose] public section

noncomputable section

namespace Cert.Context

open Idealize.ShloMosaic Cert.Softmax Cert.Heads

/-- A query row against 256 keys: the base-2 softmax's weighted values. -/
def attend {n : Nat} (q : Fin n → EReal) (k : Fin 256 → Fin n → EReal) (v : Fin 256 → EReal) : EReal :=
  mix (fun j => (∑ e, q e * k j e).toReal) v * ((1 / tot fun j => (∑ e, q e * k j e).toReal : ℝ) : EReal)

/-- The context rows of a projection, by batch entry, head, row and lane; `col` places a head's lanes. -/
def ctx {w n H : Nat} (A : FVec Ideal (Rows w) .bf16) (col : Fin H → Fin n → Fin w) (b : Fin 4) (h : Fin H) (r : Fin 256) (e : Fin n) : EReal :=
  A (ix2 ⟨16384 + 256 * b + r, by omega⟩ (col h e))

/-- The array of results: head `h` in columns `128 h` to `128 h + 127`. -/
def result {n : Nat} (H : Nat) (q k : Fin 4 → Fin H → Fin 256 → Fin n → EReal) (v : Fin 4 → Fin H → Fin 256 → Fin 128 → EReal) :
    FVec Ideal ⟨2, ![1024, 128 * H]⟩ .bf16 := fun i =>
  attend (q ⟨(i 0).val / 256, by have : (i 0).val < 1024 := (i 0).isLt; omega⟩ ⟨(i 1).val / 128, by have : (i 1).val < 128 * H := (i 1).isLt; omega⟩ ⟨(i 0).val % 256, by omega⟩)
    (k ⟨(i 0).val / 256, by have : (i 0).val < 1024 := (i 0).isLt; omega⟩ ⟨(i 1).val / 128, by have : (i 1).val < 128 * H := (i 1).isLt; omega⟩)
    (fun j => v ⟨(i 0).val / 256, by have : (i 0).val < 1024 := (i 0).isLt; omega⟩ ⟨(i 1).val / 128, by have : (i 1).val < 128 * H := (i 1).isLt; omega⟩ j ⟨(i 1).val % 128, by omega⟩)

theorem result_at {n H : Nat} (q k : Fin 4 → Fin H → Fin 256 → Fin n → EReal) (v : Fin 4 → Fin H → Fin 256 → Fin 128 → EReal)
    (i : (⟨2, ![1024, 128 * H]⟩ : Shape).Idx) (b : Fin 4) (h : Fin H) (r : Fin 256) (d : Fin 128) (h0 : (i 0).val = 256 * b.val + r.val)
    (h1 : (i 1).val = 128 * h.val + d.val) : result H q k v i = attend (q b h r) (k b h) (fun j => v b h j d) := by
  unfold result
  have e0 : (⟨(i 0).val / 256, by have : (i 0).val < 1024 := (i 0).isLt; omega⟩ : Fin 4) = b := Fin.ext (by simp only; omega)
  have e1 : (⟨(i 1).val / 128, by have : (i 1).val < 128 * H := (i 1).isLt; omega⟩ : Fin H) = h := Fin.ext (by simp only; omega)
  have e2 : (⟨(i 0).val % 256, by omega⟩ : Fin 256) = r := Fin.ext (by simp only; omega)
  have e3 : (⟨(i 1).val % 128, by omega⟩ : Fin 128) = d := Fin.ext (by simp only; omega)
  rw [e0, e1, e2, e3]

/-- The weights divided out at the end, as the calls do. -/
theorem quotient {n : Nat} (q : Fin n → EReal) (k : Fin 256 → Fin n → EReal) (v : Fin 256 → EReal)
    (hq : ∀ e, ∃ x : ℝ, q e = x) (hk : ∀ j e, ∃ x : ℝ, k j e = x) (s : Fin 256 → EReal) (hs : ∀ j, s j = ∑ e, q e * k j e) :
    Ideal.div (∑ j, Ideal.exp2 (s j - Finset.univ.fold max (⊥ : EReal) s) * v j) (∑ j, Ideal.exp2 (s j - Finset.univ.fold max (⊥ : EReal) s))
      = attend q k v := by
  have hr : ∀ j, s j = ((∑ e, q e * k j e).toReal : EReal) := fun j => (hs j).trans (real_dot _ _ hq (hk j))
  obtain rfl : s = fun j => (((∑ e, q e * k j e).toReal : ℝ) : EReal) := funext hr
  unfold attend
  obtain ⟨M, hM⟩ := fold_max_real Finset.univ Finset.univ_nonempty (fun j => (∑ e, q e * k j e).toReal)
  rw [hM, chunk_eq (fun j => (∑ e, q e * k j e).toReal) v M]
  have h1 := chunk_eq (fun j => (∑ e, q e * k j e).toReal) (fun _ => 1) M
  rw [mix_one] at h1
  simp only [mul_one] at h1
  rw [h1, div_shift _ _ (tot_pos _)]

/-- The natural-base softmax of the scores times `log 2`, as the references do. -/
theorem softmax {n : Nat} (q : Fin n → EReal) (k : Fin 256 → Fin n → EReal) (v : Fin 256 → EReal)
    (hq : ∀ e, ∃ x : ℝ, q e = x) (hk : ∀ j e, ∃ x : ℝ, k j e = x) (s : Fin 256 → EReal)
    (hs : ∀ j, s j = (∑ e, q e * k j e) * (Real.log 2 : ℝ)) :
    ∑ j, v j * Ideal.div (Ideal.exp (s j - Finset.univ.fold max (⊥ : EReal) s)) (∑ l, Ideal.exp (s l - Finset.univ.fold max (⊥ : EReal) s))
      = attend q k v := by
  have hr : ∀ j, s j = ((∑ e, q e * k j e).toReal : EReal) * (Real.log 2 : ℝ) := fun j =>
    (hs j).trans (congrArg (· * _) (real_dot _ _ hq (hk j)))
  unfold attend
  obtain ⟨M, hM⟩ := fold_max_real Finset.univ Finset.univ_nonempty (fun j => (∑ e, q e * k j e).toReal * Real.log 2)
  have hF : Finset.univ.fold max (⊥ : EReal) s = (M : EReal) := by
    rw [← hM]
    exact congrArg (Finset.univ.fold max ⊥) (funext fun j => (hr j).trans (EReal.coe_mul _ _).symm)
  rw [hF, ← soft_eq _ _ M]
  refine Finset.sum_congr rfl fun j _ => ?_
  rw [mul_comm]
  simp only [hr]

/-- A load of a whole block reads the block. -/
theorem ld_whole {n k : ℕ} {φ : EltTy} (X : Vec Ideal ⟨2, ![n, k]⟩ φ) (inb : ∀ a, (![0, 0] : Fin 2 → ℕ) a + (![n, k] : Fin 2 → ℕ) a ≤ (⟨2, ![n, k]⟩ : Shape).size a) (r : Fin n) (e : Fin k) :
    (View.ld X (Rect.unit (s := ⟨2, ![n, k]⟩) ![0, 0] ![n, k] inb) : Vec Ideal ⟨2, ![n, k]⟩ φ) (ix2 r e) = X (ix2 r e) :=
  congrArg X (funext fun a => Fin.ext (by fin_cases a <;> simp [LoadRect.idx, Rect.unit]))

/-- A context row's entry is real where the array's is. -/
theorem ctx_real {w n H : Nat} (A : FVec Ideal (Rows w) .bf16) (col : Fin H → Fin n → Fin w) (h : Fin H)
    (hA : ∀ (r : Fin 1024) e, ∃ x : ℝ, A (ix2 ⟨16384 + r, by omega⟩ (col h e)) = x) (b : Fin 4) (r : Fin 256) (e : Fin n) :
    ∃ x : ℝ, ctx A col b h r e = x := by
  obtain ⟨x, hx⟩ := hA ⟨256 * b + r, by omega⟩ e
  refine ⟨x, Eq.trans ?_ hx⟩
  unfold ctx
  exact congrArg A (congrArg₂ ix2 (Fin.ext (by simp only; omega)) rfl)

/-- The grouped queries' result: six heads, each key head shared by three, the values in the projection's columns from 1920 on. -/
def qA (Q : FVec Ideal (Rows 768) .bf16) : Fin 4 → Fin 6 → Fin 256 → Fin 128 → EReal := ctx Q fun h e => ⟨128 * h + e, by omega⟩
def kA (K : FVec Ideal (Rows 256) .bf16) : Fin 4 → Fin 6 → Fin 256 → Fin 128 → EReal := ctx K fun h e => ⟨128 * (h / 3) + e, by omega⟩
def vA (W : FVec Ideal (Rows 10240) .bf16) : Fin 4 → Fin 6 → Fin 256 → Fin 128 → EReal := ctx W fun h e => ⟨1920 + 128 * (h / 3) + e, by omega⟩

/-- The low-rank heads' result: five heads of 256 lanes, their values of 128. -/
def qB (Q : FVec Ideal (Rows 1280) .bf16) : Fin 4 → Fin 5 → Fin 256 → Fin 256 → EReal := ctx Q fun h e => ⟨256 * h + e, by omega⟩
def kB (K : FVec Ideal (Rows 1280) .bf16) : Fin 4 → Fin 5 → Fin 256 → Fin 256 → EReal := ctx K fun h e => ⟨256 * h + e, by omega⟩
def vB (W : FVec Ideal (Rows 640) .bf16) : Fin 4 → Fin 5 → Fin 256 → Fin 128 → EReal := ctx W fun h e => ⟨128 * h + e, by omega⟩

/-- The neighbourhood heads' result: five heads, queries, keys and values in the projection's columns from 2176, 2816 and 3456 on. -/
def qC (P : FVec Ideal (Rows 10240) .bf16) : Fin 4 → Fin 5 → Fin 256 → Fin 128 → EReal := ctx P fun h e => ⟨2176 + 128 * h + e, by omega⟩
def kC (P : FVec Ideal (Rows 10240) .bf16) : Fin 4 → Fin 5 → Fin 256 → Fin 128 → EReal := ctx P fun h e => ⟨2816 + 128 * h + e, by omega⟩
def vC (P : FVec Ideal (Rows 10240) .bf16) : Fin 4 → Fin 5 → Fin 256 → Fin 128 → EReal := ctx P fun h e => ⟨3456 + 128 * h + e, by omega⟩

end Cert.Context
end
-- ==== Proof.ContextA.lean ====
/- The array that the context attention of the grouped queries leaves. -/
module

public import proofs.«01_k».proof.Proof.Gen.ContextAIdeal.Value
public import proofs.«01_k».proof.Proof.Context
public import Idealize.ShloMosaic.Lib.Pipeline.ReadBack

@[expose] public section

set_option maxRecDepth 16384

noncomputable section

namespace Cert.ContextAIdeal.Value

open Cert.ContextAIdeal Cert.ContextAIdeal.Gen Cert.ContextAIdeal.Facts Idealize.ShloMosaic Idealize.ShloMosaic.TcCoe Idealize.SL.Sem
open Idealize.ShloMosaic.Pipeline (Dat)
open Cert.Softmax Cert.Context

variable (m : (ℓ : Loc nD τ sig) → Buf (Elt Ideal) ℓ)

/-- The scores of a block of queries against a block of keys. -/
def score (q k : FVec Ideal S256x128 .bf16) : FVec Ideal S256x256 .f32 :=
  matmul dot_S256x128_S256x128_S256x256_1_1_0_0_n_n none q k (constant S256x256 .f32 0x00000000#32)

/-- The largest score of each row. -/
def top (s : FVec Ideal S256x256 .f32) : FVec Ideal S256x1 .f32 :=
  shapeCast S256x1 (multiReduction .maximumf [1] S256 s 0xFF800000#32 reduces_S256x256_S256 (.inl rfl) rfl) shapeCasts_S256_S256x1

/-- The weights under the largest score. -/
def weight (s : FVec Ideal S256x256 .f32) (a : FVec Ideal S256x1 .f32) : FVec Ideal S256x256 .f32 :=
  exp2 (subf s (broadcastTo S256x256 a broadcasts_S256x1_S256x256))

/-- The weighted values over the weights' sum. -/
def mean (p : FVec Ideal S256x256 .f32) (v : FVec Ideal S256x128 .bf16) : FVec Ideal S256x128 .bf16 :=
  truncf .bf16 (divf (matmul dot_S256x256_S256x128_S256x128_1_0_0_1_n_n none (truncf .bf16 p bitsLt_bf16_f32) v (constant S256x128 .f32 0x00000000#32))
    (broadcastTo S256x128 (shapeCast S256x1 (multiReduction .add [1] S256 p 0x00000000#32 reduces_S256x256_S256 (.inl rfl) rfl) shapeCasts_S256_S256x1)
      broadcasts_S256x1_S256x128)) bitsLt_bf16_f32

theorem score_at (q k : FVec Ideal S256x128 .bf16) (i j : Fin 256) : score q k (ix2 i j) = ∑ e : Fin 128, q (ix2 i e) * k (ix2 j e) := by
  pointwise [score]

theorem top_at (s : FVec Ideal S256x256 .f32) (i : Fin 256) (z : Fin 1) :
    top s (ix2 i z) = Finset.univ.fold max (⊥ : EReal) (fun k : Fin 256 => s (ix2 i k)) := by
  pointwise [top, negInf_f32]

theorem weight_at (s : FVec Ideal S256x256 .f32) (a : FVec Ideal S256x1 .f32) (i j : Fin 256) :
    weight s a (ix2 i j) = Ideal.exp2 (s (ix2 i j) - a (ix2 i 0)) := by
  pointwise [weight]
  rfl

theorem mean_at (p : FVec Ideal S256x256 .f32) (v : FVec Ideal S256x128 .bf16) (i : Fin 256) (d : Fin 128) :
    mean p v (ix2 i d) = Ideal.div (∑ j : Fin 256, p (ix2 i j) * v (ix2 j d)) (∑ j : Fin 256, p (ix2 i j)) := by
  pointwise [mean]

theorem pay_eq (q k : FVec Ideal S256x128 .bf16) (v : FVec Ideal S256x128 .bf16) :
    k0_pay1 (F := Ideal) q k v = mean (weight (score q k) (top (score q k))) v := rfl

/-- One block's row, from real queries and keys. -/
theorem pay_at (q k : FVec Ideal S256x128 .bf16) (v : FVec Ideal S256x128 .bf16) (i : Fin 256) (d : Fin 128)
    (hq : ∀ e, ∃ x : ℝ, q (ix2 i e) = x) (hk : ∀ j e, ∃ x : ℝ, k (ix2 j e) = x) :
    k0_pay1 (F := Ideal) q k v (ix2 i d) = attend (fun e => q (ix2 i e)) (fun j e => k (ix2 j e)) (fun j => v (ix2 j d)) := by
  rw [pay_eq, mean_at]
  simp only [weight_at, top_at]
  exact quotient _ _ _ hq hk _ fun j => score_at q k i j

/-- The grid: point `t` is batch entry `t / 6`, head `t % 6`. -/
theorem idx : ∀ t : Fin cfg0.N, win0_0.index t = ![64 + t.val / 6, t.val % 6] ∧ win0_1.index t = ![64 + t.val / 6, t.val % 6 / 3]
    ∧ win0_2.index t = ![64 + t.val / 6, 15 + t.val % 6 / 3] ∧ win0_3.index t = ![t.val / 6, t.val % 6] :=
  (by decide +kernel : ∀ t : Fin grid0.N, _)

theorem lt24 (t : Fin cfg0.N) : t.val < 24 := lt_of_lt_of_eq t.isLt (by decide +kernel)

theorem x0_at (c : Dev nD) (t : Fin cfg0.N) (r : Fin 256) (e : Fin 128) :
    (iblk m c 0 t : FVec Ideal S256x128 .bf16) (ix2 r e) = qA (m ((c : Thread nD τ).loc main_arg0)) ⟨t.val / 6, by have := lt24 t; omega⟩ ⟨t.val % 6, by omega⟩ r e := by
  have ht := lt24 t
  unfold qA ctx
  blk_point [iblk, V, idx t]

theorem x1_at (c : Dev nD) (t : Fin cfg0.N) (r : Fin 256) (e : Fin 128) :
    (iblk m c 1 t : FVec Ideal S256x128 .bf16) (ix2 r e) = kA (m ((c : Thread nD τ).loc main_arg1)) ⟨t.val / 6, by have := lt24 t; omega⟩ ⟨t.val % 6, by omega⟩ r e := by
  have ht := lt24 t
  unfold kA ctx
  blk_point [iblk, V, idx t]

theorem x2_at (c : Dev nD) (t : Fin cfg0.N) (r : Fin 256) (e : Fin 128) :
    (iblk m c 2 t : FVec Ideal S256x128 .bf16) (ix2 r e) = vA (m ((c : Thread nD τ).loc main_arg2)) ⟨t.val / 6, by have := lt24 t; omega⟩ ⟨t.val % 6, by omega⟩ r e := by
  have ht := lt24 t
  unfold vA ctx
  blk_point [iblk, V, idx t]

/-- The array of results. -/
def target (c : Dev nD) : FVec Ideal S1024x768 .bf16 :=
  result 6 (qA (m ((c : Thread nD τ).loc main_arg0))) (kA (m ((c : Thread nD τ).loc main_arg1))) (vA (m ((c : Thread nD τ).loc main_arg2)))

/-- A grid point's block of results. -/
theorem block_at (c : Dev nD) (hQ : ∀ b h r e, ∃ x : ℝ, qA (m ((c : Thread nD τ).loc main_arg0)) b h r e = x) (hK : ∀ b h r e, ∃ x : ℝ, kA (m ((c : Thread nD τ).loc main_arg1)) b h r e = x)
    (t : Fin cfg0.N) (r : Fin 256) (d : Fin 128) :
    k0_pay1 (F := Ideal) (View.ld (iblk m c 0 t) r0_0) (View.ld (iblk m c 1 t) r0_0) (View.ld (iblk m c 2 t) r0_0) (ix2 r d)
      = attend (qA (m ((c : Thread nD τ).loc main_arg0)) ⟨t.val / 6, by have := lt24 t; omega⟩ ⟨t.val % 6, by omega⟩ r) (kA (m ((c : Thread nD τ).loc main_arg1)) ⟨t.val / 6, by have := lt24 t; omega⟩ ⟨t.val % 6, by omega⟩) (fun j => vA (m ((c : Thread nD τ).loc main_arg2)) ⟨t.val / 6, by have := lt24 t; omega⟩ ⟨t.val % 6, by omega⟩ j d) := by
  have e0 : ∀ r e, (View.ld (iblk m c 0 t) r0_0 : Vec Ideal S256x128 .bf16) (ix2 r e) = qA (m ((c : Thread nD τ).loc main_arg0)) ⟨t.val / 6, by have := lt24 t; omega⟩ ⟨t.val % 6, by omega⟩ r e := fun r e =>
    (ld_whole (n := 256) (k := 128) _ _ r e).trans (x0_at m c t r e)
  have e1 : ∀ r e, (View.ld (iblk m c 1 t) r0_0 : Vec Ideal S256x128 .bf16) (ix2 r e) = kA (m ((c : Thread nD τ).loc main_arg1)) ⟨t.val / 6, by have := lt24 t; omega⟩ ⟨t.val % 6, by omega⟩ r e := fun r e =>
    (ld_whole (n := 256) (k := 128) _ _ r e).trans (x1_at m c t r e)
  have e2 : ∀ r e, (View.ld (iblk m c 2 t) r0_0 : Vec Ideal S256x128 .bf16) (ix2 r e) = vA (m ((c : Thread nD τ).loc main_arg2)) ⟨t.val / 6, by have := lt24 t; omega⟩ ⟨t.val % 6, by omega⟩ r e := fun r e =>
    (ld_whole (n := 256) (k := 128) _ _ r e).trans (x2_at m c t r e)
  refine (pay_at _ _ _ r d ?_ ?_).trans (congr (congr (congrArg attend (funext (e0 r))) (funext fun j => funext (e1 j))) (funext fun j => e2 j d))
  · intro e
    obtain ⟨x, hx⟩ := hQ ⟨t.val / 6, by have := lt24 t; omega⟩ ⟨t.val % 6, by omega⟩ r e
    exact ⟨x, (e0 r e).trans hx⟩
  · intro j e
    obtain ⟨x, hx⟩ := hK ⟨t.val / 6, by have := lt24 t; omega⟩ ⟨t.val % 6, by omega⟩ j e
    exact ⟨x, (e1 j e).trans hx⟩

theorem outs (c : Dev nD) (hQ : ∀ b h r e, ∃ x : ℝ, qA (m ((c : Thread nD τ).loc main_arg0)) b h r e = x) (hK : ∀ b h r e, ∃ x : ℝ, kA (m ((c : Thread nD τ).loc main_arg1)) b h r e = x)
    (t : Fin cfg0.N) (r : Fin 256) (d : Fin 128) : out0_3 (iblk m c 0 t) (iblk m c 1 t) (iblk m c 2 t) (ix2 r d)
      = attend (qA (m ((c : Thread nD τ).loc main_arg0)) ⟨t.val / 6, by have := lt24 t; omega⟩ ⟨t.val % 6, by omega⟩ r) (kA (m ((c : Thread nD τ).loc main_arg1)) ⟨t.val / 6, by have := lt24 t; omega⟩ ⟨t.val % 6, by omega⟩) (fun j => vA (m ((c : Thread nD τ).loc main_arg2)) ⟨t.val / 6, by have := lt24 t; omega⟩ ⟨t.val % 6, by omega⟩ j d) := by
  unfold out0_3
  canon_tiles x h
  idx_vars x
  obtain rfl : r = x0 := Fin.ext h0
  obtain rfl : d = x1 := Fin.ext h1
  exact block_at m c hQ hK t r d

/-- The array of results, from finite queries and keys. -/
theorem final (c : Dev nD) (hQ : ∀ b h r e, ∃ x : ℝ, qA (m ((c : Thread nD τ).loc main_arg0)) b h r e = x) (hK : ∀ b h r e, ∃ x : ℝ, kA (m ((c : Thread nD τ).loc main_arg1)) b h r e = x) :
    (dats m 0 c).arrAt 3 cfg0.N = target m c := by
  refine (dats m 0 c).arrAt_eq_of_covers 3 _ (by decide +kernel) fun t hf y => ?_
  have ht := lt24 t
  idx_vars y
  refine Eq.trans ?_ (result_at _ _ _ _ ⟨t.val / 6, by omega⟩ ⟨t.val % 6, by omega⟩ y0 y1 ?_ ?_).symm
  · blk_simp
    rw [after0_3]
    exact outs m c hQ hK t y0 y1
  all_goals
    blk_simp [idx t]
    dsimp only
    omega

end Cert.ContextAIdeal.Value
end
-- ==== Proof.RefContextA.lean ====
/- What the reference of the grouped-query heads' context attention computes, entry by entry. -/
module

public import proofs.«01_k».proof.Proof.Gen.RefContextAIdeal.Run
public import proofs.«01_k».proof.Proof.Context

@[expose] public section

set_option maxRecDepth 16384

noncomputable section

namespace Cert.RefContextAIdeal.Value

open Cert.RefContextAIdeal Cert.RefContextAIdeal.Gen Cert.RefContextAIdeal.Facts Idealize.ShloMosaic Idealize.ShloMosaic.TcCoe Idealize.SL.Sem
open Cert.Softmax Cert.Context

/-- The queries, the keys and the values of the context rows, head by head. -/
def heads (Q : FVec Ideal S17408x768 .bf16) : FVec Ideal S4x256x6x128 .f32 :=
  shapeCast _ (extf .f32 (extractStridedSlice S1024x768 ![16384, 0] Q slices_S17408x768_S1024x768_16384_0) bitsLt_bf16_f32) shapeCasts_S1024x768_S4x256x6x128
def keys (K : FVec Ideal S17408x256 .bf16) : FVec Ideal S4x256x6x128 .f32 :=
  shapeCast _ (broadcastInDim S4x256x2x3x128 ![0, 1, 2, 4] bcast_S4x256x2x128_S4x256x2x3x128_0_1_2_4 (shapeCast _ (extf .f32 (extractStridedSlice S1024x256 ![16384, 0] K slices_S17408x256_S1024x256_16384_0) bitsLt_bf16_f32) shapeCasts_S1024x256_S4x256x2x128)) shapeCasts_S4x256x2x3x128_S4x256x6x128
def values (W : FVec Ideal S17408x10240 .bf16) : FVec Ideal S4x256x6x128 .f32 :=
  shapeCast _ (broadcastInDim S4x256x2x3x128 ![0, 1, 2, 4] bcast_S4x256x2x128_S4x256x2x3x128_0_1_2_4 (shapeCast _ (extf .f32 (extractStridedSlice S1024x256 ![16384, 0] (extractStridedSlice S17408x256 ![0, 1920] W slices_S17408x10240_S17408x256_0_1920) slices_S17408x256_S1024x256_16384_0) bitsLt_bf16_f32) shapeCasts_S1024x256_S4x256x2x128)) shapeCasts_S4x256x2x3x128_S4x256x6x128

/-- The scores in natural logarithms. -/
def logits (q k : FVec Ideal S4x256x6x128 .f32) : FVec Ideal S4x6x256x256 .f32 :=
  mulf (Host.dotGeneral dot_S4x256x6x128_S4x256x6x128_S4x6x256x256_3_3_1_1_02_02 none q k)
    (broadcastInDim S4x6x256x256 ![] bcast_S_S4x6x256x256 (Host.log (constant S_ .f32 0x40000000#32)))

/-- A row's entry, at every key. -/
def along (a : FVec Ideal S4x6x256 .f32) : FVec Ideal S4x6x256x256 .f32 :=
  broadcastInDim S4x6x256x256 ![0, 1, 2, 3] bcast_S4x6x256x1_S4x6x256x256_0_1_2_3 (broadcastInDim S4x6x256x1 ![0, 1, 2] bcast_S4x6x256_S4x6x256x1_0_1_2 a)

/-- A row's largest score, that bounded below by the word the maximum starts from, and a row's sum. -/
def highest (s : FVec Ideal S4x6x256x256 .f32) : FVec Ideal S4x6x256 .f32 :=
  Host.reduce FloatOps.maximumf s (constant S_ .f32 0xFF800000#32) reducesTo_S4x6x256x256_S4x6x256_d3 h_S_
def peak (a : FVec Ideal S4x6x256 .f32) : FVec Ideal S4x6x256 .f32 :=
  maximumf (broadcastInDim S4x6x256 ![] bcast_S_S4x6x256 (constant S_ .f32 0xFF800000#32)) a
def total (s : FVec Ideal S4x6x256x256 .f32) : FVec Ideal S4x6x256 .f32 :=
  Host.reduceAdd s (constant S_ .f32 0x00000000#32) reducesTo_S4x6x256x256_S4x6x256_d3 h_S_

/-- The exponentials under the largest score, and their share of the row's sum. -/
def expo (s : FVec Ideal S4x6x256x256 .f32) : FVec Ideal S4x6x256x256 .f32 := Host.exp (subf s (along (peak (highest s))))
def share (s : FVec Ideal S4x6x256x256 .f32) : FVec Ideal S4x6x256x256 .f32 := Host.divf (expo s) (along (total (expo s)))

/-- The weighted values, and the array they are laid out in. -/
def blend (v : FVec Ideal S4x256x6x128 .f32) (p : FVec Ideal S4x6x256x256 .f32) : FVec Ideal S4x6x128x256 .f32 :=
  Host.dotGeneral dot_S4x256x6x128_S4x6x256x256_S4x6x128x256_1_3_3_2_02_01 none v p
def laid (o : FVec Ideal S4x6x128x256 .f32) : FVec Ideal S1024x768 .bf16 :=
  truncf .bf16 (shapeCast _ (transpose S4x256x6x128 [0, 3, 1, 2] o transposes_S4x6x128x256_S4x256x6x128_0_3_1_2) shapeCasts_S4x256x6x128_S1024x768) bitsLt_bf16_f32

/-- The reference's result. -/
def outcome (Q : FVec Ideal S17408x768 .bf16) (K : FVec Ideal S17408x256 .bf16) (W : FVec Ideal S17408x10240 .bf16) : FVec Ideal S1024x768 .bf16 :=
  laid (blend (values W) (share (logits (heads Q) (keys K))))

theorem heads_at (Q : FVec Ideal S17408x768 .bf16) (b : Fin 4) (h : Fin 6) (r : Fin 256) (e : Fin 128) :
    heads Q (ix4 b r h e) = qA Q b h r e := by
  unfold qA ctx
  pointwise [heads]
  blk_ext

theorem keys_at (K : FVec Ideal S17408x256 .bf16) (b : Fin 4) (h : Fin 6) (r : Fin 256) (e : Fin 128) :
    keys K (ix4 b r h e) = kA K b h r e := by
  unfold kA ctx
  pointwise [keys]
  blk_ext

theorem values_at (W : FVec Ideal S17408x10240 .bf16) (b : Fin 4) (h : Fin 6) (r : Fin 256) (e : Fin 128) :
    values W (ix4 b r h e) = vA W b h r e := by
  unfold vA ctx
  pointwise [values]
  blk_ext

theorem logits_at (q k : FVec Ideal S4x256x6x128 .f32) (b : Fin 4) (h : Fin 6) (r j : Fin 256) :
    logits q k (ix4 b h r j) = (∑ e : Fin 128, q (ix4 b r h e) * k (ix4 b j h e)) * (Real.log 2 : ℝ) := by
  pointwise [logits]
  rw [log_two_f32]

theorem highest_at (s : FVec Ideal S4x6x256x256 .f32) (b : Fin 4) (h : Fin 6) (r : Fin 256) :
    highest s (ix3 b h r) = Finset.univ.fold max (⊥ : EReal) (fun j : Fin 256 => s (ix4 b h r j)) := by
  pointwise [highest]
  rw [show Ideal.ofBits .f32 4286578688#32 = ⊥ from negInf_f32]

theorem peak_at (a : FVec Ideal S4x6x256 .f32) (i : S4x6x256.Idx) : peak a i = a i := by
  pointwise [peak]
  rw [show Ideal.ofBits .f32 4286578688#32 = ⊥ from negInf_f32]
  exact max_eq_right bot_le

theorem total_at (s : FVec Ideal S4x6x256x256 .f32) (b : Fin 4) (h : Fin 6) (r : Fin 256) :
    total s (ix3 b h r) = ∑ j : Fin 256, s (ix4 b h r j) := by
  pointwise [total]

theorem share_at (s : FVec Ideal S4x6x256x256 .f32) (b : Fin 4) (h : Fin 6) (r j : Fin 256) :
    share s (ix4 b h r j) = Ideal.div (expo s (ix4 b h r j)) (total (expo s) (ix3 b h r)) := by
  pointwise [share, along]

theorem expo_at (s : FVec Ideal S4x6x256x256 .f32) (b : Fin 4) (h : Fin 6) (r j : Fin 256) :
    expo s (ix4 b h r j) = Ideal.exp (s (ix4 b h r j) - peak (highest s) (ix3 b h r)) := by
  pointwise [expo, along]

theorem blend_at (v : FVec Ideal S4x256x6x128 .f32) (p : FVec Ideal S4x6x256x256 .f32) (b : Fin 4) (h : Fin 6) (r : Fin 256) (d : Fin 128) :
    blend v p (ix4 b h d r) = ∑ j : Fin 256, v (ix4 b j h d) * p (ix4 b h r j) := by
  pointwise [blend]

theorem laid_at (o : FVec Ideal S4x6x128x256 .f32) (r : Fin 1024) (c : Fin 768) :
    laid o (ix2 r c) = o (ix4 ⟨r / 256, by omega⟩ ⟨c / 128, by omega⟩ ⟨c % 128, by omega⟩ ⟨r % 256, by omega⟩) := by
  pointwise [laid]
  blk_ext

theorem out_at (Q : FVec Ideal S17408x768 .bf16) (K : FVec Ideal S17408x256 .bf16) (W : FVec Ideal S17408x10240 .bf16)
    (hQ : ∀ b h r e, ∃ x : ℝ, qA Q b h r e = x) (hK : ∀ b h r e, ∃ x : ℝ, kA K b h r e = x) :
    outcome Q K W = result 6 (qA Q) (kA K) (vA W) := by
  unfold outcome
  funext i
  idx_vars i
  refine Eq.trans ?_ (result_at _ _ _ _ ⟨i0 / 256, by omega⟩ ⟨i1 / 128, by omega⟩ ⟨i0 % 256, by omega⟩ ⟨i1 % 128, by omega⟩
    (by simp only [ix2]; omega) (by simp only [ix2]; omega)).symm
  rw [laid_at, blend_at]
  simp only [share_at, total_at, expo_at, peak_at, highest_at, values_at]
  refine softmax _ _ _ (hQ _ _ _) (fun j => hK _ _ j) _ fun j => ?_
  rw [logits_at]
  simp only [heads_at, keys_at]

end Cert.RefContextAIdeal.Value
end
-- ==== Proof.FiniteContextA.lean ====
/- A context attention's precondition, read: every query entry and every key entry of a context row is a real number. -/
module

public import proofs.«01_k».proof.Pre_finite_context_a
public import proofs.«01_k».proof.Proof.Finite
public import proofs.«01_k».proof.Proof.Context
public import Idealize.ShloMosaic.Lib.ReduceAll
public import Idealize.ShloMosaic.Lib.Affine
public import Idealize.ShloMosaic.Lib.Pipeline.ValueKit

@[expose] public section

noncomputable section

namespace Cert.Pre_finite_context_a

open Idealize.ShloMosaic Facts Cert.Context
open Cert.Pre_finite_scores (both inf_bf16 real_of_abs_lt)

/-- The side conditions of the precondition's operations. -/
theorem facts : Cert.Pre_finite_context_a.Facts where
  slices_S17408x768_S1024x768_16384_0 := by decide
  bcast_S_S1024x768 := by decide
  reducesTo_S1024x768_S_d0_1 := by decide
  h_S_ := by decide
  slices_S17408x256_S1024x256_16384_0 := by decide
  bcast_S_S1024x256 := by decide
  reducesTo_S1024x256_S_d0_1 := by decide

variable [Facts] (Q : FVec Ideal S17408x768 .bf16) (K : FVec Ideal S17408x256 .bf16) (W : FVec Ideal S17408x10240 .bf16)

theorem split (h : fn Q K W = fun _ => 1#1) :
    (∀ i, cmpf .olt (Host.absf (extractStridedSlice S1024x768 ![16384, 0] Q slices_S17408x768_S1024x768_16384_0)) (broadcastInDim S1024x768 ![] bcast_S_S1024x768 (constant S_ .bf16 0x7F80#16)) i = 1#1)
      ∧ ∀ i, cmpf .olt (Host.absf (extractStridedSlice S1024x256 ![16384, 0] K slices_S17408x256_S1024x256_16384_0)) (broadcastInDim S1024x256 ![] bcast_S_S1024x256 (constant S_ .bf16 0x7F80#16)) i = 1#1 := by
  have e := congrFun h (fun a => a.elim0)
  dsimp only [fn] at e
  have e' := both _ _ e
  haveI : Subsingleton S_.Idx := ⟨fun a b => funext fun i => i.elim0⟩
  exact ⟨Host.reduce_andi_all _ _ _ _ _ e'.1, Host.reduce_andi_all _ _ _ _ _ e'.2⟩

theorem query_real (h : fn Q K W = fun _ => 1#1) (r : Fin 1024) (e : Fin 768) : ∃ x : ℝ, Q (ix2 ⟨16384 + r, by omega⟩ e) = (x : EReal) := by
  refine real_of_abs_lt _ ?_
  rw [← inf_bf16]
  refine Eq.trans ?_ ((split Q K W h).1 (ix2 r e))
  pointwise []
  rfl

theorem key_real (h : fn Q K W = fun _ => 1#1) (r : Fin 1024) (e : Fin 256) : ∃ x : ℝ, K (ix2 ⟨16384 + r, by omega⟩ e) = (x : EReal) := by
  refine real_of_abs_lt _ ?_
  rw [← inf_bf16]
  refine Eq.trans ?_ ((split Q K W h).2 (ix2 r e))
  pointwise []
  rfl

theorem queries (h : fn Q K W = fun _ => 1#1) b l r e : ∃ x : ℝ, qA Q b l r e = x :=
  ctx_real Q _ l (fun r e => query_real Q K W h r _) b r e

theorem keys (h : fn Q K W = fun _ => 1#1) b l r e : ∃ x : ℝ, kA K b l r e = x :=
  ctx_real K _ l (fun r e => key_real Q K W h r _) b r e

end Cert.Pre_finite_context_a
end
-- ==== Proof.ContextB.lean ====
/- The array that the context attention of the low-rank heads leaves. -/
module

public import proofs.«01_k».proof.Proof.Gen.ContextBIdeal.Value
public import proofs.«01_k».proof.Proof.Context
public import Idealize.ShloMosaic.Lib.Pipeline.ReadBack

@[expose] public section

set_option maxRecDepth 16384

noncomputable section

namespace Cert.ContextBIdeal.Value

open Cert.ContextBIdeal Cert.ContextBIdeal.Gen Cert.ContextBIdeal.Facts Idealize.ShloMosaic Idealize.ShloMosaic.TcCoe Idealize.SL.Sem
open Idealize.ShloMosaic.Pipeline (Dat)
open Cert.Softmax Cert.Context

variable (m : (ℓ : Loc nD τ sig) → Buf (Elt Ideal) ℓ)

/-- The scores of a block of queries against a block of keys. -/
def score (q k : FVec Ideal S256x256 .bf16) : FVec Ideal S256x256 .f32 :=
  matmul dot_S256x256_S256x256_S256x256_1_1_0_0_n_n none q k (constant S256x256 .f32 0x00000000#32)

/-- The largest score of each row. -/
def top (s : FVec Ideal S256x256 .f32) : FVec Ideal S256x1 .f32 :=
  shapeCast S256x1 (multiReduction .maximumf [1] S256 s 0xFF800000#32 reduces_S256x256_S256 (.inl rfl) rfl) shapeCasts_S256_S256x1

/-- The weights under the largest score. -/
def weight (s : FVec Ideal S256x256 .f32) (a : FVec Ideal S256x1 .f32) : FVec Ideal S256x256 .f32 :=
  exp2 (subf s (broadcastTo S256x256 a broadcasts_S256x1_S256x256))

/-- The weighted values over the weights' sum. -/
def mean (p : FVec Ideal S256x256 .f32) (v : FVec Ideal S256x128 .bf16) : FVec Ideal S256x128 .bf16 :=
  truncf .bf16 (divf (matmul dot_S256x256_S256x128_S256x128_1_0_0_1_n_n none (truncf .bf16 p bitsLt_bf16_f32) v (constant S256x128 .f32 0x00000000#32))
    (broadcastTo S256x128 (shapeCast S256x1 (multiReduction .add [1] S256 p 0x00000000#32 reduces_S256x256_S256 (.inl rfl) rfl) shapeCasts_S256_S256x1)
      broadcasts_S256x1_S256x128)) bitsLt_bf16_f32

theorem score_at (q k : FVec Ideal S256x256 .bf16) (i j : Fin 256) : score q k (ix2 i j) = ∑ e : Fin 256, q (ix2 i e) * k (ix2 j e) := by
  pointwise [score]

theorem top_at (s : FVec Ideal S256x256 .f32) (i : Fin 256) (z : Fin 1) :
    top s (ix2 i z) = Finset.univ.fold max (⊥ : EReal) (fun k : Fin 256 => s (ix2 i k)) := by
  pointwise [top, negInf_f32]

theorem weight_at (s : FVec Ideal S256x256 .f32) (a : FVec Ideal S256x1 .f32) (i j : Fin 256) :
    weight s a (ix2 i j) = Ideal.exp2 (s (ix2 i j) - a (ix2 i 0)) := by
  pointwise [weight]
  rfl

theorem mean_at (p : FVec Ideal S256x256 .f32) (v : FVec Ideal S256x128 .bf16) (i : Fin 256) (d : Fin 128) :
    mean p v (ix2 i d) = Ideal.div (∑ j : Fin 256, p (ix2 i j) * v (ix2 j d)) (∑ j : Fin 256, p (ix2 i j)) := by
  pointwise [mean]

theorem pay_eq (q k : FVec Ideal S256x256 .bf16) (v : FVec Ideal S256x128 .bf16) :
    k0_pay1 (F := Ideal) q k v = mean (weight (score q k) (top (score q k))) v := rfl

/-- One block's row, from real queries and keys. -/
theorem pay_at (q k : FVec Ideal S256x256 .bf16) (v : FVec Ideal S256x128 .bf16) (i : Fin 256) (d : Fin 128)
    (hq : ∀ e, ∃ x : ℝ, q (ix2 i e) = x) (hk : ∀ j e, ∃ x : ℝ, k (ix2 j e) = x) :
    k0_pay1 (F := Ideal) q k v (ix2 i d) = attend (fun e => q (ix2 i e)) (fun j e => k (ix2 j e)) (fun j => v (ix2 j d)) := by
  rw [pay_eq, mean_at]
  simp only [weight_at, top_at]
  exact quotient _ _ _ hq hk _ fun j => score_at q k i j

/-- The grid: point `t` is batch entry `t / 5`, head `t % 5`. -/
theorem idx : ∀ t : Fin cfg0.N, win0_0.index t = ![64 + t.val / 5, t.val % 5] ∧ win0_1.index t = ![64 + t.val / 5, t.val % 5]
    ∧ win0_2.index t = ![64 + t.val / 5, t.val % 5] ∧ win0_3.index t = ![t.val / 5, t.val % 5] :=
  (by decide +kernel : ∀ t : Fin grid0.N, _)

theorem lt20 (t : Fin cfg0.N) : t.val < 20 := lt_of_lt_of_eq t.isLt (by decide +kernel)

theorem x0_at (c : Dev nD) (t : Fin cfg0.N) (r : Fin 256) (e : Fin 256) :
    (iblk m c 0 t : FVec Ideal S256x256 .bf16) (ix2 r e) = qB (m ((c : Thread nD τ).loc main_arg0)) ⟨t.val / 5, by have := lt20 t; omega⟩ ⟨t.val % 5, by omega⟩ r e := by
  have ht := lt20 t
  unfold qB ctx
  blk_point [iblk, V, idx t]

theorem x1_at (c : Dev nD) (t : Fin cfg0.N) (r : Fin 256) (e : Fin 256) :
    (iblk m c 1 t : FVec Ideal S256x256 .bf16) (ix2 r e) = kB (m ((c : Thread nD τ).loc main_arg1)) ⟨t.val / 5, by have := lt20 t; omega⟩ ⟨t.val % 5, by omega⟩ r e := by
  have ht := lt20 t
  unfold kB ctx
  blk_point [iblk, V, idx t]

theorem x2_at (c : Dev nD) (t : Fin cfg0.N) (r : Fin 256) (e : Fin 128) :
    (iblk m c 2 t : FVec Ideal S256x128 .bf16) (ix2 r e) = vB (m ((c : Thread nD τ).loc main_arg2)) ⟨t.val / 5, by have := lt20 t; omega⟩ ⟨t.val % 5, by omega⟩ r e := by
  have ht := lt20 t
  unfold vB ctx
  blk_point [iblk, V, idx t]

/-- The array of results. -/
def target (c : Dev nD) : FVec Ideal S1024x640 .bf16 :=
  result 5 (qB (m ((c : Thread nD τ).loc main_arg0))) (kB (m ((c : Thread nD τ).loc main_arg1))) (vB (m ((c : Thread nD τ).loc main_arg2)))

/-- A grid point's block of results. -/
theorem block_at (c : Dev nD) (hQ : ∀ b h r e, ∃ x : ℝ, qB (m ((c : Thread nD τ).loc main_arg0)) b h r e = x) (hK : ∀ b h r e, ∃ x : ℝ, kB (m ((c : Thread nD τ).loc main_arg1)) b h r e = x)
    (t : Fin cfg0.N) (r : Fin 256) (d : Fin 128) :
    k0_pay1 (F := Ideal) (View.ld (iblk m c 0 t) r0_0) (View.ld (iblk m c 1 t) r0_0) (View.ld (iblk m c 2 t) r0_1) (ix2 r d)
      = attend (qB (m ((c : Thread nD τ).loc main_arg0)) ⟨t.val / 5, by have := lt20 t; omega⟩ ⟨t.val % 5, by omega⟩ r) (kB (m ((c : Thread nD τ).loc main_arg1)) ⟨t.val / 5, by have := lt20 t; omega⟩ ⟨t.val % 5, by omega⟩) (fun j => vB (m ((c : Thread nD τ).loc main_arg2)) ⟨t.val / 5, by have := lt20 t; omega⟩ ⟨t.val % 5, by omega⟩ j d) := by
  have e0 : ∀ r e, (View.ld (iblk m c 0 t) r0_0 : Vec Ideal S256x256 .bf16) (ix2 r e) = qB (m ((c : Thread nD τ).loc main_arg0)) ⟨t.val / 5, by have := lt20 t; omega⟩ ⟨t.val % 5, by omega⟩ r e := fun r e =>
    (ld_whole (n := 256) (k := 256) _ _ r e).trans (x0_at m c t r e)
  have e1 : ∀ r e, (View.ld (iblk m c 1 t) r0_0 : Vec Ideal S256x256 .bf16) (ix2 r e) = kB (m ((c : Thread nD τ).loc main_arg1)) ⟨t.val / 5, by have := lt20 t; omega⟩ ⟨t.val % 5, by omega⟩ r e := fun r e =>
    (ld_whole (n := 256) (k := 256) _ _ r e).trans (x1_at m c t r e)
  have e2 : ∀ r e, (View.ld (iblk m c 2 t) r0_1 : Vec Ideal S256x128 .bf16) (ix2 r e) = vB (m ((c : Thread nD τ).loc main_arg2)) ⟨t.val / 5, by have := lt20 t; omega⟩ ⟨t.val % 5, by omega⟩ r e := fun r e =>
    (ld_whole (n := 256) (k := 128) _ _ r e).trans (x2_at m c t r e)
  refine (pay_at _ _ _ r d ?_ ?_).trans (congr (congr (congrArg attend (funext (e0 r))) (funext fun j => funext (e1 j))) (funext fun j => e2 j d))
  · intro e
    obtain ⟨x, hx⟩ := hQ ⟨t.val / 5, by have := lt20 t; omega⟩ ⟨t.val % 5, by omega⟩ r e
    exact ⟨x, (e0 r e).trans hx⟩
  · intro j e
    obtain ⟨x, hx⟩ := hK ⟨t.val / 5, by have := lt20 t; omega⟩ ⟨t.val % 5, by omega⟩ j e
    exact ⟨x, (e1 j e).trans hx⟩

theorem outs (c : Dev nD) (hQ : ∀ b h r e, ∃ x : ℝ, qB (m ((c : Thread nD τ).loc main_arg0)) b h r e = x) (hK : ∀ b h r e, ∃ x : ℝ, kB (m ((c : Thread nD τ).loc main_arg1)) b h r e = x)
    (t : Fin cfg0.N) (r : Fin 256) (d : Fin 128) : out0_3 (iblk m c 0 t) (iblk m c 1 t) (iblk m c 2 t) (ix2 r d)
      = attend (qB (m ((c : Thread nD τ).loc main_arg0)) ⟨t.val / 5, by have := lt20 t; omega⟩ ⟨t.val % 5, by omega⟩ r) (kB (m ((c : Thread nD τ).loc main_arg1)) ⟨t.val / 5, by have := lt20 t; omega⟩ ⟨t.val % 5, by omega⟩) (fun j => vB (m ((c : Thread nD τ).loc main_arg2)) ⟨t.val / 5, by have := lt20 t; omega⟩ ⟨t.val % 5, by omega⟩ j d) := by
  unfold out0_3
  canon_tiles x h
  idx_vars x
  obtain rfl : r = x0 := Fin.ext h0
  obtain rfl : d = x1 := Fin.ext h1
  exact block_at m c hQ hK t r d

/-- The array of results, from finite queries and keys. -/
theorem final (c : Dev nD) (hQ : ∀ b h r e, ∃ x : ℝ, qB (m ((c : Thread nD τ).loc main_arg0)) b h r e = x) (hK : ∀ b h r e, ∃ x : ℝ, kB (m ((c : Thread nD τ).loc main_arg1)) b h r e = x) :
    (dats m 0 c).arrAt 3 cfg0.N = target m c := by
  refine (dats m 0 c).arrAt_eq_of_covers 3 _ (by decide +kernel) fun t hf y => ?_
  have ht := lt20 t
  idx_vars y
  refine Eq.trans ?_ (result_at _ _ _ _ ⟨t.val / 5, by omega⟩ ⟨t.val % 5, by omega⟩ y0 y1 ?_ ?_).symm
  · blk_simp
    rw [after0_3]
    exact outs m c hQ hK t y0 y1
  all_goals
    blk_simp [idx t]
    dsimp only
    omega

end Cert.ContextBIdeal.Value
end
-- ==== Proof.RefContextB.lean ====
/- What the reference of the low-rank heads' context attention computes, entry by entry. -/
module

public import proofs.«01_k».proof.Proof.Gen.RefContextBIdeal.Run
public import proofs.«01_k».proof.Proof.Context

@[expose] public section

set_option maxRecDepth 16384

noncomputable section

namespace Cert.RefContextBIdeal.Value

open Cert.RefContextBIdeal Cert.RefContextBIdeal.Gen Cert.RefContextBIdeal.Facts Idealize.ShloMosaic Idealize.ShloMosaic.TcCoe Idealize.SL.Sem
open Cert.Softmax Cert.Context

/-- The queries, the keys and the values of the context rows, head by head. -/
def heads (Q : FVec Ideal S17408x1280 .bf16) : FVec Ideal S4x256x5x256 .f32 :=
  shapeCast _ (extf .f32 (extractStridedSlice S1024x1280 ![16384, 0] Q slices_S17408x1280_S1024x1280_16384_0) bitsLt_bf16_f32) shapeCasts_S1024x1280_S4x256x5x256
def keys (K : FVec Ideal S17408x1280 .bf16) : FVec Ideal S4x256x5x256 .f32 :=
  shapeCast _ (extf .f32 (extractStridedSlice S1024x1280 ![16384, 0] K slices_S17408x1280_S1024x1280_16384_0) bitsLt_bf16_f32) shapeCasts_S1024x1280_S4x256x5x256
def values (W : FVec Ideal S17408x640 .bf16) : FVec Ideal S4x256x5x128 .f32 :=
  shapeCast _ (extf .f32 (extractStridedSlice S1024x640 ![16384, 0] W slices_S17408x640_S1024x640_16384_0) bitsLt_bf16_f32) shapeCasts_S1024x640_S4x256x5x128

/-- The scores in natural logarithms. -/
def logits (q k : FVec Ideal S4x256x5x256 .f32) : FVec Ideal S4x5x256x256 .f32 :=
  mulf (Host.dotGeneral dot_S4x256x5x256_S4x256x5x256_S4x5x256x256_3_3_1_1_02_02 none q k)
    (broadcastInDim S4x5x256x256 ![] bcast_S_S4x5x256x256 (Host.log (constant S_ .f32 0x40000000#32)))

/-- A row's entry, at every key. -/
def along (a : FVec Ideal S4x5x256 .f32) : FVec Ideal S4x5x256x256 .f32 :=
  broadcastInDim S4x5x256x256 ![0, 1, 2, 3] bcast_S4x5x256x1_S4x5x256x256_0_1_2_3 (broadcastInDim S4x5x256x1 ![0, 1, 2] bcast_S4x5x256_S4x5x256x1_0_1_2 a)

/-- A row's largest score, that bounded below by the word the maximum starts from, and a row's sum. -/
def highest (s : FVec Ideal S4x5x256x256 .f32) : FVec Ideal S4x5x256 .f32 :=
  Host.reduce FloatOps.maximumf s (constant S_ .f32 0xFF800000#32) reducesTo_S4x5x256x256_S4x5x256_d3 h_S_
def peak (a : FVec Ideal S4x5x256 .f32) : FVec Ideal S4x5x256 .f32 :=
  maximumf (broadcastInDim S4x5x256 ![] bcast_S_S4x5x256 (constant S_ .f32 0xFF800000#32)) a
def total (s : FVec Ideal S4x5x256x256 .f32) : FVec Ideal S4x5x256 .f32 :=
  Host.reduceAdd s (constant S_ .f32 0x00000000#32) reducesTo_S4x5x256x256_S4x5x256_d3 h_S_

/-- The exponentials under the largest score, and their share of the row's sum. -/
def expo (s : FVec Ideal S4x5x256x256 .f32) : FVec Ideal S4x5x256x256 .f32 := Host.exp (subf s (along (peak (highest s))))
def share (s : FVec Ideal S4x5x256x256 .f32) : FVec Ideal S4x5x256x256 .f32 := Host.divf (expo s) (along (total (expo s)))

/-- The weighted values, and the array they are laid out in. -/
def blend (v : FVec Ideal S4x256x5x128 .f32) (p : FVec Ideal S4x5x256x256 .f32) : FVec Ideal S4x5x128x256 .f32 :=
  Host.dotGeneral dot_S4x256x5x128_S4x5x256x256_S4x5x128x256_1_3_3_2_02_01 none v p
def laid (o : FVec Ideal S4x5x128x256 .f32) : FVec Ideal S1024x640 .bf16 :=
  truncf .bf16 (shapeCast _ (transpose S4x256x5x128 [0, 3, 1, 2] o transposes_S4x5x128x256_S4x256x5x128_0_3_1_2) shapeCasts_S4x256x5x128_S1024x640) bitsLt_bf16_f32

/-- The reference's result. -/
def outcome (Q : FVec Ideal S17408x1280 .bf16) (K : FVec Ideal S17408x1280 .bf16) (W : FVec Ideal S17408x640 .bf16) : FVec Ideal S1024x640 .bf16 :=
  laid (blend (values W) (share (logits (heads Q) (keys K))))

theorem heads_at (Q : FVec Ideal S17408x1280 .bf16) (b : Fin 4) (h : Fin 5) (r : Fin 256) (e : Fin 256) :
    heads Q (ix4 b r h e) = qB Q b h r e := by
  unfold qB ctx
  pointwise [heads]
  blk_ext

theorem keys_at (K : FVec Ideal S17408x1280 .bf16) (b : Fin 4) (h : Fin 5) (r : Fin 256) (e : Fin 256) :
    keys K (ix4 b r h e) = kB K b h r e := by
  unfold kB ctx
  pointwise [keys]
  blk_ext

theorem values_at (W : FVec Ideal S17408x640 .bf16) (b : Fin 4) (h : Fin 5) (r : Fin 256) (e : Fin 128) :
    values W (ix4 b r h e) = vB W b h r e := by
  unfold vB ctx
  pointwise [values]
  blk_ext

theorem logits_at (q k : FVec Ideal S4x256x5x256 .f32) (b : Fin 4) (h : Fin 5) (r j : Fin 256) :
    logits q k (ix4 b h r j) = (∑ e : Fin 256, q (ix4 b r h e) * k (ix4 b j h e)) * (Real.log 2 : ℝ) := by
  pointwise [logits]
  rw [log_two_f32]

theorem highest_at (s : FVec Ideal S4x5x256x256 .f32) (b : Fin 4) (h : Fin 5) (r : Fin 256) :
    highest s (ix3 b h r) = Finset.univ.fold max (⊥ : EReal) (fun j : Fin 256 => s (ix4 b h r j)) := by
  pointwise [highest]
  rw [show Ideal.ofBits .f32 4286578688#32 = ⊥ from negInf_f32]

theorem peak_at (a : FVec Ideal S4x5x256 .f32) (i : S4x5x256.Idx) : peak a i = a i := by
  pointwise [peak]
  rw [show Ideal.ofBits .f32 4286578688#32 = ⊥ from negInf_f32]
  exact max_eq_right bot_le

theorem total_at (s : FVec Ideal S4x5x256x256 .f32) (b : Fin 4) (h : Fin 5) (r : Fin 256) :
    total s (ix3 b h r) = ∑ j : Fin 256, s (ix4 b h r j) := by
  pointwise [total]

theorem share_at (s : FVec Ideal S4x5x256x256 .f32) (b : Fin 4) (h : Fin 5) (r j : Fin 256) :
    share s (ix4 b h r j) = Ideal.div (expo s (ix4 b h r j)) (total (expo s) (ix3 b h r)) := by
  pointwise [share, along]

theorem expo_at (s : FVec Ideal S4x5x256x256 .f32) (b : Fin 4) (h : Fin 5) (r j : Fin 256) :
    expo s (ix4 b h r j) = Ideal.exp (s (ix4 b h r j) - peak (highest s) (ix3 b h r)) := by
  pointwise [expo, along]

theorem blend_at (v : FVec Ideal S4x256x5x128 .f32) (p : FVec Ideal S4x5x256x256 .f32) (b : Fin 4) (h : Fin 5) (r : Fin 256) (d : Fin 128) :
    blend v p (ix4 b h d r) = ∑ j : Fin 256, v (ix4 b j h d) * p (ix4 b h r j) := by
  pointwise [blend]

theorem laid_at (o : FVec Ideal S4x5x128x256 .f32) (r : Fin 1024) (c : Fin 640) :
    laid o (ix2 r c) = o (ix4 ⟨r / 256, by omega⟩ ⟨c / 128, by omega⟩ ⟨c % 128, by omega⟩ ⟨r % 256, by omega⟩) := by
  pointwise [laid]
  blk_ext

theorem out_at (Q : FVec Ideal S17408x1280 .bf16) (K : FVec Ideal S17408x1280 .bf16) (W : FVec Ideal S17408x640 .bf16)
    (hQ : ∀ b h r e, ∃ x : ℝ, qB Q b h r e = x) (hK : ∀ b h r e, ∃ x : ℝ, kB K b h r e = x) :
    outcome Q K W = result 5 (qB Q) (kB K) (vB W) := by
  unfold outcome
  funext i
  idx_vars i
  refine Eq.trans ?_ (result_at _ _ _ _ ⟨i0 / 256, by omega⟩ ⟨i1 / 128, by omega⟩ ⟨i0 % 256, by omega⟩ ⟨i1 % 128, by omega⟩
    (by simp only [ix2]; omega) (by simp only [ix2]; omega)).symm
  rw [laid_at, blend_at]
  simp only [share_at, total_at, expo_at, peak_at, highest_at, values_at]
  refine softmax _ _ _ (hQ _ _ _) (fun j => hK _ _ j) _ fun j => ?_
  rw [logits_at]
  simp only [heads_at, keys_at]

end Cert.RefContextBIdeal.Value
end
-- ==== Proof.FiniteContextB.lean ====
/- A context attention's precondition, read: every query entry and every key entry of a context row is a real number. -/
module

public import proofs.«01_k».proof.Pre_finite_context_b
public import proofs.«01_k».proof.Proof.Finite
public import proofs.«01_k».proof.Proof.Context
public import Idealize.ShloMosaic.Lib.ReduceAll
public import Idealize.ShloMosaic.Lib.Affine
public import Idealize.ShloMosaic.Lib.Pipeline.ValueKit

@[expose] public section

noncomputable section

namespace Cert.Pre_finite_context_b

open Idealize.ShloMosaic Facts Cert.Context
open Cert.Pre_finite_scores (both inf_bf16 real_of_abs_lt)

/-- The side conditions of the precondition's operations. -/
theorem facts : Cert.Pre_finite_context_b.Facts where
  slices_S17408x1280_S1024x1280_16384_0 := by decide
  bcast_S_S1024x1280 := by decide
  reducesTo_S1024x1280_S_d0_1 := by decide
  h_S_ := by decide

variable [Facts] (Q : FVec Ideal S17408x1280 .bf16) (K : FVec Ideal S17408x1280 .bf16) (W : FVec Ideal S17408x640 .bf16)

theorem split (h : fn Q K W = fun _ => 1#1) :
    (∀ i, cmpf .olt (Host.absf (extractStridedSlice S1024x1280 ![16384, 0] Q slices_S17408x1280_S1024x1280_16384_0)) (broadcastInDim S1024x1280 ![] bcast_S_S1024x1280 (constant S_ .bf16 0x7F80#16)) i = 1#1)
      ∧ ∀ i, cmpf .olt (Host.absf (extractStridedSlice S1024x1280 ![16384, 0] K slices_S17408x1280_S1024x1280_16384_0)) (broadcastInDim S1024x1280 ![] bcast_S_S1024x1280 (constant S_ .bf16 0x7F80#16)) i = 1#1 := by
  have e := congrFun h (fun a => a.elim0)
  dsimp only [fn] at e
  have e' := both _ _ e
  haveI : Subsingleton S_.Idx := ⟨fun a b => funext fun i => i.elim0⟩
  exact ⟨Host.reduce_andi_all _ _ _ _ _ e'.1, Host.reduce_andi_all _ _ _ _ _ e'.2⟩

theorem query_real (h : fn Q K W = fun _ => 1#1) (r : Fin 1024) (e : Fin 1280) : ∃ x : ℝ, Q (ix2 ⟨16384 + r, by omega⟩ e) = (x : EReal) := by
  refine real_of_abs_lt _ ?_
  rw [← inf_bf16]
  refine Eq.trans ?_ ((split Q K W h).1 (ix2 r e))
  pointwise []
  rfl

theorem key_real (h : fn Q K W = fun _ => 1#1) (r : Fin 1024) (e : Fin 1280) : ∃ x : ℝ, K (ix2 ⟨16384 + r, by omega⟩ e) = (x : EReal) := by
  refine real_of_abs_lt _ ?_
  rw [← inf_bf16]
  refine Eq.trans ?_ ((split Q K W h).2 (ix2 r e))
  pointwise []
  rfl

theorem queries (h : fn Q K W = fun _ => 1#1) b l r e : ∃ x : ℝ, qB Q b l r e = x :=
  ctx_real Q _ l (fun r e => query_real Q K W h r _) b r e

theorem keys (h : fn Q K W = fun _ => 1#1) b l r e : ∃ x : ℝ, kB K b l r e = x :=
  ctx_real K _ l (fun r e => key_real Q K W h r _) b r e

end Cert.Pre_finite_context_b
end
-- ==== Proof.ContextC.lean ====
/- The array that the context attention of the neighbourhood heads leaves. -/
module

public import proofs.«01_k».proof.Proof.Gen.ContextCIdeal.Value
public import proofs.«01_k».proof.Proof.Context
public import Idealize.ShloMosaic.Lib.Pipeline.ReadBack

@[expose] public section

set_option maxRecDepth 16384

noncomputable section

namespace Cert.ContextCIdeal.Value

open Cert.ContextCIdeal Cert.ContextCIdeal.Gen Cert.ContextCIdeal.Facts Idealize.ShloMosaic Idealize.ShloMosaic.TcCoe Idealize.SL.Sem
open Idealize.ShloMosaic.Pipeline (Dat)
open Cert.Softmax Cert.Context

variable (m : (ℓ : Loc nD τ sig) → Buf (Elt Ideal) ℓ)

/-- The scores of a block of queries against a block of keys. -/
def score (q k : FVec Ideal S256x128 .bf16) : FVec Ideal S256x256 .f32 :=
  matmul dot_S256x128_S256x128_S256x256_1_1_0_0_n_n none q k (constant S256x256 .f32 0x00000000#32)

/-- The largest score of each row. -/
def top (s : FVec Ideal S256x256 .f32) : FVec Ideal S256x1 .f32 :=
  shapeCast S256x1 (multiReduction .maximumf [1] S256 s 0xFF800000#32 reduces_S256x256_S256 (.inl rfl) rfl) shapeCasts_S256_S256x1

/-- The weights under the largest score. -/
def weight (s : FVec Ideal S256x256 .f32) (a : FVec Ideal S256x1 .f32) : FVec Ideal S256x256 .f32 :=
  exp2 (subf s (broadcastTo S256x256 a broadcasts_S256x1_S256x256))

/-- The weighted values over the weights' sum. -/
def mean (p : FVec Ideal S256x256 .f32) (v : FVec Ideal S256x128 .bf16) : FVec Ideal S256x128 .bf16 :=
  truncf .bf16 (divf (matmul dot_S256x256_S256x128_S256x128_1_0_0_1_n_n none (truncf .bf16 p bitsLt_bf16_f32) v (constant S256x128 .f32 0x00000000#32))
    (broadcastTo S256x128 (shapeCast S256x1 (multiReduction .add [1] S256 p 0x00000000#32 reduces_S256x256_S256 (.inl rfl) rfl) shapeCasts_S256_S256x1)
      broadcasts_S256x1_S256x128)) bitsLt_bf16_f32

theorem score_at (q k : FVec Ideal S256x128 .bf16) (i j : Fin 256) : score q k (ix2 i j) = ∑ e : Fin 128, q (ix2 i e) * k (ix2 j e) := by
  pointwise [score]

theorem top_at (s : FVec Ideal S256x256 .f32) (i : Fin 256) (z : Fin 1) :
    top s (ix2 i z) = Finset.univ.fold max (⊥ : EReal) (fun k : Fin 256 => s (ix2 i k)) := by
  pointwise [top, negInf_f32]

theorem weight_at (s : FVec Ideal S256x256 .f32) (a : FVec Ideal S256x1 .f32) (i j : Fin 256) :
    weight s a (ix2 i j) = Ideal.exp2 (s (ix2 i j) - a (ix2 i 0)) := by
  pointwise [weight]
  rfl

theorem mean_at (p : FVec Ideal S256x256 .f32) (v : FVec Ideal S256x128 .bf16) (i : Fin 256) (d : Fin 128) :
    mean p v (ix2 i d) = Ideal.div (∑ j : Fin 256, p (ix2 i j) * v (ix2 j d)) (∑ j : Fin 256, p (ix2 i j)) := by
  pointwise [mean]

theorem pay_eq (q k : FVec Ideal S256x128 .bf16) (v : FVec Ideal S256x128 .bf16) :
    k0_pay1 (F := Ideal) q k v = mean (weight (score q k) (top (score q k))) v := rfl

/-- One block's row, from real queries and keys. -/
theorem pay_at (q k : FVec Ideal S256x128 .bf16) (v : FVec Ideal S256x128 .bf16) (i : Fin 256) (d : Fin 128)
    (hq : ∀ e, ∃ x : ℝ, q (ix2 i e) = x) (hk : ∀ j e, ∃ x : ℝ, k (ix2 j e) = x) :
    k0_pay1 (F := Ideal) q k v (ix2 i d) = attend (fun e => q (ix2 i e)) (fun j e => k (ix2 j e)) (fun j => v (ix2 j d)) := by
  rw [pay_eq, mean_at]
  simp only [weight_at, top_at]
  exact quotient _ _ _ hq hk _ fun j => score_at q k i j

/-- The grid: point `t` is batch entry `t / 5`, head `t % 5`. -/
theorem idx : ∀ t : Fin cfg0.N, win0_0.index t = ![64 + t.val / 5, 17 + t.val % 5] ∧ win0_1.index t = ![64 + t.val / 5, 22 + t.val % 5]
    ∧ win0_2.index t = ![64 + t.val / 5, 27 + t.val % 5] ∧ win0_3.index t = ![t.val / 5, t.val % 5] :=
  (by decide +kernel : ∀ t : Fin grid0.N, _)

theorem lt20 (t : Fin cfg0.N) : t.val < 20 := lt_of_lt_of_eq t.isLt (by decide +kernel)

theorem x0_at (c : Dev nD) (t : Fin cfg0.N) (r : Fin 256) (e : Fin 128) :
    (iblk m c 0 t : FVec Ideal S256x128 .bf16) (ix2 r e) = qC (m ((c : Thread nD τ).loc main_arg0)) ⟨t.val / 5, by have := lt20 t; omega⟩ ⟨t.val % 5, by omega⟩ r e := by
  have ht := lt20 t
  unfold qC ctx
  blk_point [iblk, V, idx t]

theorem x1_at (c : Dev nD) (t : Fin cfg0.N) (r : Fin 256) (e : Fin 128) :
    (iblk m c 1 t : FVec Ideal S256x128 .bf16) (ix2 r e) = kC (m ((c : Thread nD τ).loc main_arg0)) ⟨t.val / 5, by have := lt20 t; omega⟩ ⟨t.val % 5, by omega⟩ r e := by
  have ht := lt20 t
  unfold kC ctx
  blk_point [iblk, V, idx t]

theorem x2_at (c : Dev nD) (t : Fin cfg0.N) (r : Fin 256) (e : Fin 128) :
    (iblk m c 2 t : FVec Ideal S256x128 .bf16) (ix2 r e) = vC (m ((c : Thread nD τ).loc main_arg0)) ⟨t.val / 5, by have := lt20 t; omega⟩ ⟨t.val % 5, by omega⟩ r e := by
  have ht := lt20 t
  unfold vC ctx
  blk_point [iblk, V, idx t]

/-- The array of results. -/
def target (c : Dev nD) : FVec Ideal S1024x640 .bf16 :=
  result 5 (qC (m ((c : Thread nD τ).loc main_arg0))) (kC (m ((c : Thread nD τ).loc main_arg0))) (vC (m ((c : Thread nD τ).loc main_arg0)))

/-- A grid point's block of results. -/
theorem block_at (c : Dev nD) (hQ : ∀ b h r e, ∃ x : ℝ, qC (m ((c : Thread nD τ).loc main_arg0)) b h r e = x) (hK : ∀ b h r e, ∃ x : ℝ, kC (m ((c : Thread nD τ).loc main_arg0)) b h r e = x)
    (t : Fin cfg0.N) (r : Fin 256) (d : Fin 128) :
    k0_pay1 (F := Ideal) (View.ld (iblk m c 0 t) r0_0) (View.ld (iblk m c 1 t) r0_0) (View.ld (iblk m c 2 t) r0_0) (ix2 r d)
      = attend (qC (m ((c : Thread nD τ).loc main_arg0)) ⟨t.val / 5, by have := lt20 t; omega⟩ ⟨t.val % 5, by omega⟩ r) (kC (m ((c : Thread nD τ).loc main_arg0)) ⟨t.val / 5, by have := lt20 t; omega⟩ ⟨t.val % 5, by omega⟩) (fun j => vC (m ((c : Thread nD τ).loc main_arg0)) ⟨t.val / 5, by have := lt20 t; omega⟩ ⟨t.val % 5, by omega⟩ j d) := by
  have e0 : ∀ r e, (View.ld (iblk m c 0 t) r0_0 : Vec Ideal S256x128 .bf16) (ix2 r e) = qC (m ((c : Thread nD τ).loc main_arg0)) ⟨t.val / 5, by have := lt20 t; omega⟩ ⟨t.val % 5, by omega⟩ r e := fun r e =>
    (ld_whole (n := 256) (k := 128) _ _ r e).trans (x0_at m c t r e)
  have e1 : ∀ r e, (View.ld (iblk m c 1 t) r0_0 : Vec Ideal S256x128 .bf16) (ix2 r e) = kC (m ((c : Thread nD τ).loc main_arg0)) ⟨t.val / 5, by have := lt20 t; omega⟩ ⟨t.val % 5, by omega⟩ r e := fun r e =>
    (ld_whole (n := 256) (k := 128) _ _ r e).trans (x1_at m c t r e)
  have e2 : ∀ r e, (View.ld (iblk m c 2 t) r0_0 : Vec Ideal S256x128 .bf16) (ix2 r e) = vC (m ((c : Thread nD τ).loc main_arg0)) ⟨t.val / 5, by have := lt20 t; omega⟩ ⟨t.val % 5, by omega⟩ r e := fun r e =>
    (ld_whole (n := 256) (k := 128) _ _ r e).trans (x2_at m c t r e)
  refine (pay_at _ _ _ r d ?_ ?_).trans (congr (congr (congrArg attend (funext (e0 r))) (funext fun j => funext (e1 j))) (funext fun j => e2 j d))
  · intro e
    obtain ⟨x, hx⟩ := hQ ⟨t.val / 5, by have := lt20 t; omega⟩ ⟨t.val % 5, by omega⟩ r e
    exact ⟨x, (e0 r e).trans hx⟩
  · intro j e
    obtain ⟨x, hx⟩ := hK ⟨t.val / 5, by have := lt20 t; omega⟩ ⟨t.val % 5, by omega⟩ j e
    exact ⟨x, (e1 j e).trans hx⟩

theorem outs (c : Dev nD) (hQ : ∀ b h r e, ∃ x : ℝ, qC (m ((c : Thread nD τ).loc main_arg0)) b h r e = x) (hK : ∀ b h r e, ∃ x : ℝ, kC (m ((c : Thread nD τ).loc main_arg0)) b h r e = x)
    (t : Fin cfg0.N) (r : Fin 256) (d : Fin 128) : out0_3 (iblk m c 0 t) (iblk m c 1 t) (iblk m c 2 t) (ix2 r d)
      = attend (qC (m ((c : Thread nD τ).loc main_arg0)) ⟨t.val / 5, by have := lt20 t; omega⟩ ⟨t.val % 5, by omega⟩ r) (kC (m ((c : Thread nD τ).loc main_arg0)) ⟨t.val / 5, by have := lt20 t; omega⟩ ⟨t.val % 5, by omega⟩) (fun j => vC (m ((c : Thread nD τ).loc main_arg0)) ⟨t.val / 5, by have := lt20 t; omega⟩ ⟨t.val % 5, by omega⟩ j d) := by
  unfold out0_3
  canon_tiles x h
  idx_vars x
  obtain rfl : r = x0 := Fin.ext h0
  obtain rfl : d = x1 := Fin.ext h1
  exact block_at m c hQ hK t r d

/-- The array of results, from finite queries and keys. -/
theorem final (c : Dev nD) (hQ : ∀ b h r e, ∃ x : ℝ, qC (m ((c : Thread nD τ).loc main_arg0)) b h r e = x) (hK : ∀ b h r e, ∃ x : ℝ, kC (m ((c : Thread nD τ).loc main_arg0)) b h r e = x) :
    (dats m 0 c).arrAt 3 cfg0.N = target m c := by
  refine (dats m 0 c).arrAt_eq_of_covers 3 _ (by decide +kernel) fun t hf y => ?_
  have ht := lt20 t
  idx_vars y
  refine Eq.trans ?_ (result_at _ _ _ _ ⟨t.val / 5, by omega⟩ ⟨t.val % 5, by omega⟩ y0 y1 ?_ ?_).symm
  · blk_simp
    rw [after0_3]
    exact outs m c hQ hK t y0 y1
  all_goals
    blk_simp [idx t]
    dsimp only
    omega

end Cert.ContextCIdeal.Value
end
-- ==== Proof.RefContextC.lean ====
/- What the reference of the neighbourhood heads' context attention computes, entry by entry. -/
module

public import proofs.«01_k».proof.Proof.Gen.RefContextCIdeal.Run
public import proofs.«01_k».proof.Proof.Context

@[expose] public section

set_option maxRecDepth 16384

noncomputable section

namespace Cert.RefContextCIdeal.Value

open Cert.RefContextCIdeal Cert.RefContextCIdeal.Gen Cert.RefContextCIdeal.Facts Idealize.ShloMosaic Idealize.ShloMosaic.TcCoe Idealize.SL.Sem
open Cert.Softmax Cert.Context

/-- The queries, the keys and the values of the context rows, head by head. -/
def heads (Q : FVec Ideal S17408x10240 .bf16) : FVec Ideal S4x256x5x128 .f32 :=
  shapeCast _ (extf .f32 (extractStridedSlice S1024x640 ![16384, 2176] Q slices_S17408x10240_S1024x640_16384_2176) bitsLt_bf16_f32) shapeCasts_S1024x640_S4x256x5x128
def keys (K : FVec Ideal S17408x10240 .bf16) : FVec Ideal S4x256x5x128 .f32 :=
  shapeCast _ (extf .f32 (extractStridedSlice S1024x640 ![16384, 2816] K slices_S17408x10240_S1024x640_16384_2816) bitsLt_bf16_f32) shapeCasts_S1024x640_S4x256x5x128
def values (W : FVec Ideal S17408x10240 .bf16) : FVec Ideal S4x256x5x128 .f32 :=
  shapeCast _ (extf .f32 (extractStridedSlice S1024x640 ![16384, 3456] W slices_S17408x10240_S1024x640_16384_3456) bitsLt_bf16_f32) shapeCasts_S1024x640_S4x256x5x128

/-- The scores in natural logarithms. -/
def logits (q k : FVec Ideal S4x256x5x128 .f32) : FVec Ideal S4x5x256x256 .f32 :=
  mulf (Host.dotGeneral dot_S4x256x5x128_S4x256x5x128_S4x5x256x256_3_3_1_1_02_02 none q k)
    (broadcastInDim S4x5x256x256 ![] bcast_S_S4x5x256x256 (Host.log (constant S_ .f32 0x40000000#32)))

/-- A row's entry, at every key. -/
def along (a : FVec Ideal S4x5x256 .f32) : FVec Ideal S4x5x256x256 .f32 :=
  broadcastInDim S4x5x256x256 ![0, 1, 2, 3] bcast_S4x5x256x1_S4x5x256x256_0_1_2_3 (broadcastInDim S4x5x256x1 ![0, 1, 2] bcast_S4x5x256_S4x5x256x1_0_1_2 a)

/-- A row's largest score, that bounded below by the word the maximum starts from, and a row's sum. -/
def highest (s : FVec Ideal S4x5x256x256 .f32) : FVec Ideal S4x5x256 .f32 :=
  Host.reduce FloatOps.maximumf s (constant S_ .f32 0xFF800000#32) reducesTo_S4x5x256x256_S4x5x256_d3 h_S_
def peak (a : FVec Ideal S4x5x256 .f32) : FVec Ideal S4x5x256 .f32 :=
  maximumf (broadcastInDim S4x5x256 ![] bcast_S_S4x5x256 (constant S_ .f32 0xFF800000#32)) a
def total (s : FVec Ideal S4x5x256x256 .f32) : FVec Ideal S4x5x256 .f32 :=
  Host.reduceAdd s (constant S_ .f32 0x00000000#32) reducesTo_S4x5x256x256_S4x5x256_d3 h_S_

/-- The exponentials under the largest score, and their share of the row's sum. -/
def expo (s : FVec Ideal S4x5x256x256 .f32) : FVec Ideal S4x5x256x256 .f32 := Host.exp (subf s (along (peak (highest s))))
def share (s : FVec Ideal S4x5x256x256 .f32) : FVec Ideal S4x5x256x256 .f32 := Host.divf (expo s) (along (total (expo s)))

/-- The weighted values, and the array they are laid out in. -/
def blend (v : FVec Ideal S4x256x5x128 .f32) (p : FVec Ideal S4x5x256x256 .f32) : FVec Ideal S4x5x128x256 .f32 :=
  Host.dotGeneral dot_S4x256x5x128_S4x5x256x256_S4x5x128x256_1_3_3_2_02_01 none v p
def laid (o : FVec Ideal S4x5x128x256 .f32) : FVec Ideal S1024x640 .bf16 :=
  truncf .bf16 (shapeCast _ (transpose S4x256x5x128 [0, 3, 1, 2] o transposes_S4x5x128x256_S4x256x5x128_0_3_1_2) shapeCasts_S4x256x5x128_S1024x640) bitsLt_bf16_f32

/-- The reference's result. -/
def outcome (Q : FVec Ideal S17408x10240 .bf16) (K : FVec Ideal S17408x10240 .bf16) (W : FVec Ideal S17408x10240 .bf16) : FVec Ideal S1024x640 .bf16 :=
  laid (blend (values W) (share (logits (heads Q) (keys K))))

theorem heads_at (Q : FVec Ideal S17408x10240 .bf16) (b : Fin 4) (h : Fin 5) (r : Fin 256) (e : Fin 128) :
    heads Q (ix4 b r h e) = qC Q b h r e := by
  unfold qC ctx
  pointwise [heads]
  blk_ext

theorem keys_at (K : FVec Ideal S17408x10240 .bf16) (b : Fin 4) (h : Fin 5) (r : Fin 256) (e : Fin 128) :
    keys K (ix4 b r h e) = kC K b h r e := by
  unfold kC ctx
  pointwise [keys]
  blk_ext

theorem values_at (W : FVec Ideal S17408x10240 .bf16) (b : Fin 4) (h : Fin 5) (r : Fin 256) (e : Fin 128) :
    values W (ix4 b r h e) = vC W b h r e := by
  unfold vC ctx
  pointwise [values]
  blk_ext

theorem logits_at (q k : FVec Ideal S4x256x5x128 .f32) (b : Fin 4) (h : Fin 5) (r j : Fin 256) :
    logits q k (ix4 b h r j) = (∑ e : Fin 128, q (ix4 b r h e) * k (ix4 b j h e)) * (Real.log 2 : ℝ) := by
  pointwise [logits]
  rw [log_two_f32]

theorem highest_at (s : FVec Ideal S4x5x256x256 .f32) (b : Fin 4) (h : Fin 5) (r : Fin 256) :
    highest s (ix3 b h r) = Finset.univ.fold max (⊥ : EReal) (fun j : Fin 256 => s (ix4 b h r j)) := by
  pointwise [highest]
  rw [show Ideal.ofBits .f32 4286578688#32 = ⊥ from negInf_f32]

theorem peak_at (a : FVec Ideal S4x5x256 .f32) (i : S4x5x256.Idx) : peak a i = a i := by
  pointwise [peak]
  rw [show Ideal.ofBits .f32 4286578688#32 = ⊥ from negInf_f32]
  exact max_eq_right bot_le

theorem total_at (s : FVec Ideal S4x5x256x256 .f32) (b : Fin 4) (h : Fin 5) (r : Fin 256) :
    total s (ix3 b h r) = ∑ j : Fin 256, s (ix4 b h r j) := by
  pointwise [total]

theorem share_at (s : FVec Ideal S4x5x256x256 .f32) (b : Fin 4) (h : Fin 5) (r j : Fin 256) :
    share s (ix4 b h r j) = Ideal.div (expo s (ix4 b h r j)) (total (expo s) (ix3 b h r)) := by
  pointwise [share, along]

theorem expo_at (s : FVec Ideal S4x5x256x256 .f32) (b : Fin 4) (h : Fin 5) (r j : Fin 256) :
    expo s (ix4 b h r j) = Ideal.exp (s (ix4 b h r j) - peak (highest s) (ix3 b h r)) := by
  pointwise [expo, along]

theorem blend_at (v : FVec Ideal S4x256x5x128 .f32) (p : FVec Ideal S4x5x256x256 .f32) (b : Fin 4) (h : Fin 5) (r : Fin 256) (d : Fin 128) :
    blend v p (ix4 b h d r) = ∑ j : Fin 256, v (ix4 b j h d) * p (ix4 b h r j) := by
  pointwise [blend]

theorem laid_at (o : FVec Ideal S4x5x128x256 .f32) (r : Fin 1024) (c : Fin 640) :
    laid o (ix2 r c) = o (ix4 ⟨r / 256, by omega⟩ ⟨c / 128, by omega⟩ ⟨c % 128, by omega⟩ ⟨r % 256, by omega⟩) := by
  pointwise [laid]
  blk_ext

theorem out_at (Q : FVec Ideal S17408x10240 .bf16) (K : FVec Ideal S17408x10240 .bf16) (W : FVec Ideal S17408x10240 .bf16)
    (hQ : ∀ b h r e, ∃ x : ℝ, qC Q b h r e = x) (hK : ∀ b h r e, ∃ x : ℝ, kC K b h r e = x) :
    outcome Q K W = result 5 (qC Q) (kC K) (vC W) := by
  unfold outcome
  funext i
  idx_vars i
  refine Eq.trans ?_ (result_at _ _ _ _ ⟨i0 / 256, by omega⟩ ⟨i1 / 128, by omega⟩ ⟨i0 % 256, by omega⟩ ⟨i1 % 128, by omega⟩
    (by simp only [ix2]; omega) (by simp only [ix2]; omega)).symm
  rw [laid_at, blend_at]
  simp only [share_at, total_at, expo_at, peak_at, highest_at, values_at]
  refine softmax _ _ _ (hQ _ _ _) (fun j => hK _ _ j) _ fun j => ?_
  rw [logits_at]
  simp only [heads_at, keys_at]

end Cert.RefContextCIdeal.Value
end
-- ==== Proof.FiniteContextC.lean ====
/- A context attention's precondition, read: every query entry and every key entry of a context row is a real number. -/
module

public import proofs.«01_k».proof.Pre_finite_context_c
public import proofs.«01_k».proof.Proof.Finite
public import proofs.«01_k».proof.Proof.Context
public import Idealize.ShloMosaic.Lib.ReduceAll
public import Idealize.ShloMosaic.Lib.Affine
public import Idealize.ShloMosaic.Lib.Pipeline.ValueKit

@[expose] public section

noncomputable section

namespace Cert.Pre_finite_context_c

open Idealize.ShloMosaic Facts Cert.Context
open Cert.Pre_finite_scores (both inf_bf16 real_of_abs_lt)

/-- The side conditions of the precondition's operations. -/
theorem facts : Cert.Pre_finite_context_c.Facts where
  slices_S17408x10240_S1024x1280_16384_2176 := by decide
  bcast_S_S1024x1280 := by decide
  reducesTo_S1024x1280_S_d0_1 := by decide
  h_S_ := by decide

variable [Facts] (P : FVec Ideal S17408x10240 .bf16)

theorem entry_real (h : fn P = fun _ => 1#1) (r : Fin 1024) (e : Fin 1280) : ∃ x : ℝ, P (ix2 ⟨16384 + r, by omega⟩ ⟨2176 + e, by omega⟩) = (x : EReal) := by
  have e' := congrFun h (fun a => a.elim0)
  dsimp only [fn] at e'
  haveI : Subsingleton S_.Idx := ⟨fun a b => funext fun i => i.elim0⟩
  refine real_of_abs_lt _ ?_
  rw [← inf_bf16]
  refine Eq.trans ?_ (Host.reduce_andi_all _ _ _ _ _ e' (ix2 r e))
  pointwise []
  rfl

theorem queries (h : fn P = fun _ => 1#1) b l r e : ∃ x : ℝ, qC P b l r e = x :=
  ctx_real P _ l (fun r e => by
    obtain ⟨x, hx⟩ := entry_real P h r ⟨128 * l + e, by omega⟩
    exact ⟨x, (congrArg P (congrArg₂ ix2 rfl (Fin.ext (by simp only; omega)))).trans hx⟩) b r e

theorem keys (h : fn P = fun _ => 1#1) b l r e : ∃ x : ℝ, kC P b l r e = x :=
  ctx_real P _ l (fun r e => by
    obtain ⟨x, hx⟩ := entry_real P h r ⟨640 + 128 * l + e, by omega⟩
    exact ⟨x, (congrArg P (congrArg₂ ix2 rfl (Fin.ext (by simp only; omega)))).trans hx⟩) b r e

end Cert.Pre_finite_context_c
end
-- ==== Proof.PairContext.lean ====
/- The three context attention calls write what their references compute. -/
module

public import proofs.«01_k».proof.Defs
public import proofs.«01_k».proof.Proof.ContextA
public import proofs.«01_k».proof.Proof.RefContextA
public import proofs.«01_k».proof.Proof.FiniteContextA
public import proofs.«01_k».proof.Proof.ContextB
public import proofs.«01_k».proof.Proof.RefContextB
public import proofs.«01_k».proof.Proof.FiniteContextB
public import proofs.«01_k».proof.Proof.ContextC
public import proofs.«01_k».proof.Proof.RefContextC
public import proofs.«01_k».proof.Proof.FiniteContextC

@[expose] public section

set_option maxRecDepth 16384

noncomputable section

namespace Cert.Pairs

open Idealize.ShloMosaic Idealize.SL.Sem

set_option maxHeartbeats 4000000 in
/-- The grouped-query heads over the context rows. -/
theorem context_a [Cert.Pre_finite_context_a.Facts] : Cert.algebraic_ContextAIdeal_RefContextAIdeal_pre_finite_context_a := by
  pair_intro
  · run_from Cert.ContextAIdeal.Gen.run_main m g
  · run_from Cert.RefContextAIdeal.Value.run m' g'
    have hQ := Cert.Pre_finite_context_a.queries _ _ _ (hpre c)
    have hK := Cert.Pre_finite_context_a.keys _ _ _ (hpre c)
    have h0 := (hagree c).1
    have h1 := (hagree c).2.1
    have h2 := (hagree c).2.2
    refine Eq.trans (b := Cert.RefContextAIdeal.Value.outcome (m' ((c.tc : Thread Cert.RefContextAIdeal.nD Cert.RefContextAIdeal.τ).loc Cert.RefContextAIdeal.main_arg0)) (m' ((c.tc : Thread Cert.RefContextAIdeal.nD Cert.RefContextAIdeal.τ).loc Cert.RefContextAIdeal.main_arg1)) (m' ((c.tc : Thread Cert.RefContextAIdeal.nD Cert.RefContextAIdeal.τ).loc Cert.RefContextAIdeal.main_arg2))) rfl ?_
    refine (Cert.RefContextAIdeal.Value.out_at _ _ _ ?_ ?_).trans ?_
    · rw [h0]; exact hQ
    · rw [h1]; exact hK
    · rw [h0, h1, h2]; exact (Cert.ContextAIdeal.Value.final (m := m) c hQ hK).symm

set_option maxHeartbeats 4000000 in
/-- The low-rank heads over the context rows. -/
theorem context_b [Cert.Pre_finite_context_b.Facts] : Cert.algebraic_ContextBIdeal_RefContextBIdeal_pre_finite_context_b := by
  pair_intro
  · run_from Cert.ContextBIdeal.Gen.run_main m g
  · run_from Cert.RefContextBIdeal.Value.run m' g'
    have hQ := Cert.Pre_finite_context_b.queries _ _ _ (hpre c)
    have hK := Cert.Pre_finite_context_b.keys _ _ _ (hpre c)
    refine Eq.trans (b := Cert.RefContextBIdeal.Value.outcome (m ((c.tc : Thread Cert.ContextBIdeal.nD Cert.ContextBIdeal.τ).loc Cert.ContextBIdeal.main_arg0)) (m ((c.tc : Thread Cert.ContextBIdeal.nD Cert.ContextBIdeal.τ).loc Cert.ContextBIdeal.main_arg1)) (m ((c.tc : Thread Cert.ContextBIdeal.nD Cert.ContextBIdeal.τ).loc Cert.ContextBIdeal.main_arg2))) rfl ?_
    refine (Cert.RefContextBIdeal.Value.out_at _ _ _ hQ hK).trans ?_
    exact (Cert.ContextBIdeal.Value.final (m := m) c hQ hK).symm

set_option maxHeartbeats 4000000 in
/-- The neighbourhood heads over the context rows. -/
theorem context_c [Cert.Pre_finite_context_c.Facts] : Cert.algebraic_ContextCIdeal_RefContextCIdeal_pre_finite_context_c := by
  pair_intro
  · run_from Cert.ContextCIdeal.Gen.run_main m g
  · run_from Cert.RefContextCIdeal.Value.run m' g'
    have hQ := Cert.Pre_finite_context_c.queries _ (hpre c)
    have hK := Cert.Pre_finite_context_c.keys _ (hpre c)
    refine Eq.trans (b := Cert.RefContextCIdeal.Value.outcome (m ((c.tc : Thread Cert.ContextCIdeal.nD Cert.ContextCIdeal.τ).loc Cert.ContextCIdeal.main_arg0)) (m ((c.tc : Thread Cert.ContextCIdeal.nD Cert.ContextCIdeal.τ).loc Cert.ContextCIdeal.main_arg0)) (m ((c.tc : Thread Cert.ContextCIdeal.nD Cert.ContextCIdeal.τ).loc Cert.ContextCIdeal.main_arg0))) rfl ?_
    refine (Cert.RefContextCIdeal.Value.out_at _ _ _ hQ hK).trans ?_
    exact (Cert.ContextCIdeal.Value.final (m := m) c hQ hK).symm

end Cert.Pairs
end
-- ==== Proof.Modulate.lean ====
/- The modulations: the conditions through their sigmoid and the layers' weights, and what the split into high and low parts adds. -/
module

public import Idealize.ShloMosaic.Lib.Pipeline.ValueKit
public import proofs.«01_k».proof.Proof.Stream

@[expose] public section

noncomputable section

namespace Cert.Modulate

open Idealize.ShloMosaic

/-- Row `r` of the conditions: the four batch entries', the contexts', and rows of zeros. -/
def condition (C : FVec Ideal ⟨2, ![4, 2048]⟩ .f32) (D : FVec Ideal ⟨1, ![2048]⟩ .f32) (r : Fin 8) (e : Fin 2048) : EReal :=
  if h : r.val < 4 then C (ix2 ⟨r, h⟩ e) else if _ : r.val - 4 < 1 then D (ix1 e) else 0

/-- A condition times its sigmoid. -/
def swish (C : FVec Ideal ⟨2, ![4, 2048]⟩ .f32) (D : FVec Ideal ⟨1, ![2048]⟩ .f32) (r : Fin 8) (e : Fin 2048) : EReal :=
  condition C D r e * Ideal.logistic (condition C D r e)

/-- Layer `l`'s modulation in column `n` for row `r` of the conditions. -/
def entry (C : FVec Ideal ⟨2, ![4, 2048]⟩ .f32) (D : FVec Ideal ⟨1, ![2048]⟩ .f32) (W : FVec Ideal ⟨3, ![2, 2048, 12288]⟩ .f32)
    (B : FVec Ideal ⟨2, ![2, 12288]⟩ .f32) (l : Fin 2) (r : Fin 8) (n : Fin 12288) : EReal :=
  ∑ e : Fin 2048, swish C D r e * W (ix3 l e n) + B (ix2 l n)

/-- The table of modulations. -/
def table (C : FVec Ideal ⟨2, ![4, 2048]⟩ .f32) (D : FVec Ideal ⟨1, ![2048]⟩ .f32) (W : FVec Ideal ⟨3, ![2, 2048, 12288]⟩ .f32)
    (B : FVec Ideal ⟨2, ![2, 12288]⟩ .f32) : FVec Ideal ⟨3, ![2, 8, 12288]⟩ .f32 := fun i => entry C D W B (i 0) (i 1) (i 2)

theorem table_at (C : FVec Ideal ⟨2, ![4, 2048]⟩ .f32) (D : FVec Ideal ⟨1, ![2048]⟩ .f32) (W : FVec Ideal ⟨3, ![2, 2048, 12288]⟩ .f32)
    (B : FVec Ideal ⟨2, ![2, 12288]⟩ .f32) (i : (⟨3, ![2, 8, 12288]⟩ : Shape).Idx) (l : Fin 2) (r : Fin 8) (n : Fin 12288)
    (h0 : (i 0).val = l.val) (h1 : (i 1).val = r.val) (h2 : (i 2).val = n.val) : table C D W B i = entry C D W B l r n := by
  have e0 : i 0 = l := Fin.ext h0
  have e1 : i 1 = r := Fin.ext h1
  have e2 : i 2 = n := Fin.ext h2
  unfold table
  exact congr (congrArg₂ (entry C D W B) e0 e1) e2

theorem logistic_real (x : ℝ) : ∃ y : ℝ, Ideal.logistic (x : EReal) = y := ⟨_, Ideal.logistic_coe x⟩

theorem condition_real (C : FVec Ideal ⟨2, ![4, 2048]⟩ .f32) (D : FVec Ideal ⟨1, ![2048]⟩ .f32) (hC : ∀ i, ∃ x : ℝ, C i = x) (hD : ∀ i, ∃ x : ℝ, D i = x)
    (r : Fin 8) (e : Fin 2048) : ∃ x : ℝ, condition C D r e = x := by
  unfold condition
  split
  · exact hC _
  · split
    · exact hD _
    · exact ⟨0, rfl⟩

theorem swish_real (C : FVec Ideal ⟨2, ![4, 2048]⟩ .f32) (D : FVec Ideal ⟨1, ![2048]⟩ .f32) (hC : ∀ i, ∃ x : ℝ, C i = x) (hD : ∀ i, ∃ x : ℝ, D i = x)
    (r : Fin 8) (e : Fin 2048) : ∃ x : ℝ, swish C D r e = x := by
  obtain ⟨x, hx⟩ := condition_real C D hC hD r e
  obtain ⟨y, hy⟩ := logistic_real x
  exact ⟨x * y, by unfold swish; rw [hx, hy, EReal.coe_mul]⟩

/-- A real number minus itself, as a factor. -/
theorem sub_self_real (x : EReal) (h : ∃ y : ℝ, x = y) : x - x = 0 := by
  obtain ⟨y, rfl⟩ := h
  rw [← EReal.coe_sub, sub_self, EReal.coe_zero]

/-- The products of the high parts, of the low with the high and of the high with the low: for real numbers, the plain product. -/
theorem three_products (a w : Fin 2048 → EReal) (ha : ∀ e, ∃ x : ℝ, a e = x) (hw : ∀ e, ∃ x : ℝ, w e = x) :
    ∑ e, a e * w e + ∑ e, (a e - a e) * w e + ∑ e, a e * (w e - w e) = ∑ e, a e * w e := by
  simp only [sub_self_real _ (ha _), sub_self_real _ (hw _), zero_mul, mul_zero, Finset.sum_const_zero, add_zero]

end Cert.Modulate
end
-- ==== Proof.Modulation.lean ====
/- The table that the modulation call leaves. -/
module

public import proofs.«01_k».proof.Proof.Gen.ModulationIdeal.Value
public import proofs.«01_k».proof.Proof.Modulate
public import Idealize.ShloMosaic.Lib.Pipeline.ReadBack

@[expose] public section

set_option maxRecDepth 16384

noncomputable section

namespace Cert.ModulationIdeal.Value

open Cert.ModulationIdeal Cert.ModulationIdeal.Gen Cert.ModulationIdeal.Facts Idealize.ShloMosaic Idealize.ShloMosaic.TcCoe Idealize.SL.Sem
open Idealize.ShloMosaic.Pipeline (Dat)
open Cert.Modulate

variable (m : (ℓ : Loc nD τ sig) → Buf (Elt Ideal) ℓ)

/-- A block of conditions times its sigmoid, and the low part that rounding leaves. -/
def high (a : FVec Ideal S8x2048 .f32) : FVec Ideal S8x2048 .f32 := mulf (shapeCast S8x2048 a shapeCasts_S8x2048_S8x2048) (logistic (shapeCast S8x2048 a shapeCasts_S8x2048_S8x2048))
def rest (a : FVec Ideal S8x2048 .f32) : FVec Ideal S8x2048 .bf16 :=
  truncf .bf16 (subf a (extf .f32 (truncf .bf16 a bitsLt_bf16_f32) bitsLt_bf16_f32)) bitsLt_bf16_f32

/-- The block of weights, and the low part that rounding leaves. -/
def plane (w : FVec Ideal S1x2048x512 .f32) : FVec Ideal S2048x512 .f32 := shapeCast S2048x512 w shapeCasts_S1x2048x512_S2048x512
def under (w : FVec Ideal S2048x512 .f32) : FVec Ideal S2048x512 .bf16 :=
  truncf .bf16 (subf w (extf .f32 (truncf .bf16 w bitsLt_bf16_f32) bitsLt_bf16_f32)) bitsLt_bf16_f32

/-- The two stacked products with the high weights. -/
def both (a : FVec Ideal S8x2048 .f32) (w : FVec Ideal S2048x512 .f32) : FVec Ideal S16x512 .f32 :=
  matmul dot_S16x2048_S2048x512_S16x512_1_0_0_1_n_n none
    (concatenate S16x2048 0 [⟨S8x2048, truncf .bf16 a bitsLt_bf16_f32⟩, ⟨S8x2048, rest a⟩] concatenates_S8x2048_S8x2048_S16x2048_d0)
    (truncf .bf16 w bitsLt_bf16_f32) (constant S16x512 .f32 0x00000000#32)

/-- The product of the high conditions with the low weights. -/
def third (a : FVec Ideal S8x2048 .f32) (w : FVec Ideal S2048x512 .f32) : FVec Ideal S8x512 .f32 :=
  matmul dot_S8x2048_S2048x512_S8x512_1_0_0_1_n_n none (truncf .bf16 a bitsLt_bf16_f32) (under w) (constant S8x512 .f32 0x00000000#32)

/-- The products' sum with the bias. -/
def sum (p : FVec Ideal S16x512 .f32) (q : FVec Ideal S8x512 .f32) (b : FVec Ideal S1x1x512 .f32) : FVec Ideal S1x8x512 .f32 :=
  shapeCast S1x8x512 (addf (addf (addf (extractStridedSlice S8x512 ![0, 0] p slices_S16x512_o0_0_S8x512) (extractStridedSlice S8x512 ![8, 0] p slices_S16x512_o8_0_S8x512)) q)
    (broadcastTo S8x512 (shapeCast S1x512 b shapeCasts_S1x1x512_S1x512) broadcasts_S1x512_S8x512)) shapeCasts_S8x512_S1x8x512

theorem high_at (a : FVec Ideal S8x2048 .f32) (r : Fin 8) (e : Fin 2048) : high a (ix2 r e) = a (ix2 r e) * Ideal.logistic (a (ix2 r e)) := by
  pointwise [high]

theorem rest_at (a : FVec Ideal S8x2048 .f32) (r : Fin 8) (e : Fin 2048) : rest a (ix2 r e) = a (ix2 r e) - a (ix2 r e) := by
  pointwise [rest]

theorem plane_at (w : FVec Ideal S1x2048x512 .f32) (e : Fin 2048) (n : Fin 512) : plane w (ix2 e n) = w (ix3 0 e n) := by
  pointwise [plane]

theorem under_at (w : FVec Ideal S2048x512 .f32) (e : Fin 2048) (n : Fin 512) : under w (ix2 e n) = w (ix2 e n) - w (ix2 e n) := by
  pointwise [under]

theorem both_at (a : FVec Ideal S8x2048 .f32) (w : FVec Ideal S2048x512 .f32) (r : Fin 16) (n : Fin 512) :
    both a w (ix2 r n) = ∑ e : Fin 2048, (if h : r.val < 8 then a (ix2 ⟨r, h⟩ e) else rest a (ix2 ⟨r - 8, by omega⟩ e)) * w (ix2 e n) := by
  pointwise [both]

theorem third_at (a : FVec Ideal S8x2048 .f32) (w : FVec Ideal S2048x512 .f32) (r : Fin 8) (n : Fin 512) :
    third a w (ix2 r n) = ∑ e : Fin 2048, a (ix2 r e) * under w (ix2 e n) := by
  pointwise [third]

theorem sum_at (p : FVec Ideal S16x512 .f32) (q : FVec Ideal S8x512 .f32) (b : FVec Ideal S1x1x512 .f32) (r : Fin 8) (n : Fin 512) :
    sum p q b (ix3 0 r n) = p (ix2 ⟨r, by omega⟩ n) + p (ix2 ⟨8 + r, by omega⟩ n) + q (ix2 r n) + b (ix3 0 0 n) := by
  pointwise [sum]

theorem pay_eq (a : FVec Ideal S8x2048 .f32) (w : FVec Ideal S1x2048x512 .f32) (b : FVec Ideal S1x1x512 .f32) :
    k0_pay1 (F := Ideal) a w b = sum (both (high a) (plane w)) (third (high a) (plane w)) b := rfl

/-- One block's entry, from real conditions and weights. -/
theorem pay_at (a : FVec Ideal S8x2048 .f32) (w : FVec Ideal S1x2048x512 .f32) (b : FVec Ideal S1x1x512 .f32) (r : Fin 8) (n : Fin 512)
    (ha : ∀ e, ∃ x : ℝ, a (ix2 r e) * Ideal.logistic (a (ix2 r e)) = x) (hw : ∀ e, ∃ x : ℝ, w (ix3 0 e n) = x) :
    k0_pay1 (F := Ideal) a w b (ix3 0 r n) = ∑ e : Fin 2048, a (ix2 r e) * Ideal.logistic (a (ix2 r e)) * w (ix3 0 e n) + b (ix3 0 0 n) := by
  rw [pay_eq, sum_at, both_at, both_at, third_at]
  refine congrArg (· + b (ix3 0 0 n)) (Eq.trans ?_ (three_products _ _ ha hw))
  refine congrArg₂ (· + ·) (congrArg₂ (· + ·) ?_ ?_) ?_ <;> refine Finset.sum_congr rfl fun e _ => ?_
  · rw [dif_pos r.isLt, high_at, plane_at]
  · rw [dif_neg (by simp only; omega), rest_at, plane_at]
    refine congrArg (· * w (ix3 0 e n)) ?_
    have h8 : (⟨8 + r.val - 8, by omega⟩ : Fin 8) = r := Fin.ext (by simp only; omega)
    rw [h8, high_at]
  · rw [high_at, under_at, plane_at]

/-- The grid: point `t` is layer `t / 24`, block `t % 24` of columns. -/
theorem idx : ∀ t : Fin cfg0.N, win0_0.index t = ![0, 0] ∧ win0_1.index t = ![t.val / 24, 0, t.val % 24]
    ∧ win0_2.index t = ![t.val / 24, 0, t.val % 24] ∧ win0_3.index t = ![t.val / 24, 0, t.val % 24] :=
  (by decide +kernel : ∀ t : Fin grid0.N, _)

theorem lt48 (t : Fin cfg0.N) : t.val < 48 := lt_of_lt_of_eq t.isLt (by decide +kernel)

/-- The arguments. -/
abbrev argC (c : Dev nD) : FVec Ideal ⟨2, ![4, 2048]⟩ .f32 := m ((c : Thread nD τ).loc main_arg0)
abbrev argD (c : Dev nD) : FVec Ideal ⟨1, ![2048]⟩ .f32 := m ((c : Thread nD τ).loc main_arg1)
abbrev argW (c : Dev nD) : FVec Ideal ⟨3, ![2, 2048, 12288]⟩ .f32 := m ((c : Thread nD τ).loc main_arg2)
abbrev argB (c : Dev nD) : FVec Ideal ⟨2, ![2, 12288]⟩ .f32 := m ((c : Thread nD τ).loc main_arg3)

theorem v2_at (c : Dev nD) (r : Fin 8) (e : Fin 2048) : (V m c main_v2 : FVec Ideal S8x2048 .f32) (ix2 r e) = condition (argC m c) (argD m c) r e := by
  have h0 : (V m c main_v2 : FVec Ideal S8x2048 .f32) = concatenate S8x2048 0 [⟨S4x2048, m ((c : Thread nD τ).loc main_arg0)⟩,
      ⟨S1x2048, broadcastInDim S1x2048 ![1] bcast_S2048_S1x2048_1 (m ((c : Thread nD τ).loc main_arg1))⟩,
      ⟨S3x2048, broadcastInDim S3x2048 ![] bcast_S_S3x2048 (constant (F := Ideal) S_ .f32 0x00000000#32)⟩] concatenates_S4x2048_S1x2048_S3x2048_S8x2048_d0 := rfl
  rw [h0]
  unfold condition
  pointwise []

theorem lifted_at (B : FVec Ideal S2x12288 .f32) (l : Fin 2) (n : Fin 12288) :
    (shapeCast S2x1x12288 B shapeCasts_S2x12288_S2x1x12288 : FVec Ideal S2x1x12288 .f32) (ix3 l 0 n) = B (ix2 l n) := by
  pointwise []

theorem v3_at (c : Dev nD) (l : Fin 2) (n : Fin 12288) : (V m c main_v3 : FVec Ideal S2x1x12288 .f32) (ix3 l 0 n) = argB m c (ix2 l n) := by
  have h0 : (V m c main_v3 : FVec Ideal S2x1x12288 .f32) = shapeCast S2x1x12288 (m ((c : Thread nD τ).loc main_arg3)) shapeCasts_S2x12288_S2x1x12288 := rfl
  rw [h0]
  exact lifted_at _ l n

theorem x0_at (c : Dev nD) (t : Fin cfg0.N) (r : Fin 8) (e : Fin 2048) :
    (iblk m c 0 t : FVec Ideal S8x2048 .f32) (ix2 r e) = condition (argC m c) (argD m c) r e := by
  refine Eq.trans ?_ (v2_at m c r e)
  blk_point [iblk, idx t]

theorem x1_at (c : Dev nD) (t : Fin cfg0.N) (e : Fin 2048) (n : Fin 512) :
    (iblk m c 1 t : FVec Ideal S1x2048x512 .f32) (ix3 0 e n) = argW m c (ix3 ⟨t.val / 24, by have := lt48 t; omega⟩ e ⟨512 * (t.val % 24) + n, by omega⟩) := by
  have := lt48 t
  unfold argW
  rw [← V_main_arg2 m c]
  blk_point [iblk, idx t]

theorem x2_at (c : Dev nD) (t : Fin cfg0.N) (n : Fin 512) :
    (iblk m c 2 t : FVec Ideal S1x1x512 .f32) (ix3 0 0 n) = argB m c (ix2 ⟨t.val / 24, by have := lt48 t; omega⟩ ⟨512 * (t.val % 24) + n, by omega⟩) := by
  have := lt48 t
  refine Eq.trans ?_ (v3_at m c _ _)
  blk_point [iblk, idx t]

theorem ld0 (x : Vec Ideal S8x2048 .f32) : (View.ld x r0_0 : Vec Ideal S8x2048 .f32) = x := by
  funext y
  idx_vars y
  exact congrArg x (funext fun a => Fin.ext (by fin_cases a <;> simp [LoadRect.idx, Rect.unit]))

theorem ld1 (x : Vec Ideal S1x2048x512 .f32) : (View.ld x r0_1 : Vec Ideal S1x2048x512 .f32) = x := by
  funext y
  idx_vars y
  exact congrArg x (funext fun a => Fin.ext (by fin_cases a <;> simp [LoadRect.idx, Rect.unit]))

theorem ld2 (x : Vec Ideal S1x1x512 .f32) : (View.ld x r0_2 : Vec Ideal S1x1x512 .f32) = x := by
  funext y
  idx_vars y
  exact congrArg x (funext fun a => Fin.ext (by fin_cases a <;> simp [LoadRect.idx, Rect.unit]))

/-- A grid point's block of the table. -/
theorem block_at (c : Dev nD) (hC : ∀ i, ∃ x : ℝ, argC m c i = x) (hD : ∀ i, ∃ x : ℝ, argD m c i = x) (hW : ∀ i, ∃ x : ℝ, argW m c i = x)
    (t : Fin cfg0.N) (r : Fin 8) (n : Fin 512) :
    k0_pay1 (F := Ideal) (View.ld (iblk m c 0 t) r0_0) (View.ld (iblk m c 1 t) r0_1) (View.ld (iblk m c 2 t) r0_2) (ix3 0 r n)
      = entry (argC m c) (argD m c) (argW m c) (argB m c) ⟨t.val / 24, by have := lt48 t; omega⟩ r ⟨512 * (t.val % 24) + n, by omega⟩ := by
  have e0 := fun e => x0_at m c t r e
  have e1 := fun e => x1_at m c t e n
  rw [ld0, ld1, ld2]
  refine (pay_at _ _ _ r n ?_ ?_).trans (congrArg₂ (· + ·) (Finset.sum_congr rfl fun e _ => ?_) (x2_at m c t n))
  · intro e
    rw [e0 e]
    exact swish_real _ _ hC hD r e
  · intro e
    rw [e1 e]
    exact hW _
  · rw [e0 e, e1 e]
    rfl

theorem outs (c : Dev nD) (hC : ∀ i, ∃ x : ℝ, argC m c i = x) (hD : ∀ i, ∃ x : ℝ, argD m c i = x) (hW : ∀ i, ∃ x : ℝ, argW m c i = x)
    (t : Fin cfg0.N) (z : Fin 1) (r : Fin 8) (n : Fin 512) : out0_3 (iblk m c 0 t) (iblk m c 1 t) (iblk m c 2 t) (ix3 z r n)
      = entry (argC m c) (argD m c) (argW m c) (argB m c) ⟨t.val / 24, by have := lt48 t; omega⟩ r ⟨512 * (t.val % 24) + n, by omega⟩ := by
  unfold out0_3
  canon_tiles x h
  idx_vars x
  obtain rfl : r = x1 := Fin.ext h1
  obtain rfl : n = x2 := Fin.ext h2
  obtain rfl : x0 = 0 := Subsingleton.elim _ _
  exact block_at m c hC hD hW t r n

/-- The table, from finite conditions and weights. -/
theorem final (c : Dev nD) (hC : ∀ i, ∃ x : ℝ, argC m c i = x) (hD : ∀ i, ∃ x : ℝ, argD m c i = x) (hW : ∀ i, ∃ x : ℝ, argW m c i = x) :
    (dats m 0 c).arrAt 3 cfg0.N = table (argC m c) (argD m c) (argW m c) (argB m c) := by
  refine (dats m 0 c).arrAt_eq_of_covers 3 _ (by decide +kernel) fun t hf y => ?_
  have ht := lt48 t
  idx_vars y
  refine Eq.trans ?_ (table_at _ _ _ _ _ ⟨t.val / 24, by omega⟩ y1 ⟨512 * (t.val % 24) + y2.val, by omega⟩ ?_ ?_ ?_).symm
  · blk_simp
    rw [after0_3]
    exact outs m c hC hD hW t y0 y1 y2
  all_goals
    blk_simp [idx t]
    try dsimp only
    try omega

end Cert.ModulationIdeal.Value
end
-- ==== Proof.RefModulation.lean ====
/- What the reference of the modulations computes, entry by entry. -/
module

public import proofs.«01_k».proof.Proof.Gen.RefModulationIdeal.Run
public import proofs.«01_k».proof.Proof.Modulate

@[expose] public section

set_option maxRecDepth 16384

noncomputable section

namespace Cert.RefModulationIdeal.Value

open Cert.RefModulationIdeal Cert.RefModulationIdeal.Gen Cert.RefModulationIdeal.Facts Idealize.ShloMosaic Idealize.ShloMosaic.TcCoe Idealize.SL.Sem
open Cert.Modulate

/-- The conditions' rows. -/
def rows (C : FVec Ideal S4x2048 .f32) (D : FVec Ideal S2048 .f32) : FVec Ideal S8x2048 .f32 :=
  concatenate S8x2048 0 [⟨S4x2048, C⟩, ⟨S1x2048, broadcastInDim S1x2048 ![1] bcast_S2048_S1x2048_1 D⟩,
    ⟨S3x2048, broadcastInDim S3x2048 ![] bcast_S_S3x2048 (constant (F := Ideal) S_ .f32 0x00000000#32)⟩] concatenates_S4x2048_S1x2048_S3x2048_S8x2048_d0

/-- The conditions times their sigmoids. -/
def gated (x : FVec Ideal S8x2048 .f32) : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- Both layers' products with the weights, the layers first, and the bias. -/
def biased (x : FVec Ideal S8x2048 .f32) (W : FVec Ideal S2x2048x12288 .f32) (B : FVec Ideal S2x12288 .f32) : FVec Ideal S2x8x12288 .f32 :=
  addf (transpose S2x8x12288 [0, 2, 1] (Host.dotGeneral dot_S2x2048x12288_S8x2048_S2x12288x8_1_1_02_0_n_n none W x) transposes_S2x12288x8_S2x8x12288_0_2_1)
    (broadcastInDim S2x8x12288 ![0, 1, 2] bcast_S2x1x12288_S2x8x12288_0_1_2 (broadcastInDim S2x1x12288 ![0, 2] bcast_S2x12288_S2x1x12288_0_2 B))

/-- The reference's result. -/
def outcome (C : FVec Ideal S4x2048 .f32) (D : FVec Ideal S2048 .f32) (W : FVec Ideal S2x2048x12288 .f32) (B : FVec Ideal S2x12288 .f32) : FVec Ideal S2x8x12288 .f32 :=
  biased (gated (rows C D)) W B

theorem rows_at (C : FVec Ideal S4x2048 .f32) (D : FVec Ideal S2048 .f32) (r : Fin 8) (e : Fin 2048) : rows C D (ix2 r e) = condition C D r e := by
  unfold condition
  pointwise [rows]

theorem gated_at (x : FVec Ideal S8x2048 .f32) (r : Fin 8) (e : Fin 2048) : gated x (ix2 r e) = x (ix2 r e) * Ideal.logistic (x (ix2 r e)) := by
  pointwise [gated]
  rfl

theorem biased_at (x : FVec Ideal S8x2048 .f32) (W : FVec Ideal S2x2048x12288 .f32) (B : FVec Ideal S2x12288 .f32) (l : Fin 2) (r : Fin 8) (n : Fin 12288) :
    biased x W B (ix3 l r n) = ∑ e : Fin 2048, W (ix3 l e n) * x (ix2 r e) + B (ix2 l n) := by
  pointwise [biased]

theorem out_at (C : FVec Ideal S4x2048 .f32) (D : FVec Ideal S2048 .f32) (W : FVec Ideal S2x2048x12288 .f32) (B : FVec Ideal S2x12288 .f32) :
    outcome C D W B = table C D W B := by
  unfold outcome
  funext i
  idx_vars i
  rw [biased_at, table_at _ _ _ _ _ i0 i1 i2 rfl rfl rfl]
  unfold entry swish
  refine congrArg (· + B (ix2 i0 i2)) (Finset.sum_congr rfl fun e _ => ?_)
  rw [gated_at, rows_at, mul_comm]

end Cert.RefModulationIdeal.Value
end
-- ==== Proof.FiniteModulation.lean ====
/- The modulations' precondition, read: every condition and every weight is a real number. -/
module

public import proofs.«01_k».proof.Pre_finite_modulation
public import proofs.«01_k».proof.Proof.Finite
public import Idealize.ShloMosaic.Lib.ReduceAll
public import Idealize.ShloMosaic.Lib.Affine
public import Idealize.ShloMosaic.Lib.Pipeline.ValueKit

@[expose] public section

noncomputable section

namespace Cert.Pre_finite_modulation

open Idealize.ShloMosaic Facts
open Cert.Pre_finite_scores (both real_of_abs_lt)

/-- The side conditions of the precondition's operations. -/
theorem facts : Cert.Pre_finite_modulation.Facts where
  bcast_S_S4x2048 := by decide
  reducesTo_S4x2048_S_d0_1 := by decide
  h_S_ := by decide
  bcast_S_S2048 := by decide
  reducesTo_S2048_S_d0 := by decide
  bcast_S_S2x2048x12288 := by decide
  reducesTo_S2x2048x12288_S_d0_1_2 := by decide

/-- The word a magnitude is compared with. -/
theorem inf_f32 : Ideal.ofBits .f32 0x7F800000#32 = ⊤ := by simp [Ideal.ofBits, Ideal.ieee]

variable [Facts] (C : FVec Ideal S4x2048 .f32) (D : FVec Ideal S2048 .f32) (W : FVec Ideal S2x2048x12288 .f32) (B : FVec Ideal S2x12288 .f32)

theorem split (h : fn C D W B = fun _ => 1#1) :
    ((∀ i, cmpf .olt (Host.absf C) (broadcastInDim S4x2048 ![] bcast_S_S4x2048 (constant S_ .f32 0x7F800000#32)) i = 1#1)
      ∧ ∀ i, cmpf .olt (Host.absf D) (broadcastInDim S2048 ![] bcast_S_S2048 (constant S_ .f32 0x7F800000#32)) i = 1#1)
      ∧ ∀ i, cmpf .olt (Host.absf W) (broadcastInDim S2x2048x12288 ![] bcast_S_S2x2048x12288 (constant S_ .f32 0x7F800000#32)) i = 1#1 := by
  have e := congrFun h (fun a => a.elim0)
  dsimp only [fn] at e
  have e' := both _ _ e
  have e'' := both _ _ e'.1
  haveI : Subsingleton S_.Idx := ⟨fun a b => funext fun i => i.elim0⟩
  exact ⟨⟨Host.reduce_andi_all _ _ _ _ _ e''.1, Host.reduce_andi_all _ _ _ _ _ e''.2⟩, Host.reduce_andi_all _ _ _ _ _ e'.2⟩

theorem conditions (h : fn C D W B = fun _ => 1#1) (i : S4x2048.Idx) : ∃ x : ℝ, C i = (x : EReal) := by
  refine real_of_abs_lt _ ?_
  rw [← inf_f32]
  exact (split C D W B h).1.1 i

theorem context (h : fn C D W B = fun _ => 1#1) (i : S2048.Idx) : ∃ x : ℝ, D i = (x : EReal) := by
  refine real_of_abs_lt _ ?_
  rw [← inf_f32]
  exact (split C D W B h).1.2 i

theorem weights (h : fn C D W B = fun _ => 1#1) (i : S2x2048x12288.Idx) : ∃ x : ℝ, W i = (x : EReal) := by
  refine real_of_abs_lt _ ?_
  rw [← inf_f32]
  exact (split C D W B h).2 i

end Cert.Pre_finite_modulation
end
-- ==== Proof.PairModulation.lean ====
/- The modulation call writes what its reference computes. -/
module

public import proofs.«01_k».proof.Defs
public import proofs.«01_k».proof.Proof.Modulation
public import proofs.«01_k».proof.Proof.RefModulation
public import proofs.«01_k».proof.Proof.FiniteModulation

@[expose] public section

set_option maxRecDepth 16384
set_option maxHeartbeats 4000000

noncomputable section

namespace Cert.Pairs

open Idealize.ShloMosaic Idealize.SL.Sem

theorem modulation [Cert.Pre_finite_modulation.Facts] : Cert.algebraic_ModulationIdeal_RefModulationIdeal_pre_finite_modulation := by
  pair_intro
  · run_from Cert.ModulationIdeal.Gen.run_main m g
  · run_from Cert.RefModulationIdeal.Value.run m' g'
    have hC := Cert.Pre_finite_modulation.conditions _ _ _ _ (hpre c)
    have hD := Cert.Pre_finite_modulation.context _ _ _ _ (hpre c)
    have hW := Cert.Pre_finite_modulation.weights _ _ _ _ (hpre c)
    refine Eq.trans (b := Cert.RefModulationIdeal.Value.outcome (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)) (m ((c.tc : Thread Cert.ModulationIdeal.nD Cert.ModulationIdeal.τ).loc Cert.ModulationIdeal.main_arg3))) rfl ?_
    exact (Cert.RefModulationIdeal.Value.out_at _ _ _ _).trans (Cert.ModulationIdeal.Value.final (m := m) c hC hD hW).symm

end Cert.Pairs
end
-- ==== Proof.Combine.lean ====
/- The layer's last step: each row plus its two experts' rows, weighted and gated, then normalised, as the grid of thirty-two tiles leaves it. -/
module

public import proofs.«01_k».proof.Proof.Gen.CombineIdeal.Value
public import proofs.«01_k».proof.Proof.Norm

@[expose] public section

set_option maxRecDepth 16384

noncomputable section

namespace Cert.Norm

open Idealize.ShloMosaic Cert.Stream

/-- A row, weighted, plus its gated experts: the row's expert rows stand 16384 apart, their weights in columns 2 and 3 of its route. -/
def mixed (X : FVec Ideal (Lat 2048) .f32) (Y : FVec Ideal ⟨2, ![32768, 2048]⟩ .bf16) (U : FVec Ideal (Lat 128) .f32) (M : FVec Ideal Mod .f32)
    (r : Fin 16384) (e : Fin 2048) : EReal :=
  Ideal.ofBits .f32 0x3FB504F3#32 * X (ix2 r e)
    + M (ix3 ⟨r / 4096, by omega⟩ 5 e) * (U (ix2 r 2) * Y (ix2 ⟨r, by omega⟩ e) + U (ix2 r 3) * Y (ix2 ⟨16384 + r, by omega⟩ e))

/-- The array of those rows, normalised. -/
def combined (X : FVec Ideal (Lat 2048) .f32) (Y : FVec Ideal ⟨2, ![32768, 2048]⟩ .bf16) (U : FVec Ideal (Lat 128) .f32) (M : FVec Ideal Mod .f32)
    (G B : FVec Ideal Line .f32) : FVec Ideal (Lat 2048) .f32 :=
  fun i => scaled (centred (mixed X Y U M (i 0))) (fun k => G (ix2 0 k)) (fun k => B (ix2 0 k)) (i 1)

end Cert.Norm

namespace Cert.CombineIdeal.Value

open Cert.CombineIdeal Cert.CombineIdeal.Gen Cert.CombineIdeal.Facts Idealize.ShloMosaic Idealize.ShloMosaic.TcCoe Idealize.SL.Sem
open Idealize.ShloMosaic.Pipeline (Dat)
open Cert.Stream Cert.Norm

variable (m : (ℓ : Loc nD τ sig) → Buf (Elt Ideal) ℓ)

/-- The gated sum at an entry of a tile. -/
def sum (U : FVec Ideal S512x128 .f32) (Y Z : FVec Ideal S512x2048 .bf16) (A : FVec Ideal S1x1x2048 .f32) (X : FVec Ideal S512x2048 .f32)
    (r : Fin 512) (e : Fin 2048) : EReal :=
  Ideal.ofBits .f32 0x3FB504F3#32 * X (ix2 r e) + A (ix3 0 0 e) * (U (ix2 r 2) * Y (ix2 r e) + U (ix2 r 3) * Z (ix2 r e))

/-- A tile's sum less its rows' means, over their deviations. -/
theorem even_at (U : FVec Ideal S512x128 .f32) (Y Z : FVec Ideal S512x2048 .bf16) (A : FVec Ideal S1x1x2048 .f32) (X : FVec Ideal S512x2048 .f32)
    (r : Fin 512) (e : Fin 2048) : k0_pay2 (F := Ideal) U Y Z A X (ix2 r e)
      = centred (sum U Y Z A X r) e * Ideal.rsqrt (mean (fun k => centred (sum U Y Z A X r) k * centred (sum U Y Z A X r) k) + Ideal.ofBits .f32 0x358637BD#32) := by
  unfold centred mean sum
  pointwise [k0_pay2]

/-- That, scaled and shifted. -/
theorem scale_at (G B : FVec Ideal S1x2048 .f32) (w : FVec Ideal S512x2048 .f32) (r : Fin 512) (e : Fin 2048) :
    k0_pay1 (F := Ideal) G B w (ix2 r e) = w (ix2 r e) * G (ix2 0 e) + B (ix2 0 e) := by
  pointwise [k0_pay1]

/-- The grid: point `t` is tile `t` of rows. -/
theorem idx : ∀ t : Fin cfg0.N, win0_0.index t = ![t.val, 0] ∧ win0_1.index t = ![t.val, 0] ∧ win0_2.index t = ![t.val + 32, 0]
    ∧ win0_3.index t = ![t.val, 0] ∧ win0_4.index t = ![t.val / 8, 0, 0] ∧ win0_5.index t = ![0, 0] ∧ win0_6.index t = ![0, 0]
    ∧ win0_7.index t = ![t.val, 0] :=
  (by decide +kernel : ∀ t : Fin grid0.N, _)

theorem lt32 (t : Fin cfg0.N) : t.val < 32 := lt_of_lt_of_eq t.isLt (by decide +kernel)

theorem x0_at (c : Dev nD) (t : Fin cfg0.N) (r : Fin 512) (e : Fin 2048) :
    (iblk m c 0 t : FVec Ideal S512x2048 .f32) (ix2 r e) = m ((c : Thread nD τ).loc main_arg0) (ix2 ⟨512 * t.val + r, by have := lt32 t; omega⟩ e) := by
  have := lt32 t
  blk_point [iblk, V, idx t]

theorem x1_at (c : Dev nD) (t : Fin cfg0.N) (r : Fin 512) (e : Fin 2048) :
    (iblk m c 1 t : FVec Ideal S512x2048 .bf16) (ix2 r e) = m ((c : Thread nD τ).loc main_arg1) (ix2 ⟨512 * t.val + r, by have := lt32 t; omega⟩ e) := by
  have := lt32 t
  blk_point [iblk, V, idx t]

theorem x2_at (c : Dev nD) (t : Fin cfg0.N) (r : Fin 512) (e : Fin 2048) :
    (iblk m c 2 t : FVec Ideal S512x2048 .bf16) (ix2 r e) = m ((c : Thread nD τ).loc main_arg1) (ix2 ⟨16384 + (512 * t.val + r), by have := lt32 t; omega⟩ e) := by
  have := lt32 t
  blk_point [iblk, V, idx t]

theorem x3_at (c : Dev nD) (t : Fin cfg0.N) (r : Fin 512) (e : Fin 128) :
    (iblk m c 3 t : FVec Ideal S512x128 .f32) (ix2 r e) = m ((c : Thread nD τ).loc main_arg2) (ix2 ⟨512 * t.val + r, by have := lt32 t; omega⟩ e) := by
  have := lt32 t
  blk_point [iblk, V, idx t]

theorem x4_at (c : Dev nD) (t : Fin cfg0.N) (s : Fin 6) (e : Fin 2048) :
    (iblk m c 4 t : FVec Ideal S1x6x2048 .f32) (ix3 0 s e) = m ((c : Thread nD τ).loc main_arg3) (ix3 ⟨t.val / 8, by have := lt32 t; omega⟩ s e) := by
  have := lt32 t
  blk_point [iblk, V, idx t]

theorem x5_at (c : Dev nD) (t : Fin cfg0.N) (e : Fin 2048) :
    (iblk m c 5 t : FVec Ideal S1x2048 .f32) (ix2 0 e) = m ((c : Thread nD τ).loc main_arg4) (ix2 0 e) := by
  blk_point [iblk, V, idx t]

theorem x6_at (c : Dev nD) (t : Fin cfg0.N) (e : Fin 2048) :
    (iblk m c 6 t : FVec Ideal S1x2048 .f32) (ix2 0 e) = m ((c : Thread nD τ).loc main_arg5) (ix2 0 e) := by
  blk_point [iblk, V, idx t]

/-- The array of combined rows, of the call's arguments. -/
def target (c : Dev nD) : FVec Ideal S16384x2048 .f32 :=
  combined (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The sum at a row of tile `t` is the sum at that row of the arrays. -/
theorem sum_at (c : Dev nD) (t : Fin cfg0.N) (A : FVec Ideal S1x1x2048 .f32) (r : Fin 512) (s : Fin 16384) (hs : s.val = 512 * t.val + r.val)
    (hA : ∀ e, A (ix3 0 0 e) = (iblk m c 4 t : FVec Ideal S1x6x2048 .f32) (ix3 0 5 e)) :
    sum (iblk m c 3 t) (iblk m c 1 t) (iblk m c 2 t) A (iblk m c 0 t) r
      = mixed (m ((c : Thread nD τ).loc main_arg0)) (m ((c : Thread nD τ).loc main_arg1)) (m ((c : Thread nD τ).loc main_arg2)) (m ((c : Thread nD τ).loc main_arg3)) s := by
  have ht := lt32 t
  obtain ⟨s, hs'⟩ := s
  obtain rfl : s = 512 * t.val + r.val := hs
  have h8 : (⟨(512 * t.val + r.val) / 4096, by omega⟩ : Fin 8) = ⟨t.val / 8, by omega⟩ := Fin.ext (by simp only; omega)
  funext e
  unfold sum mixed
  rw [hA, x0_at, x1_at, x2_at, x3_at, x3_at, x4_at, h8]

/-- What point `t` leaves in its block. -/
theorem out (c : Dev nD) (t : Fin cfg0.N) (r : Fin 512) (s : Fin 16384) (n : Fin 2048) (hs : s.val = 512 * t.val + r.val) :
    out0_7 (iblk m c 0 t) (iblk m c 1 t) (iblk m c 2 t) (iblk m c 3 t) (iblk m c 4 t) (iblk m c 5 t) (iblk m c 6 t) (ix2 r n) = target m c (ix2 s n) := by
  unfold out0_7
  frame_out
  rw [scale_at, even_at, sum_at m c t _ r s hs (by
    intro e; exact congrArg (iblk m c 4 t) (funext fun a => Fin.ext (by fin_cases a <;> simp [LoadRect.idx, Rect.unit]))), x5_at, x6_at]
  rfl

/-- The array that the call leaves. -/
theorem final (c : Dev nD) : (dats m 0 c).arrAt 7 cfg0.N = target m c := by
  refine (dats m 0 c).arrAt_eq_of_covers 7 _ (by decide +kernel) fun t hf y => ?_
  have ht := lt32 t
  idx_vars y
  blk_simp
  rw [after0_7]
  refine (out m c t y0 ⟨512 * t.val + y0.val, by omega⟩ y1 rfl).trans ?_
  refine congrArg (target m c) ?_
  blk_ext [idx t]

end Cert.CombineIdeal.Value
end
-- ==== Proof.RefCombine.lean ====
/- What the reference of the layer's last step computes, entry by entry. -/
module

public import proofs.«01_k».proof.Proof.Gen.RefCombineIdeal.Run
public import proofs.«01_k».proof.Proof.Combine

@[expose] public section

set_option maxRecDepth 16384

noncomputable section

namespace Cert.RefCombineIdeal.Value

open Cert.RefCombineIdeal Cert.RefCombineIdeal.Gen Cert.RefCombineIdeal.Facts Idealize.ShloMosaic Idealize.ShloMosaic.TcCoe Idealize.SL.Sem
open Cert.Stream Cert.Norm

variable (m : (ℓ : Loc nD τ sig) → Buf (Elt Ideal) ℓ)

/-- The two experts' rows, weighted. -/
def experts (Y : FVec Ideal S32768x2048 .bf16) (U : FVec Ideal S16384x128 .f32) : FVec Ideal S16384x2048 .f32 :=
  addf (mulf (broadcastInDim S16384x2048 ![0, 1] bcast_S16384x1_S16384x2048_0_1 (extractStridedSlice S16384x1 ![0, 2] U slices_S16384x128_S16384x1_0_2))
      (extractStridedSlice S16384x2048 ![0, 0] (extf .f32 Y bitsLt_bf16_f32) slices_S32768x2048_S16384x2048_0_0))
    (mulf (broadcastInDim S16384x2048 ![0, 1] bcast_S16384x1_S16384x2048_0_1 (extractStridedSlice S16384x1 ![0, 3] U slices_S16384x128_S16384x1_0_3))
      (extractStridedSlice S16384x2048 ![16384, 0] (extf .f32 Y bitsLt_bf16_f32) slices_S32768x2048_S16384x2048_16384_0))

/-- The rows weighted, plus their gated experts. -/
def total (X : FVec Ideal S16384x2048 .f32) (M : FVec Ideal S8x6x2048 .f32) (Y : FVec Ideal S16384x2048 .f32) : FVec Ideal S4x4096x2048 .f32 :=
  addf (mulf (broadcastInDim S4x4096x2048 ![] bcast_S_S4x4096x2048 (constant S_ .f32 0x3FB504F3#32)) (shapeCast _ X shapeCasts_S16384x2048_S4x4096x2048))
    (mulf (broadcastInDim S4x4096x2048 ![0, 1, 2] bcast_S4x1x2048_S4x4096x2048_0_1_2 (broadcastInDim S4x1x2048 ![0, 2] bcast_S4x2048_S4x1x2048_0_2
        (shapeCast _ (extractStridedSlice S4x1x2048 ![0, 5, 0] M slices_S8x6x2048_S4x1x2048_0_5_0) shapeCasts_S4x1x2048_S4x2048)))
      (shapeCast _ Y shapeCasts_S16384x2048_S4x4096x2048))

/-- The mean of each row, the rows less their means, and those normalised. -/
def means (z : FVec Ideal S4x4096x2048 .f32) : FVec Ideal S4x4096x1 .f32 :=
  Host.divf (broadcastInDim S4x4096x1 ![0, 1] bcast_S4x4096_S4x4096x1_0_1 (Host.reduceAdd z (constant S_ .f32 0x00000000#32) reducesTo_S4x4096x2048_S4x4096_d2 h_S_))
    (broadcastInDim S4x4096x1 ![] bcast_S_S4x4096x1 (constant S_ .f32 0x45000000#32))
def level (z : FVec Ideal S4x4096x2048 .f32) : FVec Ideal S4x4096x2048 .f32 :=
  subf z (broadcastInDim S4x4096x2048 ![0, 1, 2] bcast_S4x4096x1_S4x4096x2048_0_1_2 (means z))
def stretch (w : FVec Ideal S4x4096x2048 .f32) (v : FVec Ideal S4x4096x1 .f32) (G B : FVec Ideal S1x2048 .f32) : FVec Ideal S4x4096x2048 .f32 :=
  addf (mulf (mulf w (broadcastInDim S4x4096x2048 ![0, 1, 2] bcast_S4x4096x1_S4x4096x2048_0_1_2
      (Host.rsqrt (addf v (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 (shapeCast _ G shapeCasts_S1x2048_S2048))))
    (broadcastInDim S4x4096x2048 ![0, 1, 2] bcast_S1x1x2048_S4x4096x2048_0_1_2 (broadcastInDim S1x1x2048 ![2] bcast_S2048_S1x1x2048_2 (shapeCast _ B shapeCasts_S1x2048_S2048)))

/-- The result as staged above. -/
def result (X : FVec Ideal S16384x2048 .f32) (Y : FVec Ideal S32768x2048 .bf16) (U : FVec Ideal S16384x128 .f32) (M : FVec Ideal S8x6x2048 .f32)
    (G B : FVec Ideal S1x2048 .f32) : FVec Ideal S16384x2048 .f32 :=
  shapeCast _ (stretch (level (total X M (experts Y U))) (means (mulf (level (total X M (experts Y U))) (level (total X M (experts Y U))))) G B) shapeCasts_S4x4096x2048_S16384x2048

theorem result_eq (c : Dev nD) : res_main_v46 m c = result (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := rfl

theorem experts_at (Y : FVec Ideal S32768x2048 .bf16) (U : FVec Ideal S16384x128 .f32) (r : Fin 16384) (e : Fin 2048) :
    experts Y U (ix2 r e) = U (ix2 r 2) * Y (ix2 ⟨r, by omega⟩ e) + U (ix2 r 3) * Y (ix2 ⟨16384 + r, by omega⟩ e) := by
  pointwise [experts]

theorem total_at (X : FVec Ideal S16384x2048 .f32) (M : FVec Ideal S8x6x2048 .f32) (Y : FVec Ideal S16384x2048 .f32) (b : Fin 4) (s : Fin 4096) (e : Fin 2048) :
    total X M Y (ix3 b s e) = Ideal.ofBits .f32 0x3FB504F3#32 * X (ix2 ⟨b * 4096 + s, by omega⟩ e) + M (ix3 ⟨b, by omega⟩ 5 e) * Y (ix2 ⟨b * 4096 + s, by omega⟩ e) := by
  pointwise [total]

theorem means_at (z : FVec Ideal S4x4096x2048 .f32) (b : Fin 4) (s : Fin 4096) : means z (ix3 b s 0) = mean (fun e => z (ix3 b s e)) := by
  unfold mean
  pointwise [means]

theorem level_at (z : FVec Ideal S4x4096x2048 .f32) (b : Fin 4) (s : Fin 4096) (e : Fin 2048) :
    level z (ix3 b s e) = z (ix3 b s e) - means z (ix3 b s 0) := by
  pointwise [level]

theorem stretch_at (w : FVec Ideal S4x4096x2048 .f32) (v : FVec Ideal S4x4096x1 .f32) (G B : FVec Ideal S1x2048 .f32) (b : Fin 4) (s : Fin 4096) (e : Fin 2048) :
    stretch w v G B (ix3 b s e) = w (ix3 b s e) * Ideal.rsqrt (v (ix3 b s 0) + Ideal.ofBits .f32 0x358637BD#32) * G (ix2 0 e) + B (ix2 0 e) := by
  pointwise [stretch]

theorem flat_at (z : FVec Ideal S4x4096x2048 .f32) (r : Fin 16384) (e : Fin 2048) :
    shapeCast S16384x2048 z shapeCasts_S4x4096x2048_S16384x2048 (ix2 r e) = z (ix3 ⟨r / 4096, by omega⟩ ⟨r % 4096, by omega⟩ e) := by
  pointwise []

/-- A row normalised: the row function's value on that row. -/
theorem norm_at (z : FVec Ideal S4x4096x2048 .f32) (G B : FVec Ideal S1x2048 .f32) (b : Fin 4) (s : Fin 4096) (e : Fin 2048) :
    stretch (level z) (means (mulf (level z) (level z))) G B (ix3 b s e)
      = scaled (centred (fun k => z (ix3 b s k))) (fun k => G (ix2 0 k)) (fun k => B (ix2 0 k)) e := by
  have hc : ∀ k, level z (ix3 b s k) = centred (fun k => z (ix3 b s k)) k := fun k => by rw [level_at, means_at]; rfl
  unfold scaled
  rw [stretch_at, means_at, hc]
  exact congrArg (fun f => centred (fun k => z (ix3 b s k)) e * Ideal.rsqrt (mean f + Ideal.ofBits .f32 0x358637BD#32) * G (ix2 0 e) + B (ix2 0 e))
    (funext fun k => congrArg₂ (· * ·) (hc k) (hc k))

/-- The result. -/
theorem result_at (X : FVec Ideal S16384x2048 .f32) (Y : FVec Ideal S32768x2048 .bf16) (U : FVec Ideal S16384x128 .f32) (M : FVec Ideal S8x6x2048 .f32)
    (G B : FVec Ideal S1x2048 .f32) : result X Y U M G B = combined X Y U M G B := by
  funext i
  idx_vars i
  unfold result
  rw [flat_at, norm_at]
  refine congrArg (fun f => scaled (centred f) (fun k => G (ix2 0 k)) (fun k => B (ix2 0 k)) i1) (funext fun e => ?_)
  have h1 : (⟨i0 / 4096 * 4096 + i0 % 4096, by omega⟩ : Fin 16384) = i0 := Fin.ext (Nat.div_add_mod' i0.val 4096)
  rw [total_at]
  simp only [h1, experts_at]
  rfl

end Cert.RefCombineIdeal.Value
end
-- ==== Proof.PairCombine.lean ====
/- The layer's last step writes what its reference computes. -/
module

public import proofs.«01_k».proof.Defs
public import proofs.«01_k».proof.Proof.RefCombine

@[expose] public section

set_option maxRecDepth 16384
set_option maxHeartbeats 4000000

noncomputable section

namespace Cert.Pairs

open Idealize.ShloMosaic Idealize.SL.Sem

theorem combine : Cert.algebraic_CombineIdeal_RefCombineIdeal := by
  pair_intro
  · run_from Cert.CombineIdeal.Gen.run_main m g
  · run_from Cert.RefCombineIdeal.Value.run m' g'
    have h0 := (hagree c).1
    have h1 := (hagree c).2.1
    have h2 := (hagree c).2.2.1
    have h3 := (hagree c).2.2.2.1
    have h4 := (hagree c).2.2.2.2.1
    have h5 := (hagree c).2.2.2.2.2
    refine (Cert.RefCombineIdeal.Value.result_eq (m := m') c).trans ((Cert.RefCombineIdeal.Value.result_at _ _ _ _ _ _).trans (Eq.trans ?_ (Cert.CombineIdeal.Value.final (m := m) c).symm))
    unfold Cert.CombineIdeal.Value.target
    rw [h0, h1, h2, h3, h4, h5]

end Cert.Pairs
end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.RefProjectionIdeal
public import proofs.«01_k».proof.Proof.Gen.RefProjectionIdeal.Run
public import proofs.«01_k».proof.Proof.Gen.AttentionB
public import proofs.«01_k».proof.Proof.Gen.AttentionB.Skeleton
public import proofs.«01_k».proof.Proof.Gen.AttentionB.Launch
public import proofs.«01_k».proof.Proof.Gen.AttentionB.Points
public import proofs.«01_k».proof.Proof.Gen.AttentionB.Frame
public import proofs.«01_k».proof.Proof.Gen.AttentionBIdeal
public import proofs.«01_k».proof.Proof.Gen.AttentionBIdeal.Skeleton
public import proofs.«01_k».proof.Proof.Gen.AttentionBIdeal.Launch
public import proofs.«01_k».proof.Proof.Gen.AttentionBIdeal.Points
public import proofs.«01_k».proof.Proof.Gen.AttentionBIdeal.Frame
public import proofs.«01_k».proof.Proof.Gen.AttentionBIdeal.Value
public import proofs.«01_k».proof.Proof.Gen.RefAttentionBIdeal
public import proofs.«01_k».proof.Proof.Gen.RefAttentionBIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.RefMergeIdeal
public import proofs.«01_k».proof.Proof.Gen.RefMergeIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.RefOutputIdeal
public import proofs.«01_k».proof.Proof.Gen.RefOutputIdeal.Run
public import Idealize.ShloMosaic.Adequacy
public import Idealize.ShloMosaic.Init
public import proofs.«01_k».proof.Proof.Gen.ContextA
public import proofs.«01_k».proof.Proof.Gen.ContextA.Skeleton
public import proofs.«01_k».proof.Proof.Gen.ContextA.Launch
public import proofs.«01_k».proof.Proof.Gen.ContextA.Points
public import proofs.«01_k».proof.Proof.Gen.ContextA.Frame
public import proofs.«01_k».proof.Proof.Gen.ContextAIdeal
public import proofs.«01_k».proof.Proof.Gen.ContextAIdeal.Skeleton
public import proofs.«01_k».proof.Proof.Gen.ContextAIdeal.Launch
public import proofs.«01_k».proof.Proof.Gen.ContextAIdeal.Points
public import proofs.«01_k».proof.Proof.Gen.ContextAIdeal.Frame
public import proofs.«01_k».proof.Proof.Gen.ContextAIdeal.Value
public import proofs.«01_k».proof.Proof.Gen.RefContextAIdeal
public import proofs.«01_k».proof.Proof.Gen.RefContextAIdeal.Run
public import proofs.«01_k».proof.Proof.Gen.ContextB
public import proofs.«01_k».proof.Proof.Gen.ContextB.Skeleton
public import proofs.«01_k».proof.Proof.Gen.ContextB.Launch
public import proofs.«01_k».proof.Proof.Gen.ContextB.Points
public import proofs.«01_k».proof.Proof.Gen.ContextB.Frame
public import proofs.«01_k».proof.Proof.Gen.ContextBIdeal
public import proofs.«01_k».proof.Proof.Gen.ContextBIdeal.Skeleton
public import proofs.«01_k».proof.Proof.Gen.ContextBIdeal.Launch
public import proofs.«01_k».proof.Proof.Gen.ContextBIdeal.Points
public import proofs.«01_k».proof.Proof.Gen.ContextBIdeal.Frame
public import proofs.«01_k».proof.Proof.Gen.ContextBIdeal.Value
public import proofs.«01_k».proof.Proof.Gen.RefContextBIdeal
public import proofs.«01_k».proof.Proof.Gen.RefContextBIdeal.Run
public import proofs.«01_k».proof.Proof.Gen.ContextC
public import proofs.«01_k».proof.Proof.Gen.ContextC.Skeleton
public import proofs.«01_k».proof.Proof.Gen.ContextC.Launch
public import proofs.«01_k».proof.Proof.Gen.ContextC.Points
public import proofs.«01_k».proof.Proof.Gen.ContextC.Frame
public import proofs.«01_k».proof.Proof.Gen.ContextCIdeal
public import proofs.«01_k».proof.Proof.Gen.ContextCIdeal.Skeleton
public import proofs.«01_k».proof.Proof.Gen.ContextCIdeal.Launch
public import proofs.«01_k».proof.Proof.Gen.ContextCIdeal.Points
public import proofs.«01_k».proof.Proof.Gen.ContextCIdeal.Frame
public import proofs.«01_k».proof.Proof.Gen.ContextCIdeal.Value
public import proofs.«01_k».proof.Proof.Gen.RefContextCIdeal
public import proofs.«01_k».proof.Proof.Gen.RefContextCIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.RefModulationIdeal
public import proofs.«01_k».proof.Proof.Gen.RefModulationIdeal.Run
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.RefCombineIdeal
public import proofs.«01_k».proof.Proof.Gen.RefCombineIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.RefPrepIdeal
public import proofs.«01_k».proof.Proof.Gen.RefPrepIdeal.Run
public import proofs.«01_k».proof.Proof.Frames
public import proofs.«01_k».proof.Proof.PairAttention
public import proofs.«01_k».proof.Proof.PairProjection
public import proofs.«01_k».proof.Proof.PairMerge
public import proofs.«01_k».proof.Proof.PairOutput
public import proofs.«01_k».proof.Proof.PairPrep
public import proofs.«01_k».proof.Proof.PairContext
public import proofs.«01_k».proof.Proof.PairModulation
public import proofs.«01_k».proof.Proof.PairCombine

@[expose] public section

noncomputable section

namespace Cert.Proof

open Idealize.ShloMosaic Idealize.SL.Sem Cert.Pairs

theorem claim : Cert.Claim := ⟨
  Cert.Kernel.Gen.facts,
  Cert.KernelIdeal.Gen.facts,
  Cert.ReferenceIdeal.Gen.facts,
  Cert.Projection.Gen.facts,
  Cert.ProjectionIdeal.Gen.facts,
  Cert.RefProjectionIdeal.Gen.facts,
  Cert.AttentionB.Gen.facts,
  Cert.AttentionBIdeal.Gen.facts,
  Cert.RefAttentionBIdeal.Gen.facts,
  Cert.Merge.Gen.facts,
  Cert.MergeIdeal.Gen.facts,
  Cert.RefMergeIdeal.Gen.facts,
  Cert.Output.Gen.facts,
  Cert.OutputIdeal.Gen.facts,
  Cert.RefOutputIdeal.Gen.facts,
  Cert.Combine.Gen.facts,
  Cert.CombineIdeal.Gen.facts,
  Cert.RefCombineIdeal.Gen.facts,
  Cert.Prep.Gen.facts,
  Cert.PrepIdeal.Gen.facts,
  Cert.RefPrepIdeal.Gen.facts,
  Cert.ContextA.Gen.facts,
  Cert.ContextAIdeal.Gen.facts,
  Cert.RefContextAIdeal.Gen.facts,
  Cert.ContextB.Gen.facts,
  Cert.ContextBIdeal.Gen.facts,
  Cert.RefContextBIdeal.Gen.facts,
  Cert.ContextC.Gen.facts,
  Cert.ContextCIdeal.Gen.facts,
  Cert.RefContextCIdeal.Gen.facts,
  Cert.Modulation.Gen.facts,
  Cert.ModulationIdeal.Gen.facts,
  Cert.RefModulationIdeal.Gen.facts,
  Cert.Pre_finite_scores.facts,
  Cert.Pre_finite_scores_b.facts,
  Cert.Pre_finite_context_a.facts,
  Cert.Pre_finite_context_b.facts,
  Cert.Pre_finite_context_c.facts,
  Cert.Pre_finite_modulation.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro m g _; exact Cert.Kernel.Gen.frame m g
  · intro m g _; exact Cert.KernelIdeal.Gen.frame m g
  · intro m g _; exact Cert.KernelIdeal.Gen.frame m g
  · intro m g _; exact frame_ReferenceIdeal m g trivial
  · intro m g _; exact frame_ReferenceIdeal m g trivial
  · intro m g _; exact Cert.Projection.Gen.frame m g
  · intro m g _; exact Cert.ProjectionIdeal.Gen.frame m g
  · intro m g _; exact frame_RefProjectionIdeal m g trivial
  · intro m g _; exact Cert.AttentionB.Gen.frame m g
  · intro m g _; exact Cert.AttentionBIdeal.Gen.frame m g
  · intro m g _; exact Cert.AttentionBIdeal.Gen.frame m g
  · intro m g _; exact frame_RefAttentionBIdeal m g trivial
  · intro m g _; exact frame_RefAttentionBIdeal m g trivial
  · intro m g _; exact Cert.Merge.Gen.frame m g
  · intro m g _; exact Cert.MergeIdeal.Gen.frame m g
  · intro m g _; exact frame_RefMergeIdeal m g trivial
  · intro m g _; exact Cert.Output.Gen.frame m g
  · intro m g _; exact Cert.OutputIdeal.Gen.frame m g
  · intro m g _; exact frame_RefOutputIdeal m g trivial
  · intro m g _; exact Cert.Combine.Gen.frame m g
  · intro m g _; exact Cert.CombineIdeal.Gen.frame m g
  · intro m g _; exact frame_RefCombineIdeal m g trivial
  · intro m g _; exact Cert.Prep.Gen.frame m g
  · intro m g _; exact Cert.PrepIdeal.Gen.frame m g
  · intro m g _; exact frame_RefPrepIdeal m g trivial
  · intro m g _; exact Cert.ContextA.Gen.frame m g
  · intro m g _; exact Cert.ContextAIdeal.Gen.frame m g
  · intro m g _; exact Cert.ContextAIdeal.Gen.frame m g
  · intro m g _; exact frame_RefContextAIdeal m g trivial
  · intro m g _; exact frame_RefContextAIdeal m g trivial
  · intro m g _; exact Cert.ContextB.Gen.frame m g
  · intro m g _; exact Cert.ContextBIdeal.Gen.frame m g
  · intro m g _; exact Cert.ContextBIdeal.Gen.frame m g
  · intro m g _; exact frame_RefContextBIdeal m g trivial
  · intro m g _; exact frame_RefContextBIdeal m g trivial
  · intro m g _; exact Cert.ContextC.Gen.frame m g
  · intro m g _; exact Cert.ContextCIdeal.Gen.frame m g
  · intro m g _; exact Cert.ContextCIdeal.Gen.frame m g
  · intro m g _; exact frame_RefContextCIdeal m g trivial
  · intro m g _; exact frame_RefContextCIdeal m g trivial
  · intro m g _; exact Cert.Modulation.Gen.frame m g
  · intro m g _; exact Cert.ModulationIdeal.Gen.frame m g
  · intro m g _; exact Cert.ModulationIdeal.Gen.frame m g
  · intro m g _; exact frame_RefModulationIdeal m g trivial
  · intro m g _; exact frame_RefModulationIdeal m g trivial
  · trivial
  · exact @attention Cert.Pre_finite_scores.facts
  · trivial
  · exact projection
  · trivial
  · exact @attention_b Cert.Pre_finite_scores_b.facts
  · trivial
  · exact merge
  · trivial
  · exact output
  · trivial
  · exact combine
  · trivial
  · exact prep
  · trivial
  · exact @context_a Cert.Pre_finite_context_a.facts
  · trivial
  · exact @context_b Cert.Pre_finite_context_b.facts
  · trivial
  · exact @context_c Cert.Pre_finite_context_c.facts
  · trivial
  · exact @modulation Cert.Pre_finite_modulation.facts⟩

end Cert.Proof

end
